-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_2)) (v1 : (c : Dev Cert.Kernel3Ideal.nD) → Buf (Elt Ideal) ((c.tc : Thread Cert.Kernel3Ideal.nD Cert.Kernel3Ideal.τ).loc Cert.Kernel3Ideal.main_v3_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_2) = v0 c
          ∧ r.2.mem ((c.tc : Thread Cert.Kernel3Ideal.nD Cert.Kernel3Ideal.τ).loc Cert.Kernel3Ideal.main_v3_0) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_v8) = v3 c
          ∧ r.2.mem ((c.tc : Thread Cert.Reference4Ideal.nD Cert.Reference4Ideal.τ).loc Cert.Reference4Ideal.main_v14) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_v30) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)) (v4 : (c : Dev Cert.Kernel9Ideal.nD) → Buf (Elt Ideal) ((c.tc : Thread Cert.Kernel9Ideal.nD Cert.Kernel9Ideal.τ).loc Cert.Kernel9Ideal.main_v3_0)) (v5 : (c : Dev Cert.Kernel9Ideal.nD) → Buf (Elt Ideal) ((c.tc : Thread Cert.Kernel9Ideal.nD Cert.Kernel9Ideal.τ).loc Cert.Kernel9Ideal.main_v3_1)) (v6 : (c : Dev Cert.Kernel9Ideal.nD) → Buf (Elt Ideal) ((c.tc : Thread Cert.Kernel9Ideal.nD Cert.Kernel9Ideal.τ).loc Cert.Kernel9Ideal.main_v3_2)) (v7 : (c : Dev Cert.Kernel9Ideal.nD) → Buf (Elt Ideal) ((c.tc : Thread Cert.Kernel9Ideal.nD Cert.Kernel9Ideal.τ).loc Cert.Kernel9Ideal.main_v3_3)) (v8 : (c : Dev Cert.Kernel9Ideal.nD) → Buf (Elt Ideal) ((c.tc : Thread Cert.Kernel9Ideal.nD Cert.Kernel9Ideal.τ).loc Cert.Kernel9Ideal.main_v5_0)) (v9 : (c : Dev Cert.Kernel9Ideal.nD) → Buf (Elt Ideal) ((c.tc : Thread Cert.Kernel9Ideal.nD Cert.Kernel9Ideal.τ).loc Cert.Kernel9Ideal.main_v5_1)) (v10 : (c : Dev Cert.Kernel9Ideal.nD) → Buf (Elt Ideal) ((c.tc : Thread Cert.Kernel9Ideal.nD Cert.Kernel9Ideal.τ).loc Cert.Kernel9Ideal.main_v5_2)) (v11 : (c : Dev Cert.Kernel9Ideal.nD) → Buf (Elt Ideal) ((c.tc : Thread Cert.Kernel9Ideal.nD Cert.Kernel9Ideal.τ).loc Cert.Kernel9Ideal.main_v5_3)) (v12 : (c : Dev Cert.Kernel9Ideal.nD) → Buf (Elt Ideal) ((c.tc : Thread Cert.Kernel9Ideal.nD Cert.Kernel9Ideal.τ).loc Cert.Kernel9Ideal.main_v7_0)) (v13 : (c : Dev Cert.Kernel9Ideal.nD) → Buf (Elt Ideal) ((c.tc : Thread Cert.Kernel9Ideal.nD Cert.Kernel9Ideal.τ).loc Cert.Kernel9Ideal.main_v7_1)) (v14 : (c : Dev Cert.Kernel9Ideal.nD) → Buf (Elt Ideal) ((c.tc : Thread Cert.Kernel9Ideal.nD Cert.Kernel9Ideal.τ).loc Cert.Kernel9Ideal.main_v7_2)) (v15 : (c : Dev Cert.Kernel9Ideal.nD) → Buf (Elt Ideal) ((c.tc : Thread Cert.Kernel9Ideal.nD Cert.Kernel9Ideal.τ).loc Cert.Kernel9Ideal.main_v7_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_v3_0) = v4 c
          ∧ r.2.mem ((c.tc : Thread Cert.Kernel9Ideal.nD Cert.Kernel9Ideal.τ).loc Cert.Kernel9Ideal.main_v3_1) = v5 c
          ∧ r.2.mem ((c.tc : Thread Cert.Kernel9Ideal.nD Cert.Kernel9Ideal.τ).loc Cert.Kernel9Ideal.main_v3_2) = v6 c
          ∧ r.2.mem ((c.tc : Thread Cert.Kernel9Ideal.nD Cert.Kernel9Ideal.τ).loc Cert.Kernel9Ideal.main_v3_3) = v7 c
          ∧ r.2.mem ((c.tc : Thread Cert.Kernel9Ideal.nD Cert.Kernel9Ideal.τ).loc Cert.Kernel9Ideal.main_v5_0) = v8 c
          ∧ r.2.mem ((c.tc : Thread Cert.Kernel9Ideal.nD Cert.Kernel9Ideal.τ).loc Cert.Kernel9Ideal.main_v5_1) = v9 c
          ∧ r.2.mem ((c.tc : Thread Cert.Kernel9Ideal.nD Cert.Kernel9Ideal.τ).loc Cert.Kernel9Ideal.main_v5_2) = v10 c
          ∧ r.2.mem ((c.tc : Thread Cert.Kernel9Ideal.nD Cert.Kernel9Ideal.τ).loc Cert.Kernel9Ideal.main_v5_3) = v11 c
          ∧ r.2.mem ((c.tc : Thread Cert.Kernel9Ideal.nD Cert.Kernel9Ideal.τ).loc Cert.Kernel9Ideal.main_v7_0) = v12 c
          ∧ r.2.mem ((c.tc : Thread Cert.Kernel9Ideal.nD Cert.Kernel9Ideal.τ).loc Cert.Kernel9Ideal.main_v7_1) = v13 c
          ∧ r.2.mem ((c.tc : Thread Cert.Kernel9Ideal.nD Cert.Kernel9Ideal.τ).loc Cert.Kernel9Ideal.main_v7_2) = v14 c
          ∧ r.2.mem ((c.tc : Thread Cert.Kernel9Ideal.nD Cert.Kernel9Ideal.τ).loc Cert.Kernel9Ideal.main_v7_3) = v15 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_v25) = v4 c
          ∧ r.2.mem ((c.tc : Thread Cert.Reference9Ideal.nD Cert.Reference9Ideal.τ).loc Cert.Reference9Ideal.main_v49) = v5 c
          ∧ r.2.mem ((c.tc : Thread Cert.Reference9Ideal.nD Cert.Reference9Ideal.τ).loc Cert.Reference9Ideal.main_v30) = v6 c
          ∧ r.2.mem ((c.tc : Thread Cert.Reference9Ideal.nD Cert.Reference9Ideal.τ).loc Cert.Reference9Ideal.main_v36) = v7 c
          ∧ r.2.mem ((c.tc : Thread Cert.Reference9Ideal.nD Cert.Reference9Ideal.τ).loc Cert.Reference9Ideal.main_v50) = v8 c
          ∧ r.2.mem ((c.tc : Thread Cert.Reference9Ideal.nD Cert.Reference9Ideal.τ).loc Cert.Reference9Ideal.main_v74) = v9 c
          ∧ r.2.mem ((c.tc : Thread Cert.Reference9Ideal.nD Cert.Reference9Ideal.τ).loc Cert.Reference9Ideal.main_v55) = v10 c
          ∧ r.2.mem ((c.tc : Thread Cert.Reference9Ideal.nD Cert.Reference9Ideal.τ).loc Cert.Reference9Ideal.main_v61) = v11 c
          ∧ r.2.mem ((c.tc : Thread Cert.Reference9Ideal.nD Cert.Reference9Ideal.τ).loc Cert.Reference9Ideal.main_v75) = v12 c
          ∧ r.2.mem ((c.tc : Thread Cert.Reference9Ideal.nD Cert.Reference9Ideal.τ).loc Cert.Reference9Ideal.main_v99) = v13 c
          ∧ r.2.mem ((c.tc : Thread Cert.Reference9Ideal.nD Cert.Reference9Ideal.τ).loc Cert.Reference9Ideal.main_v80) = v14 c
          ∧ r.2.mem ((c.tc : Thread Cert.Reference9Ideal.nD Cert.Reference9Ideal.τ).loc Cert.Reference9Ideal.main_v86) = v15 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)) (v8 : (c : Dev Cert.Kernel10Ideal.nD) → Buf (Elt Ideal) ((c.tc : Thread Cert.Kernel10Ideal.nD Cert.Kernel10Ideal.τ).loc Cert.Kernel10Ideal.main_v0_8)) (v9 : (c : Dev Cert.Kernel10Ideal.nD) → Buf (Elt Ideal) ((c.tc : Thread Cert.Kernel10Ideal.nD Cert.Kernel10Ideal.τ).loc Cert.Kernel10Ideal.main_v0_9)) (v10 : (c : Dev Cert.Kernel10Ideal.nD) → Buf (Elt Ideal) ((c.tc : Thread Cert.Kernel10Ideal.nD Cert.Kernel10Ideal.τ).loc Cert.Kernel10Ideal.main_v0_10)) (v11 : (c : Dev Cert.Kernel10Ideal.nD) → Buf (Elt Ideal) ((c.tc : Thread Cert.Kernel10Ideal.nD Cert.Kernel10Ideal.τ).loc Cert.Kernel10Ideal.main_v0_11)) (v12 : (c : Dev Cert.Kernel10Ideal.nD) → Buf (Elt Ideal) ((c.tc : Thread Cert.Kernel10Ideal.nD Cert.Kernel10Ideal.τ).loc Cert.Kernel10Ideal.main_v0_12)) (v13 : (c : Dev Cert.Kernel10Ideal.nD) → Buf (Elt Ideal) ((c.tc : Thread Cert.Kernel10Ideal.nD Cert.Kernel10Ideal.τ).loc Cert.Kernel10Ideal.main_v0_13)) (v14 : (c : Dev Cert.Kernel10Ideal.nD) → Buf (Elt Ideal) ((c.tc : Thread Cert.Kernel10Ideal.nD Cert.Kernel10Ideal.τ).loc Cert.Kernel10Ideal.main_v0_14)) (v15 : (c : Dev Cert.Kernel10Ideal.nD) → Buf (Elt Ideal) ((c.tc : Thread Cert.Kernel10Ideal.nD Cert.Kernel10Ideal.τ).loc Cert.Kernel10Ideal.main_v0_15)) (v16 : (c : Dev Cert.Kernel10Ideal.nD) → Buf (Elt Ideal) ((c.tc : Thread Cert.Kernel10Ideal.nD Cert.Kernel10Ideal.τ).loc Cert.Kernel10Ideal.main_v0_16)) (v17 : (c : Dev Cert.Kernel10Ideal.nD) → Buf (Elt Ideal) ((c.tc : Thread Cert.Kernel10Ideal.nD Cert.Kernel10Ideal.τ).loc Cert.Kernel10Ideal.main_v0_17)) (v18 : (c : Dev Cert.Kernel10Ideal.nD) → Buf (Elt Ideal) ((c.tc : Thread Cert.Kernel10Ideal.nD Cert.Kernel10Ideal.τ).loc Cert.Kernel10Ideal.main_v0_18)) (v19 : (c : Dev Cert.Kernel10Ideal.nD) → Buf (Elt Ideal) ((c.tc : Thread Cert.Kernel10Ideal.nD Cert.Kernel10Ideal.τ).loc Cert.Kernel10Ideal.main_v0_19)) (v20 : (c : Dev Cert.Kernel10Ideal.nD) → Buf (Elt Ideal) ((c.tc : Thread Cert.Kernel10Ideal.nD Cert.Kernel10Ideal.τ).loc Cert.Kernel10Ideal.main_v0_20)) (v21 : (c : Dev Cert.Kernel10Ideal.nD) → Buf (Elt Ideal) ((c.tc : Thread Cert.Kernel10Ideal.nD Cert.Kernel10Ideal.τ).loc Cert.Kernel10Ideal.main_v0_21)) (v22 : (c : Dev Cert.Kernel10Ideal.nD) → Buf (Elt Ideal) ((c.tc : Thread Cert.Kernel10Ideal.nD Cert.Kernel10Ideal.τ).loc Cert.Kernel10Ideal.main_v0_22)) (v23 : (c : Dev Cert.Kernel10Ideal.nD) → Buf (Elt Ideal) ((c.tc : Thread Cert.Kernel10Ideal.nD Cert.Kernel10Ideal.τ).loc Cert.Kernel10Ideal.main_v0_23)) (v24 : (c : Dev Cert.Kernel10Ideal.nD) → Buf (Elt Ideal) ((c.tc : Thread Cert.Kernel10Ideal.nD Cert.Kernel10Ideal.τ).loc Cert.Kernel10Ideal.main_v0_24)) (v25 : (c : Dev Cert.Kernel10Ideal.nD) → Buf (Elt Ideal) ((c.tc : Thread Cert.Kernel10Ideal.nD Cert.Kernel10Ideal.τ).loc Cert.Kernel10Ideal.main_v0_25)) (v26 : (c : Dev Cert.Kernel10Ideal.nD) → Buf (Elt Ideal) ((c.tc : Thread Cert.Kernel10Ideal.nD Cert.Kernel10Ideal.τ).loc Cert.Kernel10Ideal.main_v0_26)) (v27 : (c : Dev Cert.Kernel10Ideal.nD) → Buf (Elt Ideal) ((c.tc : Thread Cert.Kernel10Ideal.nD Cert.Kernel10Ideal.τ).loc Cert.Kernel10Ideal.main_v0_27)) (v28 : (c : Dev Cert.Kernel10Ideal.nD) → Buf (Elt Ideal) ((c.tc : Thread Cert.Kernel10Ideal.nD Cert.Kernel10Ideal.τ).loc Cert.Kernel10Ideal.main_v0_28)) (v29 : (c : Dev Cert.Kernel10Ideal.nD) → Buf (Elt Ideal) ((c.tc : Thread Cert.Kernel10Ideal.nD Cert.Kernel10Ideal.τ).loc Cert.Kernel10Ideal.main_v0_29)) (v30 : (c : Dev Cert.Kernel10Ideal.nD) → Buf (Elt Ideal) ((c.tc : Thread Cert.Kernel10Ideal.nD Cert.Kernel10Ideal.τ).loc Cert.Kernel10Ideal.main_v0_30)) (v31 : (c : Dev Cert.Kernel10Ideal.nD) → Buf (Elt Ideal) ((c.tc : Thread Cert.Kernel10Ideal.nD Cert.Kernel10Ideal.τ).loc Cert.Kernel10Ideal.main_v0_31)) (v32 : (c : Dev Cert.Kernel10Ideal.nD) → Buf (Elt Ideal) ((c.tc : Thread Cert.Kernel10Ideal.nD Cert.Kernel10Ideal.τ).loc Cert.Kernel10Ideal.main_v0_32)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_v0_8) = v8 c
          ∧ r.2.mem ((c.tc : Thread Cert.Kernel10Ideal.nD Cert.Kernel10Ideal.τ).loc Cert.Kernel10Ideal.main_v0_9) = v9 c
          ∧ r.2.mem ((c.tc : Thread Cert.Kernel10Ideal.nD Cert.Kernel10Ideal.τ).loc Cert.Kernel10Ideal.main_v0_10) = v10 c
          ∧ r.2.mem ((c.tc : Thread Cert.Kernel10Ideal.nD Cert.Kernel10Ideal.τ).loc Cert.Kernel10Ideal.main_v0_11) = v11 c
          ∧ r.2.mem ((c.tc : Thread Cert.Kernel10Ideal.nD Cert.Kernel10Ideal.τ).loc Cert.Kernel10Ideal.main_v0_12) = v12 c
          ∧ r.2.mem ((c.tc : Thread Cert.Kernel10Ideal.nD Cert.Kernel10Ideal.τ).loc Cert.Kernel10Ideal.main_v0_13) = v13 c
          ∧ r.2.mem ((c.tc : Thread Cert.Kernel10Ideal.nD Cert.Kernel10Ideal.τ).loc Cert.Kernel10Ideal.main_v0_14) = v14 c
          ∧ r.2.mem ((c.tc : Thread Cert.Kernel10Ideal.nD Cert.Kernel10Ideal.τ).loc Cert.Kernel10Ideal.main_v0_15) = v15 c
          ∧ r.2.mem ((c.tc : Thread Cert.Kernel10Ideal.nD Cert.Kernel10Ideal.τ).loc Cert.Kernel10Ideal.main_v0_16) = v16 c
          ∧ r.2.mem ((c.tc : Thread Cert.Kernel10Ideal.nD Cert.Kernel10Ideal.τ).loc Cert.Kernel10Ideal.main_v0_17) = v17 c
          ∧ r.2.mem ((c.tc : Thread Cert.Kernel10Ideal.nD Cert.Kernel10Ideal.τ).loc Cert.Kernel10Ideal.main_v0_18) = v18 c
          ∧ r.2.mem ((c.tc : Thread Cert.Kernel10Ideal.nD Cert.Kernel10Ideal.τ).loc Cert.Kernel10Ideal.main_v0_19) = v19 c
          ∧ r.2.mem ((c.tc : Thread Cert.Kernel10Ideal.nD Cert.Kernel10Ideal.τ).loc Cert.Kernel10Ideal.main_v0_20) = v20 c
          ∧ r.2.mem ((c.tc : Thread Cert.Kernel10Ideal.nD Cert.Kernel10Ideal.τ).loc Cert.Kernel10Ideal.main_v0_21) = v21 c
          ∧ r.2.mem ((c.tc : Thread Cert.Kernel10Ideal.nD Cert.Kernel10Ideal.τ).loc Cert.Kernel10Ideal.main_v0_22) = v22 c
          ∧ r.2.mem ((c.tc : Thread Cert.Kernel10Ideal.nD Cert.Kernel10Ideal.τ).loc Cert.Kernel10Ideal.main_v0_23) = v23 c
          ∧ r.2.mem ((c.tc : Thread Cert.Kernel10Ideal.nD Cert.Kernel10Ideal.τ).loc Cert.Kernel10Ideal.main_v0_24) = v24 c
          ∧ r.2.mem ((c.tc : Thread Cert.Kernel10Ideal.nD Cert.Kernel10Ideal.τ).loc Cert.Kernel10Ideal.main_v0_25) = v25 c
          ∧ r.2.mem ((c.tc : Thread Cert.Kernel10Ideal.nD Cert.Kernel10Ideal.τ).loc Cert.Kernel10Ideal.main_v0_26) = v26 c
          ∧ r.2.mem ((c.tc : Thread Cert.Kernel10Ideal.nD Cert.Kernel10Ideal.τ).loc Cert.Kernel10Ideal.main_v0_27) = v27 c
          ∧ r.2.mem ((c.tc : Thread Cert.Kernel10Ideal.nD Cert.Kernel10Ideal.τ).loc Cert.Kernel10Ideal.main_v0_28) = v28 c
          ∧ r.2.mem ((c.tc : Thread Cert.Kernel10Ideal.nD Cert.Kernel10Ideal.τ).loc Cert.Kernel10Ideal.main_v0_29) = v29 c
          ∧ r.2.mem ((c.tc : Thread Cert.Kernel10Ideal.nD Cert.Kernel10Ideal.τ).loc Cert.Kernel10Ideal.main_v0_30) = v30 c
          ∧ r.2.mem ((c.tc : Thread Cert.Kernel10Ideal.nD Cert.Kernel10Ideal.τ).loc Cert.Kernel10Ideal.main_v0_31) = v31 c
          ∧ r.2.mem ((c.tc : Thread Cert.Kernel10Ideal.nD Cert.Kernel10Ideal.τ).loc Cert.Kernel10Ideal.main_v0_32) = v32 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_v30) = v4 c
          ∧ r.2.mem ((c.tc : Thread Cert.Reference10Ideal.nD Cert.Reference10Ideal.τ).loc Cert.Reference10Ideal.main_v31) = v5 c
          ∧ r.2.mem ((c.tc : Thread Cert.Reference10Ideal.nD Cert.Reference10Ideal.τ).loc Cert.Reference10Ideal.main_v32) = v6 c
          ∧ r.2.mem ((c.tc : Thread Cert.Reference10Ideal.nD Cert.Reference10Ideal.τ).loc Cert.Reference10Ideal.main_v34) = v7 c
          ∧ r.2.mem ((c.tc : Thread Cert.Reference10Ideal.nD Cert.Reference10Ideal.τ).loc Cert.Reference10Ideal.main_v36) = v8 c
          ∧ r.2.mem ((c.tc : Thread Cert.Reference10Ideal.nD Cert.Reference10Ideal.τ).loc Cert.Reference10Ideal.main_v38) = v9 c
          ∧ r.2.mem ((c.tc : Thread Cert.Reference10Ideal.nD Cert.Reference10Ideal.τ).loc Cert.Reference10Ideal.main_v39) = v10 c
          ∧ r.2.mem ((c.tc : Thread Cert.Reference10Ideal.nD Cert.Reference10Ideal.τ).loc Cert.Reference10Ideal.main_v40) = v11 c
          ∧ r.2.mem ((c.tc : Thread Cert.Reference10Ideal.nD Cert.Reference10Ideal.τ).loc Cert.Reference10Ideal.main_v41) = v12 c
          ∧ r.2.mem ((c.tc : Thread Cert.Reference10Ideal.nD Cert.Reference10Ideal.τ).loc Cert.Reference10Ideal.main_v42) = v13 c
          ∧ r.2.mem ((c.tc : Thread Cert.Reference10Ideal.nD Cert.Reference10Ideal.τ).loc Cert.Reference10Ideal.main_v43) = v14 c
          ∧ r.2.mem ((c.tc : Thread Cert.Reference10Ideal.nD Cert.Reference10Ideal.τ).loc Cert.Reference10Ideal.main_v45) = v15 c
          ∧ r.2.mem ((c.tc : Thread Cert.Reference10Ideal.nD Cert.Reference10Ideal.τ).loc Cert.Reference10Ideal.main_v47) = v16 c
          ∧ r.2.mem ((c.tc : Thread Cert.Reference10Ideal.nD Cert.Reference10Ideal.τ).loc Cert.Reference10Ideal.main_v49) = v17 c
          ∧ r.2.mem ((c.tc : Thread Cert.Reference10Ideal.nD Cert.Reference10Ideal.τ).loc Cert.Reference10Ideal.main_v50) = v18 c
          ∧ r.2.mem ((c.tc : Thread Cert.Reference10Ideal.nD Cert.Reference10Ideal.τ).loc Cert.Reference10Ideal.main_v51) = v19 c
          ∧ r.2.mem ((c.tc : Thread Cert.Reference10Ideal.nD Cert.Reference10Ideal.τ).loc Cert.Reference10Ideal.main_v52) = v20 c
          ∧ r.2.mem ((c.tc : Thread Cert.Reference10Ideal.nD Cert.Reference10Ideal.τ).loc Cert.Reference10Ideal.main_v53) = v21 c
          ∧ r.2.mem ((c.tc : Thread Cert.Reference10Ideal.nD Cert.Reference10Ideal.τ).loc Cert.Reference10Ideal.main_v54) = v22 c
          ∧ r.2.mem ((c.tc : Thread Cert.Reference10Ideal.nD Cert.Reference10Ideal.τ).loc Cert.Reference10Ideal.main_v56) = v23 c
          ∧ r.2.mem ((c.tc : Thread Cert.Reference10Ideal.nD Cert.Reference10Ideal.τ).loc Cert.Reference10Ideal.main_v58) = v24 c
          ∧ r.2.mem ((c.tc : Thread Cert.Reference10Ideal.nD Cert.Reference10Ideal.τ).loc Cert.Reference10Ideal.main_v60) = v25 c
          ∧ r.2.mem ((c.tc : Thread Cert.Reference10Ideal.nD Cert.Reference10Ideal.τ).loc Cert.Reference10Ideal.main_v61) = v26 c
          ∧ r.2.mem ((c.tc : Thread Cert.Reference10Ideal.nD Cert.Reference10Ideal.τ).loc Cert.Reference10Ideal.main_v62) = v27 c
          ∧ r.2.mem ((c.tc : Thread Cert.Reference10Ideal.nD Cert.Reference10Ideal.τ).loc Cert.Reference10Ideal.main_v63) = v28 c
          ∧ r.2.mem ((c.tc : Thread Cert.Reference10Ideal.nD Cert.Reference10Ideal.τ).loc Cert.Reference10Ideal.main_v64) = v29 c
          ∧ r.2.mem ((c.tc : Thread Cert.Reference10Ideal.nD Cert.Reference10Ideal.τ).loc Cert.Reference10Ideal.main_v65) = v30 c
          ∧ r.2.mem ((c.tc : Thread Cert.Reference10Ideal.nD Cert.Reference10Ideal.τ).loc Cert.Reference10Ideal.main_v67) = v31 c
          ∧ r.2.mem ((c.tc : Thread Cert.Reference10Ideal.nD Cert.Reference10Ideal.τ).loc Cert.Reference10Ideal.main_v68) = v32 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_v38) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  IdealRules.named_const.Statement Cert.Kernel14Ideal.κ "mask" .f32 0xF149F2CA#32 ⊥

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v12_0)) (v1 : (c : Dev Cert.Kernel14Ideal.nD) → Buf (Elt Ideal) ((c.tc : Thread Cert.Kernel14Ideal.nD Cert.Kernel14Ideal.τ).loc Cert.Kernel14Ideal.main_v12_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v12_0) = v0 c
          ∧ r.2.mem ((c.tc : Thread Cert.Kernel14Ideal.nD Cert.Kernel14Ideal.τ).loc Cert.Kernel14Ideal.main_v12_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel6 : Cert.Kernel6.Facts) (hKernel6Ideal : Cert.Kernel6Ideal.Facts) (hReference6Ideal : Cert.Reference6Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel6_Kernel6Ideal
    ∧ algebraic_Kernel6Ideal_Reference6Ideal (hKernel6Ideal := hKernel6Ideal) (hReference6Ideal := hReference6Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S1x2048x4x128 : Shape := ⟨4, ![1, 2048, 4, 128]⟩
abbrev S1x2048x4 : Shape := ⟨3, ![1, 2048, 4]⟩
abbrev S_ : Shape := ⟨0, ![]⟩

class Facts : Prop where
  bcast_S_S1x2048x4x128 : S_.BroadcastsInDim S1x2048x4x128 (![] : Fin 0 → Fin S1x2048x4x128.rank)
  reducesTo_S1x2048x4x128_S_d0_1_2_3 : S1x2048x4x128.ReducesTo [0, 1, 2, 3] S_
  h_S_ : 0 < S_.numel
  bcast_S_S1x2048x4 : S_.BroadcastsInDim S1x2048x4 (![] : Fin 0 → Fin S1x2048x4.rank)
  reducesTo_S1x2048x4_S_d0_1_2 : S1x2048x4.ReducesTo [0, 1, 2] S_

variable [Facts]

def fn_part2 {F : FTy → Type} [FloatOps F] (main_arg7 : FVec F S1x2048x4x128 .f32) (main_v29 : IVec S_ 1) (main_v32 : IVec S1x2048x4 1) (main_c_12 : IVec S_ 1) : IVec S_ 1 :=
  let main_v33 : IVec S_ 1 := (fun x v => Host.reduce IntOp.andi x v reducesTo_S1x2048x4_S_d0_1_2 h_S_) main_v32 main_c_12
  let main_v34 : IVec S_ 1 := andi main_v29 main_v33
  let main_v35 : FVec F S1x2048x4x128 .f32 := Host.absf main_arg7
  let main_cst_13 : FVec F S_ .f32 := constant S_ .f32 0x7F800000#32
  let main_v36 : FVec F S1x2048x4x128 .f32 := broadcastInDim S1x2048x4x128 ![] bcast_S_S1x2048x4x128 main_cst_13
  let main_v37 : IVec S1x2048x4x128 1 := cmpf .olt main_v35 main_v36
  let main_c_14 : IVec S_ 1 := constantI S_ 1 1#1
  let main_v38 : IVec S_ 1 := (fun x v => Host.reduce IntOp.andi x v reducesTo_S1x2048x4x128_S_d0_1_2_3 h_S_) main_v37 main_c_14
  let main_v39 : IVec S_ 1 := andi main_v34 main_v38
  main_v39

def fn_part1 {F : FTy → Type} [FloatOps F] (main_arg4 : FVec F S1x2048x4 .f32) (main_arg5 : FVec F S1x2048x4x128 .f32) (main_arg6 : FVec F S1x2048x4 .f32) (main_arg7 : FVec F S1x2048x4x128 .f32) (main_v14 : IVec S_ 1) (main_v15 : FVec F S1x2048x4x128 .f32) (main_cst_5 : FVec F S_ .f32) : IVec S_ 1 :=
  let main_v16 : FVec F S1x2048x4x128 .f32 := broadcastInDim S1x2048x4x128 ![] bcast_S_S1x2048x4x128 main_cst_5
  let main_v17 : IVec S1x2048x4x128 1 := cmpf .olt main_v15 main_v16
  let main_c_6 : IVec S_ 1 := constantI S_ 1 1#1
  let main_v18 : IVec S_ 1 := (fun x v => Host.reduce IntOp.andi x v reducesTo_S1x2048x4x128_S_d0_1_2_3 h_S_) main_v17 main_c_6
  let main_v19 : IVec S_ 1 := andi main_v14 main_v18
  let main_v20 : FVec F S1x2048x4 .f32 := Host.absf main_arg4
  let main_cst_7 : FVec F S_ .f32 := constant S_ .f32 0x7F800000#32
  let main_v21 : FVec F S1x2048x4 .f32 := broadcastInDim S1x2048x4 ![] bcast_S_S1x2048x4 main_cst_7
  let main_v22 : IVec S1x2048x4 1 := cmpf .olt main_v20 main_v21
  let main_c_8 : IVec S_ 1 := constantI S_ 1 1#1
  let main_v23 : IVec S_ 1 := (fun x v => Host.reduce IntOp.andi x v reducesTo_S1x2048x4_S_d0_1_2 h_S_) main_v22 main_c_8
  let main_v24 : IVec S_ 1 := andi main_v19 main_v23
  let main_v25 : FVec F S1x2048x4x128 .f32 := Host.absf main_arg5
  let main_cst_9 : FVec F S_ .f32 := constant S_ .f32 0x7F800000#32
  let main_v26 : FVec F S1x2048x4x128 .f32 := broadcastInDim S1x2048x4x128 ![] bcast_S_S1x2048x4x128 main_cst_9
  let main_v27 : IVec S1x2048x4x128 1 := cmpf .olt main_v25 main_v26
  let main_c_10 : IVec S_ 1 := constantI S_ 1 1#1
  let main_v28 : IVec S_ 1 := (fun x v => Host.reduce IntOp.andi x v reducesTo_S1x2048x4x128_S_d0_1_2_3 h_S_) main_v27 main_c_10
  let main_v29 : IVec S_ 1 := andi main_v24 main_v28
  let main_v30 : FVec F S1x2048x4 .f32 := Host.absf main_arg6
  let main_cst_11 : FVec F S_ .f32 := constant S_ .f32 0x7F800000#32
  let main_v31 : FVec F S1x2048x4 .f32 := broadcastInDim S1x2048x4 ![] bcast_S_S1x2048x4 main_cst_11
  let main_v32 : IVec S1x2048x4 1 := cmpf .olt main_v30 main_v31
  let main_c_12 : IVec S_ 1 := constantI S_ 1 1#1
  fn_part2 (F := F) main_arg7 main_v29 main_v32 main_c_12

def fn {F : FTy → Type} [FloatOps F] (main_arg0 : FVec F S1x2048x4x128 .f32) (main_arg1 : FVec F S1x2048x4x128 .f32) (main_arg2 : FVec F S1x2048x4x128 .f32) (main_arg3 : FVec F S1x2048x4x128 .f32) (main_arg4 : FVec F S1x2048x4 .f32) (main_arg5 : FVec F S1x2048x4x128 .f32) (main_arg6 : FVec F S1x2048x4 .f32) (main_arg7 : FVec F S1x2048x4x128 .f32) : IVec S_ 1 :=
  let main_v0 : FVec F S1x2048x4x128 .f32 := Host.absf main_arg0
  let main_cst : FVec F S_ .f32 := constant S_ .f32 0x7F800000#32
  let main_v1 : FVec F S1x2048x4x128 .f32 := broadcastInDim S1x2048x4x128 ![] bcast_S_S1x2048x4x128 main_cst
  let main_v2 : IVec S1x2048x4x128 1 := cmpf .olt main_v0 main_v1
  let main_c : IVec S_ 1 := constantI S_ 1 1#1
  let main_v3 : IVec S_ 1 := (fun x v => Host.reduce IntOp.andi x v reducesTo_S1x2048x4x128_S_d0_1_2_3 h_S_) main_v2 main_c
  let main_c_0 : IVec S_ 1 := constantI S_ 1 1#1
  let main_v4 : IVec S_ 1 := andi main_c_0 main_v3
  let main_v5 : FVec F S1x2048x4x128 .f32 := Host.absf main_arg1
  let main_cst_1 : FVec F S_ .f32 := constant S_ .f32 0x7F800000#32
  let main_v6 : FVec F S1x2048x4x128 .f32 := broadcastInDim S1x2048x4x128 ![] bcast_S_S1x2048x4x128 main_cst_1
  let main_v7 : IVec S1x2048x4x128 1 := cmpf .olt main_v5 main_v6
  let main_c_2 : IVec S_ 1 := constantI S_ 1 1#1
  let main_v8 : IVec S_ 1 := (fun x v => Host.reduce IntOp.andi x v reducesTo_S1x2048x4x128_S_d0_1_2_3 h_S_) main_v7 main_c_2
  let main_v9 : IVec S_ 1 := andi main_v4 main_v8
  let main_v10 : FVec F S1x2048x4x128 .f32 := Host.absf main_arg2
  let main_cst_3 : FVec F S_ .f32 := constant S_ .f32 0x7F800000#32
  let main_v11 : FVec F S1x2048x4x128 .f32 := broadcastInDim S1x2048x4x128 ![] bcast_S_S1x2048x4x128 main_cst_3
  let main_v12 : IVec S1x2048x4x128 1 := cmpf .olt main_v10 main_v11
  let main_c_4 : IVec S_ 1 := constantI S_ 1 1#1
  let main_v13 : IVec S_ 1 := (fun x v => Host.reduce IntOp.andi x v reducesTo_S1x2048x4x128_S_d0_1_2_3 h_S_) main_v12 main_c_4
  let main_v14 : IVec S_ 1 := andi main_v9 main_v13
  let main_v15 : FVec F S1x2048x4x128 .f32 := Host.absf main_arg3
  let main_cst_5 : FVec F S_ .f32 := constant S_ .f32 0x7F800000#32
  fn_part1 (F := F) main_arg4 main_arg5 main_arg6 main_arg7 main_v14 main_v15 main_cst_5
-- ==== Pre_finite14.lean ====
abbrev S1x2048x4x128 : Shape := ⟨4, ![1, 2048, 4, 128]⟩
abbrev S_ : Shape := ⟨0, ![]⟩

class Facts : Prop where
  bcast_S_S1x2048x4x128 : S_.BroadcastsInDim S1x2048x4x128 (![] : Fin 0 → Fin S1x2048x4x128.rank)
  reducesTo_S1x2048x4x128_S_d0_1_2_3 : S1x2048x4x128.ReducesTo [0, 1, 2, 3] S_
  h_S_ : 0 < S_.numel

variable [Facts]

def fn {F : FTy → Type} [FloatOps F] (main_arg0 : FVec F S1x2048x4x128 .f32) (main_arg1 : FVec F S1x2048x4x128 .f32) (main_arg2 : FVec F S1x2048x4x128 .f32) : IVec S_ 1 :=
  let main_v0 : FVec F S1x2048x4x128 .f32 := Host.absf main_arg0
  let main_cst : FVec F S_ .f32 := constant S_ .f32 0x7F800000#32
  let main_v1 : FVec F S1x2048x4x128 .f32 := broadcastInDim S1x2048x4x128 ![] bcast_S_S1x2048x4x128 main_cst
  let main_v2 : IVec S1x2048x4x128 1 := cmpf .olt main_v0 main_v1
  let main_c : IVec S_ 1 := constantI S_ 1 1#1
  let main_v3 : IVec S_ 1 := (fun x v => Host.reduce IntOp.andi x v reducesTo_S1x2048x4x128_S_d0_1_2_3 h_S_) main_v2 main_c
  let main_c_0 : IVec S_ 1 := constantI S_ 1 1#1
  let main_v4 : IVec S_ 1 := andi main_c_0 main_v3
  let main_v5 : FVec F S1x2048x4x128 .f32 := Host.absf main_arg1
  let main_cst_1 : FVec F S_ .f32 := constant S_ .f32 0x7F800000#32
  let main_v6 : FVec F S1x2048x4x128 .f32 := broadcastInDim S1x2048x4x128 ![] bcast_S_S1x2048x4x128 main_cst_1
  let main_v7 : IVec S1x2048x4x128 1 := cmpf .olt main_v5 main_v6
  let main_c_2 : IVec S_ 1 := constantI S_ 1 1#1
  let main_v8 : IVec S_ 1 := (fun x v => Host.reduce IntOp.andi x v reducesTo_S1x2048x4x128_S_d0_1_2_3 h_S_) main_v7 main_c_2
  let main_v9 : IVec S_ 1 := andi main_v4 main_v8
  let main_v10 : FVec F S1x2048x4x128 .f32 := Host.absf main_arg2
  let main_cst_3 : FVec F S_ .f32 := constant S_ .f32 0x7F800000#32
  let main_v11 : FVec F S1x2048x4x128 .f32 := broadcastInDim S1x2048x4x128 ![] bcast_S_S1x2048x4x128 main_cst_3
  let main_v12 : IVec S1x2048x4x128 1 := cmpf .olt main_v10 main_v11
  let main_c_4 : IVec S_ 1 := constantI S_ 1 1#1
  let main_v13 : IVec S_ 1 := (fun x v => Host.reduce IntOp.andi x v reducesTo_S1x2048x4x128_S_d0_1_2_3 h_S_) main_v12 main_c_4
  let main_v14 : IVec S_ 1 := andi main_v9 main_v13
  main_v14
-- ==== Kernel.lean ====
abbrev S1x2048x4x128 : Shape := ⟨4, ![1, 2048, 4, 128]⟩
abbrev S1x2048x4 : Shape := ⟨3, ![1, 2048, 4]⟩
abbrev S1x128x16x4x128 : Shape := ⟨5, ![1, 128, 16, 4, 128]⟩
abbrev S1x16x4x128x128 : Shape := ⟨5, ![1, 16, 4, 128, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S1x16x4x128 : Shape := ⟨4, ![1, 16, 4, 128]⟩
abbrev S1x16x4x128x1 : Shape := ⟨5, ![1, 16, 4, 128, 1]⟩
abbrev S1x128x16x4 : Shape := ⟨4, ![1, 128, 16, 4]⟩
abbrev S1x2048x4x1 : Shape := ⟨4, ![1, 2048, 4, 1]⟩
abbrev S128x16x4x128 : Shape := ⟨4, ![128, 16, 4, 128]⟩
abbrev S4x128x16x128 : Shape := ⟨4, ![4, 128, 16, 128]⟩
abbrev S4x128x2048 : Shape := ⟨3, ![4, 128, 2048]⟩
abbrev S128x16x4x1 : Shape := ⟨4, ![128, 16, 4, 1]⟩
abbrev S4x128x16x1 : Shape := ⟨4, ![4, 128, 16, 1]⟩
abbrev S4x128x16 : Shape := ⟨3, ![4, 128, 16]⟩
abbrev S1x128x2048 : Shape := ⟨3, ![1, 128, 2048]⟩
abbrev S1x128x16 : Shape := ⟨3, ![1, 128, 16]⟩
abbrev S128x2048 : Shape := ⟨2, ![128, 2048]⟩
abbrev S1x128x128 : Shape := ⟨3, ![1, 128, 128]⟩
abbrev S1x128x1 : Shape := ⟨3, ![1, 128, 1]⟩

abbrev nBuf : Space → Nat
  | .hbm => 108
  | .vmem => 20
  | .smem => 0
  | _ => 0

abbrev bufTy : (tb : Table) → Fin (tcTables nBuf tb) → BufTy
  | .hbm, ⟨0, _⟩ => ⟨S1x2048x4x128, .f32⟩
  | .hbm, ⟨1, _⟩ => ⟨S1x2048x4x128, .f32⟩
  | .hbm, ⟨2, _⟩ => ⟨S1x2048x4x128, .f32⟩
  | .hbm, ⟨3, _⟩ => ⟨S1x2048x4x128, .f32⟩
  | .hbm, ⟨4, _⟩ => ⟨S1x2048x4, .f32⟩
  | .hbm, ⟨5, _⟩ => ⟨S1x2048x4x128, .f32⟩
  | .hbm, ⟨6, _⟩ => ⟨S1x2048x4, .f32⟩
  | .hbm, ⟨7, _⟩ => ⟨S1x2048x4x128, .f32⟩
  | .hbm, ⟨8, _⟩ => ⟨S1x128x16x4x128, .f32⟩
  | .hbm, ⟨9, _⟩ => ⟨S1x16x4x128x128, .f32⟩
  | .hbm, ⟨10, _⟩ => ⟨S1x128x16x4x128, .f32⟩
  | .hbm, ⟨11, _⟩ => ⟨S1x16x4x128x128, .f32⟩
  | .hbm, ⟨12, _⟩ => ⟨S1x128x16x4x128, .f32⟩
  | .hbm, ⟨13, _⟩ => ⟨S1x16x4x128x128, .f32⟩
  | .hbm, ⟨14, _⟩ => ⟨S128, .i32⟩
  | .hbm, ⟨15, _⟩ => ⟨S1x128, .i32⟩
  | .hbm, ⟨16, _⟩ => ⟨S128x1, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S1x16x4x128x128, .f32⟩
  | .hbm, ⟨25, _⟩ => ⟨S_, .f32⟩
  | .hbm, ⟨26, _⟩ => ⟨S1x16x4x128x128, .f32⟩
  | .hbm, ⟨27, _⟩ => ⟨S1x16x4x128x128, .f32⟩
  | .hbm, ⟨28, _⟩ => ⟨S_, .f32⟩
  | .hbm, ⟨29, _⟩ => ⟨S_, .f32⟩
  | .hbm, ⟨30, _⟩ => ⟨S1x16x4x128x128, .i1⟩
  | .hbm, ⟨31, _⟩ => ⟨S1x16x4x128x128, .f32⟩
  | .hbm, ⟨32, _⟩ => ⟨S1x16x4x128x128, .f32⟩
  | .hbm, ⟨33, _⟩ => ⟨S_, .f32⟩
  | .hbm, ⟨34, _⟩ => ⟨S1x16x4x128, .f32⟩
  | .hbm, ⟨35, _⟩ => ⟨S1x16x4x128x1, .f32⟩
  | .hbm, ⟨36, _⟩ => ⟨S1x16x4x128x128, .f32⟩
  | .hbm, ⟨37, _⟩ => ⟨S1x16x4x128x128, .f32⟩
  | .hbm, ⟨38, _⟩ => ⟨S1x16x4x128x128, .f32⟩
  | .hbm, ⟨39, _⟩ => ⟨S_, .f32⟩
  | .hbm, ⟨40, _⟩ => ⟨S1x16x4x128, .f32⟩
  | .hbm, ⟨41, _⟩ => ⟨S1x16x4x128, .f32⟩
  | .hbm, ⟨42, _⟩ => ⟨S1x16x4x128, .f32⟩
  | .hbm, ⟨43, _⟩ => ⟨S1x16x4x128x1, .f32⟩
  | .hbm, ⟨44, _⟩ => ⟨S1x16x4x128x128, .f32⟩
  | .hbm, ⟨45, _⟩ => ⟨S1x16x4x128x128, .f32⟩
  | .hbm, ⟨46, _⟩ => ⟨S1x16x4x128x128, .f32⟩
  | .hbm, ⟨47, _⟩ => ⟨S1x16x4x128x128, .f32⟩
  | .hbm, ⟨48, _⟩ => ⟨S1x128x16x4x128, .f32⟩
  | .hbm, ⟨49, _⟩ => ⟨S1x2048x4x128, .f32⟩
  | .hbm, ⟨50, _⟩ => ⟨S1x128x16x4, .f32⟩
  | .hbm, ⟨51, _⟩ => ⟨S1x2048x4, .f32⟩
  | .hbm, ⟨52, _⟩ => ⟨S1x2048x4, .f32⟩
  | .hbm, ⟨53, _⟩ => ⟨S1x2048x4, .f32⟩
  | .hbm, ⟨54, _⟩ => ⟨S1x2048x4, .f32⟩
  | .hbm, ⟨55, _⟩ => ⟨S1x2048x4, .f32⟩
  | .hbm, ⟨56, _⟩ => ⟨S1x2048x4, .f32⟩
  | .hbm, ⟨57, _⟩ => ⟨S1x2048x4, .f32⟩
  | .hbm, ⟨58, _⟩ => ⟨S1x2048x4, .f32⟩
  | .hbm, ⟨59, _⟩ => ⟨S1x2048x4, .f32⟩
  | .hbm, ⟨60, _⟩ => ⟨S1x2048x4, .f32⟩
  | .hbm, ⟨61, _⟩ => ⟨S1x2048x4, .f32⟩
  | .hbm, ⟨62, _⟩ => ⟨S1x2048x4x1, .f32⟩
  | .hbm, ⟨63, _⟩ => ⟨S1x2048x4x128, .f32⟩
  | .hbm, ⟨64, _⟩ => ⟨S1x2048x4x128, .f32⟩
  | .hbm, ⟨65, _⟩ => ⟨S1x2048x4x1, .f32⟩
  | .hbm, ⟨66, _⟩ => ⟨S1x2048x4x128, .f32⟩
  | .hbm, ⟨67, _⟩ => ⟨S1x2048x4x128, .f32⟩
  | .hbm, ⟨68, _⟩ => ⟨S1x2048x4x128, .f32⟩
  | .hbm, ⟨69, _⟩ => ⟨S1x2048x4x1, .f32⟩
  | .hbm, ⟨70, _⟩ => ⟨S1x2048x4x128, .f32⟩
  | .hbm, ⟨71, _⟩ => ⟨S1x2048x4x128, .f32⟩
  | .hbm, ⟨72, _⟩ => ⟨S1x2048x4x128, .f32⟩
  | .hbm, ⟨73, _⟩ => ⟨S1x2048x4x1, .f32⟩
  | .hbm, ⟨74, _⟩ => ⟨S1x2048x4x128, .f32⟩
  | .hbm, ⟨75, _⟩ => ⟨S1x2048x4x128, .f32⟩
  | .hbm, ⟨76, _⟩ => ⟨S1x2048x4x128, .bf16⟩
  | .hbm, ⟨77, _⟩ => ⟨S1x2048x4, .f32⟩
  | .hbm, ⟨78, _⟩ => ⟨S1x2048x4, .f32⟩
  | .hbm, ⟨79, _⟩ => ⟨S1x2048x4x128, .f32⟩
  | .hbm, ⟨80, _⟩ => ⟨S1x2048x4x128, .f32⟩
  | .hbm, ⟨81, _⟩ => ⟨S_, .f32⟩
  | .hbm, ⟨82, _⟩ => ⟨S1x2048x4, .f32⟩
  | .hbm, ⟨83, _⟩ => ⟨S128x16x4x128, .f32⟩
  | .hbm, ⟨84, _⟩ => ⟨S4x128x16x128, .f32⟩
  | .hbm, ⟨85, _⟩ => ⟨S4x128x2048, .f32⟩
  | .hbm, ⟨86, _⟩ => ⟨S4x128x2048, .bf16⟩
  | .hbm, ⟨87, _⟩ => ⟨S128x16x4x128, .f32⟩
  | .hbm, ⟨88, _⟩ => ⟨S4x128x16x128, .f32⟩
  | .hbm, ⟨89, _⟩ => ⟨S4x128x2048, .f32⟩
  | .hbm, ⟨90, _⟩ => ⟨S4x128x2048, .bf16⟩
  | .hbm, ⟨91, _⟩ => ⟨S128x16x4x128, .f32⟩
  | .hbm, ⟨92, _⟩ => ⟨S4x128x16x128, .f32⟩
  | .hbm, ⟨93, _⟩ => ⟨S4x128x2048, .f32⟩
  | .hbm, ⟨94, _⟩ => ⟨S4x128x2048, .bf16⟩
  | .hbm, ⟨95, _⟩ => ⟨S128x16x4x128, .f32⟩
  | .hbm, ⟨96, _⟩ => ⟨S4x128x16x128, .f32⟩
  | .hbm, ⟨97, _⟩ => ⟨S4x128x2048, .f32⟩
  | .hbm, ⟨98, _⟩ => ⟨S4x128x2048, .bf16⟩
  | .hbm, ⟨99, _⟩ => ⟨S128x16x4x1, .f32⟩
  | .hbm, ⟨100, _⟩ => ⟨S4x128x16x1, .f32⟩
  | .hbm, ⟨101, _⟩ => ⟨S4x128x16, .f32⟩
  | .hbm, ⟨102, _⟩ => ⟨S128x16x4x1, .f32⟩
  | .hbm, ⟨103, _⟩ => ⟨S4x128x16x1, .f32⟩
  | .hbm, ⟨104, _⟩ => ⟨S4x128x16, .f32⟩
  | .hbm, ⟨105, _⟩ => ⟨S4x128x2048, .bf16⟩
  | .hbm, ⟨106, _⟩ => ⟨S4x128x2048, .bf16⟩
  | .hbm, ⟨107, _⟩ => ⟨S4x128x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x16, .f32⟩
  | .local _ .vmem, ⟨9, _⟩ => ⟨S1x128x16, .f32⟩
  | .local _ .vmem, ⟨10, _⟩ => ⟨S1x128x16, .f32⟩
  | .local _ .vmem, ⟨11, _⟩ => ⟨S1x128x16, .f32⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S1x128x2048, .bf16⟩
  | .local _ .vmem, ⟨17, _⟩ => ⟨S1x128x2048, .bf16⟩
  | .local _ .vmem, ⟨18, _⟩ => ⟨S128x2048, .f32⟩
  | .local _ .vmem, ⟨19, _⟩ => ⟨S128x2048, .f32⟩
  | _, _ => ⟨S1x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_3 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88_0 : Ref sig .tc := ⟨.hbm, 105, rfl⟩
abbrev main_v88_1 : Ref sig .tc := ⟨.hbm, 106, rfl⟩
abbrev main_v88_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x2048x4x128 : Shape := ⟨4, ![1, 2048, 4, 128]⟩
abbrev S1x2048x4 : Shape := ⟨3, ![1, 2048, 4]⟩
abbrev S1x128x16x4x128 : Shape := ⟨5, ![1, 128, 16, 4, 128]⟩
abbrev S1x16x4x128x128 : Shape := ⟨5, ![1, 16, 4, 128, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S1x16x4x128 : Shape := ⟨4, ![1, 16, 4, 128]⟩
abbrev S1x16x4x128x1 : Shape := ⟨5, ![1, 16, 4, 128, 1]⟩
abbrev S1x128x16x4 : Shape := ⟨4, ![1, 128, 16, 4]⟩
abbrev S1x1x2048x4 : Shape := ⟨4, ![1, 1, 2048, 4]⟩
abbrev S3x1x2048x4 : Shape := ⟨4, ![3, 1, 2048, 4]⟩
abbrev S3x1x2048x4x1 : Shape := ⟨5, ![3, 1, 2048, 4, 1]⟩
abbrev S1x1x2048x4x128 : Shape := ⟨5, ![1, 1, 2048, 4, 128]⟩
abbrev S3x1x2048x4x128 : Shape := ⟨5, ![3, 1, 2048, 4, 128]⟩
abbrev S3x2048x4 : Shape := ⟨3, ![3, 2048, 4]⟩
abbrev S2048x4 : Shape := ⟨2, ![2048, 4]⟩
abbrev S16x4x128 : Shape := ⟨3, ![16, 4, 128]⟩
abbrev S128x16x4x128 : Shape := ⟨4, ![128, 16, 4, 128]⟩
abbrev S4x128x16x128 : Shape := ⟨4, ![4, 128, 16, 128]⟩
abbrev S4x128x2048 : Shape := ⟨3, ![4, 128, 2048]⟩

abbrev nBuf : Space → Nat
  | .hbm => 202
  | .vmem => 0
  | .smem => 0
  | _ => 0

abbrev hbmTy0_0 (i : Nat) : BufTy := match i % 128 with
  | 0 => ⟨S1x2048x4x128, .f32⟩
  | 1 => ⟨S1x2048x4x128, .f32⟩
  | 2 => ⟨S1x2048x4x128, .f32⟩
  | 3 => ⟨S1x2048x4x128, .f32⟩
  | 4 => ⟨S1x2048x4, .f32⟩
  | 5 => ⟨S1x2048x4x128, .f32⟩
  | 6 => ⟨S1x2048x4, .f32⟩
  | 7 => ⟨S1x2048x4x128, .f32⟩
  | 8 => ⟨S1x128x16x4x128, .f32⟩
  | 9 => ⟨S1x16x4x128x128, .f32⟩
  | 10 => ⟨S1x128x16x4x128, .f32⟩
  | 11 => ⟨S1x16x4x128x128, .f32⟩
  | 12 => ⟨S1x128x16x4x128, .f32⟩
  | 13 => ⟨S1x16x4x128x128, .f32⟩
  | 14 => ⟨S128, .i32⟩
  | 15 => ⟨S1x128, .i32⟩
  | 16 => ⟨S128x1, .i32⟩
  | 17 => ⟨S128x128, .i32⟩
  | 18 => ⟨S128x128, .i32⟩
  | 19 => ⟨S128x128, .i32⟩
  | 20 => ⟨S128x128, .i32⟩
  | 21 => ⟨S_, .i32⟩
  | 22 => ⟨S128x128, .i32⟩
  | 23 => ⟨S128x128, .i1⟩
  | 24 => ⟨S1x16x4x128x128, .f32⟩
  | 25 => ⟨S_, .f32⟩
  | 26 => ⟨S1x16x4x128x128, .f32⟩
  | 27 => ⟨S1x16x4x128x128, .f32⟩
  | 28 => ⟨S_, .f32⟩
  | 29 => ⟨S_, .f32⟩
  | 30 => ⟨S1x16x4x128x128, .i1⟩
  | 31 => ⟨S1x16x4x128x128, .f32⟩
  | 32 => ⟨S1x16x4x128x128, .f32⟩
  | 33 => ⟨S_, .f32⟩
  | 34 => ⟨S1x16x4x128x128, .f32⟩
  | 35 => ⟨S_, .f32⟩
  | 36 => ⟨S1x16x4x128, .f32⟩
  | 37 => ⟨S1x16x4x128x1, .f32⟩
  | 38 => ⟨S1x16x4x128x128, .f32⟩
  | 39 => ⟨S1x16x4x128x128, .i1⟩
  | 40 => ⟨S1x16x4x128x128, .f32⟩
  | 41 => ⟨S_, .f32⟩
  | 42 => ⟨S1x16x4x128, .f32⟩
  | 43 => ⟨S1x16x4x128x1, .f32⟩
  | 44 => ⟨S1x16x4x128x128, .f32⟩
  | 45 => ⟨S1x16x4x128x128, .f32⟩
  | 46 => ⟨S1x16x4x128x128, .f32⟩
  | 47 => ⟨S_, .f32⟩
  | 48 => ⟨S1x16x4x128, .f32⟩
  | 49 => ⟨S1x16x4x128, .f32⟩
  | 50 => ⟨S1x16x4x128, .f32⟩
  | 51 => ⟨S1x16x4x128x1, .f32⟩
  | 52 => ⟨S1x16x4x128x128, .f32⟩
  | 53 => ⟨S1x16x4x128x128, .f32⟩
  | 54 => ⟨S1x16x4x128x128, .f32⟩
  | 55 => ⟨S1x16x4x128x128, .f32⟩
  | 56 => ⟨S1x128x16x4x128, .f32⟩
  | 57 => ⟨S1x2048x4x128, .f32⟩
  | 58 => ⟨S1x128x16x4, .f32⟩
  | 59 => ⟨S1x2048x4, .f32⟩
  | 60 => ⟨S1x1x2048x4, .f32⟩
  | 61 => ⟨S1x1x2048x4, .f32⟩
  | 62 => ⟨S1x1x2048x4, .f32⟩
  | 63 => ⟨S3x1x2048x4, .f32⟩
  | 64 => ⟨S_, .f32⟩
  | 65 => ⟨S1x2048x4, .f32⟩
  | 66 => ⟨S_, .f32⟩
  | 67 => ⟨S1x2048x4, .f32⟩
  | 68 => ⟨S_, .f32⟩
  | 69 => ⟨S1x2048x4, .f32⟩
  | 70 => ⟨S1x1x2048x4, .f32⟩
  | 71 => ⟨S3x1x2048x4, .f32⟩
  | 72 => ⟨S3x1x2048x4, .i1⟩
  | 73 => ⟨S3x1x2048x4, .f32⟩
  | 74 => ⟨S_, .f32⟩
  | 75 => ⟨S1x2048x4, .f32⟩
  | 76 => ⟨S_, .f32⟩
  | 77 => ⟨S1x2048x4, .f32⟩
  | 78 => ⟨S1x2048x4, .f32⟩
  | 79 => ⟨S_, .f32⟩
  | 80 => ⟨S1x2048x4, .f32⟩
  | 81 => ⟨S1x2048x4, .i1⟩
  | 82 => ⟨S_, .f32⟩
  | 83 => ⟨S1x2048x4, .f32⟩
  | 84 => ⟨S1x2048x4, .i1⟩
  | 85 => ⟨S_, .f32⟩
  | 86 => ⟨S1x2048x4, .f32⟩
  | 87 => ⟨S_, .f32⟩
  | 88 => ⟨S1x2048x4, .f32⟩
  | 89 => ⟨S_, .f32⟩
  | 90 => ⟨S1x2048x4, .f32⟩
  | 91 => ⟨S1x2048x4, .f32⟩
  | 92 => ⟨S1x2048x4, .f32⟩
  | 93 => ⟨S1x1x2048x4, .f32⟩
  | 94 => ⟨S3x1x2048x4, .f32⟩
  | 95 => ⟨S3x1x2048x4, .f32⟩
  | 96 => ⟨S3x1x2048x4, .f32⟩
  | 97 => ⟨S_, .f32⟩
  | 98 => ⟨S1x2048x4, .f32⟩
  | 99 => ⟨S1x1x2048x4, .f32⟩
  | 100 => ⟨S3x1x2048x4, .f32⟩
  | 101 => ⟨S3x1x2048x4, .f32⟩
  | 102 => ⟨S1x1x2048x4, .f32⟩
  | 103 => ⟨S_, .f32⟩
  | 104 => ⟨S1x1x2048x4, .f32⟩
  | 105 => ⟨S1x1x2048x4, .f32⟩
  | 106 => ⟨S3x1x2048x4x1, .f32⟩
  | 107 => ⟨S1x1x2048x4x128, .f32⟩
  | 108 => ⟨S1x1x2048x4x128, .f32⟩
  | 109 => ⟨S1x1x2048x4x128, .f32⟩
  | 110 => ⟨S3x1x2048x4x128, .f32⟩
  | 111 => ⟨S_, .f32⟩
  | 112 => ⟨S1x2048x4x128, .f32⟩
  | 113 => ⟨S_, .f32⟩
  | 114 => ⟨S1x2048x4x128, .f32⟩
  | 115 => ⟨S3x1x2048x4x128, .f32⟩
  | 116 => ⟨S3x1x2048x4x128, .f32⟩
  | 117 => ⟨S_, .f32⟩
  | 118 => ⟨S1x2048x4x128, .f32⟩
  | 119 => ⟨S3x1x2048x4x128, .f32⟩
  | 120 => ⟨S3x1x2048x4x128, .f32⟩
  | 121 => ⟨S3x1x2048x4x128, .f32⟩
  | 122 => ⟨S3x1x2048x4x128, .f32⟩
  | 123 => ⟨S_, .f32⟩
  | 124 => ⟨S3x1x2048x4, .f32⟩
  | 125 => ⟨S3x1x2048x4x1, .f32⟩
  | 126 => ⟨S1x1x2048x4x128, .f32⟩
  | 127 => ⟨S1x2048x4x128, .f32⟩
  | _ => ⟨S1x2048x4x128, .f32⟩

abbrev hbmTy0_1 (i : Nat) : BufTy := match i % 128 with
  | 0 => ⟨S1x1x2048x4x128, .f32⟩
  | 1 => ⟨S1x2048x4x128, .f32⟩
  | 2 => ⟨S1x1x2048x4x128, .f32⟩
  | 3 => ⟨S1x2048x4x128, .f32⟩
  | 4 => ⟨S_, .f32⟩
  | 5 => ⟨S3x2048x4, .f32⟩
  | 6 => ⟨S3x1x2048x4, .f32⟩
  | 7 => ⟨S3x1x2048x4, .f32⟩
  | 8 => ⟨S3x1x2048x4, .f32⟩
  | 9 => ⟨S3x1x2048x4, .f32⟩
  | 10 => ⟨S_, .f32⟩
  | 11 => ⟨S1x2048x4, .f32⟩
  | 12 => ⟨S1x1x2048x4, .f32⟩
  | 13 => ⟨S1x1x2048x4, .f32⟩
  | 14 => ⟨S3x1x2048x4, .f32⟩
  | 15 => ⟨S3x1x2048x4, .f32⟩
  | 16 => ⟨S_, .f32⟩
  | 17 => ⟨S2048x4, .f32⟩
  | 18 => ⟨S1x2048x4, .f32⟩
  | 19 => ⟨S3x1x2048x4, .f32⟩
  | 20 => ⟨S3x1x2048x4, .f32⟩
  | 21 => ⟨S3x1x2048x4, .f32⟩
  | 22 => ⟨S1x1x2048x4, .f32⟩
  | 23 => ⟨S1x2048x4, .f32⟩
  | 24 => ⟨S1x1x2048x4, .f32⟩
  | 25 => ⟨S1x2048x4, .f32⟩
  | 26 => ⟨S1x1x2048x4, .f32⟩
  | 27 => ⟨S1x2048x4, .f32⟩
  | 28 => ⟨S1x128x16x4, .f32⟩
  | 29 => ⟨S1x16x4x128, .f32⟩
  | 30 => ⟨S1x128x16x4x128, .f32⟩
  | 31 => ⟨S1x16x4x128x128, .f32⟩
  | 32 => ⟨S1x16x4x128x128, .f32⟩
  | 33 => ⟨S1x16x4x128x128, .f32⟩
  | 34 => ⟨S1x16x4x128x128, .f32⟩
  | 35 => ⟨S1x16x4x128x128, .f32⟩
  | 36 => ⟨S1x16x4x128x128, .f32⟩
  | 37 => ⟨S_, .f32⟩
  | 38 => ⟨S1x16x4x128, .f32⟩
  | 39 => ⟨S1x16x4x128x1, .f32⟩
  | 40 => ⟨S_, .f32⟩
  | 41 => ⟨S16x4x128, .f32⟩
  | 42 => ⟨S1x16x4x128, .f32⟩
  | 43 => ⟨S1x16x4x128, .f32⟩
  | 44 => ⟨S1x16x4x128, .f32⟩
  | 45 => ⟨S1x16x4x128x128, .f32⟩
  | 46 => ⟨S1x16x4x128x128, .f32⟩
  | 47 => ⟨S1x16x4x128x128, .f32⟩
  | 48 => ⟨S_, .f32⟩
  | 49 => ⟨S1x16x4x128x128, .f32⟩
  | 50 => ⟨S1x16x4x128x128, .f32⟩
  | 51 => ⟨S_, .f32⟩
  | 52 => ⟨S1x16x4x128x128, .f32⟩
  | 53 => ⟨S1x16x4x128x128, .f32⟩
  | 54 => ⟨S1x16x4x128x128, .f32⟩
  | 55 => ⟨S1x16x4x128x128, .f32⟩
  | 56 => ⟨S1x128x16x4x128, .f32⟩
  | 57 => ⟨S1x2048x4x128, .f32⟩
  | 58 => ⟨S1x128x16x4x128, .f32⟩
  | 59 => ⟨S1x2048x4x128, .f32⟩
  | 60 => ⟨S1x128x16x4x128, .f32⟩
  | 61 => ⟨S1x2048x4x128, .f32⟩
  | 62 => ⟨S128x16x4x128, .f32⟩
  | 63 => ⟨S4x128x16x128, .f32⟩
  | 64 => ⟨S4x128x2048, .f32⟩
  | 65 => ⟨S4x128x2048, .bf16⟩
  | 66 => ⟨S128x16x4x128, .f32⟩
  | 67 => ⟨S4x128x16x128, .f32⟩
  | 68 => ⟨S4x128x2048, .f32⟩
  | 69 => ⟨S4x128x2048, .bf16⟩
  | 70 => ⟨S128x16x4x128, .f32⟩
  | 71 => ⟨S4x128x16x128, .f32⟩
  | 72 => ⟨S4x128x2048, .f32⟩
  | 73 => ⟨S4x128x2048, .bf16⟩
  | _ => ⟨S1x2048x4x128, .f32⟩

abbrev hbmTy (i : Nat) : BufTy := match i / 128 with
  | 0 => hbmTy0_0 i
  | 1 => hbmTy0_1 i
  | _ => ⟨S1x2048x4x128, .f32⟩

abbrev bufTy : (tb : Table) → Fin (tcTables nBuf tb) → BufTy
  | .hbm, ⟨i, _⟩ => hbmTy i
  | _, _ => ⟨S1x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_call0_v0 : Ref sig .tc := ⟨.hbm, 29, rfl⟩
abbrev main_v18_1 : Ref sig .tc := ⟨.hbm, 30, rfl⟩
abbrev main_call0_v2 : Ref sig .tc := ⟨.hbm, 31, rfl⟩
abbrev main_v18_0 : Ref sig .tc := ⟨.hbm, 32, rfl⟩
abbrev main_call0_cst : Ref sig .tc := ⟨.hbm, 33, rfl⟩
abbrev main_v18_2 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_23 : Ref sig .tc := ⟨.hbm, 165, rfl⟩
abbrev main_v127 : Ref sig .tc := ⟨.hbm, 166, rfl⟩
abbrev main_v128 : Ref sig .tc := ⟨.hbm, 167, rfl⟩
abbrev main_cst_24 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_call1_cst : Ref sig .tc := ⟨.hbm, 176, rfl⟩
abbrev main_call1_v0 : Ref sig .tc := ⟨.hbm, 177, rfl⟩
abbrev main_v136 : Ref sig .tc := ⟨.hbm, 178, rfl⟩
abbrev main_cst_25 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩

abbrev nD : Nat := 1
abbrev τ : Topo := Topo.v7x

variable {F : FTy → Type} [FloatOps F]
-- ==== Kernel2.lean ====
abbrev S2048x2048 : Shape := ⟨2, ![2048, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S1x8192x2048 : Shape := ⟨3, ![1, 8192, 2048]⟩
abbrev S1x2048x512 : Shape := ⟨3, ![1, 2048, 512]⟩
abbrev S2048x512 : Shape := ⟨2, ![2048, 512]⟩
abbrev S1024x2048 : Shape := ⟨2, ![1024, 2048]⟩
abbrev S1x1024x2048 : Shape := ⟨3, ![1, 1024, 2048]⟩
abbrev S1024x1024 : Shape := ⟨2, ![1024, 1024]⟩
abbrev S512x8192 : Shape := ⟨2, ![512, 8192]⟩
abbrev S8x512x1024 : Shape := ⟨3, ![8, 512, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 15
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S1x8192x2048, .f32⟩
  | .hbm, ⟨8, _⟩ => ⟨S1x8192x2048, .bf16⟩
  | .hbm, ⟨9, _⟩ => ⟨S2048x2048, .bf16⟩
  | .hbm, ⟨10, _⟩ => ⟨S2048x8192, .bf16⟩
  | .hbm, ⟨11, _⟩ => ⟨S2048x8192, .bf16⟩
  | .hbm, ⟨12, _⟩ => ⟨S2048x2048, .bf16⟩
  | .hbm, ⟨13, _⟩ => ⟨S2048x8192, .bf16⟩
  | .hbm, ⟨14, _⟩ => ⟨S2048x2048, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x2048, .bf16⟩
  | .local _ .vmem, ⟨8, _⟩ => ⟨S1024x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x8192, .bf16⟩
  | .local _ .vmem, ⟨16, _⟩ => ⟨S512x8192, .bf16⟩
  | .local _ .vmem, ⟨17, _⟩ => ⟨S8x512x1024, .bf16⟩
  | .local _ .vmem, ⟨18, _⟩ => ⟨S8x512x1024, .bf16⟩
  | .local _ .vmem, ⟨19, _⟩ => ⟨S512x512, .f32⟩
  | .local _ .vmem, ⟨20, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S8x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference2Ideal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S2048x2048, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S8192x2048 : Shape := ⟨2, ![8192, 2048]⟩
abbrev S1x8192x2048 : Shape := ⟨3, ![1, 8192, 2048]⟩
abbrev S1x1 : Shape := ⟨2, ![1, 1]⟩
abbrev S512x8192 : Shape := ⟨2, ![512, 8192]⟩
abbrev S1x8192x512 : Shape := ⟨3, ![1, 8192, 512]⟩
abbrev S512x512 : Shape := ⟨2, ![512, 512]⟩
abbrev S8192x512 : Shape := ⟨2, ![8192, 512]⟩
abbrev S512 : Shape := ⟨1, ![512]⟩
abbrev S512x1 : Shape := ⟨2, ![512, 1]⟩
abbrev S1 : Shape := ⟨1, ![1]⟩

abbrev nBuf : Space → Nat
  | .hbm => 10
  | .vmem => 13
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S1x8192x2048, .f32⟩
  | .hbm, ⟨5, _⟩ => ⟨S1x8192x2048, .bf16⟩
  | .hbm, ⟨6, _⟩ => ⟨S2048x8192, .bf16⟩
  | .hbm, ⟨7, _⟩ => ⟨S2048x2048, .f32⟩
  | .hbm, ⟨8, _⟩ => ⟨S2048x2048, .bf16⟩
  | .hbm, ⟨9, _⟩ => ⟨S1x1, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x1, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_16 : BitVec 32 := 0#32
  let v22 : BitVec 1 := Scalar.cmpi .eq arg1 c0_i32_16
  let v23 : BitVec 1 := Scalar.andi v21 v22
  let v24 : BitVec 32 := Scalar.extui v23
  let c0_i32_17 : BitVec 32 := 0#32
  let v25 : BitVec 1 := Scalar.cmpi .ne v24 c0_i32_17
  v25

def k0_cond2 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_16 : BitVec 32 := 0#32
  let v22 : BitVec 1 := Scalar.cmpi .eq arg1 c0_i32_16
  let v23 : BitVec 1 := Scalar.andi v21 v22
  let v_true : BitVec 1 := 1#1
  let v26 : BitVec 1 := Scalar.xori v23 v_true
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S2048x8192 : Shape := ⟨2, ![2048, 8192]⟩
abbrev S2048x2048 : Shape := ⟨2, ![2048, 2048]⟩
abbrev S8192x2048 : Shape := ⟨2, ![8192, 2048]⟩
abbrev S_ : Shape := ⟨0, ![]⟩
abbrev S2048 : Shape := ⟨1, ![2048]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x2048, .f32⟩
  | .hbm, ⟨28, _⟩ => ⟨S2048x2048, .f32⟩
  | .hbm, ⟨29, _⟩ => ⟨S1x1, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel4.lean ====
abbrev S2048x10240 : Shape := ⟨2, ![2048, 10240]⟩
abbrev S4x1024x2048 : Shape := ⟨3, ![4, 1024, 2048]⟩
abbrev S1024x2048 : Shape := ⟨2, ![1024, 2048]⟩
abbrev S2048x8x1280 : Shape := ⟨3, ![2048, 8, 1280]⟩
abbrev S8x2048x1280 : Shape := ⟨3, ![8, 2048, 1280]⟩
abbrev S8x2048x768 : Shape := ⟨3, ![8, 2048, 768]⟩
abbrev S8x2048x512 : Shape := ⟨3, ![8, 2048, 512]⟩
abbrev S2048x2048 : Shape := ⟨2, ![2048, 2048]⟩
abbrev S256x10240 : Shape := ⟨2, ![256, 10240]⟩
abbrev S8x512x768 : Shape := ⟨3, ![8, 512, 768]⟩
abbrev S8x512x512 : Shape := ⟨3, ![8, 512, 512]⟩
abbrev S4x32x2048 : Shape := ⟨3, ![4, 32, 2048]⟩
abbrev S32x2048 : Shape := ⟨2, ![32, 2048]⟩
abbrev S256x512 : Shape := ⟨2, ![256, 512]⟩
abbrev S256x768 : Shape := ⟨2, ![256, 768]⟩
abbrev S1x512x768 : Shape := ⟨3, ![1, 512, 768]⟩
abbrev S512x768 : Shape := ⟨2, ![512, 768]⟩
abbrev S1x512x512 : Shape := ⟨3, ![1, 512, 512]⟩
abbrev S512x512 : Shape := ⟨2, ![512, 512]⟩
abbrev S1x32x2048 : Shape := ⟨3, ![1, 32, 2048]⟩

abbrev nBuf : Space → Nat
  | .hbm => 18
  | .vmem => 24
  | .smem => 0
  | _ => 0

abbrev bufTy : (tb : Table) → Fin (tcTables nBuf tb) → BufTy
  | .hbm, ⟨0, _⟩ => ⟨S2048x10240, .f32⟩
  | .hbm, ⟨1, _⟩ => ⟨S2048x10240, .f32⟩
  | .hbm, ⟨2, _⟩ => ⟨S4x1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S2048x8x1280, .f32⟩
  | .hbm, ⟨7, _⟩ => ⟨S8x2048x1280, .f32⟩
  | .hbm, ⟨8, _⟩ => ⟨S8x2048x1280, .bf16⟩
  | .hbm, ⟨9, _⟩ => ⟨S2048x10240, .bf16⟩
  | .hbm, ⟨10, _⟩ => ⟨S8x2048x768, .bf16⟩
  | .hbm, ⟨11, _⟩ => ⟨S8x2048x512, .bf16⟩
  | .hbm, ⟨12, _⟩ => ⟨S4x1024x2048, .bf16⟩
  | .hbm, ⟨13, _⟩ => ⟨S2048x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .local _ .vmem, ⟨0, _⟩ => ⟨S256x10240, .bf16⟩
  | .local _ .vmem, ⟨1, _⟩ => ⟨S256x10240, .bf16⟩
  | .local _ .vmem, ⟨2, _⟩ => ⟨S8x512x768, .bf16⟩
  | .local _ .vmem, ⟨3, _⟩ => ⟨S8x512x768, .bf16⟩
  | .local _ .vmem, ⟨4, _⟩ => ⟨S8x512x512, .bf16⟩
  | .local _ .vmem, ⟨5, _⟩ => ⟨S8x512x512, .bf16⟩
  | .local _ .vmem, ⟨6, _⟩ => ⟨S4x32x2048, .bf16⟩
  | .local _ .vmem, ⟨7, _⟩ => ⟨S4x32x2048, .bf16⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S256x512, .f32⟩
  | .local _ .vmem, ⟨15, _⟩ => ⟨S256x512, .f32⟩
  | .local _ .vmem, ⟨16, _⟩ => ⟨S32x2048, .f32⟩
  | .local _ .vmem, ⟨17, _⟩ => ⟨S32x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S32x2048, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S2048x10240 : Shape := ⟨2, ![2048, 10240]⟩
abbrev S4x1024x2048 : Shape := ⟨3, ![4, 1024, 2048]⟩
abbrev S1024x2048 : Shape := ⟨2, ![1024, 2048]⟩
abbrev S_ : Shape := ⟨0, ![]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S2048x10240, .f32⟩
  | .hbm, ⟨2, _⟩ => ⟨S4x1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S_, .f32⟩
  | .hbm, ⟨7, _⟩ => ⟨S2048x2048, .f32⟩
  | .hbm, ⟨8, _⟩ => ⟨S2048x10240, .f32⟩
  | .hbm, ⟨9, _⟩ => ⟨S2048x2048, .f32⟩
  | .hbm, ⟨10, _⟩ => ⟨S_, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel5.lean ====
abbrev S2048x2048 : Shape := ⟨2, ![2048, 2048]⟩
abbrev S1x2048 : Shape := ⟨2, ![1, 2048]⟩
abbrev S2048x10240 : Shape := ⟨2, ![2048, 10240]⟩
abbrev S2048x8x1280 : Shape := ⟨3, ![2048, 8, 1280]⟩
abbrev S8x2048x1280 : Shape := ⟨3, ![8, 2048, 1280]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S8x2048x768 : Shape := ⟨3, ![8, 2048, 768]⟩
abbrev S1x2048x768 : Shape := ⟨3, ![1, 2048, 768]⟩
abbrev S2048x768 : Shape := ⟨2, ![2048, 768]⟩
abbrev S8x2048x512 : Shape := ⟨3, ![8, 2048, 512]⟩
abbrev S1x2048x512 : Shape := ⟨3, ![1, 2048, 512]⟩
abbrev S2048x512 : Shape := ⟨2, ![2048, 512]⟩

abbrev nBuf : Space → Nat
  | .hbm => 15
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x10240, .f32⟩
  | .hbm, ⟨3, _⟩ => ⟨S2048x8x1280, .f32⟩
  | .hbm, ⟨4, _⟩ => ⟨S8x2048x1280, .f32⟩
  | .hbm, ⟨5, _⟩ => ⟨S8x2048x1280, .bf16⟩
  | .hbm, ⟨6, _⟩ => ⟨S2048x2048, .bf16⟩
  | .hbm, ⟨7, _⟩ => ⟨S2048x1, .f32⟩
  | .hbm, ⟨8, _⟩ => ⟨S8x2048x768, .bf16⟩
  | .hbm, ⟨9, _⟩ => ⟨S8x2048x768, .f32⟩
  | .hbm, ⟨10, _⟩ => ⟨S8x2048x512, .bf16⟩
  | .hbm, ⟨11, _⟩ => ⟨S8x2048x512, .f32⟩
  | .hbm, ⟨12, _⟩ => ⟨S8x2048x1280, .f32⟩
  | .hbm, ⟨13, _⟩ => ⟨S2048x8x1280, .f32⟩
  | .hbm, ⟨14, _⟩ => ⟨S2048x10240, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | .local _ .vmem, ⟨7, _⟩ => ⟨S2048x2048, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x2048x768, .f32⟩
  | .local _ .vmem, ⟨11, _⟩ => ⟨S1x2048x768, .f32⟩
  | .local _ .vmem, ⟨12, _⟩ => ⟨S2048x2048, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .f32⟩
  | .local _ .vmem, ⟨16, _⟩ => ⟨S1x2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S1x2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference5Ideal.lean ====
abbrev S2048x2048 : Shape := ⟨2, ![2048, 2048]⟩
abbrev S1x2048 : Shape := ⟨2, ![1, 2048]⟩
abbrev S2048x10240 : Shape := ⟨2, ![2048, 10240]⟩
abbrev S2048 : Shape := ⟨1, ![2048]⟩
abbrev S_ : Shape := ⟨0, ![]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x10240, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x10240, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S2048x512 : Shape := ⟨2, ![2048, 512]⟩
abbrev S512x2048 : Shape := ⟨2, ![512, 2048]⟩
abbrev S2048x10240 : Shape := ⟨2, ![2048, 10240]⟩
abbrev S1x4096 : Shape := ⟨2, ![1, 4096]⟩
abbrev S2048x2048 : Shape := ⟨2, ![2048, 2048]⟩
abbrev S512x8x256 : Shape := ⟨3, ![512, 8, 256]⟩
abbrev S8x512x256 : Shape := ⟨3, ![8, 512, 256]⟩
abbrev S256x512 : Shape := ⟨2, ![256, 512]⟩
abbrev S256x2048 : Shape := ⟨2, ![256, 2048]⟩
abbrev S1x2048 : Shape := ⟨2, ![1, 2048]⟩
abbrev S1x512x256 : Shape := ⟨3, ![1, 512, 256]⟩
abbrev S512x256 : Shape := ⟨2, ![512, 256]⟩
abbrev S256x256 : Shape := ⟨2, ![256, 256]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 22
  | .vmem => 26
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x10240, .f32⟩
  | .hbm, ⟨5, _⟩ => ⟨S1x4096, .f32⟩
  | .hbm, ⟨6, _⟩ => ⟨S2048x2048, .f32⟩
  | .hbm, ⟨7, _⟩ => ⟨S2048x2048, .f32⟩
  | .hbm, ⟨8, _⟩ => ⟨S512x8x256, .f32⟩
  | .hbm, ⟨9, _⟩ => ⟨S8x512x256, .f32⟩
  | .hbm, ⟨10, _⟩ => ⟨S8x512x256, .bf16⟩
  | .hbm, ⟨11, _⟩ => ⟨S512x8x256, .f32⟩
  | .hbm, ⟨12, _⟩ => ⟨S8x512x256, .f32⟩
  | .hbm, ⟨13, _⟩ => ⟨S8x512x256, .bf16⟩
  | .hbm, ⟨14, _⟩ => ⟨S2048x512, .bf16⟩
  | .hbm, ⟨15, _⟩ => ⟨S2048x512, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S1x2048x2048, .bf16⟩
  | .hbm, ⟨21, _⟩ => ⟨S2048x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S8x512x256, .bf16⟩
  | .local _ .vmem, ⟨5, _⟩ => ⟨S8x512x256, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference7Ideal.lean ====
abbrev S2048x512 : Shape := ⟨2, ![2048, 512]⟩
abbrev S512x2048 : Shape := ⟨2, ![512, 2048]⟩
abbrev S2048x10240 : Shape := ⟨2, ![2048, 10240]⟩
abbrev S1x4096 : Shape := ⟨2, ![1, 4096]⟩
abbrev S2048x2048 : Shape := ⟨2, ![2048, 2048]⟩
abbrev S2048x4096 : Shape := ⟨2, ![2048, 4096]⟩
abbrev S4096 : Shape := ⟨1, ![4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x10240, .f32⟩
  | .hbm, ⟨5, _⟩ => ⟨S1x4096, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x4096, .f32⟩
  | .hbm, ⟨11, _⟩ => ⟨S4096, .f32⟩
  | .hbm, ⟨12, _⟩ => ⟨S1x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel8.lean ====
abbrev S2048x2048 : Shape := ⟨2, ![2048, 2048]⟩
abbrev S2048x10240 : Shape := ⟨2, ![2048, 10240]⟩
abbrev S1x4096 : Shape := ⟨2, ![1, 4096]⟩
abbrev S2048x4096 : Shape := ⟨2, ![2048, 4096]⟩
abbrev S256x2048 : Shape := ⟨2, ![256, 2048]⟩
abbrev S256x4096 : Shape := ⟨2, ![256, 4096]⟩
abbrev S1x2048 : Shape := ⟨2, ![1, 2048]⟩
abbrev S2048 : Shape := ⟨1, ![2048]⟩

abbrev nBuf : Space → Nat
  | .hbm => 14
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x10240, .f32⟩
  | .hbm, ⟨3, _⟩ => ⟨S1x4096, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x4096, .bf16⟩
  | .hbm, ⟨13, _⟩ => ⟨S1x4096, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x4096, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x4096, .bf16⟩
  | .local _ .vmem, ⟨17, _⟩ => ⟨S256x4096, .bf16⟩
  | .local _ .vmem, ⟨18, _⟩ => ⟨S1x4096, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_26 : BitVec 32 := 0#32
  let v48 : BitVec 1 := Scalar.cmpi .ne v47 c0_i32_26
  v48

def k0_cond2 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S2048x2048 : Shape := ⟨2, ![2048, 2048]⟩
abbrev S2048x10240 : Shape := ⟨2, ![2048, 10240]⟩
abbrev S1x4096 : Shape := ⟨2, ![1, 4096]⟩
abbrev S2048x4096 : Shape := ⟨2, ![2048, 4096]⟩
abbrev S4096 : Shape := ⟨1, ![4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x10240, .f32⟩
  | .hbm, ⟨3, _⟩ => ⟨S1x4096, .f32⟩
  | .hbm, ⟨4, _⟩ => ⟨S2048x2048, .f32⟩
  | .hbm, ⟨5, _⟩ => ⟨S2048x2048, .f32⟩
  | .hbm, ⟨6, _⟩ => ⟨S2048x4096, .f32⟩
  | .hbm, ⟨7, _⟩ => ⟨S4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S4096, .f32⟩
  | .hbm, ⟨38, _⟩ => ⟨S1x4096, .f32⟩
  | .hbm, ⟨39, _⟩ => ⟨S_, .f32⟩
  | .hbm, ⟨40, _⟩ => ⟨S4096, .f32⟩
  | .hbm, ⟨41, _⟩ => ⟨S1x4096, .f32⟩
  | .hbm, ⟨42, _⟩ => ⟨S2048x2048, .bf16⟩
  | .hbm, ⟨43, _⟩ => ⟨S2048x2048, .bf16⟩
  | .hbm, ⟨44, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel9.lean ====
abbrev S4x2048x1280 : Shape := ⟨3, ![4, 2048, 1280]⟩
abbrev S2048x1280 : Shape := ⟨2, ![2048, 1280]⟩
abbrev S4x512x256 : Shape := ⟨3, ![4, 512, 256]⟩
abbrev S512x256 : Shape := ⟨2, ![512, 256]⟩
abbrev S4x256x2048 : Shape := ⟨3, ![4, 256, 2048]⟩
abbrev S256x2048 : Shape := ⟨2, ![256, 2048]⟩
abbrev S4x2048x1024 : Shape := ⟨3, ![4, 2048, 1024]⟩
abbrev S2048x1024 : Shape := ⟨2, ![2048, 1024]⟩
abbrev S4x256x1280 : Shape := ⟨3, ![4, 256, 1280]⟩
abbrev S256x1280 : Shape := ⟨2, ![256, 1280]⟩
abbrev S1x256x1280 : Shape := ⟨3, ![1, 256, 1280]⟩
abbrev S4x256x256 : Shape := ⟨3, ![4, 256, 256]⟩
abbrev S256x256 : Shape := ⟨2, ![256, 256]⟩
abbrev S1x256x256 : Shape := ⟨3, ![1, 256, 256]⟩
abbrev S1x256x2048 : Shape := ⟨3, ![1, 256, 2048]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 36
  | .vmem => 56
  | .smem => 0
  | _ => 0

abbrev bufTy : (tb : Table) → Fin (tcTables nBuf tb) → BufTy
  | .hbm, ⟨0, _⟩ => ⟨S4x2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S4x512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S4x256x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S4x2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S4x2048x1280, .bf16⟩
  | .hbm, ⟨17, _⟩ => ⟨S2048x1280, .f32⟩
  | .hbm, ⟨18, _⟩ => ⟨S2048x1280, .f32⟩
  | .hbm, ⟨19, _⟩ => ⟨S2048x1280, .f32⟩
  | .hbm, ⟨20, _⟩ => ⟨S2048x1280, .f32⟩
  | .hbm, ⟨21, _⟩ => ⟨S4x512x256, .bf16⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S4x256x2048, .bf16⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S4x2048x1024, .bf16⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .local _ .vmem, ⟨0, _⟩ => ⟨S4x256x1280, .bf16⟩
  | .local _ .vmem, ⟨1, _⟩ => ⟨S4x256x1280, .bf16⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | .local _ .vmem, ⟨16, _⟩ => ⟨S4x256x256, .bf16⟩
  | .local _ .vmem, ⟨17, _⟩ => ⟨S4x256x256, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S4x256x2048, .bf16⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S4x256x1024, .bf16⟩
  | .local _ .vmem, ⟨41, _⟩ => ⟨S4x256x1024, .bf16⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .f32⟩
  | _, _ => ⟨S4x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v1_2 : Ref sig .tc := ⟨.hbm, 19, rfl⟩
abbrev main_v1_3 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v3_3 : Ref sig .tc := ⟨.hbm, 25, rfl⟩
abbrev main_v4 : Ref sig .tc := ⟨.hbm, 26, rfl⟩
abbrev main_v5_0 : Ref sig .tc := ⟨.hbm, 27, rfl⟩
abbrev main_v5_1 : Ref sig .tc := ⟨.hbm, 28, rfl⟩
abbrev main_v5_2 : Ref sig .tc := ⟨.hbm, 29, rfl⟩
abbrev main_v5_3 : Ref sig .tc := ⟨.hbm, 30, rfl⟩
abbrev main_v6 : Ref sig .tc := ⟨.hbm, 31, rfl⟩
abbrev main_v7_0 : Ref sig .tc := ⟨.hbm, 32, rfl⟩
abbrev main_v7_1 : Ref sig .tc := ⟨.hbm, 33, rfl⟩
abbrev main_v7_2 : Ref sig .tc := ⟨.hbm, 34, rfl⟩
abbrev main_v7_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg6_1 : Ref sig .tc := ⟨.vmem, 53, rfl⟩
abbrev cc3_stg7_0 : Ref sig .tc := ⟨.vmem, 54, rfl⟩
abbrev cc3_stg7_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem5_1 : DmaSem sig := 51
abbrev cc3_sem6_0 : DmaSem sig := 52
abbrev cc3_sem6_1 : DmaSem sig := 53
abbrev cc3_sem7_0 : DmaSem sig := 54
abbrev cc3_sem7_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4x256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S256x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S256x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S256x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S256x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S256x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference9Ideal.lean ====
abbrev S4x2048x1280 : Shape := ⟨3, ![4, 2048, 1280]⟩
abbrev S2048x1280 : Shape := ⟨2, ![2048, 1280]⟩
abbrev S4x512x256 : Shape := ⟨3, ![4, 512, 256]⟩
abbrev S512x256 : Shape := ⟨2, ![512, 256]⟩
abbrev S4x256x2048 : Shape := ⟨3, ![4, 256, 2048]⟩
abbrev S256x2048 : Shape := ⟨2, ![256, 2048]⟩
abbrev S4x2048x1024 : Shape := ⟨3, ![4, 2048, 1024]⟩
abbrev S2048x1024 : Shape := ⟨2, ![2048, 1024]⟩
abbrev S_ : Shape := ⟨0, ![]⟩

abbrev nBuf : Space → Nat
  | .hbm => 156
  | .vmem => 0
  | .smem => 0
  | _ => 0

abbrev hbmTy0_0 (i : Nat) : BufTy := match i % 128 with
  | 0 => ⟨S4x2048x1280, .f32⟩
  | 1 => ⟨S2048x1280, .f32⟩
  | 2 => ⟨S2048x1280, .f32⟩
  | 3 => ⟨S2048x1280, .f32⟩
  | 4 => ⟨S4x512x256, .f32⟩
  | 5 => ⟨S512x256, .f32⟩
  | 6 => ⟨S512x256, .f32⟩
  | 7 => ⟨S512x256, .f32⟩
  | 8 => ⟨S4x256x2048, .f32⟩
  | 9 => ⟨S256x2048, .f32⟩
  | 10 => ⟨S256x2048, .f32⟩
  | 11 => ⟨S256x2048, .f32⟩
  | 12 => ⟨S4x2048x1024, .f32⟩
  | 13 => ⟨S2048x1024, .f32⟩
  | 14 => ⟨S2048x1024, .f32⟩
  | 15 => ⟨S2048x1024, .f32⟩
  | 16 => ⟨S_, .f32⟩
  | 17 => ⟨S2048x1280, .f32⟩
  | 18 => ⟨S_, .f32⟩
  | 19 => ⟨S2048x1280, .f32⟩
  | 20 => ⟨S2048x1280, .f32⟩
  | 21 => ⟨S_, .f32⟩
  | 22 => ⟨S2048x1280, .f32⟩
  | 23 => ⟨S2048x1280, .f32⟩
  | 24 => ⟨S2048x1280, .f32⟩
  | 25 => ⟨S_, .f32⟩
  | 26 => ⟨S2048x1280, .f32⟩
  | 27 => ⟨S2048x1280, .f32⟩
  | 28 => ⟨S2048x1280, .f32⟩
  | 29 => ⟨S_, .f32⟩
  | 30 => ⟨S2048x1280, .f32⟩
  | 31 => ⟨S2048x1280, .f32⟩
  | 32 => ⟨S2048x1280, .f32⟩
  | 33 => ⟨S_, .f32⟩
  | 34 => ⟨S2048x1280, .f32⟩
  | 35 => ⟨S2048x1280, .f32⟩
  | 36 => ⟨S_, .f32⟩
  | 37 => ⟨S2048x1280, .f32⟩
  | 38 => ⟨S2048x1280, .f32⟩
  | 39 => ⟨S2048x1280, .f32⟩
  | 40 => ⟨S_, .f32⟩
  | 41 => ⟨S2048x1280, .f32⟩
  | 42 => ⟨S2048x1280, .f32⟩
  | 43 => ⟨S2048x1280, .f32⟩
  | 44 => ⟨S_, .f32⟩
  | 45 => ⟨S2048x1280, .f32⟩
  | 46 => ⟨S2048x1280, .f32⟩
  | 47 => ⟨S2048x1280, .f32⟩
  | 48 => ⟨S_, .f32⟩
  | 49 => ⟨S2048x1280, .f32⟩
  | 50 => ⟨S2048x1280, .f32⟩
  | 51 => ⟨S_, .f32⟩
  | 52 => ⟨S512x256, .f32⟩
  | 53 => ⟨S_, .f32⟩
  | 54 => ⟨S512x256, .f32⟩
  | 55 => ⟨S512x256, .f32⟩
  | 56 => ⟨S_, .f32⟩
  | 57 => ⟨S512x256, .f32⟩
  | 58 => ⟨S512x256, .f32⟩
  | 59 => ⟨S512x256, .f32⟩
  | 60 => ⟨S_, .f32⟩
  | 61 => ⟨S512x256, .f32⟩
  | 62 => ⟨S512x256, .f32⟩
  | 63 => ⟨S512x256, .f32⟩
  | 64 => ⟨S_, .f32⟩
  | 65 => ⟨S512x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S_, .f32⟩
  | 72 => ⟨S512x256, .f32⟩
  | 73 => ⟨S512x256, .f32⟩
  | 74 => ⟨S512x256, .f32⟩
  | 75 => ⟨S_, .f32⟩
  | 76 => ⟨S512x256, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S512x256, .f32⟩
  | 83 => ⟨S_, .f32⟩
  | 84 => ⟨S512x256, .f32⟩
  | 85 => ⟨S512x256, .f32⟩
  | 86 => ⟨S_, .f32⟩
  | 87 => ⟨S256x2048, .f32⟩
  | 88 => ⟨S_, .f32⟩
  | 89 => ⟨S256x2048, .f32⟩
  | 90 => ⟨S256x2048, .f32⟩
  | 91 => ⟨S_, .f32⟩
  | 92 => ⟨S256x2048, .f32⟩
  | 93 => ⟨S256x2048, .f32⟩
  | 94 => ⟨S256x2048, .f32⟩
  | 95 => ⟨S_, .f32⟩
  | 96 => ⟨S256x2048, .f32⟩
  | 97 => ⟨S256x2048, .f32⟩
  | 98 => ⟨S256x2048, .f32⟩
  | 99 => ⟨S_, .f32⟩
  | 100 => ⟨S256x2048, .f32⟩
  | 101 => ⟨S256x2048, .f32⟩
  | 102 => ⟨S256x2048, .f32⟩
  | 103 => ⟨S_, .f32⟩
  | 104 => ⟨S256x2048, .f32⟩
  | 105 => ⟨S256x2048, .f32⟩
  | 106 => ⟨S_, .f32⟩
  | 107 => ⟨S256x2048, .f32⟩
  | 108 => ⟨S256x2048, .f32⟩
  | 109 => ⟨S256x2048, .f32⟩
  | 110 => ⟨S_, .f32⟩
  | 111 => ⟨S256x2048, .f32⟩
  | 112 => ⟨S256x2048, .f32⟩
  | 113 => ⟨S256x2048, .f32⟩
  | 114 => ⟨S_, .f32⟩
  | 115 => ⟨S256x2048, .f32⟩
  | 116 => ⟨S256x2048, .f32⟩
  | 117 => ⟨S256x2048, .f32⟩
  | 118 => ⟨S_, .f32⟩
  | 119 => ⟨S256x2048, .f32⟩
  | 120 => ⟨S256x2048, .f32⟩
  | 121 => ⟨S_, .f32⟩
  | 122 => ⟨S2048x1024, .f32⟩
  | 123 => ⟨S_, .f32⟩
  | 124 => ⟨S2048x1024, .f32⟩
  | 125 => ⟨S2048x1024, .f32⟩
  | 126 => ⟨S_, .f32⟩
  | 127 => ⟨S2048x1024, .f32⟩
  | _ => ⟨S4x2048x1280, .f32⟩

abbrev hbmTy0_1 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S2048x1024, .f32⟩
  | 6 => ⟨S_, .f32⟩
  | 7 => ⟨S2048x1024, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | _ => ⟨S4x2048x1280, .f32⟩

abbrev hbmTy (i : Nat) : BufTy := match i / 128 with
  | 0 => hbmTy0_0 i
  | 1 => hbmTy0_1 i
  | _ => ⟨S4x2048x1280, .f32⟩

abbrev bufTy : (tb : Table) → Fin (tcTables nBuf tb) → BufTy
  | .hbm, ⟨i, _⟩ => hbmTy i
  | _, _ => ⟨S4x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_12 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_v38 : Ref sig .tc := ⟨.hbm, 70, rfl⟩
abbrev main_cst_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_16 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_17 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_18 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩
abbrev main_cst_20 : Ref sig .tc := ⟨.hbm, 88, rfl⟩
abbrev main_v51 : Ref sig .tc := ⟨.hbm, 89, rfl⟩
abbrev main_v52 : Ref sig .tc := ⟨.hbm, 90, rfl⟩
abbrev main_cst_21 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_22 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_23 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_24 : Ref sig .tc := ⟨.hbm, 103, rfl⟩
abbrev main_v62 : Ref sig .tc := ⟨.hbm, 104, rfl⟩
abbrev main_v63 : Ref sig .tc := ⟨.hbm, 105, rfl⟩
abbrev main_cst_25 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_26 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_27 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_28 : Ref sig .tc := ⟨.hbm, 118, rfl⟩
abbrev main_v73 : Ref sig .tc := ⟨.hbm, 119, rfl⟩
abbrev main_v74 : Ref sig .tc := ⟨.hbm, 120, rfl⟩
abbrev main_cst_29 : Ref sig .tc := ⟨.hbm, 121, rfl⟩
abbrev main_v75 : Ref sig .tc := ⟨.hbm, 122, rfl⟩
abbrev main_cst_30 : Ref sig .tc := ⟨.hbm, 123, rfl⟩
abbrev main_v76 : Ref sig .tc := ⟨.hbm, 124, rfl⟩
abbrev main_v77 : Ref sig .tc := ⟨.hbm, 125, rfl⟩
abbrev main_cst_31 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_32 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_33 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_34 : Ref sig .tc := ⟨.hbm, 138, rfl⟩
abbrev main_v87 : Ref sig .tc := ⟨.hbm, 139, rfl⟩
abbrev main_v88 : Ref sig .tc := ⟨.hbm, 140, rfl⟩
abbrev main_cst_35 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_36 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_37 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_38 : Ref sig .tc := ⟨.hbm, 153, rfl⟩
abbrev main_v98 : Ref sig .tc := ⟨.hbm, 154, rfl⟩
abbrev main_v99 : Ref sig .tc := ⟨.hbm, 155, rfl⟩

abbrev nD : Nat := 1
abbrev τ : Topo := Topo.v7x

variable {F : FTy → Type} [FloatOps F]
-- ==== Kernel6.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 17
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_13 : BitVec 32 := 0#32
  let v27 : BitVec 1 := Scalar.cmpi .ne v26 c0_i32_13
  v27

def k0_cond2 (i : grid0.Coords) : BitVec 1 :=
  let arg0 : BitVec 32 := BitVec.ofNat 32 (i 0).val
  let c0_i32_14 : BitVec 32 := 0#32
  let v28 : BitVec 1 := Scalar.cmpi .sgt arg0 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S144x128 : Shape := ⟨2, ![144, 128]⟩
abbrev S1x2048 : Shape := ⟨2, ![1, 2048]⟩
abbrev S1x4096 : Shape := ⟨2, ![1, 4096]⟩
abbrev S1x128 : Shape := ⟨2, ![1, 128]⟩
abbrev S64x128 : Shape := ⟨2, ![64, 128]⟩
abbrev S1x1 : Shape := ⟨2, ![1, 1]⟩

abbrev nBuf : Space → Nat
  | .hbm => 37
  | .vmem => 37
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S1x2048, .f32⟩
  | .hbm, ⟨5, _⟩ => ⟨S1x4096, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S64x128, .f32⟩
  | .hbm, ⟨11, _⟩ => ⟨S1x2048, .f32⟩
  | .hbm, ⟨12, _⟩ => ⟨S1x2048, .f32⟩
  | .hbm, ⟨13, _⟩ => ⟨S1x4096, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S64x128, .f32⟩
  | .hbm, ⟨19, _⟩ => ⟨S1x2048, .f32⟩
  | .hbm, ⟨20, _⟩ => ⟨S1x2048, .f32⟩
  | .hbm, ⟨21, _⟩ => ⟨S1x4096, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S64x128, .f32⟩
  | .hbm, ⟨27, _⟩ => ⟨S1x2048, .f32⟩
  | .hbm, ⟨28, _⟩ => ⟨S1x2048, .f32⟩
  | .hbm, ⟨29, _⟩ => ⟨S1x4096, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S64x128, .f32⟩
  | .hbm, ⟨35, _⟩ => ⟨S1x2048, .f32⟩
  | .hbm, ⟨36, _⟩ => ⟨S1x1, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S1x2048, .f32⟩
  | .local _ .vmem, ⟨5, _⟩ => ⟨S1x4096, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S64x128, .f32⟩
  | .local _ .vmem, ⟨11, _⟩ => ⟨S1x2048, .f32⟩
  | .local _ .vmem, ⟨12, _⟩ => ⟨S1x2048, .f32⟩
  | .local _ .vmem, ⟨13, _⟩ => ⟨S1x4096, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S64x128, .f32⟩
  | .local _ .vmem, ⟨19, _⟩ => ⟨S1x2048, .f32⟩
  | .local _ .vmem, ⟨20, _⟩ => ⟨S1x2048, .f32⟩
  | .local _ .vmem, ⟨21, _⟩ => ⟨S1x4096, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S64x128, .f32⟩
  | .local _ .vmem, ⟨27, _⟩ => ⟨S1x2048, .f32⟩
  | .local _ .vmem, ⟨28, _⟩ => ⟨S1x2048, .f32⟩
  | .local _ .vmem, ⟨29, _⟩ => ⟨S1x4096, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S64x128, .f32⟩
  | .local _ .vmem, ⟨35, _⟩ => ⟨S1x2048, .f32⟩
  | .local _ .vmem, ⟨36, _⟩ => ⟨S1x1, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev main_v0_11 : Ref sig .tc := ⟨.hbm, 15, rfl⟩
abbrev main_v0_12 : Ref sig .tc := ⟨.hbm, 16, rfl⟩
abbrev main_v0_13 : Ref sig .tc := ⟨.hbm, 17, rfl⟩
abbrev main_v0_14 : Ref sig .tc := ⟨.hbm, 18, rfl⟩
abbrev main_v0_15 : Ref sig .tc := ⟨.hbm, 19, rfl⟩
abbrev main_v0_16 : Ref sig .tc := ⟨.hbm, 20, rfl⟩
abbrev main_v0_17 : Ref sig .tc := ⟨.hbm, 21, rfl⟩
abbrev main_v0_18 : Ref sig .tc := ⟨.hbm, 22, rfl⟩
abbrev main_v0_19 : Ref sig .tc := ⟨.hbm, 23, rfl⟩
abbrev main_v0_20 : Ref sig .tc := ⟨.hbm, 24, rfl⟩
abbrev main_v0_21 : Ref sig .tc := ⟨.hbm, 25, rfl⟩
abbrev main_v0_22 : Ref sig .tc := ⟨.hbm, 26, rfl⟩
abbrev main_v0_23 : Ref sig .tc := ⟨.hbm, 27, rfl⟩
abbrev main_v0_24 : Ref sig .tc := ⟨.hbm, 28, rfl⟩
abbrev main_v0_25 : Ref sig .tc := ⟨.hbm, 29, rfl⟩
abbrev main_v0_26 : Ref sig .tc := ⟨.hbm, 30, rfl⟩
abbrev main_v0_27 : Ref sig .tc := ⟨.hbm, 31, rfl⟩
abbrev main_v0_28 : Ref sig .tc := ⟨.hbm, 32, rfl⟩
abbrev main_v0_29 : Ref sig .tc := ⟨.hbm, 33, rfl⟩
abbrev main_v0_30 : Ref sig .tc := ⟨.hbm, 34, rfl⟩
abbrev main_v0_31 : Ref sig .tc := ⟨.hbm, 35, rfl⟩
abbrev main_v0_32 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36

abbrev nD : Nat := 1
abbrev τ : Topo := Topo.v7x

variable {F : FTy → Type} [FloatOps F]

abbrev grid0 : Pipeline.Grid := .none

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S64x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x4096 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S64x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
-- ==== Reference10Ideal.lean ====
abbrev S144x128 : Shape := ⟨2, ![144, 128]⟩
abbrev S_ : Shape := ⟨0, ![]⟩
abbrev S16x128 : Shape := ⟨2, ![16, 128]⟩
abbrev S1x2048 : Shape := ⟨2, ![1, 2048]⟩
abbrev S32x128 : Shape := ⟨2, ![32, 128]⟩
abbrev S1x4096 : Shape := ⟨2, ![1, 4096]⟩
abbrev S1x128 : Shape := ⟨2, ![1, 128]⟩
abbrev S64x128 : Shape := ⟨2, ![64, 128]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S_, .f32⟩
  | .hbm, ⟨5, _⟩ => ⟨S144x128, .f32⟩
  | .hbm, ⟨6, _⟩ => ⟨S144x128, .f32⟩
  | .hbm, ⟨7, _⟩ => ⟨S_, .f32⟩
  | .hbm, ⟨8, _⟩ => ⟨S144x128, .f32⟩
  | .hbm, ⟨9, _⟩ => ⟨S144x128, .f32⟩
  | .hbm, ⟨10, _⟩ => ⟨S144x128, .f32⟩
  | .hbm, ⟨11, _⟩ => ⟨S_, .f32⟩
  | .hbm, ⟨12, _⟩ => ⟨S144x128, .f32⟩
  | .hbm, ⟨13, _⟩ => ⟨S144x128, .f32⟩
  | .hbm, ⟨14, _⟩ => ⟨S144x128, .f32⟩
  | .hbm, ⟨15, _⟩ => ⟨S_, .f32⟩
  | .hbm, ⟨16, _⟩ => ⟨S144x128, .f32⟩
  | .hbm, ⟨17, _⟩ => ⟨S144x128, .f32⟩
  | .hbm, ⟨18, _⟩ => ⟨S144x128, .f32⟩
  | .hbm, ⟨19, _⟩ => ⟨S_, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S144x128, .f32⟩
  | .hbm, ⟨26, _⟩ => ⟨S_, .f32⟩
  | .hbm, ⟨27, _⟩ => ⟨S144x128, .f32⟩
  | .hbm, ⟨28, _⟩ => ⟨S144x128, .f32⟩
  | .hbm, ⟨29, _⟩ => ⟨S144x128, .f32⟩
  | .hbm, ⟨30, _⟩ => ⟨S_, .f32⟩
  | .hbm, ⟨31, _⟩ => ⟨S144x128, .f32⟩
  | .hbm, ⟨32, _⟩ => ⟨S144x128, .f32⟩
  | .hbm, ⟨33, _⟩ => ⟨S144x128, .f32⟩
  | .hbm, ⟨34, _⟩ => ⟨S_, .f32⟩
  | .hbm, ⟨35, _⟩ => ⟨S144x128, .f32⟩
  | .hbm, ⟨36, _⟩ => ⟨S144x128, .f32⟩
  | .hbm, ⟨37, _⟩ => ⟨S16x128, .f32⟩
  | .hbm, ⟨38, _⟩ => ⟨S1x2048, .f32⟩
  | .hbm, ⟨39, _⟩ => ⟨S32x128, .f32⟩
  | .hbm, ⟨40, _⟩ => ⟨S1x4096, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S64x128, .f32⟩
  | .hbm, ⟨46, _⟩ => ⟨S16x128, .f32⟩
  | .hbm, ⟨47, _⟩ => ⟨S1x2048, .f32⟩
  | .hbm, ⟨48, _⟩ => ⟨S16x128, .f32⟩
  | .hbm, ⟨49, _⟩ => ⟨S1x2048, .f32⟩
  | .hbm, ⟨50, _⟩ => ⟨S32x128, .f32⟩
  | .hbm, ⟨51, _⟩ => ⟨S1x4096, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S64x128, .f32⟩
  | .hbm, ⟨57, _⟩ => ⟨S16x128, .f32⟩
  | .hbm, ⟨58, _⟩ => ⟨S1x2048, .f32⟩
  | .hbm, ⟨59, _⟩ => ⟨S16x128, .f32⟩
  | .hbm, ⟨60, _⟩ => ⟨S1x2048, .f32⟩
  | .hbm, ⟨61, _⟩ => ⟨S32x128, .f32⟩
  | .hbm, ⟨62, _⟩ => ⟨S1x4096, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S64x128, .f32⟩
  | .hbm, ⟨68, _⟩ => ⟨S16x128, .f32⟩
  | .hbm, ⟨69, _⟩ => ⟨S1x2048, .f32⟩
  | .hbm, ⟨70, _⟩ => ⟨S16x128, .f32⟩
  | .hbm, ⟨71, _⟩ => ⟨S1x2048, .f32⟩
  | .hbm, ⟨72, _⟩ => ⟨S32x128, .f32⟩
  | .hbm, ⟨73, _⟩ => ⟨S1x4096, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S64x128, .f32⟩
  | .hbm, ⟨79, _⟩ => ⟨S16x128, .f32⟩
  | .hbm, ⟨80, _⟩ => ⟨S1x2048, .f32⟩
  | .hbm, ⟨81, _⟩ => ⟨S1x1, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== Kernel11.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 18
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .bf16⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_15 : BitVec 32 := 0#32
  let v29 : BitVec 1 := Scalar.cmpi .ne v28 c0_i32_15
  v29

def k0_cond2 (i : grid0.Coords) : BitVec 1 :=
  let arg0 : BitVec 32 := BitVec.ofNat 32 (i 0).val
  let c0_i32_16 : BitVec 32 := 0#32
  let v30 : BitVec 1 := Scalar.cmpi .sgt arg0 c0_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel12.lean ====
abbrev S2048x2048 : Shape := ⟨2, ![2048, 2048]⟩
abbrev S512x2048 : Shape := ⟨2, ![512, 2048]⟩
abbrev S512x8x256 : Shape := ⟨3, ![512, 8, 256]⟩
abbrev S8x512x256 : Shape := ⟨3, ![8, 512, 256]⟩
abbrev S2048x512 : Shape := ⟨2, ![2048, 512]⟩
abbrev S1024x2048 : Shape := ⟨2, ![1024, 2048]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S512x8x256, .f32⟩
  | .hbm, ⟨3, _⟩ => ⟨S8x512x256, .f32⟩
  | .hbm, ⟨4, _⟩ => ⟨S8x512x256, .bf16⟩
  | .hbm, ⟨5, _⟩ => ⟨S2048x2048, .bf16⟩
  | .hbm, ⟨6, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S8x512x256, .bf16⟩
  | .local _ .vmem, ⟨3, _⟩ => ⟨S1024x512, .f32⟩
  | .local _ .vmem, ⟨4, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel14.lean ====
abbrev S1x2048x4x128 : Shape := ⟨4, ![1, 2048, 4, 128]⟩
abbrev S128x16x4x128 : Shape := ⟨4, ![128, 16, 4, 128]⟩
abbrev S4x128x16x128 : Shape := ⟨4, ![4, 128, 16, 128]⟩
abbrev S4x128x2048 : Shape := ⟨3, ![4, 128, 2048]⟩
abbrev S4x128x16 : Shape := ⟨3, ![4, 128, 16]⟩
abbrev S1x128x2048 : Shape := ⟨3, ![1, 128, 2048]⟩
abbrev S1x128x16 : Shape := ⟨3, ![1, 128, 16]⟩
abbrev S1x128x128 : Shape := ⟨3, ![1, 128, 128]⟩
abbrev S128x128 : Shape := ⟨2, ![128, 128]⟩
abbrev S128x1 : Shape := ⟨2, ![128, 1]⟩
abbrev S1x128 : Shape := ⟨2, ![1, 128]⟩
abbrev S128 : Shape := ⟨1, ![128]⟩
abbrev S1x128x1 : Shape := ⟨3, ![1, 128, 1]⟩

abbrev nBuf : Space → Nat
  | .hbm => 17
  | .vmem => 10
  | .smem => 0
  | _ => 0

abbrev bufTy : (tb : Table) → Fin (tcTables nBuf tb) → BufTy
  | .hbm, ⟨0, _⟩ => ⟨S1x2048x4x128, .f32⟩
  | .hbm, ⟨1, _⟩ => ⟨S1x2048x4x128, .f32⟩
  | .hbm, ⟨2, _⟩ => ⟨S1x2048x4x128, .f32⟩
  | .hbm, ⟨3, _⟩ => ⟨S128x16x4x128, .f32⟩
  | .hbm, ⟨4, _⟩ => ⟨S4x128x16x128, .f32⟩
  | .hbm, ⟨5, _⟩ => ⟨S4x128x2048, .f32⟩
  | .hbm, ⟨6, _⟩ => ⟨S4x128x2048, .bf16⟩
  | .hbm, ⟨7, _⟩ => ⟨S128x16x4x128, .f32⟩
  | .hbm, ⟨8, _⟩ => ⟨S4x128x16x128, .f32⟩
  | .hbm, ⟨9, _⟩ => ⟨S4x128x2048, .f32⟩
  | .hbm, ⟨10, _⟩ => ⟨S4x128x2048, .bf16⟩
  | .hbm, ⟨11, _⟩ => ⟨S128x16x4x128, .f32⟩
  | .hbm, ⟨12, _⟩ => ⟨S4x128x16x128, .f32⟩
  | .hbm, ⟨13, _⟩ => ⟨S4x128x2048, .f32⟩
  | .hbm, ⟨14, _⟩ => ⟨S4x128x2048, .bf16⟩
  | .hbm, ⟨15, _⟩ => ⟨S4x128x2048, .f32⟩
  | .hbm, ⟨16, _⟩ => ⟨S4x128x16, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .f32⟩
  | .local _ .vmem, ⟨7, _⟩ => ⟨S1x128x2048, .f32⟩
  | .local _ .vmem, ⟨8, _⟩ => ⟨S1x128x16, .f32⟩
  | .local _ .vmem, ⟨9, _⟩ => ⟨S1x128x16, .f32⟩
  | _, _ => ⟨S1x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel14Ideal.lean ====
variable {F : FTy → Type} [FloatOps F] [Named F]
def κ : String → Option EReal := fun
  | "mask" => some ⊥
  | _ => none
-- ==== Reference14Ideal.lean ====
abbrev S1x2048x4x128 : Shape := ⟨4, ![1, 2048, 4, 128]⟩
abbrev S1x128x16x4x128 : Shape := ⟨5, ![1, 128, 16, 4, 128]⟩
abbrev S1x16x4x128x128 : Shape := ⟨5, ![1, 16, 4, 128, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S1x16x4x128 : Shape := ⟨4, ![1, 16, 4, 128]⟩
abbrev S1x16x4x128x1 : Shape := ⟨5, ![1, 16, 4, 128, 1]⟩
abbrev S1x128x16x4 : Shape := ⟨4, ![1, 128, 16, 4]⟩
abbrev S1x2048x4 : Shape := ⟨3, ![1, 2048, 4]⟩
abbrev S128x16x4x128 : Shape := ⟨4, ![128, 16, 4, 128]⟩
abbrev S4x128x16x128 : Shape := ⟨4, ![4, 128, 16, 128]⟩
abbrev S4x128x2048 : Shape := ⟨3, ![4, 128, 2048]⟩
abbrev S128x16x4 : Shape := ⟨3, ![128, 16, 4]⟩
abbrev S4x128x16 : Shape := ⟨3, ![4, 128, 16]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x4x128, .f32⟩
  | .hbm, ⟨1, _⟩ => ⟨S1x2048x4x128, .f32⟩
  | .hbm, ⟨2, _⟩ => ⟨S1x2048x4x128, .f32⟩
  | .hbm, ⟨3, _⟩ => ⟨S1x128x16x4x128, .f32⟩
  | .hbm, ⟨4, _⟩ => ⟨S1x16x4x128x128, .f32⟩
  | .hbm, ⟨5, _⟩ => ⟨S1x128x16x4x128, .f32⟩
  | .hbm, ⟨6, _⟩ => ⟨S1x16x4x128x128, .f32⟩
  | .hbm, ⟨7, _⟩ => ⟨S1x128x16x4x128, .f32⟩
  | .hbm, ⟨8, _⟩ => ⟨S1x16x4x128x128, .f32⟩
  | .hbm, ⟨9, _⟩ => ⟨S128, .i32⟩
  | .hbm, ⟨10, _⟩ => ⟨S1x128, .i32⟩
  | .hbm, ⟨11, _⟩ => ⟨S128x1, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S1x16x4x128x128, .f32⟩
  | .hbm, ⟨20, _⟩ => ⟨S_, .f32⟩
  | .hbm, ⟨21, _⟩ => ⟨S1x16x4x128x128, .f32⟩
  | .hbm, ⟨22, _⟩ => ⟨S1x16x4x128x128, .f32⟩
  | .hbm, ⟨23, _⟩ => ⟨S_, .f32⟩
  | .hbm, ⟨24, _⟩ => ⟨S_, .f32⟩
  | .hbm, ⟨25, _⟩ => ⟨S1x16x4x128x128, .i1⟩
  | .hbm, ⟨26, _⟩ => ⟨S1x16x4x128x128, .f32⟩
  | .hbm, ⟨27, _⟩ => ⟨S1x16x4x128x128, .f32⟩
  | .hbm, ⟨28, _⟩ => ⟨S_, .f32⟩
  | .hbm, ⟨29, _⟩ => ⟨S1x16x4x128, .f32⟩
  | .hbm, ⟨30, _⟩ => ⟨S1x16x4x128x1, .f32⟩
  | .hbm, ⟨31, _⟩ => ⟨S1x16x4x128x128, .f32⟩
  | .hbm, ⟨32, _⟩ => ⟨S1x16x4x128x128, .f32⟩
  | .hbm, ⟨33, _⟩ => ⟨S1x16x4x128x128, .f32⟩
  | .hbm, ⟨34, _⟩ => ⟨S_, .f32⟩
  | .hbm, ⟨35, _⟩ => ⟨S1x16x4x128, .f32⟩
  | .hbm, ⟨36, _⟩ => ⟨S1x16x4x128, .f32⟩
  | .hbm, ⟨37, _⟩ => ⟨S1x16x4x128, .f32⟩
  | .hbm, ⟨38, _⟩ => ⟨S1x16x4x128x1, .f32⟩
  | .hbm, ⟨39, _⟩ => ⟨S1x16x4x128x128, .f32⟩
  | .hbm, ⟨40, _⟩ => ⟨S1x16x4x128x128, .f32⟩
  | .hbm, ⟨41, _⟩ => ⟨S1x16x4x128x128, .f32⟩
  | .hbm, ⟨42, _⟩ => ⟨S1x16x4x128x128, .f32⟩
  | .hbm, ⟨43, _⟩ => ⟨S1x128x16x4x128, .f32⟩
  | .hbm, ⟨44, _⟩ => ⟨S1x2048x4x128, .f32⟩
  | .hbm, ⟨45, _⟩ => ⟨S1x128x16x4, .f32⟩
  | .hbm, ⟨46, _⟩ => ⟨S1x2048x4, .f32⟩
  | .hbm, ⟨47, _⟩ => ⟨S128x16x4x128, .f32⟩
  | .hbm, ⟨48, _⟩ => ⟨S4x128x16x128, .f32⟩
  | .hbm, ⟨49, _⟩ => ⟨S4x128x2048, .f32⟩
  | .hbm, ⟨50, _⟩ => ⟨S128x16x4, .f32⟩
  | .hbm, ⟨51, _⟩ => ⟨S4x128x16, .f32⟩
  | _, _ => ⟨S1x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Attn.lean ====
/- The real-number mathematics of one head and one residue class of the dilated window attention: the forward values,
   the gradient as the kernel computes it from the combined log-denominator, and the gradient as differentiation of the
   softmax and of the mix of the three groups gives it. The two gradients are equal. -/
module

public import Mathlib.Analysis.SpecialFunctions.Log.Basic
public import Mathlib.Analysis.SpecialFunctions.Exp
public import Mathlib.Algebra.BigOperators.Field

@[expose] public section

noncomputable section

namespace Cert.Attn

open Finset

variable {M E : Type} [Fintype M] [Fintype E]

/-- The real inputs of one head and one residue class: queries, keys, values, the gradient of the mixed output, the
    other two groups' outputs and log-denominators, and the number subtracted before exponentiating. -/
structure Inp (M E : Type) where
  near : M → M → Prop
  dec : ∀ m j, Decidable (near m j)
  sc : ℝ
  q : M → E → ℝ
  k : M → E → ℝ
  v : M → E → ℝ
  d : M → E → ℝ
  o0 : M → E → ℝ
  o1 : M → E → ℝ
  l0 : M → ℝ
  l1 : M → ℝ
  t : M → ℝ

namespace Inp

attribute [instance] Inp.dec

variable (x : Inp M E)

/-- The scaled score of query `m` and key `j`. -/
def s (m j : M) : ℝ := (∑ e, x.q m e * x.k j e) * x.sc
/-- The exponential of the score less `t`, zero outside the window. -/
def a (m j : M) : ℝ := if x.near m j then Real.exp (x.s m j - x.t m) else 0
/-- The softmax denominator of query `m`. -/
def Z (m : M) : ℝ := ∑ j, x.a m j
/-- The log-denominator of query `m`. -/
def l2 (m : M) : ℝ := x.t m + Real.log (x.Z m)
/-- The attention probability of key `j` for query `m`. -/
def p (m j : M) : ℝ := if x.near m j then Real.exp (x.s m j - x.l2 m) else 0
/-- The attention output. -/
def o2 (m : M) (e : E) : ℝ := ∑ j, x.p m j * x.v j e
/-- The greatest of the three groups' log-denominators. -/
def top (m : M) : ℝ := max (max (x.l0 m) (x.l1 m)) (x.l2 m)
/-- The first group's weight before division. -/
def e0 (m : M) : ℝ := Real.exp (x.l0 m - x.top m)
/-- The second group's weight before division. -/
def e1 (m : M) : ℝ := Real.exp (x.l1 m - x.top m)
/-- This group's weight before division. -/
def e2 (m : M) : ℝ := Real.exp (x.l2 m - x.top m)
/-- The sum of the three weights. -/
def tot (m : M) : ℝ := x.e0 m + x.e1 m + x.e2 m
/-- The mixed output. -/
def oa (m : M) (e : E) : ℝ := (x.e0 m * x.o0 m e + x.e1 m * x.o1 m e + x.e2 m * x.o2 m e) / x.tot m
/-- The log-denominator of all three groups together. -/
def lse (m : M) : ℝ := x.top m + Real.log (x.tot m)
/-- The row sum of the gradient times the mixed output. -/
def dsum (m : M) : ℝ := ∑ e, x.d m e * x.oa m e
/-- The gradient against the values. -/
def dp (m j : M) : ℝ := ∑ e, x.d m e * x.v j e
/-- The kernel's probability, of all three groups together. -/
def P (m j : M) : ℝ := if x.near m j then Real.exp (x.s m j - x.lse m) else 0
/-- The kernel's gradient of the unscaled score. -/
def ds (m j : M) : ℝ := x.P m j * (x.dp m j - x.dsum m) * x.sc
/-- The gradient of the queries. -/
def dq (m : M) (e : E) : ℝ := ∑ j, x.ds m j * x.k j e
/-- The gradient of the keys. -/
def dk (j : M) (e : E) : ℝ := ∑ m, x.ds m j * x.q m e
/-- The gradient of the values. -/
def dv (j : M) (e : E) : ℝ := ∑ m, x.P m j * x.d m e

/-- This group's weight in the mix. -/
def w2 (m : M) : ℝ := x.e2 m / x.tot m
/-- The row sum of the gradient times the first group's output. -/
def c0 (m : M) : ℝ := ∑ e, x.d m e * x.o0 m e
/-- The row sum of the gradient times the second group's output. -/
def c1 (m : M) : ℝ := ∑ e, x.d m e * x.o1 m e
/-- The row sum of the gradient times this group's output. -/
def c2 (m : M) : ℝ := ∑ e, x.d m e * x.o2 m e
/-- The derivative of the mix by the sum of the weights. -/
def dtot (m : M) : ℝ :=
  -(x.c0 m * (1 / (x.tot m * x.tot m)) * x.e0 m + x.c1 m * (1 / (x.tot m * x.tot m)) * x.e1 m
    + x.c2 m * (1 / (x.tot m * x.tot m)) * x.e2 m)
/-- The derivative of the mix by this group's log-denominator. -/
def dl2 (m : M) : ℝ := (x.c2 m / x.tot m + x.dtot m) * x.e2 m
/-- The derivative of the mix by the probability. -/
def rdp (m j : M) : ℝ := ∑ e, (x.w2 m * x.d m e) * x.v j e
/-- The derivative of the mix by the sum of the exponentials. -/
def dZ (m : M) : ℝ := (x.dl2 m + ∑ j, -(x.rdp m j * x.p m j)) / x.Z m
/-- The derivative of the mix by the unscaled score. -/
def rds (m j : M) : ℝ := (if x.near m j then x.rdp m j * x.p m j + x.dZ m * x.a m j else 0) * x.sc
/-- The reference's gradient of the queries. -/
def rdq (m : M) (e : E) : ℝ := ∑ j, x.rds m j * x.k j e
/-- The reference's gradient of the keys. -/
def rdk (j : M) (e : E) : ℝ := ∑ m, x.rds m j * x.q m e
/-- The reference's gradient of the values. -/
def rdv (j : M) (e : E) : ℝ := ∑ m, (x.w2 m * x.d m e) * x.p m j

/-- Every exponential is at least zero. -/
theorem a_nonneg (m j : M) : 0 ≤ x.a m j := by
  unfold a; split_ifs
  · exact (Real.exp_pos _).le
  · exact le_rfl

/-- A query with a key in its window has a positive denominator. -/
theorem Z_pos (m : M) (h : ∃ j, x.near m j) : 0 < x.Z m := by
  obtain ⟨j, hj⟩ := h
  refine Finset.sum_pos' (fun i _ => x.a_nonneg m i) ⟨j, mem_univ _, ?_⟩
  unfold a; rw [if_pos hj]; exact Real.exp_pos _

/-- The sum of the three weights is positive. -/
theorem tot_pos (m : M) : 0 < x.tot m := by
  unfold tot e0 e1 e2
  have h0 := Real.exp_pos (x.l0 m - x.top m)
  have h1 := Real.exp_pos (x.l1 m - x.top m)
  have h2 := Real.exp_pos (x.l2 m - x.top m)
  linarith

/-- The probability is the exponential over the denominator. -/
theorem p_eq (m j : M) (h : ∃ j, x.near m j) : x.p m j = x.a m j / x.Z m := by
  unfold p a
  split_ifs
  · rw [l2, sub_add_eq_sub_sub, Real.exp_sub, Real.exp_log (x.Z_pos m h)]
  · rw [zero_div]

/-- The kernel's probability is this group's probability times its weight. -/
theorem P_eq (m j : M) : x.P m j = x.p m j * x.w2 m := by
  unfold P p
  split_ifs
  · rw [w2, e2, lse, mul_div_assoc', ← Real.exp_add]
    have : Real.exp (x.s m j - (x.top m + Real.log (x.tot m))) = Real.exp (x.s m j - x.top m) / x.tot m := by
      rw [sub_add_eq_sub_sub, Real.exp_sub, Real.exp_log (x.tot_pos m)]
    rw [this]; congr 2; ring
  · rw [zero_mul]

/-- The gradient against the values, weighted. -/
theorem rdp_eq (m j : M) : x.rdp m j = x.w2 m * x.dp m j := by
  unfold rdp dp; rw [mul_sum]; exact sum_congr rfl fun e _ => by ring

/-- The row sum is the weighted sum of the groups' row sums. -/
theorem dsum_eq (m : M) : x.dsum m = (x.e0 m * x.c0 m + x.e1 m * x.c1 m + x.e2 m * x.c2 m) / x.tot m := by
  unfold dsum oa c0 c1 c2
  rw [mul_sum, mul_sum, mul_sum, ← sum_add_distrib, ← sum_add_distrib, sum_div]
  exact sum_congr rfl fun e _ => by ring

/-- The derivative by the log-denominator is the weight times the difference of the row sums. -/
theorem dl2_eq (m : M) : x.dl2 m = x.w2 m * (x.c2 m - x.dsum m) := by
  have h := (x.tot_pos m).ne'
  rw [dl2, dtot, w2, dsum_eq]
  field_simp
  ring

/-- The sum over the keys of the derivative by the probability times the probability. -/
theorem sum_rdp_p (m : M) : ∑ j, x.rdp m j * x.p m j = x.w2 m * x.c2 m := by
  simp only [rdp_eq, c2, o2, dp]
  rw [mul_sum]
  simp only [mul_sum, sum_mul]
  rw [sum_comm]
  exact sum_congr rfl fun e _ => sum_congr rfl fun j _ => by ring

/-- The two gradients of the score are equal. -/
theorem rds_eq (m j : M) (h : ∃ j, x.near m j) : x.rds m j = x.ds m j := by
  have hZ := (x.Z_pos m h).ne'
  rw [rds, ds, P_eq]
  congr 1
  split_ifs with hn
  · rw [dZ, sum_neg_distrib, sum_rdp_p, dl2_eq, rdp_eq, x.p_eq m j h]
    field_simp
    ring
  · rw [p, if_neg hn]; ring

/-- The two gradients of the queries are equal. -/
theorem rdq_eq (h : ∀ m, ∃ j, x.near m j) (m : M) (e : E) : x.rdq m e = x.dq m e :=
  sum_congr rfl fun j _ => by rw [x.rds_eq m j (h m)]

/-- The two gradients of the keys are equal. -/
theorem rdk_eq (h : ∀ m, ∃ j, x.near m j) (j : M) (e : E) : x.rdk j e = x.dk j e :=
  sum_congr rfl fun m _ => by rw [x.rds_eq m j (h m)]

/-- The two gradients of the values are equal. -/
theorem rdv_eq (j : M) (e : E) : x.rdv j e = x.dv j e :=
  sum_congr rfl fun m _ => by rw [P_eq]; ring

end Inp

end Cert.Attn

end
-- ==== Proof.Layout.lean ====
/- Real arrays as extended-real arrays, the inputs of one head and one residue class read out of the whole arrays, and the
   few facts about extended reals that the value proofs use: sums, quotients, exponentials and maxima of real numbers. -/
module

public import proofs.«01_k».proof.Proof.Attn
public import Idealize.ShloMosaic.Lib.Pointwise
public import Idealize.ShloMosaic.Lib.IdealHost

@[expose] public section

set_option maxRecDepth 16384

noncomputable section

namespace Cert.Attn

open Idealize.ShloMosaic

/-- A real array as an extended-real array. -/
def up {S : Shape} (y : S.Idx → ℝ) : S.Idx → EReal := fun i => ((y i : ℝ) : EReal)

/-- An extended-real array without infinities is its real parts' array. -/
theorem up_toReal {S : Shape} (x : S.Idx → EReal) (h : ∀ i, x i ≠ ⊤ ∧ x i ≠ ⊥) : x = up fun i => (x i).toReal :=
  funext fun i => (EReal.coe_toReal (h i).1 (h i).2).symm

/-- The sequence position of member `m` of residue class `r` modulo 16. -/
def row (r : Fin 16) (m : Fin 128) : Fin 2048 := ⟨m.val * 16 + r.val, by omega⟩
/-- A position's residue modulo 16. -/
def res (s : Fin 2048) : Fin 16 := ⟨s.val % 16, by omega⟩
/-- A position's place within its residue class. -/
def quo (s : Fin 2048) : Fin 128 := ⟨s.val / 16, by omega⟩

theorem row_res_quo (s : Fin 2048) : row (res s) (quo s) = s := Fin.ext (by simp only [row, res, quo]; omega)
theorem res_row (r : Fin 16) (m : Fin 128) : res (row r m) = r := Fin.ext (by simp only [row, res]; omega)
theorem quo_row (r : Fin 16) (m : Fin 128) : quo (row r m) = m := Fin.ext (by simp only [row, quo]; omega)

/-- The eight arguments as real arrays: queries, keys, values, the other two groups' outputs and log-denominators, and
    the gradient of the mixed output. -/
structure Args where
  q : (⟨4, ![1, 2048, 4, 128]⟩ : Shape).Idx → ℝ
  k : (⟨4, ![1, 2048, 4, 128]⟩ : Shape).Idx → ℝ
  v : (⟨4, ![1, 2048, 4, 128]⟩ : Shape).Idx → ℝ
  o0 : (⟨4, ![1, 2048, 4, 128]⟩ : Shape).Idx → ℝ
  l0 : (⟨3, ![1, 2048, 4]⟩ : Shape).Idx → ℝ
  o1 : (⟨4, ![1, 2048, 4, 128]⟩ : Shape).Idx → ℝ
  l1 : (⟨3, ![1, 2048, 4]⟩ : Shape).Idx → ℝ
  d : (⟨4, ![1, 2048, 4, 128]⟩ : Shape).Idx → ℝ

/-- The scale of the scores: the real number that the literal is. -/
def scl : ℝ := (Ideal.ofBits .f32 0x3DB504F3#32).toReal

/-- The literal is a real number. -/
theorem ofBits_scl : Ideal.ofBits .f32 0x3DB504F3#32 = (scl : EReal) := by
  have h : ∃ r : ℝ, Ideal.ofBits .f32 0x3DB504F3#32 = (r : EReal) := by
    simp [Ideal.ofBits, Ideal.ieee, -EReal.coe_mul]
  obtain ⟨r, h⟩ := h
  rw [scl, h, EReal.toReal_coe]

/-- The pattern of minus infinity. -/
theorem ofBits_ninf : Ideal.ofBits .f32 0xFF800000#32 = (⊥ : EReal) := by simp [Ideal.ofBits, Ideal.ieee]

/-- The window: keys at most 64 places from the query. -/
def Near (m j : Fin 128) : Prop := m.val ≤ j.val + 64 ∧ j.val ≤ m.val + 64

instance (m j : Fin 128) : Decidable (Near m j) := inferInstanceAs (Decidable (_ ∧ _))

/-- A query is in its own window. -/
theorem near_self (m : Fin 128) : Near m m := ⟨by omega, by omega⟩

namespace Args

variable (y : Args)

/-- The scaled score of one head and residue class. -/
def s (h : Fin 4) (r : Fin 16) (m j : Fin 128) : ℝ :=
  (∑ e, y.q (ix4 0 (row r m) h e) * y.k (ix4 0 (row r j) h e)) * scl

/-- The inputs of head `h` and residue class `r`; the number subtracted before exponentiating is the row's maximum. -/
def inp (h : Fin 4) (r : Fin 16) : Inp (Fin 128) (Fin 128) where
  near := Near
  dec := inferInstance
  sc := scl
  q m e := y.q (ix4 0 (row r m) h e)
  k m e := y.k (ix4 0 (row r m) h e)
  v m e := y.v (ix4 0 (row r m) h e)
  d m e := y.d (ix4 0 (row r m) h e)
  o0 m e := y.o0 (ix4 0 (row r m) h e)
  o1 m e := y.o1 (ix4 0 (row r m) h e)
  l0 m := y.l0 (ix3 0 (row r m) h)
  l1 m := y.l1 (ix3 0 (row r m) h)
  t m := (Finset.univ.fold max ⊥ fun j => if Near m j then ((y.s h r m j : ℝ) : EReal) else ⊥).toReal

end Args

/-! ### Extended reals -/

/-- A sum of real numbers. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

/-- A quotient of real numbers. -/
theorem div_coe' (a b : ℝ) (h : b ≠ 0) : Ideal.div (a : EReal) (b : EReal) = ((a / b : ℝ) : EReal) := by
  rw [Ideal.div_coe h, ← EReal.coe_mul, mul_one_div]

/-- The logarithm of a positive number. -/
theorem log_coe' (a : ℝ) (h : 0 < a) : Ideal.log (a : EReal) = ((Real.log a : ℝ) : EReal) := by
  rw [Ideal.log_coe, if_neg (not_le.2 h)]

/-- The greater of two real numbers. -/
theorem max_coe (a b : ℝ) : max (a : EReal) (b : EReal) = ((max a b : ℝ) : EReal) :=
  (EReal.coe_strictMono.monotone.map_max (a := a) (b := b)).symm

/-- A real number or minus infinity, less a real number, exponentiated. -/
theorem exp_ite (p : Prop) [Decidable p] (a b : ℝ) :
    Ideal.exp ((if p then (a : EReal) else ⊥) - (b : EReal)) = (((if p then Real.exp (a - b) else 0) : ℝ) : EReal) := by
  split_ifs
  · rw [← EReal.coe_sub, Ideal.exp_coe]
  · rw [EReal.bot_sub, Ideal.exp_bot, EReal.coe_zero]

/-- The maximum of values that are real or minus infinity, one of them real, is real. -/
theorem fold_max_real {ι : Type} (t : Finset ι) (p : ι → Prop) [DecidablePred p] (f : ι → ℝ) (h : ∃ i ∈ t, p i) :
    t.fold max ⊥ (fun i => if p i then ((f i : ℝ) : EReal) else ⊥)
      = ((t.fold max ⊥ (fun i => if p i then ((f i : ℝ) : EReal) else ⊥)).toReal : EReal) := by
  symm
  apply EReal.coe_toReal
  · apply ne_of_lt
    rw [Finset.fold_max_lt]
    refine ⟨bot_lt_top, fun i _ => ?_⟩
    split_ifs
    · exact EReal.coe_lt_top _
    · exact bot_lt_top
  · obtain ⟨i, hi, hp⟩ := h
    apply ne_of_gt
    rw [Finset.lt_fold_max]
    exact Or.inr ⟨i, hi, by rw [if_pos hp]; exact EReal.bot_lt_coe _⟩

/-- A host sum over axes along which only one index falls on `j` is the initial value plus the operand there. -/
theorem hostReduceAdd_unit {s t : Shape} {axes : List (Fin s.rank)} (h : s.ReducesTo axes t) (x : s.Idx → EReal)
    (init : EReal) (j : t.Idx) (i0 : s.Idx) (h1 : ∀ i, h.drop i = j ↔ i = i0) :
    Ideal.hostReduceAdd h x init j = init + x i0 := by
  classical
  unfold Ideal.hostReduceAdd
  simp only [h1]
  rw [Finset.filter_eq' Finset.univ i0, if_pos (Finset.mem_univ _), Finset.sum_singleton]

/-- The window's test on words. -/
theorem select_near (m j : Fin 128) (a b : EReal) :
    Scalar.select (IntOp.cmpi CmpIPredicate.sle (IntOp.absi (IntOp.subi (BitVec.ofNat 32 j.val) (BitVec.ofNat 32 m.val)))
      64#32) a b = if Near m j then a else b := by
  have h : IntOp.cmpi CmpIPredicate.sle (IntOp.absi (IntOp.subi (BitVec.ofNat 32 j.val) (BitVec.ofNat 32 m.val))) 64#32
      = BitVec.ofBool (decide (Near m j)) := by
    revert m j; decide +kernel
  rw [h]
  by_cases hn : Near m j
  · rw [if_pos hn, decide_eq_true hn]; rfl
  · rw [if_neg hn, decide_eq_false hn]; rfl

end Cert.Attn

end
-- ==== Proof.RefA.lean ====
/- The reference, one operation at a time: the forward values of one head and one residue class, read at coordinates. -/
module

public import proofs.«01_k».proof.Proof.Gen.ReferenceIdeal.Read
public import proofs.«01_k».proof.Proof.Layout

@[expose] public section

set_option maxRecDepth 16384

noncomputable section

namespace Cert.Attn.Ref

open Idealize.ShloMosaic Cert.ReferenceIdeal Cert.ReferenceIdeal.Read

variable (y : Args) (h : Fin 4) (r : Fin 16)

/-- The queries of one head and residue class. -/
theorem v1 (m e : Fin 128) : val_main_v1 (F := Ideal) (up y.q) (ix5 0 r h m e) = (((y.inp h r).q m e : ℝ) : EReal) := by
  pointwise [val_main_v1, val_main_v0]; rfl

/-- The keys. -/
theorem v3 (m e : Fin 128) : val_main_v3 (F := Ideal) (up y.k) (ix5 0 r h m e) = (((y.inp h r).k m e : ℝ) : EReal) := by
  pointwise [val_main_v3, val_main_v2]; rfl

/-- The values. -/
theorem v5 (m e : Fin 128) : val_main_v5 (F := Ideal) (up y.v) (ix5 0 r h m e) = (((y.inp h r).v m e : ℝ) : EReal) := by
  pointwise [val_main_v5, val_main_v4]; rfl

/-- The masked scores. -/
theorem v18 (m j : Fin 128) : val_main_v18_0 (F := Ideal) (up y.q) (up y.k) (ix5 0 r h m j)
    = if Near m j then (((y.inp h r).s m j : ℝ) : EReal) else ⊥ := by
  pointwise [val_main_v18_0, val_main_v18_1, val_main_v14, val_main_v12, val_main_v11, val_main_v10, val_main_v9,
    val_main_v8, val_main_v7, val_main_v6, val_main_v13, val_main_c, val_main_v17, val_main_v16, val_main_cst, val_main_v15,
    val_main_call0_v2, val_main_call0_v0, val_main_cst_0]
  rw [select_near]
  simp only [v1, v3, ofBits_scl, ← EReal.coe_mul, coe_sum, id, constant]
  exact congrArg _ ofBits_ninf

/-- The row maximum. -/
theorem v19 (m : Fin 128) : val_main_v19 (F := Ideal) (up y.q) (up y.k) (ix4 0 r h m) = (((y.inp h r).t m : ℝ) : EReal) := by
  pointwise [val_main_v19]
  simp only [v18]
  rw [show val_main_cst_1 (F := Ideal) (Shape.Idx.first Gen.h_S_) = ⊥ from ofBits_ninf]
  exact fold_max_real Finset.univ (fun j => Near m j) (fun j => (y.inp h r).s m j) ⟨m, Finset.mem_univ _, near_self m⟩

/-- The exponentials. -/
theorem v28 (m j : Fin 128) : val_main_v28 (F := Ideal) (up y.q) (up y.k) (ix5 0 r h m j) = (((y.inp h r).a m j : ℝ) : EReal) := by
  pointwise [val_main_v28, val_main_v27, val_main_v26, val_main_v25]
  simp only [v18, v19]
  rw [exp_ite]; rfl

/-- The denominators. -/
theorem v29 (m : Fin 128) : val_main_v29 (F := Ideal) (up y.q) (up y.k) (ix4 0 r h m) = (((y.inp h r).Z m : ℝ) : EReal) := by
  pointwise [val_main_v29]
  rw [show val_main_cst_3 (F := Ideal) (Shape.Idx.first Gen.h_S_) = 0 from Ideal.ofBits_zero_f32, zero_add]
  simp only [v28, coe_sum]
  rfl

/-- The denominators are positive. -/
theorem zpos (m : Fin 128) : 0 < (y.inp h r).Z m := (y.inp h r).Z_pos m ⟨m, near_self m⟩

/-- The log-denominators. -/
theorem v31 (m : Fin 128) : val_main_v31 (F := Ideal) (up y.q) (up y.k) (ix4 0 r h m) = (((y.inp h r).l2 m : ℝ) : EReal) := by
  pointwise [val_main_v31, val_main_v30]
  rw [v29, v19, log_coe' _ (zpos y h r m), ← EReal.coe_add]; rfl

/-- The probabilities. -/
theorem v35 (m j : Fin 128) : val_main_v35 (F := Ideal) (up y.q) (up y.k) (ix5 0 r h m j) = (((y.inp h r).p m j : ℝ) : EReal) := by
  pointwise [val_main_v35, val_main_v34, val_main_v33, val_main_v32]
  simp only [v18, v31]
  rw [exp_ite]; rfl

/-- The attention output. -/
theorem v36 (m e : Fin 128) : val_main_v36 (F := Ideal) (up y.q) (up y.k) (up y.v) (ix5 0 r h m e)
    = (((y.inp h r).o2 m e : ℝ) : EReal) := by
  pointwise [val_main_v36]
  simp only [v35, v5, ← EReal.coe_mul, coe_sum]; rfl

/-- The attention output in the layout of the arguments. -/
theorem v38 (s : Fin 2048) (e : Fin 128) : val_main_v38 (F := Ideal) (up y.q) (up y.k) (up y.v) (ix4 0 s h e)
    = (((y.inp h (res s)).o2 (quo s) e : ℝ) : EReal) := by
  pointwise [val_main_v38, val_main_v37]
  exact v36 y h (res s) (quo s) e

/-- The log-denominators in the layout of the arguments. -/
theorem v40 (s : Fin 2048) : val_main_v40 (F := Ideal) (up y.q) (up y.k) (ix3 0 s h)
    = (((y.inp h (res s)).l2 (quo s) : ℝ) : EReal) := by
  pointwise [val_main_v40, val_main_v39]
  exact v31 y h (res s) (quo s)

end Cert.Attn.Ref

end
-- ==== Proof.RefB.lean ====
/- The reference's mix of the three groups and its derivative by this group's log-denominator and output, read at
   coordinates. -/
module

public import proofs.«01_k».proof.Proof.RefA

@[expose] public section

set_option maxRecDepth 16384

noncomputable section

namespace Cert.Attn.Ref

open Idealize.ShloMosaic Cert.ReferenceIdeal Cert.ReferenceIdeal.Read

variable (y : Args) (h : Fin 4) (s : Fin 2048)

/-- The inputs at the head and residue class of a position. -/
abbrev at_ : Inp (Fin 128) (Fin 128) := y.inp h (res s)

/-- The other groups' values and the gradient at a position, as that position's inputs. -/
theorem at_l0 : y.l0 (ix3 0 s h) = (at_ y h s).l0 (quo s) := by simp only [at_, Args.inp, row_res_quo]
theorem at_l1 : y.l1 (ix3 0 s h) = (at_ y h s).l1 (quo s) := by simp only [at_, Args.inp, row_res_quo]
theorem at_o0 (e : Fin 128) : y.o0 (ix4 0 s h e) = (at_ y h s).o0 (quo s) e := by simp only [at_, Args.inp, row_res_quo]
theorem at_o1 (e : Fin 128) : y.o1 (ix4 0 s h e) = (at_ y h s).o1 (quo s) e := by simp only [at_, Args.inp, row_res_quo]
theorem at_d (e : Fin 128) : y.d (ix4 0 s h e) = (at_ y h s).d (quo s) e := by simp only [at_, Args.inp, row_res_quo]

/-- The first group's log-denominator. -/
theorem v44_0 : val_main_v44 (F := Ideal) (up y.q) (up y.k) (up y.l0) (up y.l1) (ix4 0 0 s h)
    = (((at_ y h s).l0 (quo s) : ℝ) : EReal) := by
  rw [← at_l0]
  pointwise [val_main_v44, val_main_v41, val_main_v42, val_main_v43]
  rfl

/-- The second group's log-denominator. -/
theorem v44_1 : val_main_v44 (F := Ideal) (up y.q) (up y.k) (up y.l0) (up y.l1) (ix4 1 0 s h)
    = (((at_ y h s).l1 (quo s) : ℝ) : EReal) := by
  rw [← at_l1]
  pointwise [val_main_v44, val_main_v41, val_main_v42, val_main_v43]
  rfl

/-- This group's log-denominator. -/
theorem v44_2 : val_main_v44 (F := Ideal) (up y.q) (up y.k) (up y.l0) (up y.l1) (ix4 2 0 s h)
    = (((at_ y h s).l2 (quo s) : ℝ) : EReal) := by
  rw [← v40 y h s]
  pointwise [val_main_v44, val_main_v41, val_main_v42, val_main_v43]

/-- The maximum of three values. -/
theorem fold_three (f : Fin 3 → EReal) : Finset.univ.fold max ⊥ f = max (max (f 0) (f 1)) (f 2) := by
  rw [show (Finset.univ : Finset (Fin 3)) = insert 0 (insert 1 {2}) from rfl, Finset.fold_insert (by decide),
    Finset.fold_insert (by decide), Finset.fold_singleton, max_bot_right, max_assoc]

/-- The greatest of the three. -/
theorem v54 : val_main_v54 (F := Ideal) (up y.q) (up y.k) (up y.l0) (up y.l1) (ix3 0 s h)
    = (((at_ y h s).top (quo s) : ℝ) : EReal) := by
  pointwise [val_main_v54, val_main_v53, val_main_cst_8, val_main_v47]
  rw [ofBits_ninf, show val_main_cst_6 (F := Ideal) (Shape.Idx.first Gen.h_S_) = ⊥ from ofBits_ninf, fold_three,
    v44_0, v44_1, v44_2, max_coe, max_coe, max_bot_left]
  rfl

/-- The first weight before division. -/
theorem v67_0 : val_main_v67 (F := Ideal) (up y.q) (up y.k) (up y.l0) (up y.l1) (ix4 0 0 s h)
    = (((at_ y h s).e0 (quo s) : ℝ) : EReal) := by
  pointwise [val_main_v67, val_main_v66, val_main_v65, val_main_v64]
  rw [v44_0, v54, ← EReal.coe_sub, Ideal.exp_coe]; rfl

/-- The second weight before division. -/
theorem v67_1 : val_main_v67 (F := Ideal) (up y.q) (up y.k) (up y.l0) (up y.l1) (ix4 1 0 s h)
    = (((at_ y h s).e1 (quo s) : ℝ) : EReal) := by
  pointwise [val_main_v67, val_main_v66, val_main_v65, val_main_v64]
  rw [v44_1, v54, ← EReal.coe_sub, Ideal.exp_coe]; rfl

/-- This group's weight before division. -/
theorem v67_2 : val_main_v67 (F := Ideal) (up y.q) (up y.k) (up y.l0) (up y.l1) (ix4 2 0 s h)
    = (((at_ y h s).e2 (quo s) : ℝ) : EReal) := by
  pointwise [val_main_v67, val_main_v66, val_main_v65, val_main_v64]
  rw [v44_2, v54, ← EReal.coe_sub, Ideal.exp_coe]; rfl

/-- The sum of the three weights. -/
theorem v69 : val_main_v69 (F := Ideal) (up y.q) (up y.k) (up y.l0) (up y.l1) (ix4 0 0 s h)
    = (((at_ y h s).tot (quo s) : ℝ) : EReal) := by
  pointwise [val_main_v69, val_main_v68]
  rw [show val_main_cst_14 (F := Ideal) (Shape.Idx.first Gen.h_S_) = 0 from Ideal.ofBits_zero_f32, zero_add,
    Fin.sum_univ_three, v67_0, v67_1, v67_2, ← EReal.coe_add, ← EReal.coe_add]
  rfl

/-- The sum of the weights isn't zero. -/
theorem tot_ne : (at_ y h s).tot (quo s) ≠ 0 := ((at_ y h s).tot_pos _).ne'

/-- This group's weight. -/
theorem v71 : val_main_v71 (F := Ideal) (up y.q) (up y.k) (up y.l0) (up y.l1) (ix4 2 0 s h)
    = (((at_ y h s).w2 (quo s) : ℝ) : EReal) := by
  pointwise [val_main_v71, val_main_v70]
  rw [v67_2, v69, div_coe' _ _ (tot_ne y h s)]; rfl

/-- One over the square of the sum of the weights. -/
theorem v74 : val_main_v74 (F := Ideal) (up y.q) (up y.k) (up y.l0) (up y.l1) (ix4 0 0 s h)
    = (((1 / ((at_ y h s).tot (quo s) * (at_ y h s).tot (quo s)) : ℝ)) : EReal) := by
  pointwise [val_main_v74, val_main_v73, val_main_v72, val_main_cst_15]
  rw [v69, ← EReal.coe_mul, ← EReal.coe_one,
    div_coe' _ _ (mul_ne_zero (tot_ne y h s) (tot_ne y h s))]

/-- The gradient times the first group's output, summed. -/
theorem v89_0 : val_main_v89 (F := Ideal) (up y.q) (up y.k) (up y.v) (up y.o0) (up y.o1) (up y.d) (ix4 0 0 s h)
    = (((at_ y h s).c0 (quo s) : ℝ) : EReal) := by
  pointwise [val_main_v89, val_main_v88, val_main_v85, val_main_v79, val_main_v76, val_main_v77, val_main_v78]
  rw [show val_main_cst_19 (F := Ideal) (Shape.Idx.first Gen.h_S_) = 0 from Ideal.ofBits_zero_f32, zero_add]
  simp only [up, at_d, at_o0, ← EReal.coe_mul, coe_sum]; rfl

/-- The gradient times the second group's output, summed. -/
theorem v89_1 : val_main_v89 (F := Ideal) (up y.q) (up y.k) (up y.v) (up y.o0) (up y.o1) (up y.d) (ix4 1 0 s h)
    = (((at_ y h s).c1 (quo s) : ℝ) : EReal) := by
  pointwise [val_main_v89, val_main_v88, val_main_v85, val_main_v79, val_main_v76, val_main_v77, val_main_v78]
  rw [show val_main_cst_19 (F := Ideal) (Shape.Idx.first Gen.h_S_) = 0 from Ideal.ofBits_zero_f32, zero_add]
  simp only [up, at_d, at_o1, ← EReal.coe_mul, coe_sum]; rfl

/-- The gradient times this group's output, summed. -/
theorem v89_2 : val_main_v89 (F := Ideal) (up y.q) (up y.k) (up y.v) (up y.o0) (up y.o1) (up y.d) (ix4 2 0 s h)
    = (((at_ y h s).c2 (quo s) : ℝ) : EReal) := by
  pointwise [val_main_v89, val_main_v88, val_main_v85, val_main_v79, val_main_v76, val_main_v77, val_main_v78]
  rw [show val_main_cst_19 (F := Ideal) (Shape.Idx.first Gen.h_S_) = 0 from Ideal.ofBits_zero_f32, zero_add]
  simp only [v38]
  simp only [up, at_d, ← EReal.coe_mul, coe_sum]; rfl

/-- The sum over axes of size one keeps the value. -/
theorem v98 (g : Fin 3) : val_main_v98 (F := Ideal) (up y.q) (up y.k) (up y.v) (up y.o0) (up y.o1) (up y.d) (ix4 g 0 s h)
    = val_main_v89 (F := Ideal) (up y.q) (up y.k) (up y.v) (up y.o0) (up y.o1) (up y.d) (ix4 g 0 s h) := by
  pointwise [val_main_v98, val_main_v97]
  rw [hostReduceAdd_unit _ _ _ _ (ix5 g 0 s h 0),
    show val_main_cst_20 (F := Ideal) (Shape.Idx.first Gen.h_S_) = 0 from Ideal.ofBits_zero_f32, zero_add]
  · pointwise [val_main_v90]
  · intro i
    idx_vars i
    obtain rfl : i1 = 0 := Subsingleton.elim _ _
    obtain rfl : i4 = 0 := Subsingleton.elim _ _
    rw [show Gen.reducesTo_S3x1x2048x4x1_S3x2048x4_d1_4.drop (ix5 i0 0 i2 i3 0) = ix3 i0 i2 i3 from
      funext fun b => by fin_cases b <;> rfl]
    constructor
    · intro e
      rw [show i0 = g from congrFun e 0, show i2 = s from congrFun e 1, show i3 = h from congrFun e 2]
    · intro e
      rw [show i0 = g from congrFun e 0, show i2 = s from congrFun e 2, show i3 = h from congrFun e 3]

/-- The derivative by the sum of the weights. -/
theorem v109 (g : Fin 3) : val_main_v109 (F := Ideal) (up y.q) (up y.k) (up y.v) (up y.o0) (up y.l0) (up y.o1) (up y.l1) (up y.d)
    (ix4 g 0 s h) = (((at_ y h s).dtot (quo s) : ℝ) : EReal) := by
  pointwise [val_main_v109, val_main_v108, val_main_v107]
  rw [hostReduceAdd_unit _ _ _ _ (ix4 0 0 s h),
    show val_main_cst_22 (F := Ideal) (Shape.Idx.first Gen.h_S_) = 0 from Ideal.ofBits_zero_f32, zero_add]
  · pointwise [val_main_v104, val_main_v103, val_main_v102, val_main_v101, val_main_v100, val_main_v99]
    rw [show val_main_cst_21 (F := Ideal) (Shape.Idx.first Gen.h_S_) = 0 from Ideal.ofBits_zero_f32, zero_add,
      Fin.sum_univ_three]
    simp only [v98, v74, v67_0, v67_1, v67_2, v89_0, v89_1, v89_2, ← EReal.coe_mul, ← EReal.coe_add, ← EReal.coe_neg]
    rfl
  · intro i
    idx_vars i
    obtain rfl : i0 = 0 := Subsingleton.elim _ _
    obtain rfl : i1 = 0 := Subsingleton.elim _ _
    rw [show Gen.reducesTo_S1x1x2048x4_S2048x4_d0_1.drop (ix4 0 0 i2 i3) = ix2 i2 i3 from
      funext fun b => by fin_cases b <;> rfl]
    constructor
    · intro e
      rw [show i2 = s from congrFun e 0, show i3 = h from congrFun e 1]
    · intro e
      rw [show i2 = s from congrFun e 2, show i3 = h from congrFun e 3]

/-- The derivative by this group's log-denominator. -/
theorem v117 : val_main_v117 (F := Ideal) (up y.q) (up y.k) (up y.v) (up y.o0) (up y.l0) (up y.o1) (up y.l1) (up y.d)
    (ix3 0 s h) = (((at_ y h s).dl2 (quo s) : ℝ) : EReal) := by
  pointwise [val_main_v117, val_main_v116, val_main_v111, val_main_v110, val_main_v106, val_main_v105]
  rw [v98, v109, v69, v89_2, v67_2, div_coe' _ _ (tot_ne y h s), ← EReal.coe_add, ← EReal.coe_mul]
  rfl

/-- The derivative by this group's output: its weight times the gradient. -/
theorem v96 (e : Fin 128) : val_main_v96 (F := Ideal) (up y.q) (up y.k) (up y.l0) (up y.l1) (up y.d)
    (ix4 0 s h e) = ((((at_ y h s).w2 (quo s) * (at_ y h s).d (quo s) e : ℝ)) : EReal) := by
  pointwise [val_main_v96, val_main_v95, val_main_v87, val_main_v86, val_main_v75, val_main_v85]
  rw [v71]
  simp only [up, at_d, ← EReal.coe_mul]

end Cert.Attn.Ref

end
-- ==== Proof.RefC.lean ====
/- The reference's gradients of the attention's queries, keys and values, read at coordinates. -/
module

public import proofs.«01_k».proof.Proof.RefB

@[expose] public section

set_option maxRecDepth 16384

noncomputable section

namespace Cert.Attn.Ref

open Idealize.ShloMosaic Cert.ReferenceIdeal Cert.ReferenceIdeal.Read

variable (y : Args) (h : Fin 4) (r : Fin 16)

/-- The derivative by the log-denominator, by residue class. -/
theorem v119 (m : Fin 128) : val_main_v119 (F := Ideal) (up y.q) (up y.k) (up y.v) (up y.o0) (up y.l0) (up y.o1) (up y.l1)
    (up y.d) (ix4 0 r h m) = (((y.inp h r).dl2 m : ℝ) : EReal) := by
  pointwise [val_main_v119, val_main_v118]
  have e := v117 y h (row r m)
  rw [at_, res_row, quo_row] at e
  exact e

/-- The derivative by the attention output, by residue class. -/
theorem v121 (m e : Fin 128) : val_main_v121 (F := Ideal) (up y.q) (up y.k) (up y.l0) (up y.l1) (up y.d)
    (ix5 0 r h m e) = ((((y.inp h r).w2 m * (y.inp h r).d m e : ℝ)) : EReal) := by
  pointwise [val_main_v121, val_main_v120]
  have e := v96 y h (row r m) e
  rw [at_, res_row, quo_row] at e
  exact e

/-- The gradient of the values. -/
theorem v123 (j e : Fin 128) : val_main_v123 (F := Ideal) (up y.q) (up y.k) (up y.l0) (up y.l1) (up y.d)
    (ix5 0 r h j e) = (((y.inp h r).rdv j e : ℝ) : EReal) := by
  pointwise [val_main_v123, val_main_v122]
  simp only [v121, v35, ← EReal.coe_mul, coe_sum]; rfl

/-- The derivative by the probability. -/
theorem v124 (m j : Fin 128) : val_main_v124 (F := Ideal) (up y.q) (up y.k) (up y.v) (up y.l0) (up y.l1) (up y.d)
    (ix5 0 r h m j) = (((y.inp h r).rdp m j : ℝ) : EReal) := by
  pointwise [val_main_v124]
  simp only [v121, v5, ← EReal.coe_mul, coe_sum]; rfl

/-- The sum over the keys, kept along axes of size one. -/
theorem v130 (m : Fin 128) : val_main_v130 (F := Ideal) (up y.q) (up y.k) (up y.v) (up y.l0) (up y.l1) (up y.d)
    (ix4 0 r h m) = (((∑ j, -((y.inp h r).rdp m j * (y.inp h r).p m j) : ℝ)) : EReal) := by
  pointwise [val_main_v130, val_main_v129]
  rw [hostReduceAdd_unit _ _ _ _ (ix5 0 r h m 0),
    show val_main_cst_24 (F := Ideal) (Shape.Idx.first Gen.h_S_) = 0 from Ideal.ofBits_zero_f32, zero_add]
  · pointwise [val_main_v128, val_main_v127, val_main_v126, val_main_v125]
    rw [show val_main_cst_23 (F := Ideal) (Shape.Idx.first Gen.h_S_) = 0 from Ideal.ofBits_zero_f32, zero_add]
    simp only [v124, v35, ← EReal.coe_mul, ← EReal.coe_neg, coe_sum]
  · intro i
    idx_vars i
    obtain rfl : i0 = 0 := Subsingleton.elim _ _
    obtain rfl : i4 = 0 := Subsingleton.elim _ _
    rw [show Gen.reducesTo_S1x16x4x128x1_S16x4x128_d0_4.drop (ix5 0 i1 i2 i3 0) = ix3 i1 i2 i3 from
      funext fun b => by fin_cases b <;> rfl]
    constructor
    · intro e
      rw [show i1 = r from congrFun e 0, show i2 = h from congrFun e 1, show i3 = m from congrFun e 2]
    · intro e
      rw [show i1 = r from congrFun e 1, show i2 = h from congrFun e 2, show i3 = m from congrFun e 3]

/-- The derivative by the denominator. -/
theorem v132 (m : Fin 128) : val_main_v132 (F := Ideal) (up y.q) (up y.k) (up y.v) (up y.o0) (up y.l0) (up y.o1) (up y.l1)
    (up y.d) (ix4 0 r h m) = (((y.inp h r).dZ m : ℝ) : EReal) := by
  pointwise [val_main_v132, val_main_v131]
  rw [v119, v130, v29, ← EReal.coe_add, div_coe' _ _ (zpos y h r m).ne']; rfl

/-- The derivative by the unscaled score. -/
theorem v138 (m j : Fin 128) : val_main_v138 (F := Ideal) (up y.q) (up y.k) (up y.v) (up y.o0) (up y.l0) (up y.o1) (up y.l1)
    (up y.d) (ix5 0 r h m j) = (((y.inp h r).rds m j : ℝ) : EReal) := by
  pointwise [val_main_v138, val_main_v137, val_main_cst_25, val_main_v136, val_main_v135, val_main_v134, val_main_v133,
    val_main_v125, val_main_call1_v0, val_main_call1_cst, val_main_v18_1, val_main_v14, val_main_v12, val_main_v11,
    val_main_v10, val_main_v9, val_main_v8, val_main_v7, val_main_v6, val_main_v13, val_main_c]
  rw [select_near, v124, v35, v132, v28, ofBits_scl]
  rw [show (y.inp h r).rds m j = (if Near m j then (y.inp h r).rdp m j * (y.inp h r).p m j
    + (y.inp h r).dZ m * (y.inp h r).a m j else 0) * scl from rfl]
  split_ifs
  · simp only [← EReal.coe_mul, ← EReal.coe_add]
  · rw [zero_mul, EReal.coe_zero]

/-- The gradient of the keys. -/
theorem v139 (j e : Fin 128) : val_main_v139 (F := Ideal) (up y.q) (up y.k) (up y.v) (up y.o0) (up y.l0) (up y.o1) (up y.l1)
    (up y.d) (ix5 0 r h j e) = (((y.inp h r).rdk j e : ℝ) : EReal) := by
  pointwise [val_main_v139]
  simp only [v138, v1, ← EReal.coe_mul, coe_sum]; rfl

/-- The gradient of the queries. -/
theorem v140 (m e : Fin 128) : val_main_v140 (F := Ideal) (up y.q) (up y.k) (up y.v) (up y.o0) (up y.l0) (up y.o1) (up y.l1)
    (up y.d) (ix5 0 r h m e) = (((y.inp h r).rdq m e : ℝ) : EReal) := by
  pointwise [val_main_v140]
  simp only [v138, v3, ← EReal.coe_mul, coe_sum]; rfl

/-- The residue class of a lane of the results. -/
def lane (l : Fin 2048) : Fin 16 := ⟨l.val / 128, by omega⟩
/-- The coordinate within the head of a lane of the results. -/
def chan (l : Fin 2048) : Fin 128 := ⟨l.val % 128, by omega⟩

/-- The reference's first result. -/
theorem v150 (m : Fin 128) (l : Fin 2048) : val_main_v150 (F := Ideal) (up y.q) (up y.k) (up y.v) (up y.o0) (up y.l0) (up y.o1)
    (up y.l1) (up y.d) (ix3 h m l) = (((y.inp h (lane l)).dq m (chan l) : ℝ) : EReal) := by
  pointwise [val_main_v150, val_main_v149, val_main_v148, val_main_v147, val_main_v146, val_main_v145]
  rw [← (y.inp h (lane l)).rdq_eq fun m => ⟨m, near_self m⟩]
  exact v140 y h (lane l) m (chan l)

/-- The reference's second result. -/
theorem v154 (m : Fin 128) (l : Fin 2048) : val_main_v154 (F := Ideal) (up y.q) (up y.k) (up y.v) (up y.o0) (up y.l0) (up y.o1)
    (up y.l1) (up y.d) (ix3 h m l) = (((y.inp h (lane l)).dk m (chan l) : ℝ) : EReal) := by
  pointwise [val_main_v154, val_main_v153, val_main_v152, val_main_v151, val_main_v144, val_main_v143]
  rw [← (y.inp h (lane l)).rdk_eq fun m => ⟨m, near_self m⟩]
  exact v139 y h (lane l) m (chan l)

/-- The reference's third result. -/
theorem v158 (m : Fin 128) (l : Fin 2048) : val_main_v158 (F := Ideal) (up y.q) (up y.k) (up y.l0) (up y.l1) (up y.d)
    (ix3 h m l) = (((y.inp h (lane l)).dv m (chan l) : ℝ) : EReal) := by
  pointwise [val_main_v158, val_main_v157, val_main_v156, val_main_v155, val_main_v142, val_main_v141]
  rw [← (y.inp h (lane l)).rdv_eq]
  exact v123 y h (lane l) m (chan l)

end Cert.Attn.Ref

end
-- ==== Proof.Host.lean ====
/- The arrays the kernel reads, as its host lines compute them from the arguments. -/
module

public import proofs.«01_k».proof.Proof.RefC
public import proofs.«01_k».proof.Proof.Gen.KernelIdeal.Value
public import Idealize.ShloMosaic.Lib.Claim
public import Idealize.ShloMosaic.Lib.StableHlo.RunRead

@[expose] public section

set_option maxRecDepth 16384

noncomputable section

namespace Cert.Attn.Ker

open Idealize.ShloMosaic Idealize.ShloMosaic.TcCoe Cert.KernelIdeal Cert.KernelIdeal.Gen

section Terms

variable (q k v o0 o1 d : FVec Ideal S1x2048x4x128 .f32) (l0 l1 : FVec Ideal S1x2048x4 .f32)

/-- One array by residue class. -/
def classes (x : FVec Ideal S1x2048x4x128 .f32) : FVec Ideal S1x16x4x128x128 .f32 :=
  transpose S1x16x4x128x128 [0, 2, 3, 1, 4] (shapeCast S1x128x16x4x128 x shapeCasts_S1x2048x4x128_S1x128x16x4x128)
    transposes_S1x128x16x4x128_S1x16x4x128x128_0_2_3_1_4

/-- Whether two tokens of a class are near. -/
def mask : Vec Ideal S128x128 .i1 :=
  cmpi .sle (absi (subi (broadcastInDim S128x128 ![0, 1] bcast_S1x128_S128x128_0_1
      (broadcastInDim S1x128 ![1] bcast_S128_S1x128_1 (iotaInDim S128 32 0)))
    (broadcastInDim S128x128 ![0, 1] bcast_S128x1_S128x128_0_1
      (broadcastInDim S128x1 ![0] bcast_S128_S128x1_0 (iotaInDim S128 32 0)))))
    (broadcastInDim S128x128 ![] bcast_S_S128x128 (constantI S_ 32 64#32))

/-- The masked scores. -/
def score : FVec Ideal S1x16x4x128x128 .f32 :=
  select (broadcastInDim S1x16x4x128x128 ![3, 4] bcast_S128x128_S1x16x4x128x128_3_4 mask)
    (mulf (Host.dotGeneral dot_S1x16x4x128x128_S1x16x4x128x128_S1x16x4x128x128_4_4_3_3_012_012 none (classes q) (classes k))
      (broadcastInDim S1x16x4x128x128 ![] bcast_S_S1x16x4x128x128 (constant S_ .f32 0x3DB504F3#32)))
    (broadcastInDim S1x16x4x128x128 ![] bcast_S_S1x16x4x128x128 (constant S_ .f32 0xFF800000#32))

/-- The largest score of each query. -/
def peak : FVec Ideal S1x16x4x128 .f32 :=
  Host.reduce FloatOps.maximumf (score q k) (constant S_ .f32 0xFF800000#32) reducesTo_S1x16x4x128x128_S1x16x4x128_d4 h_S_

/-- One number per query, along the keys. -/
def along (x : FVec Ideal S1x16x4x128 .f32) : FVec Ideal S1x16x4x128x128 .f32 :=
  broadcastInDim S1x16x4x128x128 ![0, 1, 2, 3, 4] bcast_S1x16x4x128x1_S1x16x4x128x128_0_1_2_3_4
    (broadcastInDim S1x16x4x128x1 ![0, 1, 2, 3] bcast_S1x16x4x128_S1x16x4x128x1_0_1_2_3 x)

/-- The sum of each query's weights. -/
def norm : FVec Ideal S1x16x4x128 .f32 :=
  Host.reduceAdd (Host.exp (subf (score q k) (along (peak q k)))) (constant S_ .f32 0x00000000#32)
    reducesTo_S1x16x4x128x128_S1x16x4x128_d4 h_S_

/-- The log-denominator by class. -/
def logDen : FVec Ideal S1x16x4x128 .f32 :=
  addf (peak q k) (Host.log (norm q k))

/-- The log-denominator by token. -/
def l2 : FVec Ideal S1x2048x4 .f32 :=
  shapeCast S1x2048x4 (transpose S1x128x16x4 [0, 3, 1, 2] (logDen q k) transposes_S1x16x4x128_S1x128x16x4_0_3_1_2)
    shapeCasts_S1x128x16x4_S1x2048x4

/-- The probabilities. -/
def prob : FVec Ideal S1x16x4x128x128 .f32 :=
  Host.exp (subf (score q k) (along (logDen q k)))

/-- This group's output by token. -/
def o2 : FVec Ideal S1x2048x4x128 .f32 :=
  shapeCast S1x2048x4x128 (transpose S1x128x16x4x128 [0, 3, 1, 2, 4]
    (Host.dotGeneral dot_S1x16x4x128x128_S1x16x4x128x128_S1x16x4x128x128_4_3_3_4_012_012 none (prob q k) (classes v))
    transposes_S1x16x4x128x128_S1x128x16x4x128_0_3_1_2_4) shapeCasts_S1x128x16x4x128_S1x2048x4x128

/-- The largest log-denominator. -/
def top : FVec Ideal S1x2048x4 .f32 := maximumf (maximumf l0 l1) (l2 q k)

/-- A weight before the division. -/
def wt (l : FVec Ideal S1x2048x4 .f32) : FVec Ideal S1x2048x4 .f32 := Host.exp (subf l (top q k l0 l1))

/-- The sum of the weights. -/
def tot : FVec Ideal S1x2048x4 .f32 := addf (addf (wt q k l0 l1 l0) (wt q k l0 l1 l1)) (wt q k l0 l1 (l2 q k))

/-- One number per token and head, along the lanes of the head. -/
def over (x : FVec Ideal S1x2048x4 .f32) : FVec Ideal S1x2048x4x128 .f32 :=
  broadcastInDim S1x2048x4x128 ![0, 1, 2, 3] bcast_S1x2048x4x1_S1x2048x4x128_0_1_2_3
    (broadcastInDim S1x2048x4x1 ![0, 1, 2] bcast_S1x2048x4_S1x2048x4x1_0_1_2 x)

/-- The mixed output, rounded. -/
def oa : FVec Ideal S1x2048x4x128 .bf16 :=
  truncf .bf16 (Host.divf (addf (addf (mulf (over (wt q k l0 l1 l0)) o0) (mulf (over (wt q k l0 l1 l1)) o1))
    (mulf (over (wt q k l0 l1 (l2 q k))) (o2 q k v))) (over (tot q k l0 l1))) bitsLt_bf16_f32

/-- The log-denominator of all groups. -/
def lse : FVec Ideal S1x2048x4 .f32 := addf (top q k l0 l1) (Host.log (tot q k l0 l1))

/-- The inner product of the output and its gradient. -/
def dsum : FVec Ideal S1x2048x4 .f32 :=
  Host.reduceAdd (mulf d (extf .f32 (oa q k v o0 o1 l0 l1) bitsLt_bf16_f32)) (constant S_ .f32 0x00000000#32)
    reducesTo_S1x2048x4x128_S1x2048x4_d3 h_S_

/-- An array by head, its classes side by side, rounded. -/
def lanes (x : FVec Ideal S1x2048x4x128 .f32) : FVec Ideal S4x128x2048 .bf16 :=
  truncf .bf16 (shapeCast S4x128x2048 (transpose S4x128x16x128 [2, 0, 1, 3]
    (shapeCast S128x16x4x128 x shapeCasts_S1x2048x4x128_S128x16x4x128) transposes_S128x16x4x128_S4x128x16x128_2_0_1_3)
    shapeCasts_S4x128x16x128_S4x128x2048) bitsLt_bf16_f32

/-- One number per token and head, by head. -/
def cols (x : FVec Ideal S1x2048x4 .f32) : FVec Ideal S4x128x16 .f32 :=
  shapeCast S4x128x16 (transpose S4x128x16x1 [2, 0, 1, 3]
    (shapeCast S128x16x4x1 x shapeCasts_S1x2048x4_S128x16x4x1) transposes_S128x16x4x1_S4x128x16x1_2_0_1_3)
    shapeCasts_S4x128x16x1_S4x128x16

end Terms

section Entry

variable (m : (ℓ : Loc nD τ sig) → Buf (Elt Ideal) ℓ) (c : Dev nD)

/-- Argument 0: the queries. -/
abbrev mq : FVec Ideal S1x2048x4x128 .f32 := m ((c : Thread nD τ).loc main_arg0)
/-- Argument 1: the keys. -/
abbrev mk : FVec Ideal S1x2048x4x128 .f32 := m ((c : Thread nD τ).loc main_arg1)
/-- Argument 2: the values. -/
abbrev mv : FVec Ideal S1x2048x4x128 .f32 := m ((c : Thread nD τ).loc main_arg2)
/-- Argument 3: the first group's output. -/
abbrev mo0 : FVec Ideal S1x2048x4x128 .f32 := m ((c : Thread nD τ).loc main_arg3)
/-- Argument 4: the first group's log-denominator. -/
abbrev ml0 : FVec Ideal S1x2048x4 .f32 := m ((c : Thread nD τ).loc main_arg4)
/-- Argument 5: the second group's output. -/
abbrev mo1 : FVec Ideal S1x2048x4x128 .f32 := m ((c : Thread nD τ).loc main_arg5)
/-- Argument 6: the second group's log-denominator. -/
abbrev ml1 : FVec Ideal S1x2048x4 .f32 := m ((c : Thread nD τ).loc main_arg6)
/-- Argument 7: the output's gradient. -/
abbrev md : FVec Ideal S1x2048x4x128 .f32 := m ((c : Thread nD τ).loc main_arg7)

/-- The queries' lanes at the region's entry. -/
theorem V_q : V m c main_v69 = lanes (mq m c) := by
  unfold V
  after_reads_simp
  rfl

/-- The keys' lanes at the region's entry. -/
theorem V_k : V m c main_v73 = lanes (mk m c) := by
  unfold V
  after_reads_simp
  rfl

/-- The values' lanes at the region's entry. -/
theorem V_v : V m c main_v77 = lanes (mv m c) := by
  unfold V
  after_reads_simp
  rfl

/-- The gradient's lanes at the region's entry. -/
theorem V_d : V m c main_v81 = lanes (md m c) := by
  unfold V
  after_reads_simp
  rfl

/-- The log-denominators at the region's entry. -/
theorem V_lse : V m c main_v84 = cols (lse (mq m c) (mk m c) (ml0 m c) (ml1 m c)) := by
  unfold V
  after_reads_simp
  rfl

/-- The inner products at the region's entry. -/
theorem V_dsum : V m c main_v87
    = cols (dsum (mq m c) (mk m c) (mv m c) (mo0 m c) (mo1 m c) (md m c) (ml0 m c) (ml1 m c)) := by
  unfold V
  after_reads_simp
  rfl

end Entry

end Cert.Attn.Ker

end
-- ==== Proof.HostA.lean ====
/- The kernel's host lines at finite arguments, read at coordinates. -/
module

public import proofs.«01_k».proof.Proof.Host
public import Idealize.ShloMosaic.Lib.Pointwise

@[expose] public section

set_option maxRecDepth 16384

noncomputable section

namespace Cert.Attn.Ker

open Idealize.ShloMosaic Cert.KernelIdeal Cert.KernelIdeal.Gen

variable (y : Args) (h : Fin 4) (r : Fin 16)

/-- An array by class, at coordinates. -/
theorem classes_at (x : S1x2048x4x128.Idx → ℝ) (m e : Fin 128) :
    classes (up x) (ix5 0 r h m e) = ((x (ix4 0 (row r m) h e) : ℝ) : EReal) := by
  pointwise [classes]; rfl

/-- The masked scores at coordinates. -/
theorem score_at (m j : Fin 128) : score (up y.q) (up y.k) (ix5 0 r h m j)
    = if Near m j then (((y.inp h r).s m j : ℝ) : EReal) else ⊥ := by
  pointwise [score, mask]
  rw [select_near]
  simp only [classes_at, ofBits_scl, ofBits_ninf, ← EReal.coe_mul, coe_sum]
  rfl

/-- The largest scores at coordinates. -/
theorem peak_at (m : Fin 128) : peak (up y.q) (up y.k) (ix4 0 r h m) = (((y.inp h r).t m : ℝ) : EReal) := by
  pointwise [peak]
  simp only [score_at, ofBits_ninf]
  exact fold_max_real Finset.univ (fun j => Near m j) (fun j => (y.inp h r).s m j) ⟨m, Finset.mem_univ _, near_self m⟩

/-- The denominators at coordinates. -/
theorem norm_at (m : Fin 128) : norm (up y.q) (up y.k) (ix4 0 r h m) = (((y.inp h r).Z m : ℝ) : EReal) := by
  pointwise [norm, along]
  simp only [score_at, peak_at, Ideal.ofBits_zero_f32, zero_add, exp_ite, coe_sum]
  rfl

/-- The log-denominators at coordinates. -/
theorem logDen_at (m : Fin 128) : logDen (up y.q) (up y.k) (ix4 0 r h m) = (((y.inp h r).l2 m : ℝ) : EReal) := by
  pointwise [logDen]
  rw [peak_at, norm_at, log_coe' _ (Ref.zpos y h r m), ← EReal.coe_add]; rfl

/-- The probabilities at coordinates. -/
theorem prob_at (m j : Fin 128) : prob (up y.q) (up y.k) (ix5 0 r h m j) = (((y.inp h r).p m j : ℝ) : EReal) := by
  pointwise [prob, along]
  rw [score_at, logDen_at, exp_ite]; rfl

end Cert.Attn.Ker

end
-- ==== Proof.HostB.lean ====
/- The kernel's host lines at finite arguments, read at coordinates. -/
module

public import proofs.«01_k».proof.Proof.HostA
public import Idealize.ShloMosaic.Lib.Pointwise

@[expose] public section

set_option maxRecDepth 16384

noncomputable section

namespace Cert.Attn.Ker

open Idealize.ShloMosaic Cert.KernelIdeal Cert.KernelIdeal.Gen

variable (y : Args) (h : Fin 4) (s : Fin 2048)

section Generic

variable (q k v o0 o1 d : FVec Ideal S1x2048x4x128 .f32) (l0 l1 : FVec Ideal S1x2048x4 .f32)

/-- The largest log-denominator, opened. -/
theorem top_open (i : S1x2048x4.Idx) : top q k l0 l1 i = max (max (l0 i) (l1 i)) (l2 q k i) := rfl
/-- A weight, opened. -/
theorem wt_open (l : FVec Ideal S1x2048x4 .f32) (i : S1x2048x4.Idx) :
    wt q k l0 l1 l i = Ideal.exp (l i - top q k l0 l1 i) := rfl
/-- The sum of the weights, opened. -/
theorem tot_open (i : S1x2048x4.Idx) :
    tot q k l0 l1 i = wt q k l0 l1 l0 i + wt q k l0 l1 l1 i + wt q k l0 l1 (l2 q k) i := rfl
/-- The log-denominator of all groups, opened. -/
theorem lse_open (i : S1x2048x4.Idx) : lse q k l0 l1 i = top q k l0 l1 i + Ideal.log (tot q k l0 l1 i) := rfl
/-- One number per token and head, along the lanes. -/
theorem over_open (x : FVec Ideal S1x2048x4 .f32) (s : Fin 2048) (h : Fin 4) (e : Fin 128) :
    over x (ix4 0 s h e) = x (ix3 0 s h) := by
  pointwise [over]
/-- The mixed output, opened. -/
theorem oa_open (i : S1x2048x4x128.Idx) : oa q k v o0 o1 l0 l1 i
    = Ideal.div (over (wt q k l0 l1 l0) i * o0 i + over (wt q k l0 l1 l1) i * o1 i
      + over (wt q k l0 l1 (l2 q k)) i * o2 q k v i) (over (tot q k l0 l1) i) := rfl
/-- A gradient's inner product with an output, opened. -/
theorem dot_open (a : FVec Ideal S1x2048x4x128 .bf16) (z : FVec Ideal S_ .f32) (hz : z (Shape.Idx.first h_S_) = 0)
    (s : Fin 2048) (h : Fin 4) :
    Host.reduceAdd (mulf d (extf .f32 a bitsLt_bf16_f32)) z reducesTo_S1x2048x4x128_S1x2048x4_d3 h_S_ (ix3 0 s h)
      = ∑ e : Fin 128, d (ix4 0 s h e) * a (ix4 0 s h e) := by
  pointwise []
  rw [hz, zero_add]
/-- The inner product of the output and its gradient, opened. -/
theorem dsum_open (s : Fin 2048) (h : Fin 4) : dsum q k v o0 o1 d l0 l1 (ix3 0 s h)
    = ∑ e : Fin 128, d (ix4 0 s h e) * oa q k v o0 o1 l0 l1 (ix4 0 s h e) :=
  dot_open d (oa q k v o0 o1 l0 l1) _ Ideal.ofBits_zero_f32 s h
/-- The log-denominators by token, opened. -/
theorem l2_open (s : Fin 2048) (h : Fin 4) : l2 q k (ix3 0 s h) = logDen q k (ix4 0 (res s) h (quo s)) := by
  pointwise [l2]
  rfl
/-- This group's output by token, opened. -/
theorem o2_open (s : Fin 2048) (h : Fin 4) (e : Fin 128) : o2 q k v (ix4 0 s h e)
    = ∑ j : Fin 128, prob q k (ix5 0 (res s) h (quo s) j) * classes v (ix5 0 (res s) h j e) := by
  pointwise [o2]
  rfl

end Generic

attribute [local irreducible] classes score peak norm logDen prob l2 o2 top wt tot over oa lse dsum up

/-- The first group's log-denominator at a position. -/
theorem up_l0 : up y.l0 (ix3 0 s h) = (((y.inp h (res s)).l0 (quo s) : ℝ) : EReal) := by
  rw [← Ref.at_l0]; unfold up; rfl
/-- The second group's log-denominator at a position. -/
theorem up_l1 : up y.l1 (ix3 0 s h) = (((y.inp h (res s)).l1 (quo s) : ℝ) : EReal) := by
  rw [← Ref.at_l1]; unfold up; rfl
/-- The first group's output at a position. -/
theorem up_o0 (e : Fin 128) : up y.o0 (ix4 0 s h e) = (((y.inp h (res s)).o0 (quo s) e : ℝ) : EReal) := by
  rw [← Ref.at_o0]; unfold up; rfl
/-- The second group's output at a position. -/
theorem up_o1 (e : Fin 128) : up y.o1 (ix4 0 s h e) = (((y.inp h (res s)).o1 (quo s) e : ℝ) : EReal) := by
  rw [← Ref.at_o1]; unfold up; rfl
/-- The gradient at a position. -/
theorem up_d (e : Fin 128) : up y.d (ix4 0 s h e) = (((y.inp h (res s)).d (quo s) e : ℝ) : EReal) := by
  rw [← Ref.at_d]; unfold up; rfl

/-- The log-denominators by token. -/
theorem l2_at : l2 (up y.q) (up y.k) (ix3 0 s h) = (((y.inp h (res s)).l2 (quo s) : ℝ) : EReal) := by
  rw [l2_open]
  exact logDen_at y h (res s) (quo s)

/-- This group's output by token. -/
theorem o2_at (e : Fin 128) : o2 (up y.q) (up y.k) (up y.v) (ix4 0 s h e)
    = (((y.inp h (res s)).o2 (quo s) e : ℝ) : EReal) := by
  rw [o2_open]
  simp only [prob_at, classes_at, ← EReal.coe_mul, coe_sum]
  rfl

/-- The largest log-denominator by token. -/
theorem top_at : top (up y.q) (up y.k) (up y.l0) (up y.l1) (ix3 0 s h)
    = (((y.inp h (res s)).top (quo s) : ℝ) : EReal) := by
  rw [top_open, l2_at, up_l0, up_l1, max_coe, max_coe]; rfl

/-- The first weight. -/
theorem wt0_at : wt (up y.q) (up y.k) (up y.l0) (up y.l1) (up y.l0) (ix3 0 s h)
    = (((y.inp h (res s)).e0 (quo s) : ℝ) : EReal) := by
  rw [wt_open, top_at, up_l0, ← EReal.coe_sub, Ideal.exp_coe]; rfl

/-- The second weight. -/
theorem wt1_at : wt (up y.q) (up y.k) (up y.l0) (up y.l1) (up y.l1) (ix3 0 s h)
    = (((y.inp h (res s)).e1 (quo s) : ℝ) : EReal) := by
  rw [wt_open, top_at, up_l1, ← EReal.coe_sub, Ideal.exp_coe]; rfl

/-- This group's weight. -/
theorem wt2_at : wt (up y.q) (up y.k) (up y.l0) (up y.l1) (l2 (up y.q) (up y.k)) (ix3 0 s h)
    = (((y.inp h (res s)).e2 (quo s) : ℝ) : EReal) := by
  rw [wt_open, top_at, l2_at, ← EReal.coe_sub, Ideal.exp_coe]; rfl

/-- The sum of the weights. -/
theorem tot_at : tot (up y.q) (up y.k) (up y.l0) (up y.l1) (ix3 0 s h)
    = (((y.inp h (res s)).tot (quo s) : ℝ) : EReal) := by
  rw [tot_open, wt0_at, wt1_at, wt2_at, ← EReal.coe_add, ← EReal.coe_add]; rfl

/-- The mixed output. -/
theorem oa_at (e : Fin 128) : oa (up y.q) (up y.k) (up y.v) (up y.o0) (up y.o1) (up y.l0) (up y.l1) (ix4 0 s h e)
    = (((y.inp h (res s)).oa (quo s) e : ℝ) : EReal) := by
  rw [oa_open, over_open, over_open, over_open, over_open, wt0_at, wt1_at, wt2_at, tot_at, o2_at, up_o0, up_o1, ← EReal.coe_mul, ← EReal.coe_mul,
    ← EReal.coe_mul, ← EReal.coe_add, ← EReal.coe_add, div_coe' _ _ (Ref.tot_ne y h s)]; rfl

/-- The log-denominator of all groups. -/
theorem lse_at : lse (up y.q) (up y.k) (up y.l0) (up y.l1) (ix3 0 s h)
    = (((y.inp h (res s)).lse (quo s) : ℝ) : EReal) := by
  rw [lse_open, top_at, tot_at, log_coe' _ ((y.inp h (res s)).tot_pos _), ← EReal.coe_add]; rfl

/-- The inner product of the output and its gradient. -/
theorem dsum_at : dsum (up y.q) (up y.k) (up y.v) (up y.o0) (up y.o1) (up y.d) (up y.l0) (up y.l1) (ix3 0 s h)
    = (((y.inp h (res s)).dsum (quo s) : ℝ) : EReal) := by
  rw [dsum_open]
  simp only [oa_at, up_d, ← EReal.coe_mul, coe_sum]; rfl

end Cert.Attn.Ker

end
-- ==== Proof.HostC.lean ====
/- The kernel's host lines at finite arguments, read at coordinates. -/
module

public import proofs.«01_k».proof.Proof.Host
public import Idealize.ShloMosaic.Lib.Pointwise

@[expose] public section

set_option maxRecDepth 16384

noncomputable section

namespace Cert.Attn.Ker

open Idealize.ShloMosaic Cert.KernelIdeal Cert.KernelIdeal.Gen

variable (y : Args) (h : Fin 4) (r : Fin 16)

/-- An array's lanes at coordinates. -/
theorem lanes_at (x : S1x2048x4x128.Idx → ℝ) (m e : Fin 128) (l : Fin 2048) (hl : l.val = 128 * r.val + e.val) :
    lanes (up x) (ix3 h m l) = ((x (ix4 0 (row r m) h e) : ℝ) : EReal) := by
  pointwise [lanes]
  rw [up]
  congr 2
  rw [show (⟨m.val * 16 + l.val / 128, by omega⟩ : Fin 2048) = row r m from Fin.ext (by simp only [row]; omega),
    show (⟨l.val % 128, by omega⟩ : Fin 128) = e from Fin.ext (by simp only; omega)]

/-- One number per token and head, by head. -/
theorem cols_at (x : FVec Ideal S1x2048x4 .f32) (m : Fin 128) : cols x (ix3 h m r) = x (ix3 0 (row r m) h) := by
  pointwise [cols]
  rfl

end Cert.Attn.Ker

end
-- ==== Proof.Lane.lean ====
/- One residue class of the kernel's body: the kernel treats its sixteen classes by the same operations on different lanes,
   written here once, and read at coordinates. -/
module

public import proofs.«01_k».proof.Proof.Host
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Attn.Ker

open Idealize.ShloMosaic Cert.KernelIdeal Cert.KernelIdeal.Gen

section Terms

variable (q k v d : FVec Ideal S1x128x128 .bf16) (l s : FVec Ideal S1x128x1 .f32)

/-- A block without its unit axis. -/
def flat (x : FVec Ideal S1x128x128 .bf16) : FVec Ideal S128x128 .bf16 := shapeCast S128x128 x shapeCasts_S1x128x128_S128x128

/-- A column along the rows. -/
def rows (x : FVec Ideal S1x128x1 .f32) : FVec Ideal S128x128 .f32 :=
  broadcastTo S128x128 (shapeCast S128x1 x shapeCasts_S1x128x1_S128x1) broadcasts_S128x1_S128x128

/-- The window, as the body computes it. -/
def window : IVec S128x128 1 :=
  cmpi .sle (absi (subi
    (broadcastTo S128x128 (addi (broadcast S1x128 0#32) (iota .tc S1x128 32 [1] iota_S1x128_d1_w32)) broadcasts_S1x128_S128x128)
    (broadcastTo S128x128 (addi (broadcast S128x1 0#32) (iota .tc S128x1 32 [0] iota_S128x1_d0_w32)) broadcasts_S128x1_S128x128)))
    (broadcast S128x128 64#32)

/-- The class's masked scores. -/
def laneS : FVec Ideal S128x128 .f32 :=
  select window (mulf (matmul dot_S128x128_S128x128_S128x128_1_1_0_0_n_n none (flat q) (flat k)
      (constant S128x128 .f32 0x00000000#32)) (broadcast S128x128 (Scalar.ofBits .f32 0x3DB504F3#32)))
    (broadcast S128x128 (Named.named κ "mask" 0xF149F2CA#32))

/-- The class's probabilities. -/
def laneP : FVec Ideal S128x128 .f32 := exp (subf (laneS q k) (rows l))

/-- The class's derivative by the scores. -/
def laneDs : FVec Ideal S128x128 .bf16 :=
  truncf .bf16 (mulf (mulf (laneP q k l) (subf (matmul dot_S128x128_S128x128_S128x128_1_1_0_0_n_n none (flat d) (flat v)
    (constant S128x128 .f32 0x00000000#32)) (rows s))) (broadcast S128x128 (Scalar.ofBits .f32 0x3DB504F3#32))) bitsLt_bf16_f32

/-- The class's part of the first result. -/
def laneDq : FVec Ideal S1x128x128 .bf16 :=
  shapeCast S1x128x128 (truncf .bf16 (matmul dot_S128x128_S128x128_S128x128_1_0_0_1_n_n none (laneDs q k v d l s) (flat k)
    (constant S128x128 .f32 0x00000000#32)) bitsLt_bf16_f32) shapeCasts_S128x128_S1x128x128

/-- The class's part of the second result, added to `z`. -/
def laneDk (z : FVec Ideal S128x128 .f32) : FVec Ideal S128x128 .f32 :=
  shapeCast S128x128 (addf z (matmul dot_S128x128_S128x128_S128x128_0_0_1_1_n_n none (laneDs q k v d l s) (flat q)
    (constant S128x128 .f32 0x00000000#32))) shapeCasts_S128x128_S128x128

/-- The class's part of the third result, added to `z`. -/
def laneDv (z : FVec Ideal S128x128 .f32) : FVec Ideal S128x128 .f32 :=
  shapeCast S128x128 (addf z (matmul dot_S128x128_S128x128_S128x128_0_0_1_1_n_n none
    (truncf .bf16 (laneP q k l) bitsLt_bf16_f32) (flat d) (constant S128x128 .f32 0x00000000#32))) shapeCasts_S128x128_S128x128

end Terms

/-- The six blocks of a class hold the inputs of a head and a residue class. -/
structure Holds (y : Args) (h : Fin 4) (r : Fin 16) (q k v d : FVec Ideal S1x128x128 .bf16) (l s : FVec Ideal S1x128x1 .f32) :
    Prop where
  q : ∀ m e, q (ix3 0 m e) = (((y.inp h r).q m e : ℝ) : EReal)
  k : ∀ m e, k (ix3 0 m e) = (((y.inp h r).k m e : ℝ) : EReal)
  v : ∀ m e, v (ix3 0 m e) = (((y.inp h r).v m e : ℝ) : EReal)
  d : ∀ m e, d (ix3 0 m e) = (((y.inp h r).d m e : ℝ) : EReal)
  l : ∀ m, l (ix3 0 m 0) = (((y.inp h r).lse m : ℝ) : EReal)
  s : ∀ m, s (ix3 0 m 0) = (((y.inp h r).dsum m : ℝ) : EReal)

variable {y : Args} {h : Fin 4} {r : Fin 16} {q k v d : FVec Ideal S1x128x128 .bf16} {l s : FVec Ideal S1x128x1 .f32}

/-- The named mask constant is minus infinity. -/
theorem named_mask : (Named.named (F := Ideal) κ "mask" 0xF149F2CA#32 : Ideal .f32) = (⊥ : EReal) := rfl

/-- Zero added to a word. -/
theorem zero_word (x : BitVec 32) : IntOp.addi 0#32 x = x := BitVec.zero_add x

/-- The scores at coordinates. -/
theorem laneS_at (H : Holds y h r q k v d l s) (m j : Fin 128) : laneS q k (ix2 m j)
    = if Near m j then (((y.inp h r).s m j : ℝ) : EReal) else ⊥ := by
  pointwise [laneS, window, flat]
  rw [zero_word, zero_word, select_near]
  simp only [H.q, H.k, named_mask, Ideal.ofBits_zero_f32, zero_add, ofBits_scl, ← EReal.coe_mul, coe_sum]
  rfl

/-- The probabilities at coordinates. -/
theorem laneP_at (H : Holds y h r q k v d l s) (m j : Fin 128) : laneP q k l (ix2 m j)
    = (((y.inp h r).P m j : ℝ) : EReal) := by
  pointwise [laneP, rows]
  rw [laneS_at H, H.l, exp_ite]; rfl

/-- The derivative by the scores at coordinates. -/
theorem laneDs_at (H : Holds y h r q k v d l s) (m j : Fin 128) : laneDs q k v d l s (ix2 m j)
    = (((y.inp h r).ds m j : ℝ) : EReal) := by
  pointwise [laneDs, rows, flat]
  rw [laneP_at H, H.s]
  simp only [H.d, H.v, Ideal.ofBits_zero_f32, zero_add, ofBits_scl, ← EReal.coe_mul, coe_sum, ← EReal.coe_sub]
  rfl

/-- The class's first result at coordinates. -/
theorem laneDq_at (H : Holds y h r q k v d l s) (m e : Fin 128) : laneDq q k v d l s (ix3 0 m e)
    = (((y.inp h r).dq m e : ℝ) : EReal) := by
  pointwise [laneDq, flat]
  simp only [laneDs_at H, H.k, Ideal.ofBits_zero_f32, zero_add, ← EReal.coe_mul, coe_sum]
  rfl

/-- The class's second result at coordinates, onto zero. -/
theorem laneDk_at (H : Holds y h r q k v d l s) (z : FVec Ideal S128x128 .f32) (j e : Fin 128) (hz : z (ix2 j e) = 0) :
    laneDk q k v d l s z (ix2 j e) = (((y.inp h r).dk j e : ℝ) : EReal) := by
  pointwise [laneDk, flat]
  simp only [hz, laneDs_at H, H.q, Ideal.ofBits_zero_f32, zero_add, ← EReal.coe_mul, coe_sum]
  rfl

/-- The class's third result at coordinates, onto zero. -/
theorem laneDv_at (H : Holds y h r q k v d l s) (z : FVec Ideal S128x128 .f32) (j e : Fin 128) (hz : z (ix2 j e) = 0) :
    laneDv q k d l z (ix2 j e) = (((y.inp h r).dv j e : ℝ) : EReal) := by
  pointwise [laneDv, flat]
  simp only [hz, laneP_at H, H.d, Ideal.ofBits_zero_f32, zero_add, ← EReal.coe_mul, coe_sum]
  rfl

end Cert.Attn.Ker

end
-- ==== Proof.Lanes.lean ====
/- What one grid point of the kernel writes: its sixteen classes of one head. -/
module

public import proofs.«01_k».proof.Proof.Lane

@[expose] public section

set_option maxRecDepth 16384
set_option maxHeartbeats 4000000

noncomputable section

namespace Cert.Attn.Ker

open Idealize.ShloMosaic Idealize.ShloMosaic.TcCoe Cert.KernelIdeal Cert.KernelIdeal.Gen

/-- The six blocks of a grid point hold the inputs of one head. -/
structure Blocks (y : Args) (h : Fin 4) (q k v d : FVec Ideal S1x128x2048 .bf16) (l s : FVec Ideal S1x128x16 .f32) :
    Prop where
  q : ∀ (r : Fin 16) (m e : Fin 128) (i : Fin 2048), i.val = 128 * r.val + e.val → q (ix3 0 m i) = (((y.inp h r).q m e : ℝ) : EReal)
  k : ∀ (r : Fin 16) (m e : Fin 128) (i : Fin 2048), i.val = 128 * r.val + e.val → k (ix3 0 m i) = (((y.inp h r).k m e : ℝ) : EReal)
  v : ∀ (r : Fin 16) (m e : Fin 128) (i : Fin 2048), i.val = 128 * r.val + e.val → v (ix3 0 m i) = (((y.inp h r).v m e : ℝ) : EReal)
  d : ∀ (r : Fin 16) (m e : Fin 128) (i : Fin 2048), i.val = 128 * r.val + e.val → d (ix3 0 m i) = (((y.inp h r).d m e : ℝ) : EReal)
  l : ∀ (r : Fin 16) (m : Fin 128), l (ix3 0 m r) = (((y.inp h r).lse m : ℝ) : EReal)
  s : ∀ (r : Fin 16) (m : Fin 128), s (ix3 0 m r) = (((y.inp h r).dsum m : ℝ) : EReal)

variable {y : Args} {h : Fin 4} {q k v d : FVec Ideal S1x128x2048 .bf16} {l s : FVec Ideal S1x128x16 .f32}

/-- The blocks of one class hold that class's inputs. -/
theorem Blocks.lane (H : Blocks y h q k v d l s) (r : Fin 16) (n c : ℕ) (hn : n = 128 * r.val) (hc : c = r.val)
    (i1 : ∀ a, (![0, 0, n] : Fin 3 → ℕ) a + (![1, 128, 128] : Fin 3 → ℕ) a ≤ S1x128x2048.size a)
    (i2 : ∀ a, (![0, 0, c] : Fin 3 → ℕ) a + (![1, 128, 1] : Fin 3 → ℕ) a ≤ S1x128x16.size a) :
    Holds y h r (View.ld (Val := Elt Ideal) (e' := .bf16) q (Rect.unit ![0, 0, n] ![1, 128, 128] i1))
      (View.ld (Val := Elt Ideal) (e' := .bf16) k (Rect.unit ![0, 0, n] ![1, 128, 128] i1))
      (View.ld (Val := Elt Ideal) (e' := .bf16) v (Rect.unit ![0, 0, n] ![1, 128, 128] i1))
      (View.ld (Val := Elt Ideal) (e' := .bf16) d (Rect.unit ![0, 0, n] ![1, 128, 128] i1))
      (View.ld (Val := Elt Ideal) (e' := .f32) l (Rect.unit ![0, 0, c] ![1, 128, 1] i2))
      (View.ld (Val := Elt Ideal) (e' := .f32) s (Rect.unit ![0, 0, c] ![1, 128, 1] i2)) := by
  subst hc
  refine ⟨fun m e => ?_, fun m e => ?_, fun m e => ?_, fun m e => ?_, fun m => ?_, fun m => ?_⟩
  · pointwise []
    exact H.q r m e _ (by simp only [hn])
  · pointwise []
    exact H.k r m e _ (by simp only [hn])
  · pointwise []
    exact H.v r m e _ (by simp only [hn])
  · pointwise []
    exact H.d r m e _ (by simp only [hn])
  · pointwise []
    exact H.l r m
  · pointwise []
    exact H.s r m

/-- The first result's block. -/
def Gq (y : Args) (h : Fin 4) : FVec Ideal S1x128x2048 .bf16 :=
  fun i => (((y.inp h (Ref.lane (i 2))).dq (i 1) (Ref.chan (i 2)) : ℝ) : EReal)
/-- The second result's block before the last rounding. -/
def Gk (y : Args) (h : Fin 4) : FVec Ideal S128x2048 .f32 :=
  fun i => (((y.inp h (Ref.lane (i 1))).dk (i 0) (Ref.chan (i 1)) : ℝ) : EReal)
/-- The third result's block before the last rounding. -/
def Gv (y : Args) (h : Fin 4) : FVec Ideal S128x2048 .f32 :=
  fun i => (((y.inp h (Ref.lane (i 1))).dv (i 0) (Ref.chan (i 1)) : ℝ) : EReal)

/-- The class of a lane. -/
theorem lane_eq (r : Fin 16) (e : Fin 128) (i : Fin 2048) (hi : i.val = 128 * r.val + e.val) : Ref.lane i = r :=
  Fin.ext (by simp only [Ref.lane]; omega)
/-- The channel of a lane. -/
theorem chan_eq (r : Fin 16) (e : Fin 128) (i : Fin 2048) (hi : i.val = 128 * r.val + e.val) : Ref.chan i = e :=
  Fin.ext (by simp only [Ref.chan]; omega)

/-- The first result's block at a lane of class `r`. -/
theorem Gq_at (r : Fin 16) (m e : Fin 128) (i : Fin 2048) (hi : i.val = 128 * r.val + e.val) :
    Gq y h (ix3 0 m i) = (((y.inp h r).dq m e : ℝ) : EReal) := by
  show (((y.inp h (Ref.lane i)).dq m (Ref.chan i) : ℝ) : EReal) = _
  rw [lane_eq r e i hi, chan_eq r e i hi]
/-- The second result's block at a lane of class `r`. -/
theorem Gk_at (r : Fin 16) (m e : Fin 128) (i : Fin 2048) (hi : i.val = 128 * r.val + e.val) :
    Gk y h (ix2 m i) = (((y.inp h r).dk m e : ℝ) : EReal) := by
  show (((y.inp h (Ref.lane i)).dk m (Ref.chan i) : ℝ) : EReal) = _
  rw [lane_eq r e i hi, chan_eq r e i hi]
/-- The third result's block at a lane of class `r`. -/
theorem Gv_at (r : Fin 16) (m e : Fin 128) (i : Fin 2048) (hi : i.val = 128 * r.val + e.val) :
    Gv y h (ix2 m i) = (((y.inp h r).dv m e : ℝ) : EReal) := by
  show (((y.inp h (Ref.lane i)).dv m (Ref.chan i) : ℝ) : EReal) = _
  rw [lane_eq r e i hi, chan_eq r e i hi]

/-- A class's first result is a block of the whole. -/
theorem piece_q (r : Fin 16) (n : ℕ) (hn : n = 128 * r.val)
    (i1 : ∀ a, (![0, 0, n] : Fin 3 → ℕ) a + (![1, 128, 128] : Fin 3 → ℕ) a ≤ S1x128x2048.size a)
    {q k v d : FVec Ideal S1x128x128 .bf16} {l s : FVec Ideal S1x128x1 .f32} (H : Holds y h r q k v d l s)
    (x : S1x128x128.Idx) :
    laneDq q k v d l s x = Gq y h ((Rect.unit (s := S1x128x2048) ![0, 0, n] ![1, 128, 128] i1).emb x) := by
  idx_vars x
  obtain rfl : x0 = 0 := Subsingleton.elim _ _
  rw [laneDq_at H, show (Rect.unit (s := S1x128x2048) ![0, 0, n] ![1, 128, 128] i1).emb (ix3 0 x1 x2)
    = ix3 0 x1 ⟨128 * r.val + x2.val, by omega⟩ from ?_, Gq_at r x1 x2 _ rfl]
  subst hn
  funext b
  apply Fin.ext
  fin_cases b
  · rw [Rect.emb_apply]
    simp [Rect.unit, ix2, ix3]
  · rw [Rect.emb_apply]
    simp [Rect.unit, ix2, ix3]
  · rw [Rect.emb_apply]
    simp [Rect.unit, ix2, ix3]

/-- The place of a class in the running sums. -/
theorem emb_sum (r : Fin 16) (n : ℕ) (hn : n = 128 * r.val)
    (i1 : ∀ a, (![0, n] : Fin 2 → ℕ) a + (![128, 128] : Fin 2 → ℕ) a ≤ S128x2048.size a) (x0 x1 : Fin 128) :
    (Rect.unit (s := S128x2048) ![0, n] ![128, 128] i1).emb (ix2 x0 x1) = ix2 x0 ⟨128 * r.val + x1.val, by omega⟩ := by
  subst hn
  funext b
  apply Fin.ext
  fin_cases b
  · rw [Rect.emb_apply]
    simp [Rect.unit, ix2, ix3]
  · rw [Rect.emb_apply]
    simp [Rect.unit, ix2, ix3]

/-- A class's second result onto zero is a block of the whole. -/
theorem piece_k (r : Fin 16) (n : ℕ) (hn : n = 128 * r.val)
    (i1 : ∀ a, (![0, n] : Fin 2 → ℕ) a + (![128, 128] : Fin 2 → ℕ) a ≤ S128x2048.size a)
    {q k v d : FVec Ideal S1x128x128 .bf16} {l s : FVec Ideal S1x128x1 .f32} (H : Holds y h r q k v d l s)
    (z : FVec Ideal S128x128 .f32) (hz : ∀ i, z i = 0) (x : S128x128.Idx) :
    laneDk q k v d l s z x = Gk y h ((Rect.unit (s := S128x2048) ![0, n] ![128, 128] i1).emb x) := by
  idx_vars x
  rw [laneDk_at H z _ _ (hz _), emb_sum r n hn, Gk_at r x0 x1 _ rfl]

/-- A class's third result onto zero is a block of the whole. -/
theorem piece_v (r : Fin 16) (n : ℕ) (hn : n = 128 * r.val)
    (i1 : ∀ a, (![0, n] : Fin 2 → ℕ) a + (![128, 128] : Fin 2 → ℕ) a ≤ S128x2048.size a)
    {q k v d : FVec Ideal S1x128x128 .bf16} {l s : FVec Ideal S1x128x1 .f32} (H : Holds y h r q k v d l s)
    (z : FVec Ideal S128x128 .f32) (hz : ∀ i, z i = 0) (x : S128x128.Idx) :
    laneDv q k d l z x = Gv y h ((Rect.unit (s := S128x2048) ![0, n] ![128, 128] i1).emb x) := by
  idx_vars x
  rw [laneDv_at H z _ _ (hz _), emb_sum r n hn, Gv_at r x0 x1 _ rfl]

/-- The fill of the running sums is zero. -/
theorem fill_k (r : Rect S128x2048) (i : r.shape.Idx) : View.ld (Val := Elt Ideal) (e' := .f32) (k0_pay3 (F := Ideal)) r i = 0 := by
  show Ideal.ofBits .f32 0#32 = 0
  exact Ideal.ofBits_zero_f32
/-- The fill of the running sums is zero. -/
theorem fill_v (r : Rect S128x2048) (i : r.shape.Idx) : View.ld (Val := Elt Ideal) (e' := .f32) (k0_pay4 (F := Ideal)) r i = 0 := by
  show Ideal.ofBits .f32 0#32 = 0
  exact Ideal.ofBits_zero_f32

/-- Sixteen stores that are blocks of `G` over a first store leave `G` wherever one of them covers. -/
theorem canon_over {Val : EltTy → Type} {s : Shape} {e : EltTy} [∀ e, Nonempty (Val e)] (G : s.Idx → Val e)
    (p0 p1 p2 p3 p4 p5 p6 p7 p8 p9 p10 p11 p12 p13 p14 p15 b : View.Piece Val s e) (y : s.Idx)
    (h : View.PiecesOf G [p0, p1, p2, p3, p4, p5, p6, p7, p8, p9, p10, p11, p12, p13, p14, p15]) (hc : ∃ p ∈ [p0, p1, p2, p3, p4, p5, p6, p7, p8, p9, p10, p11, p12, p13, p14, p15], y ∈ p.1.set) :
    View.canon [p0, p1, p2, p3, p4, p5, p6, p7, p8, p9, p10, p11, p12, p13, p14, p15, b] y = G y :=
  View.canon_append_of_piecesOf G [b] [p0, p1, p2, p3, p4, p5, p6, p7, p8, p9, p10, p11, p12, p13, p14, p15] h y hc

/-- Loading the whole array reads each index where it is. -/
theorem whole_idx (i1 : ∀ a, (![0, 0] : Fin 2 → ℕ) a + (![128, 2048] : Fin 2 → ℕ) a ≤ S128x2048.size a) (i : S128x2048.Idx) :
    (Rect.unit (s := S128x2048) ![0, 0] ![128, 2048] i1).toLoadRect.idx i = i := by
  funext b
  apply Fin.ext
  fin_cases b
  · show 0 + 1 * (i 0).val = (i 0).val; omega
  · show 0 + 1 * (i 1).val = (i 1).val; omega

end Cert.Attn.Ker

end
-- ==== Proof.BlockQ.lean ====
/- The first result's block after one grid point of the kernel. -/
module

public import proofs.«01_k».proof.Proof.Lanes

@[expose] public section

set_option maxRecDepth 16384
set_option maxHeartbeats 4000000

noncomputable section

namespace Cert.Attn.Ker

open Idealize.ShloMosaic Idealize.ShloMosaic.TcCoe Cert.KernelIdeal Cert.KernelIdeal.Gen

variable {y : Args} {h : Fin 4} (m : (ℓ : Loc nD τ sig) → Buf (Elt Ideal) ℓ) (c : Dev nD) (t : Fin cfg0.N)

/-- The first result's block after a grid point. -/
theorem out_q (H : Blocks y h (iblk m c 0 t) (iblk m c 1 t) (iblk m c 2 t) (iblk m c 3 t) (iblk m c 4 t) (iblk m c 5 t))
    (j : S1x128x2048.Idx) : (outsAt0 m c t).1 j = Gq y h j := by
  unfold outsAt0
  dsimp only
  frame_open
  frame_out
  refine View.canon_apply_of_pieces (Val := Elt Ideal) (e := .bf16) (Gq y h) _ (View.PiecesOf.mem ?_) j
    (View.cover_of_tiledL (s := S1x128x2048) _ S1x128x128.size (by sl_kernel_rfl) j)
  refine ⟨fun x => piece_q 15 1920 rfl (by decide) (H.lane 15 1920 15 rfl rfl (by decide) (by decide)) x,
    fun x => piece_q 14 1792 rfl (by decide) (H.lane 14 1792 14 rfl rfl (by decide) (by decide)) x,
    fun x => piece_q 13 1664 rfl (by decide) (H.lane 13 1664 13 rfl rfl (by decide) (by decide)) x,
    fun x => piece_q 12 1536 rfl (by decide) (H.lane 12 1536 12 rfl rfl (by decide) (by decide)) x,
    fun x => piece_q 11 1408 rfl (by decide) (H.lane 11 1408 11 rfl rfl (by decide) (by decide)) x,
    fun x => piece_q 10 1280 rfl (by decide) (H.lane 10 1280 10 rfl rfl (by decide) (by decide)) x,
    fun x => piece_q 9 1152 rfl (by decide) (H.lane 9 1152 9 rfl rfl (by decide) (by decide)) x,
    fun x => piece_q 8 1024 rfl (by decide) (H.lane 8 1024 8 rfl rfl (by decide) (by decide)) x,
    fun x => piece_q 7 896 rfl (by decide) (H.lane 7 896 7 rfl rfl (by decide) (by decide)) x,
    fun x => piece_q 6 768 rfl (by decide) (H.lane 6 768 6 rfl rfl (by decide) (by decide)) x,
    fun x => piece_q 5 640 rfl (by decide) (H.lane 5 640 5 rfl rfl (by decide) (by decide)) x,
    fun x => piece_q 4 512 rfl (by decide) (H.lane 4 512 4 rfl rfl (by decide) (by decide)) x,
    fun x => piece_q 3 384 rfl (by decide) (H.lane 3 384 3 rfl rfl (by decide) (by decide)) x,
    fun x => piece_q 2 256 rfl (by decide) (H.lane 2 256 2 rfl rfl (by decide) (by decide)) x,
    fun x => piece_q 1 128 rfl (by decide) (H.lane 1 128 1 rfl rfl (by decide) (by decide)) x,
    fun x => piece_q 0 0 rfl (by decide) (H.lane 0 0 0 rfl rfl (by decide) (by decide)) x,
    trivial⟩

end Cert.Attn.Ker

end
-- ==== Proof.BlockK.lean ====
/- The second result's block after one grid point of the kernel. -/
module

public import proofs.«01_k».proof.Proof.Lanes

@[expose] public section

set_option maxRecDepth 16384
set_option maxHeartbeats 4000000

noncomputable section

namespace Cert.Attn.Ker

open Idealize.ShloMosaic Idealize.ShloMosaic.TcCoe Cert.KernelIdeal Cert.KernelIdeal.Gen

variable {y : Args} {h : Fin 4} (m : (ℓ : Loc nD τ sig) → Buf (Elt Ideal) ℓ) (c : Dev nD) (t : Fin cfg0.N)

/-- The second result's block after a grid point. -/
theorem out_k (H : Blocks y h (iblk m c 0 t) (iblk m c 1 t) (iblk m c 2 t) (iblk m c 3 t) (iblk m c 4 t) (iblk m c 5 t))
    (j : S1x128x2048.Idx) : (outsAt0 m c t).2.1 j = Gk y h (ix2 (j 1) (j 2)) := by
  unfold outsAt0
  dsimp only
  frame_open
  simp (disch := decide) only [↓ View.readCov_skip, ↓ View.readCov_cons_toLoadRect, ↓ View.readCov_fill]
  frame_out
  idx_vars j
  obtain rfl : j0 = 0 := Subsingleton.elim _ _
  pointwise [k0_pay1]
  rw [View.readCov_eq_canon']
  refine (canon_over (Val := Elt Ideal) (e := .f32) (Gk y h) _ _ _ _ _ _ _ _ _ _ _ _ _ _ _ _ _ _ ?_
    (View.cover_of_tiledL (s := S128x2048) _ S128x128.size (by sl_kernel_rfl) _)).trans (congrArg (Gk y h) (whole_idx _ _))
  refine ⟨fun x => piece_k 15 1920 rfl (by decide) (H.lane 15 1920 15 rfl rfl (by decide) (by decide)) _ (fun _ => Ideal.ofBits_zero_f32) x,
    fun x => piece_k 14 1792 rfl (by decide) (H.lane 14 1792 14 rfl rfl (by decide) (by decide)) _ (fun _ => Ideal.ofBits_zero_f32) x,
    fun x => piece_k 13 1664 rfl (by decide) (H.lane 13 1664 13 rfl rfl (by decide) (by decide)) _ (fun _ => Ideal.ofBits_zero_f32) x,
    fun x => piece_k 12 1536 rfl (by decide) (H.lane 12 1536 12 rfl rfl (by decide) (by decide)) _ (fun _ => Ideal.ofBits_zero_f32) x,
    fun x => piece_k 11 1408 rfl (by decide) (H.lane 11 1408 11 rfl rfl (by decide) (by decide)) _ (fun _ => Ideal.ofBits_zero_f32) x,
    fun x => piece_k 10 1280 rfl (by decide) (H.lane 10 1280 10 rfl rfl (by decide) (by decide)) _ (fun _ => Ideal.ofBits_zero_f32) x,
    fun x => piece_k 9 1152 rfl (by decide) (H.lane 9 1152 9 rfl rfl (by decide) (by decide)) _ (fun _ => Ideal.ofBits_zero_f32) x,
    fun x => piece_k 8 1024 rfl (by decide) (H.lane 8 1024 8 rfl rfl (by decide) (by decide)) _ (fun _ => Ideal.ofBits_zero_f32) x,
    fun x => piece_k 7 896 rfl (by decide) (H.lane 7 896 7 rfl rfl (by decide) (by decide)) _ (fun _ => Ideal.ofBits_zero_f32) x,
    fun x => piece_k 6 768 rfl (by decide) (H.lane 6 768 6 rfl rfl (by decide) (by decide)) _ (fun _ => Ideal.ofBits_zero_f32) x,
    fun x => piece_k 5 640 rfl (by decide) (H.lane 5 640 5 rfl rfl (by decide) (by decide)) _ (fun _ => Ideal.ofBits_zero_f32) x,
    fun x => piece_k 4 512 rfl (by decide) (H.lane 4 512 4 rfl rfl (by decide) (by decide)) _ (fun _ => Ideal.ofBits_zero_f32) x,
    fun x => piece_k 3 384 rfl (by decide) (H.lane 3 384 3 rfl rfl (by decide) (by decide)) _ (fun _ => Ideal.ofBits_zero_f32) x,
    fun x => piece_k 2 256 rfl (by decide) (H.lane 2 256 2 rfl rfl (by decide) (by decide)) _ (fun _ => Ideal.ofBits_zero_f32) x,
    fun x => piece_k 1 128 rfl (by decide) (H.lane 1 128 1 rfl rfl (by decide) (by decide)) _ (fun _ => Ideal.ofBits_zero_f32) x,
    fun x => piece_k 0 0 rfl (by decide) (H.lane 0 0 0 rfl rfl (by decide) (by decide)) _ (fun _ => Ideal.ofBits_zero_f32) x,
    trivial⟩

end Cert.Attn.Ker

end
-- ==== Proof.BlockV.lean ====
/- The third result's block after one grid point of the kernel. -/
module

public import proofs.«01_k».proof.Proof.Lanes

@[expose] public section

set_option maxRecDepth 16384
set_option maxHeartbeats 4000000

noncomputable section

namespace Cert.Attn.Ker

open Idealize.ShloMosaic Idealize.ShloMosaic.TcCoe Cert.KernelIdeal Cert.KernelIdeal.Gen

variable {y : Args} {h : Fin 4} (m : (ℓ : Loc nD τ sig) → Buf (Elt Ideal) ℓ) (c : Dev nD) (t : Fin cfg0.N)

/-- The third result's block after a grid point. -/
theorem out_v (H : Blocks y h (iblk m c 0 t) (iblk m c 1 t) (iblk m c 2 t) (iblk m c 3 t) (iblk m c 4 t) (iblk m c 5 t))
    (j : S1x128x2048.Idx) : (outsAt0 m c t).2.2 j = Gv y h (ix2 (j 1) (j 2)) := by
  unfold outsAt0
  dsimp only
  frame_open
  simp (disch := decide) only [↓ View.readCov_skip, ↓ View.readCov_cons_toLoadRect, ↓ View.readCov_fill]
  frame_out
  idx_vars j
  obtain rfl : j0 = 0 := Subsingleton.elim _ _
  pointwise [k0_pay2]
  rw [View.readCov_eq_canon']
  refine (canon_over (Val := Elt Ideal) (e := .f32) (Gv y h) _ _ _ _ _ _ _ _ _ _ _ _ _ _ _ _ _ _ ?_
    (View.cover_of_tiledL (s := S128x2048) _ S128x128.size (by sl_kernel_rfl) _)).trans (congrArg (Gv y h) (whole_idx _ _))
  refine ⟨fun x => piece_v 15 1920 rfl (by decide) (H.lane 15 1920 15 rfl rfl (by decide) (by decide)) _ (fun _ => Ideal.ofBits_zero_f32) x,
    fun x => piece_v 14 1792 rfl (by decide) (H.lane 14 1792 14 rfl rfl (by decide) (by decide)) _ (fun _ => Ideal.ofBits_zero_f32) x,
    fun x => piece_v 13 1664 rfl (by decide) (H.lane 13 1664 13 rfl rfl (by decide) (by decide)) _ (fun _ => Ideal.ofBits_zero_f32) x,
    fun x => piece_v 12 1536 rfl (by decide) (H.lane 12 1536 12 rfl rfl (by decide) (by decide)) _ (fun _ => Ideal.ofBits_zero_f32) x,
    fun x => piece_v 11 1408 rfl (by decide) (H.lane 11 1408 11 rfl rfl (by decide) (by decide)) _ (fun _ => Ideal.ofBits_zero_f32) x,
    fun x => piece_v 10 1280 rfl (by decide) (H.lane 10 1280 10 rfl rfl (by decide) (by decide)) _ (fun _ => Ideal.ofBits_zero_f32) x,
    fun x => piece_v 9 1152 rfl (by decide) (H.lane 9 1152 9 rfl rfl (by decide) (by decide)) _ (fun _ => Ideal.ofBits_zero_f32) x,
    fun x => piece_v 8 1024 rfl (by decide) (H.lane 8 1024 8 rfl rfl (by decide) (by decide)) _ (fun _ => Ideal.ofBits_zero_f32) x,
    fun x => piece_v 7 896 rfl (by decide) (H.lane 7 896 7 rfl rfl (by decide) (by decide)) _ (fun _ => Ideal.ofBits_zero_f32) x,
    fun x => piece_v 6 768 rfl (by decide) (H.lane 6 768 6 rfl rfl (by decide) (by decide)) _ (fun _ => Ideal.ofBits_zero_f32) x,
    fun x => piece_v 5 640 rfl (by decide) (H.lane 5 640 5 rfl rfl (by decide) (by decide)) _ (fun _ => Ideal.ofBits_zero_f32) x,
    fun x => piece_v 4 512 rfl (by decide) (H.lane 4 512 4 rfl rfl (by decide) (by decide)) _ (fun _ => Ideal.ofBits_zero_f32) x,
    fun x => piece_v 3 384 rfl (by decide) (H.lane 3 384 3 rfl rfl (by decide) (by decide)) _ (fun _ => Ideal.ofBits_zero_f32) x,
    fun x => piece_v 2 256 rfl (by decide) (H.lane 2 256 2 rfl rfl (by decide) (by decide)) _ (fun _ => Ideal.ofBits_zero_f32) x,
    fun x => piece_v 1 128 rfl (by decide) (H.lane 1 128 1 rfl rfl (by decide) (by decide)) _ (fun _ => Ideal.ofBits_zero_f32) x,
    fun x => piece_v 0 0 rfl (by decide) (H.lane 0 0 0 rfl rfl (by decide) (by decide)) _ (fun _ => Ideal.ofBits_zero_f32) x,
    trivial⟩

end Cert.Attn.Ker

end
-- ==== Proof.Entry.lean ====
/- The blocks of each grid point and the three result arrays of the kernel. -/
module

public import proofs.«01_k».proof.Proof.HostB
public import proofs.«01_k».proof.Proof.HostC
public import proofs.«01_k».proof.Proof.BlockQ
public import proofs.«01_k».proof.Proof.BlockK
public import proofs.«01_k».proof.Proof.BlockV

@[expose] public section

set_option maxRecDepth 16384

noncomputable section

namespace Cert.Attn.Ker

open Idealize.ShloMosaic Idealize.ShloMosaic.TcCoe Cert.KernelIdeal Cert.KernelIdeal.Gen

variable (m : (ℓ : Loc nD τ sig) → Buf (Elt Ideal) ℓ) (c : Dev nD)

/-- Every window's block of a grid point is that head's block. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, _)

/-- The head of a grid point. -/
def head (t : Fin cfg0.N) : Fin 4 := ⟨t.val, t.isLt⟩

/-- The queries' block. -/
theorem iblk_q (t : Fin cfg0.N) (a : Fin 128) (i : Fin 2048) :
    iblk m c 0 t (ix3 0 a i) = V m c main_v69 (ix3 (head t) a i) := by
  unfold iblk
  blk_ext [idx t, head]
/-- The keys' block. -/
theorem iblk_k (t : Fin cfg0.N) (a : Fin 128) (i : Fin 2048) :
    iblk m c 1 t (ix3 0 a i) = V m c main_v73 (ix3 (head t) a i) := by
  unfold iblk
  blk_ext [idx t, head]
/-- The values' block. -/
theorem iblk_v (t : Fin cfg0.N) (a : Fin 128) (i : Fin 2048) :
    iblk m c 2 t (ix3 0 a i) = V m c main_v77 (ix3 (head t) a i) := by
  unfold iblk
  blk_ext [idx t, head]
/-- The gradient's block. -/
theorem iblk_d (t : Fin cfg0.N) (a : Fin 128) (i : Fin 2048) :
    iblk m c 3 t (ix3 0 a i) = V m c main_v81 (ix3 (head t) a i) := by
  unfold iblk
  blk_ext [idx t, head]
/-- The log-denominators' block. -/
theorem iblk_l (t : Fin cfg0.N) (a : Fin 128) (i : Fin 16) :
    iblk m c 4 t (ix3 0 a i) = V m c main_v84 (ix3 (head t) a i) := by
  unfold iblk
  blk_ext [idx t, head]
/-- The inner products' block. -/
theorem iblk_s (t : Fin cfg0.N) (a : Fin 128) (i : Fin 16) :
    iblk m c 5 t (ix3 0 a i) = V m c main_v87 (ix3 (head t) a i) := by
  unfold iblk
  blk_ext [idx t, head]

/-- The arguments are the given real arrays. -/
structure Holding (y : Args) : Prop where
  q : mq m c = up y.q
  k : mk m c = up y.k
  v : mv m c = up y.v
  o0 : mo0 m c = up y.o0
  l0 : ml0 m c = up y.l0
  o1 : mo1 m c = up y.o1
  l1 : ml1 m c = up y.l1
  d : md m c = up y.d

variable {m c} {y : Args}

/-- The blocks of a grid point hold one head's inputs. -/
theorem Holding.blocks (H : Holding m c y) (t : Fin cfg0.N) :
    Blocks y (head t) (iblk m c 0 t) (iblk m c 1 t) (iblk m c 2 t) (iblk m c 3 t) (iblk m c 4 t) (iblk m c 5 t) where
  q r a e i hi := by rw [iblk_q, V_q, H.q]; exact lanes_at (head t) r y.q a e i hi
  k r a e i hi := by rw [iblk_k, V_k, H.k]; exact lanes_at (head t) r y.k a e i hi
  v r a e i hi := by rw [iblk_v, V_v, H.v]; exact lanes_at (head t) r y.v a e i hi
  d r a e i hi := by rw [iblk_d, V_d, H.d]; exact lanes_at (head t) r y.d a e i hi
  l r a := by
    rw [iblk_l, V_lse, H.q, H.k, H.l0, H.l1]
    refine (cols_at (head t) r _ a).trans ((lse_at y (head t) (row r a)).trans ?_)
    rw [res_row, quo_row]
  s r a := by
    rw [iblk_s, V_dsum, H.q, H.k, H.v, H.o0, H.o1, H.d, H.l0, H.l1]
    refine (cols_at (head t) r _ a).trans ((dsum_at y (head t) (row r a)).trans ?_)
    rw [res_row, quo_row]

/-- The gradient by the queries, by head. -/
def Rq (y : Args) : FVec Ideal S4x128x2048 .bf16 :=
  fun i => (((y.inp (i 0) (Ref.lane (i 2))).dq (i 1) (Ref.chan (i 2)) : ℝ) : EReal)
/-- The gradient by the keys, by head. -/
def Rk (y : Args) : FVec Ideal S4x128x2048 .bf16 :=
  fun i => (((y.inp (i 0) (Ref.lane (i 2))).dk (i 1) (Ref.chan (i 2)) : ℝ) : EReal)
/-- The gradient by the values, by head. -/
def Rv (y : Args) : FVec Ideal S4x128x2048 .bf16 :=
  fun i => (((y.inp (i 0) (Ref.lane (i 2))).dv (i 1) (Ref.chan (i 2)) : ℝ) : EReal)

/-- Where the result's block of a grid point lies. -/
theorem emb_q (t : Fin cfg0.N) (a : Fin 128) (i : Fin 2048) :
    ((cfg0.win 6).blk t).view.emb (ix3 0 a i) = ix3 (head t) a i := by
  blk_ext [idx t, head]

/-- Where the result's block of a grid point lies. -/
theorem emb_k (t : Fin cfg0.N) (a : Fin 128) (i : Fin 2048) :
    ((cfg0.win 7).blk t).view.emb (ix3 0 a i) = ix3 (head t) a i := by
  blk_ext [idx t, head]

/-- Where the result's block of a grid point lies. -/
theorem emb_v (t : Fin cfg0.N) (a : Fin 128) (i : Fin 2048) :
    ((cfg0.win 8).blk t).view.emb (ix3 0 a i) = ix3 (head t) a i := by
  blk_ext [idx t, head]

/-- A result array is the gradient by the queries. -/
theorem Holding.arr_q (H : Holding m c y) : (dats m 0 c).arrAt 6 cfg0.N = Rq y := by
  refine (dats m 0 c).arrAt_eq_of_covers 6 _ (by decide +kernel) fun t hf j => ?_
  blk_simp
  rw [after0_6]
  idx_vars j
  obtain rfl : j0 = 0 := Subsingleton.elim _ _
  refine (out_q m c t (H.blocks t) _).trans ?_
  exact (congrArg (Rq y) (emb_q t j1 j2)).symm

/-- A result array is the gradient by the keys. -/
theorem Holding.arr_k (H : Holding m c y) : (dats m 0 c).arrAt 7 cfg0.N = Rk y := by
  refine (dats m 0 c).arrAt_eq_of_covers 7 _ (by decide +kernel) fun t hf j => ?_
  blk_simp
  rw [after0_7]
  idx_vars j
  obtain rfl : j0 = 0 := Subsingleton.elim _ _
  refine (out_k m c t (H.blocks t) _).trans ?_
  exact (congrArg (Rk y) (emb_k t j1 j2)).symm

/-- A result array is the gradient by the values. -/
theorem Holding.arr_v (H : Holding m c y) : (dats m 0 c).arrAt 8 cfg0.N = Rv y := by
  refine (dats m 0 c).arrAt_eq_of_covers 8 _ (by decide +kernel) fun t hf j => ?_
  blk_simp
  rw [after0_8]
  idx_vars j
  obtain rfl : j0 = 0 := Subsingleton.elim _ _
  refine (out_v m c t (H.blocks t) _).trans ?_
  exact (congrArg (Rv y) (emb_v t j1 j2)).symm

end Cert.Attn.Ker

end
-- ==== Proof.Finite.lean ====
/- The precondition: every number of the arguments is a real number. -/
module

public import proofs.«01_k».proof.Proof.Layout
public import proofs.«01_k».proof.Proof.Gen.Pre_finite
public import proofs.«01_k».proof.Defs
public import Idealize.ShloMosaic.Lib.ReduceAll
public import Idealize.ShloMosaic.Lib.Affine

@[expose] public section

noncomputable section

namespace Cert.Attn

open Idealize.ShloMosaic

/-- A number whose absolute value is below the infinite one is a real number. -/
theorem real_of_lt (x : EReal) (h : FloatOps.cmpf (F := Ideal) (φ := .f32) .olt (FloatOps.absf (F := Ideal) (φ := .f32) x)
    (Ideal.ofBits .f32 0x7F800000#32) = 1#1) : x ≠ ⊤ ∧ x ≠ ⊥ := by
  rw [show Ideal.ofBits .f32 0x7F800000#32 = ⊤ by simp [Ideal.ofBits, Ideal.ieee]] at h
  constructor
  · rintro rfl
    revert h
    simp [FloatOps.cmpf, FloatOps.absf, Ideal.cmp]
  · rintro rfl
    revert h
    simp [FloatOps.cmpf, FloatOps.absf, Ideal.cmp]

/-- The eight arguments of a memory where the precondition holds are real arrays. -/
theorem finite_args (q k v o0 : FVec Ideal Pre_finite.S1x2048x4x128 .f32) (l0 : FVec Ideal Pre_finite.S1x2048x4 .f32)
    (o1 : FVec Ideal Pre_finite.S1x2048x4x128 .f32) (l1 : FVec Ideal Pre_finite.S1x2048x4 .f32)
    (d : FVec Ideal Pre_finite.S1x2048x4x128 .f32)
    (h : @Pre_finite.fn Pre_finite.Gen.facts Ideal _ q k v o0 l0 o1 l1 d = fun _ => 1#1) :
    (∀ i, q i ≠ ⊤ ∧ q i ≠ ⊥) ∧ (∀ i, k i ≠ ⊤ ∧ k i ≠ ⊥) ∧ (∀ i, v i ≠ ⊤ ∧ v i ≠ ⊥) ∧ (∀ i, o0 i ≠ ⊤ ∧ o0 i ≠ ⊥)
      ∧ (∀ i, l0 i ≠ ⊤ ∧ l0 i ≠ ⊥) ∧ (∀ i, o1 i ≠ ⊤ ∧ o1 i ≠ ⊥) ∧ (∀ i, l1 i ≠ ⊤ ∧ l1 i ≠ ⊥) ∧ (∀ i, d i ≠ ⊤ ∧ d i ≠ ⊥) := by
  have := Pre_finite.Gen.facts
  have e := congrFun h (fun a => a.elim0)
  simp only [Pre_finite.fn, Pre_finite.fn_part1, Pre_finite.fn_part2, andi, IntOp.andi_eq_one] at e
  obtain ⟨⟨⟨⟨⟨⟨⟨⟨-, h0⟩, h1⟩, h2⟩, h3⟩, h4⟩, h5⟩, h6⟩, h7⟩ := e
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i),
    fun i => real_of_lt _ (Host.reduce_andi_all _ _ _ _ _ h6 i), fun i => real_of_lt _ (Host.reduce_andi_all _ _ _ _ _ h7 i)⟩

end Cert.Attn

end
-- ==== Proof.Attention.lean ====
/- The kernel's three result arrays are the reference's, from memories agreeing on real arguments. -/
module

public import proofs.«01_k».proof.Proof.Entry
public import proofs.«01_k».proof.Proof.Finite
public import proofs.«01_k».proof.Proof.Gen.Kernel.Frame
public import proofs.«01_k».proof.Proof.Gen.ReferenceIdeal.Run
public import proofs.«01_k».proof.Proof.Gen.ReferenceIdeal.Read

@[expose] public section

set_option maxRecDepth 16384

noncomputable section

namespace Cert.Attn

open Idealize.ShloMosaic Idealize.SL.Sem

/-- The reference's first result is the gradient by the queries. -/
theorem ref_q (y : Args) : ReferenceIdeal.Read.val_main_v150 (F := Ideal) (up y.q) (up y.k) (up y.v) (up y.o0) (up y.l0) (up y.o1)
    (up y.l1) (up y.d) = Ker.Rq y := by
  funext i
  idx_vars i
  exact Ref.v150 y i0 i1 i2
/-- The reference's second result is the gradient by the keys. -/
theorem ref_k (y : Args) : ReferenceIdeal.Read.val_main_v154 (F := Ideal) (up y.q) (up y.k) (up y.v) (up y.o0) (up y.l0) (up y.o1)
    (up y.l1) (up y.d) = Ker.Rk y := by
  funext i
  idx_vars i
  exact Ref.v154 y i0 i1 i2
/-- The reference's third result is the gradient by the values. -/
theorem ref_v (y : Args) : ReferenceIdeal.Read.val_main_v158 (F := Ideal) (up y.q) (up y.k) (up y.l0) (up y.l1) (up y.d)
    = Ker.Rv y := by
  funext i
  idx_vars i
  exact Ref.v158 y i0 i1 i2

/-- The real arrays of a device's arguments. -/
def args (m : (ℓ : Loc KernelIdeal.nD KernelIdeal.τ KernelIdeal.sig) → Buf (Elt Ideal) ℓ) (c : Dev KernelIdeal.nD) : Args where
  q i := (Ker.mq m c i).toReal
  k i := (Ker.mk m c i).toReal
  v i := (Ker.mv m c i).toReal
  o0 i := (Ker.mo0 m c i).toReal
  l0 i := (Ker.ml0 m c i).toReal
  o1 i := (Ker.mo1 m c i).toReal
  l1 i := (Ker.ml1 m c i).toReal
  d i := (Ker.md m c i).toReal

/-- Under the precondition the arguments are those real arrays. -/
theorem holding (m : (ℓ : Loc KernelIdeal.nD KernelIdeal.τ KernelIdeal.sig) → Buf (Elt Ideal) ℓ)
    (hp : @Pre_KernelIdeal_finite Pre_finite.Gen.facts m) (c : Dev KernelIdeal.nD) : Ker.Holding m c (args m c) := by
  obtain ⟨h0, h1, h2, h3, h4, h5, h6, h7⟩ := finite_args _ _ _ _ _ _ _ _ (hp c)
  exact ⟨up_toReal _ h0, up_toReal _ h1, up_toReal _ h2, up_toReal _ h3, up_toReal _ h4, up_toReal _ h5, up_toReal _ h6,
    up_toReal _ h7⟩

variable {m : (ℓ : Loc KernelIdeal.nD KernelIdeal.τ KernelIdeal.sig) → Buf (Elt Ideal) ℓ} {c : Dev KernelIdeal.nD} {y : Args}
  {q k v o0 o1 d : FVec Ideal KernelIdeal.S1x2048x4x128 .f32} {l0 l1 : FVec Ideal KernelIdeal.S1x2048x4 .f32}

/-- The reference's first result at the kernel's arguments. -/
theorem ref_q_at (H : Ker.Holding m c y) (e0 : q = Ker.mq m c) (e1 : k = Ker.mk m c) (e2 : v = Ker.mv m c) (e3 : o0 = Ker.mo0 m c)
    (e4 : l0 = Ker.ml0 m c) (e5 : o1 = Ker.mo1 m c) (e6 : l1 = Ker.ml1 m c) (e7 : d = Ker.md m c) :
    ReferenceIdeal.Read.val_main_v150 (F := Ideal) q k v o0 l0 o1 l1 d = Ker.Rq y := by
  rw [e0, e1, e2, e3, e4, e5, e6, e7, H.q, H.k, H.v, H.o0, H.l0, H.o1, H.l1, H.d, ref_q]
/-- The reference's second result at the kernel's arguments. -/
theorem ref_k_at (H : Ker.Holding m c y) (e0 : q = Ker.mq m c) (e1 : k = Ker.mk m c) (e2 : v = Ker.mv m c) (e3 : o0 = Ker.mo0 m c)
    (e4 : l0 = Ker.ml0 m c) (e5 : o1 = Ker.mo1 m c) (e6 : l1 = Ker.ml1 m c) (e7 : d = Ker.md m c) :
    ReferenceIdeal.Read.val_main_v154 (F := Ideal) q k v o0 l0 o1 l1 d = Ker.Rk y := by
  rw [e0, e1, e2, e3, e4, e5, e6, e7, H.q, H.k, H.v, H.o0, H.l0, H.o1, H.l1, H.d, ref_k]
/-- The reference's third result at the kernel's arguments. -/
theorem ref_v_at (H : Ker.Holding m c y) (e0 : q = Ker.mq m c) (e1 : k = Ker.mk m c)
    (e4 : l0 = Ker.ml0 m c) (e6 : l1 = Ker.ml1 m c) (e7 : d = Ker.md m c) :
    ReferenceIdeal.Read.val_main_v158 (F := Ideal) q k l0 l1 d = Ker.Rv y := by
  rw [e0, e1, e4, e6, e7, H.q, H.k, H.l0, H.l1, H.d, ref_v]

/-- The reference runs and leaves its arguments. -/
theorem frame_ref : @quiescent_ReferenceIdeal ReferenceIdeal.Gen.facts := fun m ρ _ =>
  (θ_run ReferenceIdeal.defs _ _).mono (fun r h => ⟨fun c => (h c).2.2.2, sem_eq_zero_of_no_sems (by decide) r.2⟩)
    (ReferenceIdeal.Value.run (F := Ideal) m ρ)

/-- The value claim: the kernel and the reference leave the same three gradients. -/
theorem value : @algebraic_KernelIdeal_ReferenceIdeal_pre_finite KernelIdeal.Gen.facts ReferenceIdeal.Gen.facts Pre_finite.Gen.facts := by
  intro m g m' g' hp he
  refine ⟨fun c => Ker.Rq (args m c), fun c => Ker.Rk (args m c), fun c => Ker.Rv (args m c), ?_, ?_⟩
  · refine (θ_run _ _ _).mono (fun r h c => ?_) (KernelIdeal.Value.run_blocks m g)
    obtain ⟨h0, h1, h2, h3⟩ := h c
    exact ⟨h0.trans (holding m hp c).arr_q, h1.trans (holding m hp c).arr_k, h2.trans (holding m hp c).arr_v, h3⟩
  · refine (θ_run _ _ _).mono (fun r h c => ?_) (ReferenceIdeal.Value.run m' g')
    obtain ⟨h0, h1, h2, h3⟩ := h c
    obtain ⟨e0, e1, e2, e3, e4, e5, e6, e7⟩ := he c
    have H := holding m hp c
    exact ⟨(h0.trans (ReferenceIdeal.Read.val_main_v150_eq _)).trans (ref_q_at H e0 e1 e2 e3 e4 e5 e6 e7),
      (h1.trans (ReferenceIdeal.Read.val_main_v154_eq _)).trans (ref_k_at H e0 e1 e2 e3 e4 e5 e6 e7),
      (h2.trans (ReferenceIdeal.Read.val_main_v158_eq _)).trans (ref_v_at H e0 e1 e4 e6 e7), h3⟩

end Cert.Attn

end
-- ==== Proof.FfnPay.lean ====
/- The blocks the calls of the feed-forward layer compute, at coordinates. -/
module

public import proofs.«01_k».proof.Proof.Gen.Kernel2Ideal.Frame
public import Idealize.ShloMosaic.Lib.Pointwise

@[expose] public section

set_option maxRecDepth 16384
set_option maxHeartbeats 1000000

noncomputable section

namespace Cert.Ffn

open Idealize.ShloMosaic Idealize.ShloMosaic.TcCoe Cert.Kernel2Ideal Cert.Kernel2Ideal.Gen

section Payloads

/-- The first call's block: the product, cut off below zero. -/
theorem pay_up (x : Vec Ideal S2048x2048 .bf16) (w : Vec Ideal S1x2048x512 .bf16) (i : Fin 2048) (k : Fin 512) :
    k0_pay2 (F := Ideal) x w (ix2 i k) = max (∑ j : Fin 2048, x (ix2 i j) * w (ix3 0 j k)) 0 := by
  pointwise [k0_pay2, k0_pay1]

/-- The second call's block: the product by twice the cut-off product. -/
theorem pay_down (x : Vec Ideal S1024x2048 .bf16) (w : Vec Ideal S1x1024x2048 .bf16) (u : Vec Ideal S1024x1024 .bf16) (i k : Fin 1024) :
    k1_pay1 (F := Ideal) x w u (ix2 i k) = (∑ j : Fin 2048, x (ix2 i j) * w (ix3 0 k j)) * (Ideal.ofBits .f32 0x40000000#32 * u (ix2 i k)) := by
  pointwise [k1_pay1]

/-- The third call's first four products. -/
theorem pay_four (x0 x1 x2 x3 : Vec Ideal S512x1024 .bf16) (w0 w1 w2 w3 : Vec Ideal S1x512x1024 .bf16) (i k : Fin 512) :
    k2_pay2 (F := Ideal) x0 w0 x1 w1 x2 w2 x3 w3 (ix2 i k) =
      (((∑ j : Fin 1024, x0 (ix2 i j) * w0 (ix3 0 k j)) + (∑ j : Fin 1024, x1 (ix2 i j) * w1 (ix3 0 k j)))
        + (∑ j : Fin 1024, x2 (ix2 i j) * w2 (ix3 0 k j))) + (∑ j : Fin 1024, x3 (ix2 i j) * w3 (ix3 0 k j)) := by
  pointwise [k2_pay2]

/-- The third call's fifth product. -/
theorem pay_fifth (x : Vec Ideal S512x1024 .bf16) (w : Vec Ideal S1x512x1024 .bf16) (i k : Fin 512) :
    k2_pay3 (F := Ideal) x w (ix2 i k) = ∑ j : Fin 1024, x (ix2 i j) * w (ix3 0 k j) := by
  pointwise [k2_pay3]

/-- The third call's block from its products. -/
theorem pay_rest (a b : FVec Ideal S512x512 .f32) (x5 x6 x7 : Vec Ideal S512x1024 .bf16) (w5 w6 w7 : Vec Ideal S1x512x1024 .bf16) (i k : Fin 512) :
    k2_pay1 (F := Ideal) a b x5 w5 x6 w6 x7 w7 (ix2 i k) =
      (((a (ix2 i k) + b (ix2 i k)) + (∑ j : Fin 1024, x5 (ix2 i j) * w5 (ix3 0 k j)))
        + (∑ j : Fin 1024, x6 (ix2 i j) * w6 (ix3 0 k j))) + (∑ j : Fin 1024, x7 (ix2 i j) * w7 (ix3 0 k j)) := by
  pointwise [k2_pay1]

end Payloads

end Cert.Ffn

end
-- ==== Proof.FfnArr.lean ====
/- The result array of each call of the feed-forward layer, from the arrays it finds. -/
module

public import proofs.«01_k».proof.Proof.FfnPay
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384
set_option maxHeartbeats 1000000

noncomputable section

namespace Cert.Ffn

open Idealize.ShloMosaic Idealize.ShloMosaic.TcCoe Cert.Kernel2Ideal Cert.Kernel2Ideal.Gen

variable (V : (c : Dev nD) → (b : Ref sig .tc) → Buf (Elt Ideal) ((c : Thread nD τ).loc b)) (c : Dev nD)

/-- The piece of eight an inner coordinate lies in. -/
def piece (k : Fin 8192) : Fin 8 := ⟨k.val / 1024, by omega⟩
/-- Its place in that piece. -/
def place (k : Fin 8192) : Fin 1024 := ⟨k.val % 1024, by omega⟩
/-- A column of a grid point's block of 512. -/
def col0 (t : Fin cfg0.N) (k : Fin 512) : Fin 8192 := ⟨512 * t.val + k.val, by have h : t.val < 16 := t.isLt; omega⟩

/-- The first call's blocks. -/
theorem idx0 : ∀ t : Fin cfg0.N, win0_0.index t = ![0, 0] ∧ win0_1.index t = ![t.val / 2, 0, t.val % 2]
    ∧ win0_2.index t = ![0, t.val] :=
  (by decide +kernel : ∀ t : Fin grid0.N, _)

/-- The first call's first operand's block. -/
theorem blk0_0 (t : Fin cfg0.N) (i j : Fin 2048) : iblk0 V c 0 t (ix2 i j) = V c main_v5 (ix2 i j) := by
  unfold iblk0
  blk_ext [idx0 t]
/-- The first call's second operand's block. -/
theorem blk0_1 (t : Fin cfg0.N) (j : Fin 2048) (k : Fin 512) :
    iblk0 V c 1 t (ix3 0 j k) = V c main_v2 (ix3 (piece (col0 t k)) j (place (col0 t k))) := by
  unfold iblk0
  blk_ext [idx0 t, piece, place, col0]
/-- Where the first call's block lies. -/
theorem emb0 (t : Fin cfg0.N) (i : Fin 2048) (k : Fin 512) : ((cfg0.win 2).blk t).view.emb (ix2 i k) = ix2 i (col0 t k) := by
  blk_ext [idx0 t, col0]

/-- The cut-off product from the blocks. -/
def Up (x : S2048x2048.Idx → EReal) (w : S8x2048x1024.Idx → EReal) : S2048x8192.Idx → EReal :=
  fun y => max (∑ j : Fin 2048, x (ix2 (y 0) j) * w (ix3 (piece (y 1)) j (place (y 1)))) 0

/-- The first call's block at a grid point. -/
theorem out0 (t : Fin cfg0.N) (i : Fin 2048) (k : Fin 512) :
    out0_2 (F := Ideal) (iblk0 V c 0 t) (iblk0 V c 1 t) (ix2 i k) = Up (V c main_v5) (V c main_v2) (ix2 i (col0 t k)) := by
  unfold out0_2
  frame_out
  refine (pay_up _ _ i k).trans ?_
  simp only [blk0_0, blk0_1]
  rfl

/-- The first call's array is the cut-off product. -/
theorem arr0 : (dat0 (F := Ideal) V c).arrAt 2 cfg0.N = Up (V c main_v5) (V c main_v2) := by
  refine (dat0 (F := Ideal) V c).arrAt_eq_of_covers 2 _ (by decide +kernel) fun t hf j => ?_
  blk_simp
  rw [after0_2]
  idx_vars j
  refine (out0 V c t j0 j1).trans ?_
  exact (congrArg (Up (V c main_v5) (V c main_v2)) (emb0 t j0 j1)).symm

/-- A row of the second call's grid point. -/
def row1 (t : Fin cfg1.N) (i : Fin 1024) : Fin 2048 := ⟨1024 * (t.val % 2) + i.val, by omega⟩
/-- An inner coordinate of the second call's grid point. -/
def col1 (t : Fin cfg1.N) (k : Fin 1024) : Fin 8192 := ⟨1024 * (t.val / 2) + k.val, by have h : t.val < 16 := t.isLt; omega⟩

/-- The second call's blocks. -/
theorem idx1 : ∀ t : Fin cfg1.N, win1_0.index t = ![t.val % 2, 0] ∧ win1_1.index t = ![0, t.val / 2, 0]
    ∧ win1_2.index t = ![t.val % 2, t.val / 2] ∧ win1_3.index t = ![t.val % 2, t.val / 2] :=
  (by decide +kernel : ∀ t : Fin grid1.N, _)

/-- The second call's first operand's block. -/
theorem blk1_0 (t : Fin cfg1.N) (i : Fin 1024) (j : Fin 2048) : iblk1 V c 0 t (ix2 i j) = V c main_v7 (ix2 (row1 t i) j) := by
  unfold iblk1
  blk_ext [idx1 t, row1]
/-- The second call's second operand's block. -/
theorem blk1_1 (t : Fin cfg1.N) (k : Fin 1024) (j : Fin 2048) : iblk1 V c 1 t (ix3 0 k j) = V c main_v4 (ix3 0 (col1 t k) j) := by
  unfold iblk1
  blk_ext [idx1 t, col1]
/-- The second call's third operand's block. -/
theorem blk1_2 (t : Fin cfg1.N) (i k : Fin 1024) : iblk1 V c 2 t (ix2 i k) = V c main_v6_0 (ix2 (row1 t i) (col1 t k)) := by
  unfold iblk1
  blk_ext [idx1 t, row1, col1]
/-- Where the second call's block lies. -/
theorem emb1 (t : Fin cfg1.N) (i k : Fin 1024) : ((cfg1.win 3).blk t).view.emb (ix2 i k) = ix2 (row1 t i) (col1 t k) := by
  blk_ext [idx1 t, row1, col1]

/-- The product by twice the cut-off product. -/
def Down (x : S2048x2048.Idx → EReal) (w : S1x8192x2048.Idx → EReal) (u : S2048x8192.Idx → EReal) : S2048x8192.Idx → EReal :=
  fun y => (∑ j : Fin 2048, x (ix2 (y 0) j) * w (ix3 0 (y 1) j)) * (Ideal.ofBits .f32 0x40000000#32 * u y)

/-- The second call's block at a grid point. -/
theorem out1 (t : Fin cfg1.N) (i k : Fin 1024) :
    out1_3 (F := Ideal) (iblk1 V c 0 t) (iblk1 V c 1 t) (iblk1 V c 2 t) (ix2 i k)
      = Down (V c main_v7) (V c main_v4) (V c main_v6_0) (ix2 (row1 t i) (col1 t k)) := by
  unfold out1_3
  frame_out
  refine (pay_down _ _ _ i k).trans ?_
  simp only [blk1_0, blk1_1, blk1_2]
  rfl

/-- The second call's array is the product by twice the cut-off product. -/
theorem arr1 : (dat1 (F := Ideal) V c).arrAt 3 cfg1.N = Down (V c main_v7) (V c main_v4) (V c main_v6_0) := by
  refine (dat1 (F := Ideal) V c).arrAt_eq_of_covers 3 _ (by decide +kernel) fun t hf j => ?_
  blk_simp
  rw [after1_3]
  idx_vars j
  refine (out1 V c t j0 j1).trans ?_
  exact (congrArg (Down (V c main_v7) (V c main_v4) (V c main_v6_0)) (emb1 t j0 j1)).symm

/-- A row of the third call's grid point. -/
def row2 (t : Fin cfg2.N) (i : Fin 512) : Fin 2048 := ⟨512 * (t.val % 4) + i.val, by omega⟩
/-- A column of the third call's grid point. -/
def col2 (t : Fin cfg2.N) (k : Fin 512) : Fin 2048 := ⟨512 * (t.val / 4) + k.val, by have h : t.val < 16 := t.isLt; omega⟩

/-- The third call's blocks. -/
theorem idx2 : ∀ t : Fin cfg2.N, win2_0.index t = ![t.val % 4, 0] ∧ win2_1.index t = ![0, t.val / 4, 0]
    ∧ win2_2.index t = ![t.val % 4, t.val / 4] :=
  (by decide +kernel : ∀ t : Fin grid2.N, _)

/-- The third call's first operand's block. -/
theorem blk2_0 (t : Fin cfg2.N) (i : Fin 512) (k : Fin 8192) : iblk2 V c 0 t (ix2 i k) = V c main_v8 (ix2 (row2 t i) k) := by
  unfold iblk2
  blk_ext [idx2 t, row2]
/-- The third call's second operand's block. -/
theorem blk2_1 (t : Fin cfg2.N) (q : Fin 8) (j : Fin 512) (e : Fin 1024) :
    iblk2 V c 1 t (ix3 q j e) = V c main_v2 (ix3 q (col2 t j) e) := by
  unfold iblk2
  blk_ext [idx2 t, col2]
/-- Where the third call's block lies. -/
theorem emb2 (t : Fin cfg2.N) (i k : Fin 512) : ((cfg2.win 2).blk t).view.emb (ix2 i k) = ix2 (row2 t i) (col2 t k) := by
  blk_ext [idx2 t, row2, col2]

/-- An inner coordinate from its piece and its place in the piece. -/
def inner (q : Fin 8) (e : Fin 1024) : Fin 8192 := ⟨1024 * q.val + e.val, by omega⟩

/-- The sum over the pieces of the inner coordinate. -/
def Back (x : S2048x8192.Idx → EReal) (w : S8x2048x1024.Idx → EReal) : S2048x2048.Idx → EReal :=
  fun y => ∑ q : Fin 8, ∑ e : Fin 1024, x (ix2 (y 0) (inner q e)) * w (ix3 q (y 1) e)

/-- A piece of the third call's first operand's block. -/
theorem ld0 (x : Vec Ideal S512x8192 .bf16) (q : Fin 8) (n : ℕ) (hn : n = 1024 * q.val) (h) (i : Fin 512) (e : Fin 1024) :
    View.ld x (Rect.unit (s := S512x8192) ![0, n] S512x1024.size h) (ix2 i e) = x (ix2 i (inner q e)) := by
  subst hn
  exact congrArg x (Shape.idx_ext₂ (by simp [Rect.unit]) (by simp [Rect.unit, inner]))

/-- A piece of the third call's second operand's block. -/
theorem ld1 (w : Vec Ideal S8x512x1024 .bf16) (q : Fin 8) (n : ℕ) (hn : n = q.val) (h) (k : Fin 512) (e : Fin 1024) :
    View.ld w (Rect.unit (s := S8x512x1024) ![n, 0, 0] S1x512x1024.size h) (ix3 0 k e) = w (ix3 q k e) := by
  subst hn
  exact congrArg w (funext fun a => Fin.ext (by match a with | ⟨0, _⟩ => simp [Rect.unit] | ⟨1, _⟩ => simp [Rect.unit] | ⟨2, _⟩ => simp [Rect.unit]))

/-- One piece's product. -/
theorem sum_piece (x : Vec Ideal S512x8192 .bf16) (w : Vec Ideal S8x512x1024 .bf16) (X : S2048x8192.Idx → EReal) (W : S8x2048x1024.Idx → EReal)
    (i k : Fin 512) (I K : Fin 2048) (hx : ∀ l, x (ix2 i l) = X (ix2 I l)) (hw : ∀ q e, w (ix3 q k e) = W (ix3 q K e))
    (q : Fin 8) (n n' : ℕ) (hn : n = 1024 * q.val) (hn' : n' = q.val) (h h') :
    ∑ e : Fin 1024, View.ld x (Rect.unit (s := S512x8192) ![0, n] S512x1024.size h) (ix2 i e)
        * View.ld w (Rect.unit (s := S8x512x1024) ![n', 0, 0] S1x512x1024.size h') (ix3 0 k e)
      = ∑ e : Fin 1024, X (ix2 I (inner q e)) * W (ix3 q K e) :=
  Finset.sum_congr rfl fun e _ => congrArg₂ (fun a b : EReal => a * b) ((ld0 x q n hn h i e).trans (hx (inner q e)))
    ((ld1 w q n' hn' h' k e).trans (hw q e))

/-- The eight pieces' products. -/
theorem sum_pieces (x : Vec Ideal S512x8192 .bf16) (w : Vec Ideal S8x512x1024 .bf16) (X : S2048x8192.Idx → EReal) (W : S8x2048x1024.Idx → EReal)
    (i k : Fin 512) (I K : Fin 2048) (hx : ∀ l, x (ix2 i l) = X (ix2 I l)) (hw : ∀ q e, w (ix3 q k e) = W (ix3 q K e)) :
    (((((((∑ e : Fin 1024, View.ld x r2_0 (ix2 i e) * View.ld w r2_1 (ix3 0 k e))
      + (∑ e : Fin 1024, View.ld x r2_2 (ix2 i e) * View.ld w r2_3 (ix3 0 k e)))
      + (∑ e : Fin 1024, View.ld x r2_4 (ix2 i e) * View.ld w r2_5 (ix3 0 k e)))
      + (∑ e : Fin 1024, View.ld x r2_6 (ix2 i e) * View.ld w r2_7 (ix3 0 k e)))
      + (∑ e : Fin 1024, View.ld x r2_8 (ix2 i e) * View.ld w r2_9 (ix3 0 k e)))
      + (∑ e : Fin 1024, View.ld x r2_10 (ix2 i e) * View.ld w r2_11 (ix3 0 k e)))
      + (∑ e : Fin 1024, View.ld x r2_12 (ix2 i e) * View.ld w r2_13 (ix3 0 k e)))
      + (∑ e : Fin 1024, View.ld x r2_14 (ix2 i e) * View.ld w r2_15 (ix3 0 k e)) = Back X W (ix2 I K) := by
  have P := sum_piece x w X W i k I K hx hw
  rw [P 0 0 0 rfl rfl, P 1 1024 1 rfl rfl, P 2 2048 2 rfl rfl, P 3 3072 3 rfl rfl, P 4 4096 4 rfl rfl, P 5 5120 5 rfl rfl,
    P 6 6144 6 rfl rfl, P 7 7168 7 rfl rfl]
  exact (Fin.sum_univ_eight (fun q : Fin 8 => ∑ e : Fin 1024, X (ix2 I (inner q e)) * W (ix3 q K e))).symm

/-- The third call's block at a grid point. -/
theorem out2 (t : Fin cfg2.N) (i k : Fin 512) :
    out2_2 (F := Ideal) (iblk2 V c 0 t) (iblk2 V c 1 t) (ix2 i k) = Back (V c main_v8) (V c main_v2) (ix2 (row2 t i) (col2 t k)) := by
  unfold out2_2
  frame_out
  refine (pay_rest _ _ _ _ _ _ _ _ i k).trans ?_
  rw [pay_four, pay_fifth]
  exact sum_pieces (iblk2 V c 0 t) (iblk2 V c 1 t) (V c main_v8) (V c main_v2) i k (row2 t i) (col2 t k) (blk2_0 V c t i) (fun q e => blk2_1 V c t q k e)

/-- The third call's array is the sum over the pieces. -/
theorem arr2 : (dat2 (F := Ideal) V c).arrAt 2 cfg2.N = Back (V c main_v8) (V c main_v2) := by
  refine (dat2 (F := Ideal) V c).arrAt_eq_of_covers 2 _ (by decide +kernel) fun t hf j => ?_
  blk_simp
  rw [after2_2]
  idx_vars j
  refine (out2 V c t j0 j1).trans ?_
  exact (congrArg (Back (V c main_v8) (V c main_v2)) (emb2 t j0 j1)).symm

end Cert.Ffn

end
-- ==== Proof.FfnRun.lean ====
/- What a run of the three calls of the feed-forward layer leaves: the last call's result array. -/
module

public import proofs.«01_k».proof.Proof.Gen.Kernel2Ideal.Frame

@[expose] public section

set_option maxRecDepth 16384
set_option maxHeartbeats 1000000

noncomputable section

namespace Cert.Ffn

open Idealize.ShloMosaic Idealize.ShloMosaic.TcCoe Cert.Kernel2Ideal Cert.Kernel2Ideal.Gen

open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- The result array and the arguments after a run. -/
theorem run_result : θ_run defs (onTc (τ := τ) (main (F := F))) ⟨m, fun _ => 0, ρ⟩ (fun r => ∀ c : Dev nD,
      r.2.mem ((c.tc : Thread nD τ).loc main_v9) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v9 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Ffn

end
-- ==== Proof.FfnVal.lean ====
/- The calls' arrays from the program's arguments, and the reference's gradient. -/
module

public import proofs.«01_k».proof.Proof.FfnArr
public import proofs.«01_k».proof.Proof.FfnRun
public import proofs.«01_k».proof.Proof.Gen.Reference2Ideal.Run
public import proofs.«01_k».proof.Proof.Gen.Reference2Ideal.Read

@[expose] public section

set_option maxRecDepth 16384
set_option maxHeartbeats 1000000

noncomputable section

namespace Cert.Ffn

open Idealize.ShloMosaic Idealize.ShloMosaic.TcCoe Cert.Kernel2Ideal Cert.Kernel2Ideal.Gen

variable (m : (ℓ : Loc nD τ sig) → Buf (Elt Ideal) ℓ) (ρ : Dev nD → PrngReg) (c : Dev nD)

/-- The normalised activations. -/
def hn : S2048x2048.Idx → EReal := m ((c.tc : Thread nD τ).loc main_arg0)
/-- The first matrix. -/
def wu : S2048x8192.Idx → EReal := m ((c.tc : Thread nD τ).loc main_arg1)
/-- The second matrix. -/
def wd : S8192x2048.Idx → EReal := m ((c.tc : Thread nD τ).loc main_arg2)
/-- The gradient by the layer's output. -/
def dy : S2048x2048.Idx → EReal := m ((c.tc : Thread nD τ).loc main_arg3)

/-- The first matrix by pieces of its columns. -/
def pieces (w : FVec Ideal S2048x8192 .f32) : FVec Ideal S8x2048x1024 .f32 :=
  transpose S8x2048x1024 [1, 0, 2] (shapeCast S2048x8x1024 w shapeCasts_S2048x8192_S2048x8x1024) transposes_S2048x8x1024_S8x2048x1024_1_0_2

/-- The first matrix's pieces at coordinates. -/
theorem pieces_at (w : FVec Ideal S2048x8192 .f32) (q : Fin 8) (j : Fin 2048) (e : Fin 1024) : pieces w (ix3 q j e) = w (ix2 j (inner q e)) := by
  pointwise [pieces]
  exact congrArg w (Shape.idx_ext₂ (by simp <;> omega) (by simp [inner] <;> omega))

/-- The first call finds the activations. -/
theorem W1_hn : V1 m ρ c main_v5 = hn m c := by
  dsimp only [V1, W1]
  after_reads_simp
  rfl

/-- The first call finds the first matrix. -/
theorem W1_wu : V1 m ρ c main_v2 = pieces (wu m c) := by
  dsimp only [V1, W1]
  after_reads_simp
  rfl

/-- The second matrix with a leading axis. -/
theorem W1_wd : V1 m ρ c main_v4 = (shapeCast S1x8192x2048 (wd m c : FVec Ideal S8192x2048 .f32) shapeCasts_S8192x2048_S1x8192x2048 : FVec Ideal S1x8192x2048 .f32) := by
  dsimp only [V1, W1]
  after_reads_simp
  rfl

/-- The second matrix with a leading axis, at coordinates. -/
theorem lead_at (w : FVec Ideal S8192x2048 .f32) (k : Fin 8192) (j : Fin 2048) :
    shapeCast S1x8192x2048 w shapeCasts_S8192x2048_S1x8192x2048 (ix3 0 k j) = w (ix2 k j) := by
  pointwise []

/-- The second call finds the gradient by the output. -/
theorem W3_dy : V3 m ρ c main_v7 = dy m c := by
  have h : V3 m ρ c main_v7 = W2 m ρ c (Proc.devRef .tc main_arg3) := by
    dsimp only [V3, W3]
    after_reads_simp
    rfl
  exact h.trans (W2_args m ρ c main_arg3 (by decide))

/-- The second call finds the second matrix. -/
theorem W3_wd : V3 m ρ c main_v4 = (shapeCast S1x8192x2048 (wd m c : FVec Ideal S8192x2048 .f32) shapeCasts_S8192x2048_S1x8192x2048 : FVec Ideal S1x8192x2048 .f32) :=
  (W3_of m ρ c main_v4 (by decide)).trans ((W2_of m ρ c main_v4 (by decide)).trans (W1_wd m ρ c))

/-- The second call finds the cut-off product. -/
theorem W3_u : V3 m ρ c main_v6_0 = Up (hn m c) (pieces (wu m c)) := by
  refine (W3_of m ρ c main_v6_0 (by decide)).trans ((W2_arr m ρ c 2).trans ?_)
  rw [arr0, W1_hn, W1_wu]

/-- The third call finds the first matrix. -/
theorem W4_wu : V4 m ρ c main_v2 = pieces (wu m c) :=
  (W4_of m ρ c main_v2 (by decide)).trans ((W3_of m ρ c main_v2 (by decide)).trans ((W2_of m ρ c main_v2 (by decide)).trans (W1_wu m ρ c)))

/-- The third call finds the gradient by the inner product. -/
theorem W4_du : V4 m ρ c main_v8
    = Down (dy m c) (shapeCast S1x8192x2048 (wd m c : FVec Ideal S8192x2048 .f32) shapeCasts_S8192x2048_S1x8192x2048) (Up (hn m c) (pieces (wu m c))) := by
  refine (W4_arr m ρ c 3).trans ?_
  rw [arr1, W3_dy, W3_wd, W3_u]

/-- The gradient by the activations. -/
def G (x : S2048x2048.Idx → EReal) (a : S2048x8192.Idx → EReal) (b : S8192x2048.Idx → EReal) (d : S2048x2048.Idx → EReal) : S2048x2048.Idx → EReal :=
  fun y => ∑ k : Fin 8192, ((∑ j : Fin 2048, d (ix2 (y 0) j) * b (ix2 k j))
    * (2 * max (∑ j : Fin 2048, x (ix2 (y 0) j) * a (ix2 j k)) 0)) * a (ix2 (y 1) k)

/-- The number two. -/
theorem two : Ideal.ofBits .f32 0x40000000#32 = (2 : EReal) := by
  rw [show (2 : EReal) = ((2 : ℝ) : EReal) from rfl]
  simp [Ideal.ofBits, Ideal.ieee]
  rw [← EReal.coe_mul]
  norm_num

/-- A sum over the inner coordinate is the sum over its pieces. -/
theorem sum_inner (f : Fin 8192 → EReal) : ∑ q : Fin 8, ∑ e : Fin 1024, f (inner q e) = ∑ k : Fin 8192, f k := by
  rw [← Finset.sum_product' (f := fun q e => f (inner q e))]
  refine Finset.sum_bij' (fun p _ => inner p.1 p.2) (fun k _ => (piece k, place k)) ?_ ?_ ?_ ?_ ?_
  · intros; simp
  · intros; simp
  · rintro ⟨q, e⟩ -
    exact Prod.ext (Fin.ext (by simp only [piece, inner]; omega)) (Fin.ext (by simp only [place, inner]; omega))
  · intro k _
    exact Fin.ext (by simp only [piece, place, inner]; omega)
  · intros; rfl

/-- The cut-off product at coordinates. -/
theorem Up_at (x : S2048x2048.Idx → EReal) (w : FVec Ideal S2048x8192 .f32) (i : Fin 2048) (k : Fin 8192) :
    Up x (pieces w) (ix2 i k) = max (∑ j : Fin 2048, x (ix2 i j) * w (ix2 j k)) 0 := by
  unfold Up
  refine congrArg (max · (0 : EReal)) (Finset.sum_congr rfl fun j _ => congrArg (x (ix2 i j) * ·) ?_)
  refine (pieces_at w (piece k) j (place k)).trans (congrArg w (congrArg (ix2 j) ?_))
  exact Fin.ext (by simp only [piece, place, inner]; omega)

/-- The third call's array from the arguments. -/
theorem back_eq (x : S2048x2048.Idx → EReal) (a : FVec Ideal S2048x8192 .f32) (b : FVec Ideal S8192x2048 .f32) (d : S2048x2048.Idx → EReal) :
    Back (Down d (shapeCast S1x8192x2048 b shapeCasts_S8192x2048_S1x8192x2048) (Up x (pieces a))) (pieces a) = G x a b d := by
  funext y
  idx_vars y
  refine Eq.trans ?_ (sum_inner (fun k => ((∑ j : Fin 2048, d (ix2 y0 j) * b (ix2 k j))
    * (2 * max (∑ j : Fin 2048, x (ix2 y0 j) * a (ix2 j k)) 0)) * a (ix2 y1 k)))
  refine Finset.sum_congr rfl fun q _ => Finset.sum_congr rfl fun e _ => ?_
  refine congrArg₂ (fun s t : EReal => s * t) ?_ (pieces_at a q y1 e)
  refine congrArg₂ (fun s t : EReal => s * t) (Finset.sum_congr rfl fun j _ => congrArg (d (ix2 y0 j) * ·) (lead_at b (inner q e) j)) ?_
  exact congrArg₂ (fun s t : EReal => s * t) two (Up_at x a y0 (inner q e))

/-- The result array of the run. -/
theorem result : (dat2 (F := Ideal) (V4 m ρ) c).arrAt 2 cfg2.N = G (hn m c) (wu m c) (wd m c) (dy m c) := by
  rw [arr2, W4_du, W4_wu]
  exact back_eq _ _ _ _

end Cert.Ffn

end
-- ==== Proof.Ffn.lean ====
/- The feed-forward layer's gradient: the reference's, and the value claim. -/
module

public import proofs.«01_k».proof.Defs
public import proofs.«01_k».proof.Proof.FfnVal
public import proofs.«01_k».proof.Proof.Gen.Kernel2.Frame
public import proofs.«01_k».proof.Proof.Gen.Reference2Ideal.Run
public import proofs.«01_k».proof.Proof.Gen.Reference2Ideal.Read

@[expose] public section

set_option maxRecDepth 16384
set_option maxHeartbeats 1000000

noncomputable section

namespace Cert.Ffn

open Idealize.ShloMosaic Idealize.SL.Sem

open Cert.Reference2Ideal.Read

/-- The derivative of the squared cut-off product: both products of the square's rule, where the product is positive. -/
theorem slope (p g : EReal) :
    Scalar.select (BitVec.ofBool (decide (0 < p))) (max p 0 * g + g * max p 0) (0 : EReal) = g * (2 * max p 0) := by
  have h0 : (0 : EReal) ≤ max p 0 := le_max_right _ _
  have h2 : g * (2 * max p 0) = max p 0 * g + g * max p 0 := by
    rw [← one_add_one_eq_two, EReal.right_distrib_of_nonneg zero_le_one zero_le_one, one_mul, EReal.left_distrib_of_nonneg h0 h0,
      mul_comm (max p 0) g]
  by_cases h : (0 : EReal) < p
  · rw [decide_eq_true h, h2]
    rfl
  · have hm : max p 0 = 0 := max_eq_right (not_lt.mp h)
    rw [decide_eq_false h, hm, mul_zero (2 : EReal), mul_zero g]
    rfl

variable (x d : FVec Ideal Kernel2Ideal.S2048x2048 .f32) (a : FVec Ideal Kernel2Ideal.S2048x8192 .f32) (b : FVec Ideal Kernel2Ideal.S8192x2048 .f32)

/-- The reference's inner gradient. -/
theorem ref_du (i : Fin 2048) (k : Fin 8192) : val_main_v12 (F := Ideal) x a b d (ix2 i k)
    = (∑ j : Fin 2048, d (ix2 i j) * b (ix2 k j)) * (2 * max (∑ j : Fin 2048, x (ix2 i j) * a (ix2 j k)) 0) := by
  have hp : val_main_v0 (F := Ideal) x a (ix2 i k) = ∑ j : Fin 2048, x (ix2 i j) * a (ix2 j k) :=
    (val_main_v0_apply x a _).trans (Finset.sum_congr rfl fun j _ => congrArg₂ (fun s t : EReal => s * t)
      (congrArg x (Shape.idx_ext₂ rfl rfl)) (congrArg a (Shape.idx_ext₂ rfl rfl)))
  have hg : val_main_v7 (F := Ideal) b d (ix2 i k) = ∑ j : Fin 2048, d (ix2 i j) * b (ix2 k j) :=
    (val_main_v7_apply b d _).trans (Finset.sum_congr rfl fun j _ => congrArg₂ (fun s t : EReal => s * t)
      (congrArg d (Shape.idx_ext₂ rfl rfl)) (congrArg b (Shape.idx_ext₂ rfl rfl)))
  rw [val_main_v12_apply, val_main_v3_apply, val_main_v10_apply, val_main_v8_apply, val_main_v9_apply, val_main_v1_apply,
    val_main_v2_apply, val_main_cst_apply, val_main_call0_v0_apply, val_main_call0_cst_apply, val_main_v11_apply, val_main_cst_1_apply, hp, hg]
  refine Eq.trans ?_ (slope (∑ j : Fin 2048, x (ix2 i j) * a (ix2 j k)) (∑ j : Fin 2048, d (ix2 i j) * b (ix2 k j)))
  rw [show (FloatOps.ofBits (F := Ideal) .f32 0x00000000#32 : EReal) = 0 from Ideal.ofBits_zero_f32]
  rfl

/-- The reference's result is the gradient by the activations. -/
theorem ref_result : val_main_v13 (F := Ideal) x a b d = G x a b d := by
  funext y
  idx_vars y
  refine (val_main_v13_apply x a b d _).trans (Finset.sum_congr rfl fun k _ => congrArg₂ (fun s t : EReal => s * t) ?_ ?_)
  · have e : lidx_main_v13 (ix2 y0 y1) k = ix2 y0 k := Shape.idx_ext₂ rfl rfl
    rw [e]
    exact ref_du x d a b y0 k
  · exact congrArg a (Shape.idx_ext₂ rfl rfl)

/-- The kernels run and leave their arguments. -/
theorem frame_k : @quiescent_Kernel2 Kernel2.Gen.facts := fun m ρ _ => Kernel2.Gen.frame m ρ
/-- The idealized kernels run and leave their arguments. -/
theorem frame_ki : @quiescent_Kernel2Ideal Kernel2Ideal.Gen.facts := fun m ρ _ => Kernel2Ideal.Gen.frame m ρ
/-- The reference runs and leaves its arguments. -/
theorem frame_ref : @quiescent_Reference2Ideal Reference2Ideal.Gen.facts := fun m ρ _ =>
  (θ_run Reference2Ideal.defs _ _).mono (fun r h => ⟨fun c => (h c).2, sem_eq_zero_of_no_sems (by decide) r.2⟩)
    (Reference2Ideal.Value.run (F := Ideal) m ρ)

/-- The value claim: the three calls and the reference leave the same gradient. -/
theorem value : @algebraic_Kernel2Ideal_Reference2Ideal Kernel2Ideal.Gen.facts Reference2Ideal.Gen.facts := by
  intro m g m' g' _ he
  refine ⟨fun c => G (hn m c) (wu m c) (wd m c) (dy m c), ?_, ?_⟩
  · refine (θ_run _ _ _).mono (fun r h c => ?_) (run_result (F := Ideal) m g)
    obtain ⟨h0, h1⟩ := h c
    exact ⟨h0.trans (result m g c), h1⟩
  · refine (θ_run _ _ _).mono (fun r h c => ?_) (Reference2Ideal.Value.run m' g')
    obtain ⟨h0, h1⟩ := h c
    obtain ⟨e0, e1, e2, e3⟩ := he c
    refine ⟨((h0.trans (val_main_v13_eq _ _ _ _)).trans (ref_result _ _ _ _)).trans ?_, h1⟩
    rw [e0, e1, e2, e3]
    rfl

end Cert.Ffn

end
-- ==== Proof.LossArr.lean ====
/- The down projection's call, carrying the loss: blocks, arrays. -/
module

public import proofs.«01_k».proof.Proof.Gen.Kernel3Ideal.Frame
public import Idealize.ShloMosaic.Lib.Pointwise
public import Idealize.ShloMosaic.Lib.Pipeline.ValueKit

@[expose] public section

set_option maxRecDepth 16384
set_option maxHeartbeats 1000000

noncomputable section

namespace Cert.Loss

open Idealize.ShloMosaic Idealize.ShloMosaic.TcCoe Cert.Kernel3Ideal Cert.Kernel3Ideal.Gen

/-- The block's difference to the target. -/
theorem pay1 (x : Vec Ideal S512x8192 .bf16) (w : Vec Ideal S1x8192x512 .bf16) (h t : Vec Ideal S512x512 .f32) (i j : Fin 512) :
    k0_pay1 (F := Ideal) x w h t (ix2 i j) = ((∑ k : Fin 8192, x (ix2 i k) * w (ix3 0 k j)) + h (ix2 i j)) - t (ix2 i j) := by
  pointwise [k0_pay1]

/-- The gradient's block. -/
theorem pay2 (x : Vec Ideal S512x8192 .bf16) (w : Vec Ideal S1x8192x512 .bf16) (h t : Vec Ideal S512x512 .f32) (i j : Fin 512) :
    k0_pay2 (F := Ideal) x w h t (ix2 i j) = k0_pay1 (F := Ideal) x w h t (ix2 i j) * Ideal.ofBits .f32 0x3A000000#32 := rfl

/-- The block's part of the loss. -/
theorem pay4 (x : Vec Ideal S512x8192 .bf16) (w : Vec Ideal S1x8192x512 .bf16) (h t : Vec Ideal S512x512 .f32) :
    k0_pay4 (F := Ideal) x w h t (ix2 0 0) = Ideal.ofBits .f32 0x39800000#32
      * ∑ i : Fin 512, ∑ j : Fin 512, k0_pay1 (F := Ideal) x w h t (ix2 i j) * k0_pay1 (F := Ideal) x w h t (ix2 i j) := by
  pointwise [k0_pay4]

/-- The loss so far and the block's part. -/
theorem pay5 (x : Vec Ideal S512x8192 .bf16) (w : Vec Ideal S1x8192x512 .bf16) (h t : Vec Ideal S512x512 .f32) (l : Vec Ideal S1x1 .f32) :
    k0_pay5 (F := Ideal) x w h t l (ix2 0 0) = l (ix2 0 0) + k0_pay4 (F := Ideal) x w h t (ix2 0 0) := by
  unfold k0_pay5
  generalize k0_pay4 (F := Ideal) x w h t = b
  pointwise []

variable (m : (ℓ : Loc nD τ sig) → Buf (Elt Ideal) ℓ) (c : Dev nD)

/-- A row of a grid point's block. -/
def row (t : Fin cfg0.N) (i : Fin 512) : Fin 2048 := ⟨512 * (t.val % 4) + i.val, by omega⟩
/-- A column of a grid point's block. -/
def col (t : Fin cfg0.N) (k : Fin 512) : Fin 2048 := ⟨512 * (t.val / 4) + k.val, by have h : t.val < 16 := t.isLt; omega⟩

/-- Where the blocks lie. -/
theorem idx : ∀ t : Fin cfg0.N, win0_0.index t = ![t.val % 4, 0] ∧ win0_1.index t = ![0, 0, t.val / 4]
    ∧ win0_2.index t = ![t.val % 4, t.val / 4] ∧ win0_3.index t = ![t.val % 4, t.val / 4]
    ∧ win0_4.index t = ![t.val % 4, t.val / 4] ∧ win0_5.index t = ![t.val % 4, t.val / 4] ∧ win0_6.index t = ![0, 0] :=
  (by decide +kernel : ∀ t : Fin grid0.N, _)

/-- The activations' block. -/
theorem blk_x (t : Fin cfg0.N) (i : Fin 512) (k : Fin 8192) : iblk m c 0 t (ix2 i k) = V m c main_v2 (ix2 (row t i) k) := by
  unfold iblk
  blk_ext [idx t, row]
/-- The matrix's block. -/
theorem blk_w (t : Fin cfg0.N) (k : Fin 8192) (j : Fin 512) : iblk m c 1 t (ix3 0 k j) = V m c main_v1 (ix3 0 k (col t j)) := by
  unfold iblk
  blk_ext [idx t, col]
/-- The residual stream's block. -/
theorem blk_h (t : Fin cfg0.N) (i j : Fin 512) : iblk m c 2 t (ix2 i j) = V m c main_arg1 (ix2 (row t i) (col t j)) := by
  unfold iblk
  blk_ext [idx t, row, col]
/-- The target's block. -/
theorem blk_t (t : Fin cfg0.N) (i j : Fin 512) : iblk m c 3 t (ix2 i j) = V m c main_arg2 (ix2 (row t i) (col t j)) := by
  unfold iblk
  blk_ext [idx t, row, col]
/-- Where the gradient's block lies. -/
theorem emb4 (t : Fin cfg0.N) (i j : Fin 512) : ((cfg0.win 4).blk t).view.emb (ix2 i j) = ix2 (row t i) (col t j) := by
  blk_ext [idx t, row, col]
/-- Where the loss lies. -/
theorem emb6 (t : Fin cfg0.N) : ((cfg0.win 6).blk t).view.emb (ix2 0 0) = ix2 0 0 := by
  blk_ext [idx t]

/-- The difference to the target. -/
def Err (x : S2048x8192.Idx → EReal) (w : S1x8192x2048.Idx → EReal) (h t : S2048x2048.Idx → EReal) : S2048x2048.Idx → EReal :=
  fun y => ((∑ k : Fin 8192, x (ix2 (y 0) k) * w (ix3 0 k (y 1))) + h y) - t y

/-- The difference to the target in the program. -/
def E : S2048x2048.Idx → EReal := Err (V m c main_v2) (V m c main_v1) (V m c main_arg1) (V m c main_arg2)

/-- The block's difference at a grid point. -/
theorem err_at (t : Fin cfg0.N) (i j : Fin 512) :
    k0_pay1 (F := Ideal) (iblk m c 0 t) (iblk m c 1 t) (iblk m c 2 t) (iblk m c 3 t) (ix2 i j) = E m c (ix2 (row t i) (col t j)) := by
  refine (pay1 _ _ _ _ i j).trans ?_
  simp only [blk_x, blk_w, blk_h, blk_t]
  rfl

/-- The gradient from the difference. -/
def Dy (e : S2048x2048.Idx → EReal) : S2048x2048.Idx → EReal := fun y => e y * Ideal.ofBits .f32 0x3A000000#32

/-- The gradient's block at a grid point. -/
theorem out4 (t : Fin cfg0.N) (i j : Fin 512) : (outsAt0 m c t.val t.isLt).1 (ix2 i j) = Dy (E m c) (ix2 (row t i) (col t j)) := by
  by_cases h : t.val % 16 = 0
  · have h1 : ¬1 ≤ t.val := by have hN : t.val < 16 := t.isLt; omega
    rw [outsAt0_A m c t h h1]
    dsimp only
    frame_out
    rw [pay2, err_at]
    rfl
  · have h1 : 1 ≤ t.val := by omega
    rw [outsAt0_B m c t h h1]
    dsimp only
    frame_out
    rw [pay2, err_at]
    rfl

/-- The gradient's array. -/
theorem arr4 : (dats (F := Ideal) m 0 c).arrAt 4 cfg0.N = Dy (E m c) := by
  refine (dats (F := Ideal) m 0 c).arrAt_eq_of_covers 4 _ (by decide +kernel) fun t hf j => ?_
  blk_simp
  rw [after0_4]
  idx_vars j
  refine (out4 m c t j0 j1).trans ?_
  exact (congrArg (Dy (E m c)) (emb4 t j0 j1)).symm

/-- A grid point's part of the loss. -/
def part (e : S2048x2048.Idx → EReal) (n : ℕ) : EReal :=
  Ideal.ofBits .f32 0x39800000#32 * ∑ i : Fin 512, ∑ j : Fin 512,
    e (ix2 ⟨512 * (n % 4) + i.val, by omega⟩ ⟨(512 * (n / 4) + j.val) % 2048, by omega⟩)
      * e (ix2 ⟨512 * (n % 4) + i.val, by omega⟩ ⟨(512 * (n / 4) + j.val) % 2048, by omega⟩)

/-- The block's part of the loss at a grid point. -/
theorem part_at (t : Fin cfg0.N) :
    k0_pay4 (F := Ideal) (iblk m c 0 t) (iblk m c 1 t) (iblk m c 2 t) (iblk m c 3 t) (ix2 0 0) = part (E m c) t.val := by
  refine (pay4 _ _ _ _).trans ?_
  unfold part
  refine congrArg (Ideal.ofBits .f32 0x39800000#32 * ·) (Finset.sum_congr rfl fun i _ => Finset.sum_congr rfl fun j _ => ?_)
  have hN : t.val < 16 := t.isLt
  have hc : (⟨(512 * (t.val / 4) + j.val) % 2048, by omega⟩ : Fin 2048) = col t j := Fin.ext (by simp only [col]; omega)
  rw [err_at, hc]
  rfl

/-- The loss after a grid point. -/
theorem loss_at (t : Fin cfg0.N) :
    (outsAt0 m c t.val t.isLt).2.2 (ix2 0 0) = 0 + ∑ n ∈ Finset.range (t.val % 16 + 1), part (E m c) (16 * (t.val / 16) + n) :=
  Pipeline.eq_sum_of_reset_step (fun n h => (outsAt0 m c n h).2.2 (ix2 0 0) : (n : ℕ) → n < cfg0.N → EReal) 16 0 (part (E m c))
    (fun t h => by
      have h1 : ¬1 ≤ t.val := by have hN : t.val < 16 := t.isLt; omega
      rw [zero_add, outsAt0_A m c t h h1]
      dsimp only
      frame_out
      exact part_at m c t)
    (fun t h => by
      have h1 : 1 ≤ t.val := by omega
      rw [outsAt0_B m c t h h1]
      dsimp only
      frame_out
      rw [pay5, part_at])
    t

/-- The loss's array. -/
theorem arr6 : (dats (F := Ideal) m 0 c).arrAt 6 cfg0.N = fun _ => ∑ n ∈ Finset.range 16, part (E m c) n := by
  refine (dats (F := Ideal) m 0 c).arrAt_eq_of_covers 6 _ (by decide +kernel) fun t hf j => ?_
  blk_simp
  rw [after0_6]
  idx_vars j
  obtain rfl : j0 = 0 := Fin.ext (by omega)
  obtain rfl : j1 = 0 := Fin.ext (by omega)
  have h15 := (flush0_6 t).mp hf
  have hN : t.val < 16 := t.isLt
  have h0 : t.val / 16 = 0 := by omega
  refine (loss_at m c t).trans ?_
  rw [h15, h0, zero_add]
  simp only [Nat.mul_zero, Nat.zero_add]

end Cert.Loss

end
-- ==== Proof.Loss.lean ====
/- The loss and its gradient by the output: the reference, and the value claim. -/
module

public import proofs.«01_k».proof.Defs
public import proofs.«01_k».proof.Proof.LossArr
public import Idealize.ShloMosaic.Lib.StableHlo.RunRead
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384
set_option maxHeartbeats 1000000

noncomputable section

namespace Cert.Loss

open Idealize.ShloMosaic Idealize.ShloMosaic.TcCoe Idealize.SL.Sem

section Numbers

/-- One half. -/
theorem half : Ideal.ofBits .f32 0x3F000000#32 = ((1 / 2 : ℝ) : EReal) := by
  simp [Ideal.ofBits, Ideal.ieee]
  rw [← EReal.coe_mul]
  norm_num
/-- One. -/
theorem one : Ideal.ofBits .f32 0x3F800000#32 = ((1 : ℝ) : EReal) := by
  simp [Ideal.ofBits, Ideal.ieee]
  rw [← EReal.coe_mul]
  norm_num
/-- Two. -/
theorem two : Ideal.ofBits .f32 0x40000000#32 = ((2 : ℝ) : EReal) := by
  simp [Ideal.ofBits, Ideal.ieee]
  rw [← EReal.coe_mul]
  norm_num
/-- The row's length. -/
theorem len : Ideal.ofBits .f32 0x45000000#32 = ((2048 : ℝ) : EReal) := by
  simp [Ideal.ofBits, Ideal.ieee]
  rw [← EReal.coe_mul]
  norm_num
/-- One over the row's length. -/
theorem inv : Ideal.ofBits .f32 0x3A000000#32 = ((1 / 2048 : ℝ) : EReal) := by
  simp [Ideal.ofBits, Ideal.ieee]
  rw [← EReal.coe_mul]
  norm_num
/-- One over twice the row's length. -/
theorem inv2 : Ideal.ofBits .f32 0x39800000#32 = ((1 / 4096 : ℝ) : EReal) := by
  simp [Ideal.ofBits, Ideal.ieee]
  rw [← EReal.coe_mul]
  norm_num

/-- A square is not negative. -/
theorem sq_nonneg (e : EReal) : 0 ≤ e * e := by
  induction e with
  | bot => simp
  | top => simp
  | coe r =>
    rw [← EReal.coe_mul]
    exact EReal.coe_nonneg.mpr (mul_self_nonneg r)

/-- A number that is not negative times a sum of such numbers. -/
theorem mul_sum_nonneg {ι : Type} (s : Finset ι) (a : EReal) (f : ι → EReal) (hf : ∀ i, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

end Numbers

section Entry

open Cert.Kernel3Ideal Cert.Kernel3Ideal.Gen

variable (m : (ℓ : Loc nD τ sig) → Buf (Elt Ideal) ℓ) (c : Dev nD)

/-- The squared activations. -/
def us : S2048x8192.Idx → EReal := m ((c.tc : Thread nD τ).loc main_arg0)
/-- The residual stream. -/
def hs : S2048x2048.Idx → EReal := m ((c.tc : Thread nD τ).loc main_arg1)
/-- The target. -/
def tg : S2048x2048.Idx → EReal := m ((c.tc : Thread nD τ).loc main_arg2)
/-- The matrix. -/
def wd : S8192x2048.Idx → EReal := m ((c.tc : Thread nD τ).loc main_arg3)

/-- The matrix with a leading axis, at coordinates. -/
theorem lead_at (w : FVec Ideal S8192x2048 .f32) (k : Fin 8192) (j : Fin 2048) :
    shapeCast S1x8192x2048 w shapeCasts_S8192x2048_S1x8192x2048 (ix3 0 k j) = w (ix2 k j) := by
  pointwise []

/-- The call finds the activations. -/
theorem V_us : V m c main_v2 = us m c := by
  dsimp only [V]
  after_reads_simp
  rfl
/-- The call finds the matrix. -/
theorem V_wd : V m c main_v1 = (shapeCast S1x8192x2048 (wd m c : FVec Ideal S8192x2048 .f32) shapeCasts_S8192x2048_S1x8192x2048 : FVec Ideal S1x8192x2048 .f32) := by
  dsimp only [V]
  after_reads_simp
  rfl

/-- The output's difference to the target. -/
def Diff (x : S2048x8192.Idx → EReal) (h t : S2048x2048.Idx → EReal) (w : S8192x2048.Idx → EReal) : S2048x2048.Idx → EReal :=
  fun y => (h y + ∑ k : Fin 8192, x (ix2 (y 0) k) * w (ix2 k (y 1))) - t y

/-- The call's difference is that one. -/
theorem E_eq : E m c = Diff (us m c) (hs m c) (tg m c) (wd m c) := by
  unfold E
  rw [V_us, V_wd, V_main_arg1, V_main_arg2]
  funext y
  idx_vars y
  refine congrArg (fun s : EReal => s - tg m c (ix2 y0 y1)) ?_
  refine (add_comm _ _).trans (congrArg (fun s : EReal => hs m c (ix2 y0 y1) + s) (Finset.sum_congr rfl fun k _ => ?_))
  exact congrArg (fun s : EReal => us m c (ix2 y0 k) * s) (lead_at (wd m c) k y1)

/-- The sum of the squares. -/
def Sq (e : S2048x2048.Idx → EReal) : EReal := ∑ i : Fin 2048, ∑ j : Fin 2048, e (ix2 i j) * e (ix2 i j)

/-- The tiles' sums make up the whole sum. -/
theorem sum_tiles (f : Fin 2048 → Fin 2048 → EReal) :
    ∑ n : Fin 16, ∑ i : Fin 512, ∑ j : Fin 512, f ⟨512 * (n.val % 4) + i.val, by omega⟩ ⟨(512 * (n.val / 4) + j.val) % 2048, by omega⟩
      = ∑ i : Fin 2048, ∑ j : Fin 2048, f i j := by
  have hl : ∀ n : Fin 16, ∑ i : Fin 512, ∑ j : Fin 512, f ⟨512 * (n.val % 4) + i.val, by omega⟩ ⟨(512 * (n.val / 4) + j.val) % 2048, by omega⟩
      = ∑ p : Fin 512 × Fin 512, f ⟨512 * (n.val % 4) + p.1.val, by omega⟩ ⟨(512 * (n.val / 4) + p.2.val) % 2048, by omega⟩ := fun n =>
    (Fintype.sum_prod_type (fun p : Fin 512 × Fin 512 => f ⟨512 * (n.val % 4) + p.1.val, by omega⟩ ⟨(512 * (n.val / 4) + p.2.val) % 2048, by omega⟩)).symm
  simp only [hl]
  rw [← Fintype.sum_prod_type (fun p : Fin 16 × (Fin 512 × Fin 512) => f ⟨512 * (p.1.val % 4) + p.2.1.val, by omega⟩ ⟨(512 * (p.1.val / 4) + p.2.2.val) % 2048, by omega⟩),
    ← Fintype.sum_prod_type (fun p : Fin 2048 × Fin 2048 => f p.1 p.2)]
  refine Finset.sum_bij' (fun p _ => (⟨512 * (p.1.val % 4) + p.2.1.val, by omega⟩, ⟨(512 * (p.1.val / 4) + p.2.2.val) % 2048, by omega⟩))
    (fun p _ => (⟨4 * (p.2.val / 512) + p.1.val / 512, by omega⟩, (⟨p.1.val % 512, by omega⟩, ⟨p.2.val % 512, by omega⟩))) ?_ ?_ ?_ ?_ ?_
  · intros; simp
  · intros; simp
  · rintro ⟨n, i, j⟩ -
    exact Prod.ext (Fin.ext (by simp only []; omega)) (Prod.ext (Fin.ext (by simp only []; omega)) (Fin.ext (by simp only []; omega)))
  · rintro ⟨i, j⟩ -
    exact Prod.ext (Fin.ext (by simp only []; omega)) (Fin.ext (by simp only []; omega))
  · intros; rfl

/-- The loss. -/
def L (e : S2048x2048.Idx → EReal) : EReal := ((1 / 4096 : ℝ) : EReal) * Sq e

/-- The grid's parts make up the loss. -/
theorem loss_eq (e : S2048x2048.Idx → EReal) : ∑ n ∈ Finset.range 16, part e n = L e := by
  unfold part L Sq
  rw [← mul_sum_nonneg _ _ _ fun n => Finset.sum_nonneg fun i _ => Finset.sum_nonneg fun j _ => sq_nonneg _, inv2,
    ← sum_tiles fun i j => e (ix2 i j) * e (ix2 i j), Finset.sum_range]

/-- The gradient. -/
def D (e : S2048x2048.Idx → EReal) : S2048x2048.Idx → EReal := fun y => ((1 / 2048 : ℝ) : EReal) * e y

/-- The call's gradient is that one. -/
theorem dy_eq (e : S2048x2048.Idx → EReal) : Dy e = D e := by
  funext y
  unfold Dy D
  rw [inv, mul_comm]

end Entry

section Reference

open Cert.Reference3Ideal Cert.Reference3Ideal.Read

variable (x : FVec Ideal S2048x8192 .f32) (h t : FVec Ideal S2048x2048 .f32) (w : FVec Ideal S8192x2048 .f32)

/-- The reference's difference. -/
theorem ref_e : val_main_v2 (F := Ideal) x h t w = Diff x h t w := by
  funext y
  idx_vars y
  have hp : val_main_v0 (F := Ideal) x w (ix2 y0 y1) = ∑ k : Fin 8192, x (ix2 y0 k) * w (ix2 k y1) :=
    (val_main_v0_apply x w _).trans (Finset.sum_congr rfl fun k _ => congrArg₂ (fun s t : EReal => s * t)
      (congrArg x (Shape.idx_ext₂ rfl rfl)) (congrArg w (Shape.idx_ext₂ rfl rfl)))
  rw [val_main_v2_apply, val_main_v1_apply, hp]
  rfl

/-- The reference's gradient. -/
theorem ref_dy : val_main_v16 (F := Ideal) x h t w = D (Diff x h t w) := by
  funext y
  rw [val_main_v16_apply, val_main_v15_apply, val_main_v14_apply, val_main_v12_apply, val_main_v11_apply, val_main_v13_apply,
    val_main_v5_apply, val_main_v4_apply, ref_e, val_main_cst_apply, val_main_cst_4_apply, val_main_cst_5_apply, val_main_cst_6_apply]
  show Ideal.div (Ideal.ofBits .f32 0x3F000000#32 * Ideal.ofBits .f32 0x3F800000#32) (Ideal.ofBits .f32 0x45000000#32)
    * (Ideal.ofBits .f32 0x40000000#32 * Diff x h t w y) = ((1 / 2048 : ℝ) : EReal) * Diff x h t w y
  rw [half, one, len, two, Ideal.div_coe (by norm_num), ← EReal.coe_mul, ← EReal.coe_mul, ← mul_assoc, ← EReal.coe_mul]
  norm_num

/-- A row's mean in the reference. -/
theorem ref_row (i : Fin 2048) : val_main_v8 (F := Ideal) x h t w (ix1 i)
    = ((1 / 2048 : ℝ) : EReal) * ∑ j : Fin 2048, Diff x h t w (ix2 i j) * Diff x h t w (ix2 i j) := by
  rw [val_main_v8_apply, val_main_v7_apply, val_main_v6_apply, val_main_cst_1_apply, val_main_cst_0_apply]
  show Ideal.div (Ideal.ofBits .f32 0x00000000#32 + ∑ k : Fin 2048, val_main_v3 (F := Ideal) x h t w (idx_main_v6 (ix1 i) k)) (Ideal.ofBits .f32 0x45000000#32) = _
  rw [Ideal.ofBits_zero_f32, zero_add, len, Ideal.div_coe (by norm_num), mul_comm]
  refine congrArg (fun s : EReal => ((1 / 2048 : ℝ) : EReal) * s) (Finset.sum_congr rfl fun j _ => ?_)
  rw [val_main_v3_apply, ref_e, show idx_main_v6 (ix1 i) j = ix2 i j from Shape.idx_ext₂ rfl rfl]
  rfl

/-- A sum over a one-axis index. -/
theorem sum_ix1 (f : S2048.Idx → EReal) : ∑ y : S2048.Idx, f y = ∑ i : Fin 2048, f (ix1 i) :=
  Finset.sum_bij' (fun y _ => y 0) (fun i _ => ix1 i) (fun _ _ => Finset.mem_univ _) (fun _ _ => Finset.mem_univ _)
    (fun y _ => funext fun a => Fin.ext (by match a with | ⟨0, _⟩ => rfl)) (fun _ _ => rfl)
    (fun y _ => congrArg f (funext fun a => Fin.ext (by match a with | ⟨0, _⟩ => rfl)))

/-- The reference's loss. -/
theorem ref_loss (i : S_.Idx) : val_main_v10 (F := Ideal) x h t w i = L (Diff x h t w) := by
  rw [val_main_v10_apply, val_main_v9_apply, val_main_cst_3_apply, val_main_cst_2_apply]
  show Ideal.ofBits .f32 0x3F000000#32 * (Ideal.ofBits .f32 0x00000000#32 + ∑ y : S2048.Idx, val_main_v8 (F := Ideal) x h t w y) = _
  rw [Ideal.ofBits_zero_f32, zero_add, half, sum_ix1]
  simp only [ref_row]
  rw [← mul_sum_nonneg _ _ _ fun n => Finset.sum_nonneg fun j _ => sq_nonneg _, ← mul_assoc, ← EReal.coe_mul]
  unfold L Sq
  norm_num

/-- The reference's loss as it leaves it. -/
theorem ref_result : val_main_v17 (F := Ideal) x h t w = fun _ => L (Diff x h t w) := by
  funext y
  exact ref_loss x h t w _

end Reference

/-- The kernel runs and leaves its arguments. -/
theorem frame_k : @quiescent_Kernel3 Kernel3.Gen.facts := fun m ρ _ => Kernel3.Gen.frame m ρ
/-- The idealized kernel runs and leaves its arguments. -/
theorem frame_ki : @quiescent_Kernel3Ideal Kernel3Ideal.Gen.facts := fun m ρ _ => Kernel3Ideal.Gen.frame m ρ
/-- The reference runs and leaves its arguments. -/
theorem frame_ref : @quiescent_Reference3Ideal Reference3Ideal.Gen.facts := fun m ρ _ =>
  (θ_run Reference3Ideal.defs _ _).mono (fun r h => ⟨fun c => (h c).2.2, sem_eq_zero_of_no_sems (by decide) r.2⟩)
    (Reference3Ideal.Value.run (F := Ideal) m ρ)

/-- The value claim: the call and the reference leave the same loss and the same gradient. -/
theorem value : @algebraic_Kernel3Ideal_Reference3Ideal Kernel3Ideal.Gen.facts Reference3Ideal.Gen.facts := by
  intro m g m' g' _ he
  refine ⟨fun c _ => L (Diff (us m c) (hs m c) (tg m c) (wd m c)), fun c => D (Diff (us m c) (hs m c) (tg m c) (wd m c)), ?_, ?_⟩
  · refine (θ_run _ _ _).mono (fun r h c => ?_) (Kernel3Ideal.Value.run_blocks (F := Ideal) m g)
    obtain ⟨h4, -, h6, hk⟩ := h c
    refine ⟨h6.trans ?_, h4.trans ?_, hk⟩
    · rw [arr6, loss_eq, E_eq]
    · rw [arr4, dy_eq, E_eq]
  · refine (θ_run _ _ _).mono (fun r h c => ?_) (Reference3Ideal.Value.run m' g')
    obtain ⟨h0, h1, hk⟩ := h c
    obtain ⟨e0, e1, e2, e3⟩ := he c
    refine ⟨((h0.trans (Reference3Ideal.Read.val_main_v17_eq _ _ _ _)).trans (ref_result _ _ _ _)).trans ?_,
      ((h1.trans (Reference3Ideal.Read.val_main_v16_eq _ _ _ _)).trans (ref_dy _ _ _ _)).trans ?_, hk⟩
    · rw [e0, e1, e2, e3]; rfl
    · rw [e0, e1, e2, e3]; rfl

end Cert.Loss

end
-- ==== Proof.ProjPay.lean ====
/- The blocks the input projections' backward call computes, at coordinates. -/
module

public import proofs.«01_k».proof.Proof.Gen.Kernel4Ideal.Frame
public import Idealize.ShloMosaic.Lib.Pointwise

@[expose] public section

set_option maxRecDepth 16384
set_option maxHeartbeats 1000000

noncomputable section

namespace Cert.Proj

open Idealize.ShloMosaic Idealize.ShloMosaic.TcCoe Cert.Kernel4Ideal Cert.Kernel4Ideal.Gen

/-- A product over the wide part of a piece. -/
def wide (x : Vec Ideal S256x768 .bf16) (w : Vec Ideal S1x512x768 .bf16) (i : Fin 256) (k : Fin 512) : EReal :=
  ∑ j : Fin 768, x (ix2 i j) * w (ix3 0 k j)
/-- A product over the narrow part of a piece. -/
def slim (x : Vec Ideal S256x512 .bf16) (w : Vec Ideal S1x512x512 .bf16) (i : Fin 256) (k : Fin 512) : EReal :=
  ∑ j : Fin 512, x (ix2 i j) * w (ix3 0 k j)

/-- The first four products. -/
theorem pay3 (x0 : Vec Ideal S256x768 .bf16) (w0 : Vec Ideal S1x512x768 .bf16) (x1 : Vec Ideal S256x512 .bf16) (w1 : Vec Ideal S1x512x512 .bf16)
    (x2 : Vec Ideal S256x768 .bf16) (w2 : Vec Ideal S1x512x768 .bf16) (x3 : Vec Ideal S256x512 .bf16) (w3 : Vec Ideal S1x512x512 .bf16)
    (i : Fin 256) (k : Fin 512) :
    k0_pay3 (F := Ideal) x0 w0 x1 w1 x2 w2 x3 w3 (ix2 i k)
      = ((wide x0 w0 i k + slim x1 w1 i k) + wide x2 w2 i k) + slim x3 w3 i k := by
  unfold wide slim
  pointwise [k0_pay3]

/-- A wide product by itself. -/
theorem pay4 (x : Vec Ideal S256x768 .bf16) (w : Vec Ideal S1x512x768 .bf16) (i : Fin 256) (k : Fin 512) :
    k0_pay4 (F := Ideal) x w (ix2 i k) = wide x w i k := by
  unfold wide
  pointwise [k0_pay4]

/-- Four more products. -/
theorem pay5 (a b : FVec Ideal S256x512 .f32) (x0 : Vec Ideal S256x512 .bf16) (w0 : Vec Ideal S1x512x512 .bf16) (x1 : Vec Ideal S256x768 .bf16) (w1 : Vec Ideal S1x512x768 .bf16)
    (x2 : Vec Ideal S256x512 .bf16) (w2 : Vec Ideal S1x512x512 .bf16) (x3 : Vec Ideal S256x768 .bf16) (w3 : Vec Ideal S1x512x768 .bf16)
    (i : Fin 256) (k : Fin 512) :
    k0_pay5 (F := Ideal) a b x0 w0 x1 w1 x2 w2 x3 w3 (ix2 i k)
      = ((((a (ix2 i k) + b (ix2 i k)) + slim x0 w0 i k) + wide x1 w1 i k) + slim x2 w2 i k) + wide x3 w3 i k := by
  unfold wide slim
  pointwise [k0_pay5]

/-- A narrow product by itself. -/
theorem pay6 (x : Vec Ideal S256x512 .bf16) (w : Vec Ideal S1x512x512 .bf16) (i : Fin 256) (k : Fin 512) :
    k0_pay6 (F := Ideal) x w (ix2 i k) = slim x w i k := by
  unfold slim
  pointwise [k0_pay6]

/-- Four more products. -/
theorem pay7 (a b : FVec Ideal S256x512 .f32) (x0 : Vec Ideal S256x768 .bf16) (w0 : Vec Ideal S1x512x768 .bf16) (x1 : Vec Ideal S256x512 .bf16) (w1 : Vec Ideal S1x512x512 .bf16)
    (x2 : Vec Ideal S256x768 .bf16) (w2 : Vec Ideal S1x512x768 .bf16) (x3 : Vec Ideal S256x512 .bf16) (w3 : Vec Ideal S1x512x512 .bf16)
    (i : Fin 256) (k : Fin 512) :
    k0_pay7 (F := Ideal) a b x0 w0 x1 w1 x2 w2 x3 w3 (ix2 i k)
      = ((((a (ix2 i k) + b (ix2 i k)) + wide x0 w0 i k) + slim x1 w1 i k) + wide x2 w2 i k) + slim x3 w3 i k := by
  unfold wide slim
  pointwise [k0_pay7]

/-- A wide product by itself. -/
theorem pay8 (x : Vec Ideal S256x768 .bf16) (w : Vec Ideal S1x512x768 .bf16) (i : Fin 256) (k : Fin 512) :
    k0_pay8 (F := Ideal) x w (ix2 i k) = wide x w i k := by
  unfold wide
  pointwise [k0_pay8]

/-- The last product added. -/
theorem pay9 (a b : FVec Ideal S256x512 .f32) (x : Vec Ideal S256x512 .bf16) (w : Vec Ideal S1x512x512 .bf16) (i : Fin 256) (k : Fin 512) :
    k0_pay9 (F := Ideal) a b x w (ix2 i k) = (a (ix2 i k) + b (ix2 i k)) + slim x w i k := by
  unfold slim
  pointwise [k0_pay9]

/-- The four partial gradients' sum. -/
theorem pay10 (p0 p1 p2 p3 : Vec Ideal S1x32x2048 .bf16) (i : Fin 32) (j : Fin 2048) :
    k0_pay10 (F := Ideal) p0 p1 p2 p3 (ix2 i j) = ((p0 (ix3 0 i j) + p1 (ix3 0 i j)) + p2 (ix3 0 i j)) + p3 (ix3 0 i j) := by
  pointwise [k0_pay10]

/-- The first moment's step from a gradient. -/
def mom (g m : EReal) : EReal := Ideal.ofBits .f32 0x3F666666#32 * m + Ideal.ofBits .f32 0x3DCCCCCD#32 * g
/-- The second moment's step from a gradient. -/
def var (g v : EReal) : EReal := Ideal.ofBits .f32 0x3F7FBE77#32 * v + Ideal.ofBits .f32 0x3A83126F#32 * (g * g)
/-- The weight's step from the moments. -/
def adam (m v w : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The second moment's block. -/
theorem pay1 (g : FVec Ideal S32x2048 .f32) (v : Vec Ideal S32x2048 .f32) (y : S32x2048.Idx) :
    k0_pay1 (F := Ideal) g v y = var (g y) (v y) := rfl

/-- The step's block. -/
theorem pay2 (g : FVec Ideal S32x2048 .f32) (w v : Vec Ideal S32x2048 .f32) (m : FVec Ideal S32x2048 .f32) (y : S32x2048.Idx) :
    k0_pay2 (F := Ideal) g w v m y = adam (m y) (var (g y) (v y)) (w y) := rfl

/-- The first moment's block. -/
theorem pay11 (p0 p1 p2 p3 : Vec Ideal S1x32x2048 .bf16) (m : Vec Ideal S32x2048 .f32) (y : S32x2048.Idx) :
    k0_pay11 (F := Ideal) p0 p1 p2 p3 m y = mom (k0_pay10 (F := Ideal) p0 p1 p2 p3 y) (m y) := rfl

end Cert.Proj

end
-- ==== Proof.ProjArr.lean ====
/- The input projections' backward call: blocks, arrays. -/
module

public import proofs.«01_k».proof.Proof.ProjPay
public import Idealize.ShloMosaic.Lib.Pipeline.ValueKit

@[expose] public section

set_option maxRecDepth 16384
set_option maxHeartbeats 1000000

noncomputable section

namespace Cert.Proj

open Idealize.ShloMosaic Idealize.ShloMosaic.TcCoe Cert.Kernel4Ideal Cert.Kernel4Ideal.Gen

variable (m : (ℓ : Loc nD τ sig) → Buf (Elt Ideal) ℓ) (c : Dev nD)

/-- A row of the product's block. -/
def row (t : Fin cfg0.N) (i : Fin 256) : Fin 2048 := ⟨256 * (t.val % 8) + i.val, by omega⟩
/-- A column of the product's block. -/
def col (t : Fin cfg0.N) (k : Fin 512) : Fin 2048 := ⟨512 * (t.val / 8) + k.val, by have h : t.val < 32 := t.isLt; omega⟩
/-- A row of the weight's block. -/
def slab (t : Fin cfg0.N) (i : Fin 32) : Fin 1024 := ⟨32 * t.val + i.val, by have h : t.val < 32 := t.isLt; omega⟩
/-- An inner coordinate in a piece's wide part. -/
def left (q : Fin 8) (e : Fin 768) : Fin 10240 := ⟨1280 * q.val + e.val, by omega⟩
/-- An inner coordinate in a piece's narrow part. -/
def right (q : Fin 8) (e : Fin 512) : Fin 10240 := ⟨1280 * q.val + 768 + e.val, by omega⟩

/-- Where the blocks lie. -/
theorem idx : ∀ t : Fin cfg0.N, win0_0.index t = ![t.val % 8, 0] ∧ win0_1.index t = ![0, t.val / 8, 0]
    ∧ win0_2.index t = ![0, t.val / 8, 0] ∧ win0_3.index t = ![0, t.val, 0] ∧ win0_4.index t = ![t.val, 0]
    ∧ win0_5.index t = ![t.val, 0] ∧ win0_6.index t = ![t.val, 0] ∧ win0_7.index t = ![t.val % 8, t.val / 8]
    ∧ win0_8.index t = ![t.val, 0] ∧ win0_9.index t = ![t.val, 0] ∧ win0_10.index t = ![t.val, 0]
    ∧ win0_11.index t = ![t.val, 0] :=
  (by decide +kernel : ∀ t : Fin grid0.N, _)

/-- The gradient's block. -/
theorem blk_x (t : Fin cfg0.N) (i : Fin 256) (k : Fin 10240) : iblk m c 0 t (ix2 i k) = V m c main_v3 (ix2 (row t i) k) := by
  unfold iblk
  blk_ext [idx t, row]
/-- The wide parts' block. -/
theorem blk_a (t : Fin cfg0.N) (q : Fin 8) (j : Fin 512) (e : Fin 768) :
    iblk m c 1 t (ix3 q j e) = V m c main_v4 (ix3 q (col t j) e) := by
  unfold iblk
  blk_ext [idx t, col]
/-- The narrow parts' block. -/
theorem blk_b (t : Fin cfg0.N) (q : Fin 8) (j : Fin 512) (e : Fin 512) :
    iblk m c 2 t (ix3 q j e) = V m c main_v5 (ix3 q (col t j) e) := by
  unfold iblk
  blk_ext [idx t, col]
/-- The partial gradients' block. -/
theorem blk_p (t : Fin cfg0.N) (q : Fin 4) (i : Fin 32) (j : Fin 2048) :
    iblk m c 3 t (ix3 q i j) = V m c main_v6 (ix3 q (slab t i) j) := by
  unfold iblk
  blk_ext [idx t, slab]
/-- The weight's block. -/
theorem blk_w (t : Fin cfg0.N) (i : Fin 32) (j : Fin 2048) : iblk m c 4 t (ix2 i j) = V m c main_arg3 (ix2 (slab t i) j) := by
  unfold iblk
  blk_ext [idx t, slab]
/-- The first moment's block. -/
theorem blk_m (t : Fin cfg0.N) (i : Fin 32) (j : Fin 2048) : iblk m c 5 t (ix2 i j) = V m c main_arg4 (ix2 (slab t i) j) := by
  unfold iblk
  blk_ext [idx t, slab]
/-- The second moment's block. -/
theorem blk_v (t : Fin cfg0.N) (i : Fin 32) (j : Fin 2048) : iblk m c 6 t (ix2 i j) = V m c main_arg5 (ix2 (slab t i) j) := by
  unfold iblk
  blk_ext [idx t, slab]
/-- Where the product's block lies. -/
theorem emb7 (t : Fin cfg0.N) (i : Fin 256) (k : Fin 512) : ((cfg0.win 7).blk t).view.emb (ix2 i k) = ix2 (row t i) (col t k) := by
  blk_ext [idx t, row, col]
/-- Where the gradient's block lies. -/
theorem emb8 (t : Fin cfg0.N) (i : Fin 32) (j : Fin 2048) : ((cfg0.win 8).blk t).view.emb (ix2 i j) = ix2 (slab t i) j := by
  blk_ext [idx t, slab]
/-- Where the step's block lies. -/
theorem emb9 (t : Fin cfg0.N) (i : Fin 32) (j : Fin 2048) : ((cfg0.win 9).blk t).view.emb (ix2 i j) = ix2 (slab t i) j := by
  blk_ext [idx t, slab]
/-- Where the new first moment's block lies. -/
theorem emb10 (t : Fin cfg0.N) (i : Fin 32) (j : Fin 2048) : ((cfg0.win 10).blk t).view.emb (ix2 i j) = ix2 (slab t i) j := by
  blk_ext [idx t, slab]
/-- Where the new second moment's block lies. -/
theorem emb11 (t : Fin cfg0.N) (i : Fin 32) (j : Fin 2048) : ((cfg0.win 11).blk t).view.emb (ix2 i j) = ix2 (slab t i) j := by
  blk_ext [idx t, slab]

/-- A wide part of the gradient's block. -/
theorem ld_xa (x : Vec Ideal S256x10240 .bf16) (q : Fin 8) (n : ℕ) (hn : n = 1280 * q.val) (h) (i : Fin 256) (e : Fin 768) :
    View.ld x (Rect.unit (s := S256x10240) ![0, n] S256x768.size h) (ix2 i e) = x (ix2 i (left q e)) := by
  subst hn
  exact congrArg x (Shape.idx_ext₂ (by simp [Rect.unit]) (by simp [Rect.unit, left]))
/-- A narrow part of the gradient's block. -/
theorem ld_xb (x : Vec Ideal S256x10240 .bf16) (q : Fin 8) (n : ℕ) (hn : n = 1280 * q.val + 768) (h) (i : Fin 256) (e : Fin 512) :
    View.ld x (Rect.unit (s := S256x10240) ![0, n] S256x512.size h) (ix2 i e) = x (ix2 i (right q e)) := by
  subst hn
  exact congrArg x (Shape.idx_ext₂ (by simp [Rect.unit]) (by simp [Rect.unit, right]))
/-- A piece of the wide parts' block. -/
theorem ld_a (w : Vec Ideal S8x512x768 .bf16) (q : Fin 8) (n : ℕ) (hn : n = q.val) (h) (k : Fin 512) (e : Fin 768) :
    View.ld w (Rect.unit (s := S8x512x768) ![n, 0, 0] S1x512x768.size h) (ix3 0 k e) = w (ix3 q k e) := by
  subst hn
  exact congrArg w (funext fun a => Fin.ext (by match a with | ⟨0, _⟩ => simp [Rect.unit] | ⟨1, _⟩ => simp [Rect.unit] | ⟨2, _⟩ => simp [Rect.unit]))
/-- A piece of the narrow parts' block. -/
theorem ld_b (w : Vec Ideal S8x512x512 .bf16) (q : Fin 8) (n : ℕ) (hn : n = q.val) (h) (k : Fin 512) (e : Fin 512) :
    View.ld w (Rect.unit (s := S8x512x512) ![n, 0, 0] S1x512x512.size h) (ix3 0 k e) = w (ix3 q k e) := by
  subst hn
  exact congrArg w (funext fun a => Fin.ext (by match a with | ⟨0, _⟩ => simp [Rect.unit] | ⟨1, _⟩ => simp [Rect.unit] | ⟨2, _⟩ => simp [Rect.unit]))
/-- One chip's partial gradient. -/
theorem ld_p (w : Vec Ideal S4x32x2048 .bf16) (q : Fin 4) (n : ℕ) (hn : n = q.val) (h) (i : Fin 32) (j : Fin 2048) :
    View.ld w (Rect.unit (s := S4x32x2048) ![n, 0, 0] S1x32x2048.size h) (ix3 0 i j) = w (ix3 q i j) := by
  subst hn
  exact congrArg w (funext fun a => Fin.ext (by match a with | ⟨0, _⟩ => simp [Rect.unit] | ⟨1, _⟩ => simp [Rect.unit] | ⟨2, _⟩ => simp [Rect.unit]))

/-- The product over a piece's wide part. -/
def termA (x : S2048x10240.Idx → EReal) (a : S8x2048x768.Idx → EReal) (I K : Fin 2048) (q : Fin 8) : EReal :=
  ∑ e : Fin 768, x (ix2 I (left q e)) * a (ix3 q K e)
/-- The product over a piece's narrow part. -/
def termB (x : S2048x10240.Idx → EReal) (b : S8x2048x512.Idx → EReal) (I K : Fin 2048) (q : Fin 8) : EReal :=
  ∑ e : Fin 512, x (ix2 I (right q e)) * b (ix3 q K e)
/-- The product over the pieces. -/
def Dx (x : S2048x10240.Idx → EReal) (a : S8x2048x768.Idx → EReal) (b : S8x2048x512.Idx → EReal) : S2048x2048.Idx → EReal :=
  fun y => ∑ q : Fin 8, (termA x a (y 0) (y 1) q + termB x b (y 0) (y 1) q)

/-- Sixteen terms added one after the other are eight pairs' sum. -/
theorem sixteen (a b : Fin 8 → EReal) :
    ((((((((((((((a 0 + b 0) + a 1) + b 1) + a 2) + b 2) + a 3) + b 3) + a 4) + b 4) + a 5) + b 5) + a 6) + b 6) + a 7) + b 7
      = ∑ q : Fin 8, (a q + b q) := by
  rw [Fin.sum_univ_eight]
  simp only [add_assoc]

/-- A wide product from the whole arrays. -/
theorem wide_at (x : Vec Ideal S256x10240 .bf16) (w : Vec Ideal S8x512x768 .bf16) (X : S2048x10240.Idx → EReal) (W : S8x2048x768.Idx → EReal)
    (i : Fin 256) (k : Fin 512) (I K : Fin 2048) (hx : ∀ l, x (ix2 i l) = X (ix2 I l)) (hw : ∀ q e, w (ix3 q k e) = W (ix3 q K e))
    (q : Fin 8) (n n' : ℕ) (hn : n = 1280 * q.val) (hn' : n' = q.val) (h h') :
    wide (View.ld x (Rect.unit (s := S256x10240) ![0, n] S256x768.size h))
        (View.ld w (Rect.unit (s := S8x512x768) ![n', 0, 0] S1x512x768.size h')) i k = termA X W I K q :=
  Finset.sum_congr rfl fun e _ => congrArg₂ (fun a b : EReal => a * b) ((ld_xa x q n hn h i e).trans (hx (left q e)))
    ((ld_a w q n' hn' h' k e).trans (hw q e))
/-- A narrow product from the whole arrays. -/
theorem slim_at (x : Vec Ideal S256x10240 .bf16) (w : Vec Ideal S8x512x512 .bf16) (X : S2048x10240.Idx → EReal) (W : S8x2048x512.Idx → EReal)
    (i : Fin 256) (k : Fin 512) (I K : Fin 2048) (hx : ∀ l, x (ix2 i l) = X (ix2 I l)) (hw : ∀ q e, w (ix3 q k e) = W (ix3 q K e))
    (q : Fin 8) (n n' : ℕ) (hn : n = 1280 * q.val + 768) (hn' : n' = q.val) (h h') :
    slim (View.ld x (Rect.unit (s := S256x10240) ![0, n] S256x512.size h))
        (View.ld w (Rect.unit (s := S8x512x512) ![n', 0, 0] S1x512x512.size h')) i k = termB X W I K q :=
  Finset.sum_congr rfl fun e _ => congrArg₂ (fun a b : EReal => a * b) ((ld_xb x q n hn h i e).trans (hx (right q e)))
    ((ld_b w q n' hn' h' k e).trans (hw q e))

/-- The product's block from the whole arrays. -/
theorem block_at (x : Vec Ideal S256x10240 .bf16) (a : Vec Ideal S8x512x768 .bf16) (b : Vec Ideal S8x512x512 .bf16)
    (X : S2048x10240.Idx → EReal) (A : S8x2048x768.Idx → EReal) (B : S8x2048x512.Idx → EReal)
    (i : Fin 256) (k : Fin 512) (I K : Fin 2048) (hx : ∀ l, x (ix2 i l) = X (ix2 I l)) (ha : ∀ q e, a (ix3 q k e) = A (ix3 q K e))
    (hb : ∀ q e, b (ix3 q k e) = B (ix3 q K e)) :
    k0_pay9 (F := Ideal) (k0_pay7 (F := Ideal) (k0_pay5 (F := Ideal) (k0_pay3 (F := Ideal) (View.ld x r0_0) (View.ld a r0_1) (View.ld x r0_2) (View.ld b r0_3) (View.ld x r0_4) (View.ld a r0_5) (View.ld x r0_6) (View.ld b r0_7)) (k0_pay4 (F := Ideal) (View.ld x r0_8) (View.ld a r0_9)) (View.ld x r0_10) (View.ld b r0_11) (View.ld x r0_12) (View.ld a r0_13) (View.ld x r0_14) (View.ld b r0_15) (View.ld x r0_16) (View.ld a r0_17)) (k0_pay6 (F := Ideal) (View.ld x r0_18) (View.ld b r0_19)) (View.ld x r0_20) (View.ld a r0_21) (View.ld x r0_22) (View.ld b r0_23) (View.ld x r0_24) (View.ld a r0_25) (View.ld x r0_26) (View.ld b r0_27)) (k0_pay8 (F := Ideal) (View.ld x r0_28) (View.ld a r0_29)) (View.ld x r0_30) (View.ld b r0_31) (ix2 i k)
      = Dx X A B (ix2 I K) := by
  have P := wide_at x a X A i k I K hx ha
  have Q := slim_at x b X B i k I K hx hb
  rw [pay9, pay7, pay5, pay3, pay4, pay6, pay8]
  rw [P 0 0 0 rfl rfl, P 1 1280 1 rfl rfl, P 2 2560 2 rfl rfl, P 3 3840 3 rfl rfl, P 4 5120 4 rfl rfl, P 5 6400 5 rfl rfl,
    P 6 7680 6 rfl rfl, P 7 8960 7 rfl rfl,
    Q 0 768 0 rfl rfl, Q 1 2048 1 rfl rfl, Q 2 3328 2 rfl rfl, Q 3 4608 3 rfl rfl, Q 4 5888 4 rfl rfl, Q 5 7168 5 rfl rfl,
    Q 6 8448 6 rfl rfl, Q 7 9728 7 rfl rfl]
  exact sixteen (termA X A I K) (termB X B I K)

/-- The product's block at a grid point. -/
theorem out7 (t : Fin cfg0.N) (i : Fin 256) (k : Fin 512) :
    out0_7 (F := Ideal) (iblk m c 0 t) (iblk m c 1 t) (iblk m c 2 t) (iblk m c 3 t) (iblk m c 4 t) (iblk m c 5 t) (iblk m c 6 t) (ix2 i k)
      = Dx (V m c main_v3) (V m c main_v4) (V m c main_v5) (ix2 (row t i) (col t k)) := by
  unfold out0_7
  frame_out
  exact block_at (iblk m c 0 t) (iblk m c 1 t) (iblk m c 2 t) (V m c main_v3) (V m c main_v4) (V m c main_v5) i k (row t i) (col t k)
    (blk_x m c t i) (fun q e => blk_a m c t q k e) (fun q e => blk_b m c t q k e)

/-- The product's array. -/
theorem arr7 : (dats (F := Ideal) m 0 c).arrAt 7 cfg0.N = Dx (V m c main_v3) (V m c main_v4) (V m c main_v5) := by
  refine (dats (F := Ideal) m 0 c).arrAt_eq_of_covers 7 _ (by decide +kernel) fun t hf j => ?_
  blk_simp
  rw [after0_7]
  idx_vars j
  refine (out7 m c t j0 j1).trans ?_
  exact (congrArg (Dx (V m c main_v3) (V m c main_v4) (V m c main_v5)) (emb7 t j0 j1)).symm

/-- The four partial gradients' sum. -/
def Gr (p : S4x1024x2048.Idx → EReal) : S1024x2048.Idx → EReal :=
  fun y => ((p (ix3 0 (y 0) (y 1)) + p (ix3 1 (y 0) (y 1))) + p (ix3 2 (y 0) (y 1))) + p (ix3 3 (y 0) (y 1))

/-- The sum's block from the whole array. -/
theorem grad_at (p : Vec Ideal S4x32x2048 .bf16) (P : S4x1024x2048.Idx → EReal) (i : Fin 32) (I : Fin 1024) (j : Fin 2048)
    (hp : ∀ q, p (ix3 q i j) = P (ix3 q I j)) :
    k0_pay10 (F := Ideal) (View.ld p r0_33) (View.ld p r0_34) (View.ld p r0_35) (View.ld p r0_36) (ix2 i j) = Gr P (ix2 I j) := by
  rw [pay10, ld_p p 0 0 rfl, ld_p p 1 1 rfl, ld_p p 2 2 rfl, ld_p p 3 3 rfl, hp, hp, hp, hp]
  rfl

/-- The gradient's block at a grid point. -/
theorem g_at (t : Fin cfg0.N) (i : Fin 32) (j : Fin 2048) :
    k0_pay12 (F := Ideal) (iblk m c 0 t) (iblk m c 1 t) (iblk m c 2 t) (iblk m c 3 t) (iblk m c 4 t) (iblk m c 5 t) (iblk m c 6 t) (ix2 i j)
      = Gr (V m c main_v6) (ix2 (slab t i) j) :=
  grad_at (iblk m c 3 t) (V m c main_v6) i (slab t i) j (fun q => blk_p m c t q i j)

/-- The first moments after the step. -/
def Mo (p : S4x1024x2048.Idx → EReal) (v : S1024x2048.Idx → EReal) : S1024x2048.Idx → EReal := fun y => mom (Gr p y) (v y)
/-- The second moments after the step. -/
def Va (p : S4x1024x2048.Idx → EReal) (v : S1024x2048.Idx → EReal) : S1024x2048.Idx → EReal := fun y => var (Gr p y) (v y)
/-- The step. -/
def St (p : S4x1024x2048.Idx → EReal) (w a b : S1024x2048.Idx → EReal) : S1024x2048.Idx → EReal :=
  fun y => adam (Mo p a y) (Va p b y) (w y)

/-- The whole block read. -/
theorem ld_whole (x : Vec Ideal S32x2048 .f32) : View.ld x r0_37 = x := by
  funext y
  exact congrArg x (Shape.idx_ext₂ (by simp [Rect.unit]) (by simp [Rect.unit]))

/-- The new first moment's block at a grid point. -/
theorem m_at (t : Fin cfg0.N) (i : Fin 32) (j : Fin 2048) :
    k0_pay13 (F := Ideal) (iblk m c 0 t) (iblk m c 1 t) (iblk m c 2 t) (iblk m c 3 t) (iblk m c 4 t) (iblk m c 5 t) (iblk m c 6 t) (ix2 i j)
      = Mo (V m c main_v6) (V m c main_arg4) (ix2 (slab t i) j) := by
  refine (pay11 _ _ _ _ _ _).trans (congrArg₂ mom (g_at m c t i j) ?_)
  exact (congrFun (ld_whole (iblk m c 5 t)) (ix2 i j)).trans (blk_m m c t i j)

/-- The gradient's block at a grid point. -/
theorem out8 (t : Fin cfg0.N) (i : Fin 32) (j : Fin 2048) :
    out0_8 (F := Ideal) (iblk m c 0 t) (iblk m c 1 t) (iblk m c 2 t) (iblk m c 3 t) (iblk m c 4 t) (iblk m c 5 t) (iblk m c 6 t) (ix2 i j)
      = Gr (V m c main_v6) (ix2 (slab t i) j) := by
  unfold out0_8
  frame_out
  exact g_at m c t i j

/-- The gradient's array. -/
theorem arr8 : (dats (F := Ideal) m 0 c).arrAt 8 cfg0.N = Gr (V m c main_v6) := by
  refine (dats (F := Ideal) m 0 c).arrAt_eq_of_covers 8 _ (by decide +kernel) fun t hf j => ?_
  blk_simp
  rw [after0_8]
  idx_vars j
  refine (out8 m c t j0 j1).trans ?_
  exact (congrArg (Gr (V m c main_v6)) (emb8 t j0 j1)).symm

/-- The step's block at a grid point. -/
theorem out9 (t : Fin cfg0.N) (i : Fin 32) (j : Fin 2048) :
    out0_9 (F := Ideal) (iblk m c 0 t) (iblk m c 1 t) (iblk m c 2 t) (iblk m c 3 t) (iblk m c 4 t) (iblk m c 5 t) (iblk m c 6 t) (ix2 i j)
      = St (V m c main_v6) (V m c main_arg3) (V m c main_arg4) (V m c main_arg5) (ix2 (slab t i) j) := by
  unfold out0_9
  frame_out
  refine (pay2 _ _ _ _ _).trans ?_
  rw [g_at, m_at, blk_w, blk_v]
  rfl

/-- The step's array. -/
theorem arr9 : (dats (F := Ideal) m 0 c).arrAt 9 cfg0.N = St (V m c main_v6) (V m c main_arg3) (V m c main_arg4) (V m c main_arg5) := by
  refine (dats (F := Ideal) m 0 c).arrAt_eq_of_covers 9 _ (by decide +kernel) fun t hf j => ?_
  blk_simp
  rw [after0_9]
  idx_vars j
  refine (out9 m c t j0 j1).trans ?_
  exact (congrArg (St (V m c main_v6) (V m c main_arg3) (V m c main_arg4) (V m c main_arg5)) (emb9 t j0 j1)).symm

/-- The new first moment's block at a grid point. -/
theorem out10 (t : Fin cfg0.N) (i : Fin 32) (j : Fin 2048) :
    out0_10 (F := Ideal) (iblk m c 0 t) (iblk m c 1 t) (iblk m c 2 t) (iblk m c 3 t) (iblk m c 4 t) (iblk m c 5 t) (iblk m c 6 t) (ix2 i j)
      = Mo (V m c main_v6) (V m c main_arg4) (ix2 (slab t i) j) := by
  unfold out0_10
  frame_out
  exact m_at m c t i j

/-- The new first moment's array. -/
theorem arr10 : (dats (F := Ideal) m 0 c).arrAt 10 cfg0.N = Mo (V m c main_v6) (V m c main_arg4) := by
  refine (dats (F := Ideal) m 0 c).arrAt_eq_of_covers 10 _ (by decide +kernel) fun t hf j => ?_
  blk_simp
  rw [after0_10]
  idx_vars j
  refine (out10 m c t j0 j1).trans ?_
  exact (congrArg (Mo (V m c main_v6) (V m c main_arg4)) (emb10 t j0 j1)).symm

/-- The new second moment's block at a grid point. -/
theorem out11 (t : Fin cfg0.N) (i : Fin 32) (j : Fin 2048) :
    out0_11 (F := Ideal) (iblk m c 0 t) (iblk m c 1 t) (iblk m c 2 t) (iblk m c 3 t) (iblk m c 4 t) (iblk m c 5 t) (iblk m c 6 t) (ix2 i j)
      = Va (V m c main_v6) (V m c main_arg5) (ix2 (slab t i) j) := by
  unfold out0_11
  frame_out
  refine (pay1 _ _ _).trans ?_
  rw [g_at, blk_v]
  rfl

/-- The new second moment's array. -/
theorem arr11 : (dats (F := Ideal) m 0 c).arrAt 11 cfg0.N = Va (V m c main_v6) (V m c main_arg5) := by
  refine (dats (F := Ideal) m 0 c).arrAt_eq_of_covers 11 _ (by decide +kernel) fun t hf j => ?_
  blk_simp
  rw [after0_11]
  idx_vars j
  refine (out11 m c t j0 j1).trans ?_
  exact (congrArg (Va (V m c main_v6) (V m c main_arg5)) (emb11 t j0 j1)).symm

end Cert.Proj

end
-- ==== Proof.Proj.lean ====
/- The input projections' backward call and the optimiser step it carries: the reference, and the value claim. -/
module

public import proofs.«01_k».proof.Defs
public import proofs.«01_k».proof.Proof.ProjArr
public import Idealize.ShloMosaic.Lib.StableHlo.RunRead
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384
set_option maxHeartbeats 1000000

noncomputable section

namespace Cert.Proj

open Idealize.ShloMosaic Idealize.ShloMosaic.TcCoe Idealize.SL.Sem

section Entry

open Cert.Kernel4Ideal Cert.Kernel4Ideal.Gen

variable (m : (ℓ : Loc nD τ sig) → Buf (Elt Ideal) ℓ) (c : Dev nD)

/-- The gradient by the projections. -/
def dp : S2048x10240.Idx → EReal := m ((c.tc : Thread nD τ).loc main_arg0)
/-- The projections' matrix. -/
def wi : S2048x10240.Idx → EReal := m ((c.tc : Thread nD τ).loc main_arg1)
/-- The chips' partial gradients. -/
def pg : S4x1024x2048.Idx → EReal := m ((c.tc : Thread nD τ).loc main_arg2)
/-- The weight the step is of. -/
def wt : S1024x2048.Idx → EReal := m ((c.tc : Thread nD τ).loc main_arg3)
/-- Its first moment. -/
def m1 : S1024x2048.Idx → EReal := m ((c.tc : Thread nD τ).loc main_arg4)
/-- Its second moment. -/
def m2 : S1024x2048.Idx → EReal := m ((c.tc : Thread nD τ).loc main_arg5)

/-- The matrix by pieces of its columns. -/
def pieces (w : FVec Ideal S2048x10240 .f32) : FVec Ideal S8x2048x1280 .f32 :=
  transpose S8x2048x1280 [1, 0, 2] (shapeCast S2048x8x1280 w shapeCasts_S2048x10240_S2048x8x1280) transposes_S2048x8x1280_S8x2048x1280_1_0_2
/-- The pieces' wide parts. -/
def wides (w : FVec Ideal S2048x10240 .f32) : FVec Ideal S8x2048x768 .f32 :=
  extractStridedSlice S8x2048x768 ![0, 0, 0] (pieces w) slices_S8x2048x1280_S8x2048x768_0_0_0
/-- The pieces' narrow parts. -/
def slims (w : FVec Ideal S2048x10240 .f32) : FVec Ideal S8x2048x512 .f32 :=
  extractStridedSlice S8x2048x512 ![0, 0, 768] (pieces w) slices_S8x2048x1280_S8x2048x512_0_0_768

/-- The wide parts at coordinates. -/
theorem wides_at (w : FVec Ideal S2048x10240 .f32) (q : Fin 8) (j : Fin 2048) (e : Fin 768) : wides w (ix3 q j e) = w (ix2 j (left q e)) := by
  pointwise [wides, pieces]
  exact congrArg w (Shape.idx_ext₂ (by simp <;> omega) (by simp [left] <;> omega))
/-- The narrow parts at coordinates. -/
theorem slims_at (w : FVec Ideal S2048x10240 .f32) (q : Fin 8) (j : Fin 2048) (e : Fin 512) : slims w (ix3 q j e) = w (ix2 j (right q e)) := by
  pointwise [slims, pieces]
  exact congrArg w (Shape.idx_ext₂ (by simp <;> omega) (by simp [right] <;> omega))

/-- The call finds the gradient. -/
theorem V_dp : V m c main_v3 = dp m c := by
  dsimp only [V]
  after_reads_simp
  rfl
/-- The call finds the wide parts. -/
theorem V_wides : V m c main_v4 = wides (wi m c) := by
  dsimp only [V]
  after_reads_simp
  rfl
/-- The call finds the narrow parts. -/
theorem V_slims : V m c main_v5 = slims (wi m c) := by
  dsimp only [V]
  after_reads_simp
  rfl
/-- The call finds the partial gradients. -/
theorem V_pg : V m c main_v6 = pg m c := by
  dsimp only [V]
  after_reads_simp
  rfl

/-- The gradient by the projections' input. -/
def Dxn (x w : S2048x10240.Idx → EReal) : S2048x2048.Idx → EReal :=
  fun y => ∑ k : Fin 10240, x (ix2 (y 0) k) * w (ix2 (y 1) k)

/-- A place in a piece, from the piece and the place. -/
def inner (q : Fin 8) (e : Fin 1280) : Fin 10240 := ⟨1280 * q.val + e.val, by omega⟩

/-- A sum over a piece's places is the sum over its wide part and the sum over its narrow part. -/
theorem sum_parts (f : Fin 10240 → EReal) (q : Fin 8) :
    ∑ e : Fin 1280, f (inner q e) = ∑ e : Fin 768, f (left q e) + ∑ e : Fin 512, f (right q e) := by
  refine (Fin.sum_univ_add (a := 768) (b := 512) (fun e => f (inner q e))).trans (congrArg₂ (fun s t : EReal => s + t) ?_ ?_)
  · exact Finset.sum_congr rfl fun e _ => congrArg f (Fin.ext rfl)
  · exact Finset.sum_congr rfl fun e _ => congrArg f (Fin.ext (by simp only [inner, right, Fin.val_natAdd]; omega))

/-- A sum over the inner coordinate is the sum over its pieces. -/
theorem sum_inner (f : Fin 10240 → EReal) : ∑ q : Fin 8, ∑ e : Fin 1280, f (inner q e) = ∑ k : Fin 10240, f k := by
  rw [← Finset.sum_product' (f := fun q e => f (inner q e))]
  refine Finset.sum_bij' (fun p _ => inner p.1 p.2) (fun k _ => (⟨k.val / 1280, by omega⟩, ⟨k.val % 1280, by omega⟩)) ?_ ?_ ?_ ?_ ?_
  · intros; simp
  · intros; simp
  · rintro ⟨q, e⟩ -
    exact Prod.ext (Fin.ext (by simp only [inner]; omega)) (Fin.ext (by simp only [inner]; omega))
  · intro k _
    exact Fin.ext (by simp only [inner]; omega)
  · intros; rfl

/-- The call's product is the gradient. -/
theorem dx_eq (x : S2048x10240.Idx → EReal) (w : FVec Ideal S2048x10240 .f32) : Dx x (wides w) (slims w) = Dxn x w := by
  funext y
  idx_vars y
  refine Eq.trans ?_ (sum_inner (fun k => x (ix2 y0 k) * w (ix2 y1 k)))
  refine Finset.sum_congr rfl fun q _ => Eq.trans ?_ (sum_parts (fun k => x (ix2 y0 k) * w (ix2 y1 k)) q).symm
  exact congrArg₂ (fun s t : EReal => s + t)
    (Finset.sum_congr rfl fun e _ => congrArg (x (ix2 y0 (left q e)) * ·) (wides_at w q y1 e))
    (Finset.sum_congr rfl fun e _ => congrArg (x (ix2 y0 (right q e)) * ·) (slims_at w q y1 e))

end Entry

section Reference

open Cert.Reference4Ideal Cert.Reference4Ideal.Read

variable (x w : FVec Ideal S2048x10240 .f32) (p : FVec Ideal S4x1024x2048 .f32) (u a b : FVec Ideal S1024x2048 .f32)

/-- The reference's gradient by the projections' input. -/
theorem ref_dx : val_main_v2 (F := Ideal) x w = Dxn x w := by
  funext y
  idx_vars y
  exact (val_main_v2_apply x w _).trans (Finset.sum_congr rfl fun k _ => congrArg₂ (fun s t : EReal => s * t)
    (congrArg x (Shape.idx_ext₂ rfl rfl)) (congrArg w (Shape.idx_ext₂ rfl rfl)))

/-- The reference's gradient of the weight. -/
theorem ref_g : val_main_v3 (F := Ideal) p = Gr p := by
  funext y
  idx_vars y
  refine (val_main_v3_apply p _).trans ?_
  rw [show val_main_cst_0 (F := Ideal) (Shape.Idx.first Gen.h_S_) = (0 : EReal) from Ideal.ofBits_zero_f32, zero_add, Fin.sum_univ_four]
  have e : ∀ q : Fin 4, idx_main_v3 (ix2 y0 y1) q = ix3 q y0 y1 := fun q =>
    funext fun l => Fin.ext (by match l with | ⟨0, _⟩ => rfl | ⟨1, _⟩ => rfl | ⟨2, _⟩ => rfl)
  rw [e, e, e, e]
  rfl

/-- The reference's first moment. -/
theorem ref_m : val_main_v8 (F := Ideal) p a = Mo p a := by
  funext y
  exact congrArg (fun g : EReal => mom g (a y)) (congrFun (ref_g p) y)

/-- The reference's second moment. -/
theorem ref_v : val_main_v14 (F := Ideal) p b = Va p b := by
  funext y
  exact congrArg (fun g : EReal => var g (b y)) (congrFun (ref_g p) y)

/-- The reference's step. -/
theorem ref_d : val_main_v27 (F := Ideal) p u a b = St p u a b := by
  funext y
  exact congrArg₂ (fun s t : EReal => adam s t (u y)) (congrFun (ref_m p a) y) (congrFun (ref_v p b) y)

end Reference

/-- The kernel runs and leaves its arguments. -/
theorem frame_k : @quiescent_Kernel4 Kernel4.Gen.facts := fun m ρ _ => Kernel4.Gen.frame m ρ
/-- The idealized kernel runs and leaves its arguments. -/
theorem frame_ki : @quiescent_Kernel4Ideal Kernel4Ideal.Gen.facts := fun m ρ _ => Kernel4Ideal.Gen.frame m ρ
/-- The reference runs and leaves its arguments. -/
theorem frame_ref : @quiescent_Reference4Ideal Reference4Ideal.Gen.facts := fun m ρ _ =>
  (θ_run Reference4Ideal.defs _ _).mono (fun r h => ⟨fun c => (h c).2.2.2.2.2, sem_eq_zero_of_no_sems (by decide) r.2⟩)
    (Reference4Ideal.Value.run (F := Ideal) m ρ)

/-- The value claim: the call and the reference leave the same gradients, step and moments. -/
theorem value : @algebraic_Kernel4Ideal_Reference4Ideal Kernel4Ideal.Gen.facts Reference4Ideal.Gen.facts := by
  intro m g m' g' _ he
  refine ⟨fun c => Dxn (dp m c) (wi m c), fun c => Gr (pg m c), fun c => St (pg m c) (wt m c) (m1 m c) (m2 m c),
    fun c => Mo (pg m c) (m1 m c), fun c => Va (pg m c) (m2 m c), ?_, ?_⟩
  · refine (θ_run _ _ _).mono (fun r h c => ?_) (Kernel4Ideal.Value.run_blocks (F := Ideal) m g)
    obtain ⟨h7, h8, h9, h10, h11, hk⟩ := h c
    refine ⟨h7.trans ?_, h8.trans ?_, h9.trans ?_, h10.trans ?_, h11.trans ?_, hk⟩
    · rw [arr7, V_dp, V_wides, V_slims]
      exact dx_eq _ _
    · rw [arr8, V_pg]
    · rw [arr9, V_pg, Kernel4Ideal.Gen.V_main_arg3, Kernel4Ideal.Gen.V_main_arg4, Kernel4Ideal.Gen.V_main_arg5]
      rfl
    · rw [arr10, V_pg, Kernel4Ideal.Gen.V_main_arg4]
      rfl
    · rw [arr11, V_pg, Kernel4Ideal.Gen.V_main_arg5]
      rfl
  · refine (θ_run _ _ _).mono (fun r h c => ?_) (Reference4Ideal.Value.run m' g')
    obtain ⟨h0, h1, h2, h3, h4, hk⟩ := h c
    obtain ⟨e0, e1, e2, e3, e4, e5⟩ := he c
    refine ⟨((h0.trans (Reference4Ideal.Read.val_main_v2_eq _ _)).trans (ref_dx _ _)).trans ?_,
      ((h1.trans (Reference4Ideal.Read.val_main_v3_eq _)).trans (ref_g _)).trans ?_,
      ((h2.trans (Reference4Ideal.Read.val_main_v27_eq _ _ _ _)).trans (ref_d _ _ _ _)).trans ?_,
      ((h3.trans (Reference4Ideal.Read.val_main_v8_eq _ _)).trans (ref_m _ _)).trans ?_,
      ((h4.trans (Reference4Ideal.Read.val_main_v14_eq _ _)).trans (ref_v _ _)).trans ?_, hk⟩
    · rw [e0, e1]; rfl
    · rw [e2]; rfl
    · rw [e2, e3, e4, e5]; rfl
    · rw [e2, e4]; rfl
    · rw [e2, e5]; rfl

end Cert.Proj

end
-- ==== Proof.MixinPay.lean ====
/- The blocks the calls of the combined projection compute, at coordinates. -/
module

public import proofs.«01_k».proof.Proof.Gen.Kernel5Ideal.Frame
public import Idealize.ShloMosaic.Lib.Pointwise

@[expose] public section

set_option maxRecDepth 16384
set_option maxHeartbeats 1000000

noncomputable section

namespace Cert.Mixin

open Idealize.ShloMosaic Idealize.ShloMosaic.TcCoe Cert.Kernel5Ideal Cert.Kernel5Ideal.Gen

/-- A row's factor: one over the root of its mean square. -/
def rs (q : EReal) : EReal :=
  Ideal.rsqrt (Ideal.div q (Ideal.ofBits .f32 0x45000000#32) + Ideal.ofBits .f32 0x358637BD#32)

/-- The norm's block: each element by its row's factor and its column's weight. -/
theorem pay_norm (x : Vec Ideal S256x2048 .f32) (g : Vec Ideal S1x2048 .f32) (i : Fin 256) (k : Fin 2048) :
    k0_pay2 (F := Ideal) x g (ix2 i k) = x (ix2 i k) * rs (∑ j : Fin 2048, x (ix2 i j) * x (ix2 i j)) * g (ix2 0 k) := by
  pointwise [k0_pay2, k0_pay1]
  rfl

/-- The first half's block of the product. -/
theorem pay_left (x : Vec Ideal S2048x2048 .bf16) (w : Vec Ideal S1x2048x768 .bf16) (i : Fin 2048) (k : Fin 768) :
    k1_pay1 (F := Ideal) x w (ix3 0 i k) = ∑ j : Fin 2048, x (ix2 i j) * w (ix3 0 j k) := by
  pointwise [k1_pay1]

/-- The second half's block of the product. -/
theorem pay_right (x : Vec Ideal S2048x2048 .bf16) (w : Vec Ideal S1x2048x512 .bf16) (i : Fin 2048) (k : Fin 512) :
    k2_pay1 (F := Ideal) x w (ix3 0 i k) = ∑ j : Fin 2048, x (ix2 i j) * w (ix3 0 j k) := by
  pointwise [k2_pay1]

end Cert.Mixin

end
-- ==== Proof.MixinArr.lean ====
/- The result array of each call of the combined projection, from the arrays it finds. -/
module

public import proofs.«01_k».proof.Proof.MixinPay
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Mixin

open Idealize.ShloMosaic Idealize.ShloMosaic.TcCoe Cert.Kernel5Ideal Cert.Kernel5Ideal.Gen

variable (V : (c : Dev nD) → (b : Ref sig .tc) → Buf (Elt Ideal) ((c : Thread nD τ).loc b)) (c : Dev nD)

/-- A row of the norm's grid point. -/
def row0 (t : Fin cfg0.N) (i : Fin 256) : Fin 2048 := ⟨256 * t.val + i.val, by have h : t.val < 8 := t.isLt; omega⟩
/-- The piece of the first half's grid point. -/
def pc1 (t : Fin cfg1.N) : Fin 8 := ⟨t.val, t.isLt⟩
/-- The piece of the second half's grid point. -/
def pc2 (t : Fin cfg2.N) : Fin 8 := ⟨t.val, t.isLt⟩

/-- The norm's blocks. -/
theorem idx0 : ∀ t : Fin cfg0.N, win0_0.index t = ![t.val, 0] ∧ win0_1.index t = ![0, 0] ∧ win0_2.index t = ![t.val, 0] :=
  (by decide +kernel : ∀ t : Fin grid0.N, _)
/-- The first half's blocks. -/
theorem idx1 : ∀ t : Fin cfg1.N, win1_0.index t = ![0, 0] ∧ win1_1.index t = ![t.val, 0, 0] ∧ win1_2.index t = ![t.val, 0, 0] :=
  (by decide +kernel : ∀ t : Fin grid1.N, _)
/-- The second half's blocks. -/
theorem idx2 : ∀ t : Fin cfg2.N, win2_0.index t = ![0, 0] ∧ win2_1.index t = ![t.val, 0, 0] ∧ win2_2.index t = ![t.val, 0, 0] :=
  (by decide +kernel : ∀ t : Fin grid2.N, _)

/-- The norm's operand's block. -/
theorem blk0_0 (t : Fin cfg0.N) (i : Fin 256) (k : Fin 2048) : iblk0 V c 0 t (ix2 i k) = V c main_arg0 (ix2 (row0 t i) k) := by
  unfold iblk0
  blk_ext [idx0 t, row0]
/-- The norm's weight's block. -/
theorem blk0_1 (t : Fin cfg0.N) (k : Fin 2048) : iblk0 V c 1 t (ix2 0 k) = V c main_arg1 (ix2 0 k) := by
  unfold iblk0
  blk_ext [idx0 t]
/-- Where the norm's block lies. -/
theorem emb0 (t : Fin cfg0.N) (i : Fin 256) (k : Fin 2048) : ((cfg0.win 2).blk t).view.emb (ix2 i k) = ix2 (row0 t i) k := by
  blk_ext [idx0 t, row0]

/-- The normed rows. -/
def Nrm (x : S2048x2048.Idx → EReal) (g : S1x2048.Idx → EReal) : S2048x2048.Idx → EReal :=
  fun y => x (ix2 (y 0) (y 1)) * rs (∑ j : Fin 2048, x (ix2 (y 0) j) * x (ix2 (y 0) j)) * g (ix2 0 (y 1))

/-- The norm's block at a grid point. -/
theorem out0 (t : Fin cfg0.N) (i : Fin 256) (k : Fin 2048) :
    out0_2 (F := Ideal) (iblk0 V c 0 t) (iblk0 V c 1 t) (ix2 i k) = Nrm (V c main_arg0) (V c main_arg1) (ix2 (row0 t i) k) := by
  unfold out0_2
  frame_out
  refine (pay_norm _ _ i k).trans ?_
  simp only [blk0_0, blk0_1]
  rfl

/-- The norm's array is the normed rows. -/
theorem arr0 : (dat0 (F := Ideal) V c).arrAt 2 cfg0.N = Nrm (V c main_arg0) (V c main_arg1) := by
  refine (dat0 (F := Ideal) V c).arrAt_eq_of_covers 2 _ (by decide +kernel) fun t hf j => ?_
  blk_simp
  rw [after0_2]
  idx_vars j
  refine (out0 V c t j0 j1).trans ?_
  exact (congrArg (Nrm (V c main_arg0) (V c main_arg1)) (emb0 t j0 j1)).symm

/-- The first half's first operand's block. -/
theorem blk1_0 (t : Fin cfg1.N) (i j : Fin 2048) : iblk1 V c 0 t (ix2 i j) = V c main_v3_0 (ix2 i j) := by
  unfold iblk1
  blk_ext [idx1 t]
/-- The first half's second operand's block. -/
theorem blk1_1 (t : Fin cfg1.N) (j : Fin 2048) (k : Fin 768) : iblk1 V c 1 t (ix3 0 j k) = V c main_v4 (ix3 (pc1 t) j k) := by
  unfold iblk1
  blk_ext [idx1 t, pc1]
/-- Where the first half's block lies. -/
theorem emb1 (t : Fin cfg1.N) (i : Fin 2048) (k : Fin 768) : ((cfg1.win 2).blk t).view.emb (ix3 0 i k) = ix3 (pc1 t) i k := by
  blk_ext [idx1 t, pc1]

/-- The rows by each piece's first columns. -/
def Left (x : S2048x2048.Idx → EReal) (w : S8x2048x768.Idx → EReal) : S8x2048x768.Idx → EReal :=
  fun y => ∑ j : Fin 2048, x (ix2 (y 1) j) * w (ix3 (y 0) j (y 2))

/-- The first half's block at a grid point. -/
theorem out1 (t : Fin cfg1.N) (i : Fin 2048) (k : Fin 768) :
    out1_2 (F := Ideal) (iblk1 V c 0 t) (iblk1 V c 1 t) (ix3 0 i k) = Left (V c main_v3_0) (V c main_v4) (ix3 (pc1 t) i k) := by
  unfold out1_2
  frame_out
  refine (pay_left _ _ i k).trans ?_
  simp only [blk1_0, blk1_1]
  rfl

/-- The first half's array is the rows by each piece's first columns. -/
theorem arr1 : (dat1 (F := Ideal) V c).arrAt 2 cfg1.N = Left (V c main_v3_0) (V c main_v4) := by
  refine (dat1 (F := Ideal) V c).arrAt_eq_of_covers 2 _ (by decide +kernel) fun t hf j => ?_
  blk_simp
  rw [after1_2]
  idx_vars j
  obtain rfl : j0 = 0 := Fin.ext (by omega)
  refine (out1 V c t j1 j2).trans ?_
  exact (congrArg (Left (V c main_v3_0) (V c main_v4)) (emb1 t j1 j2)).symm

/-- The second half's first operand's block. -/
theorem blk2_0 (t : Fin cfg2.N) (i j : Fin 2048) : iblk2 V c 0 t (ix2 i j) = V c main_v3_0 (ix2 i j) := by
  unfold iblk2
  blk_ext [idx2 t]
/-- The second half's second operand's block. -/
theorem blk2_1 (t : Fin cfg2.N) (j : Fin 2048) (k : Fin 512) : iblk2 V c 1 t (ix3 0 j k) = V c main_v6 (ix3 (pc2 t) j k) := by
  unfold iblk2
  blk_ext [idx2 t, pc2]
/-- Where the second half's block lies. -/
theorem emb2 (t : Fin cfg2.N) (i : Fin 2048) (k : Fin 512) : ((cfg2.win 2).blk t).view.emb (ix3 0 i k) = ix3 (pc2 t) i k := by
  blk_ext [idx2 t, pc2]

/-- The rows by each piece's last columns. -/
def Right (x : S2048x2048.Idx → EReal) (w : S8x2048x512.Idx → EReal) : S8x2048x512.Idx → EReal :=
  fun y => ∑ j : Fin 2048, x (ix2 (y 1) j) * w (ix3 (y 0) j (y 2))

/-- The second half's block at a grid point. -/
theorem out2 (t : Fin cfg2.N) (i : Fin 2048) (k : Fin 512) :
    out2_2 (F := Ideal) (iblk2 V c 0 t) (iblk2 V c 1 t) (ix3 0 i k) = Right (V c main_v3_0) (V c main_v6) (ix3 (pc2 t) i k) := by
  unfold out2_2
  frame_out
  refine (pay_right _ _ i k).trans ?_
  simp only [blk2_0, blk2_1]
  rfl

/-- The second half's array is the rows by each piece's last columns. -/
theorem arr2 : (dat2 (F := Ideal) V c).arrAt 2 cfg2.N = Right (V c main_v3_0) (V c main_v6) := by
  refine (dat2 (F := Ideal) V c).arrAt_eq_of_covers 2 _ (by decide +kernel) fun t hf j => ?_
  blk_simp
  rw [after2_2]
  idx_vars j
  obtain rfl : j0 = 0 := Fin.ext (by omega)
  refine (out2 V c t j1 j2).trans ?_
  exact (congrArg (Right (V c main_v3_0) (V c main_v6)) (emb2 t j1 j2)).symm

end Cert.Mixin

end
-- ==== Proof.MixinRun.lean ====
/- What a run of the norm and the two halves of the combined projection leaves. -/
module

public import proofs.«01_k».proof.Proof.Gen.Kernel5Ideal.Frame

@[expose] public section

set_option maxRecDepth 16384
set_option maxHeartbeats 1000000

noncomputable section

namespace Cert.Mixin

open Idealize.ShloMosaic Idealize.ShloMosaic.TcCoe Cert.Kernel5Ideal Cert.Kernel5Ideal.Gen

open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- The result array and the arguments after a run. -/
theorem run_result : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.Mixin

end
-- ==== Proof.Mixin.lean ====
/- The combined projection of the normed input: the kernels' array, the reference's, and the value claim. -/
module

public import proofs.«01_k».proof.Defs
public import proofs.«01_k».proof.Proof.MixinArr
public import proofs.«01_k».proof.Proof.MixinRun
public import Idealize.ShloMosaic.Lib.StableHlo.RunRead
public import proofs.«01_k».proof.Proof.Gen.Kernel5.Frame
public import proofs.«01_k».proof.Proof.Gen.Reference5Ideal.Run
public import proofs.«01_k».proof.Proof.Gen.Reference5Ideal.Read

@[expose] public section

set_option maxRecDepth 16384
set_option maxHeartbeats 1000000

noncomputable section

namespace Cert.Mixin

open Idealize.ShloMosaic Idealize.ShloMosaic.TcCoe Cert.Kernel5Ideal Cert.Kernel5Ideal.Gen
open Idealize.SL.Sem

section KernelSide

variable (m : (ℓ : Loc nD τ sig) → Buf (Elt Ideal) ℓ) (ρ : Dev nD → PrngReg) (c : Dev nD)

/-- The input. -/
def X : S2048x2048.Idx → EReal := m ((c.tc : Thread nD τ).loc main_arg0)
/-- The norm's weight. -/
def Gn : S1x2048.Idx → EReal := m ((c.tc : Thread nD τ).loc main_arg1)
/-- The projection's matrix. -/
def Wi : S2048x10240.Idx → EReal := m ((c.tc : Thread nD τ).loc main_arg2)

/-- The matrix by pieces of its columns. -/
def pieces (w : FVec Ideal S2048x10240 .f32) : FVec Ideal S8x2048x1280 .f32 :=
  transpose S8x2048x1280 [1, 0, 2] (shapeCast S2048x8x1280 w shapeCasts_S2048x10240_S2048x8x1280) transposes_S2048x8x1280_S8x2048x1280_1_0_2
/-- Each piece's first columns. -/
def firsts (w : FVec Ideal S2048x10240 .f32) : FVec Ideal S8x2048x768 .f32 :=
  extractStridedSlice S8x2048x768 ![0, 0, 0] (pieces w) slices_S8x2048x1280_S8x2048x768_0_0_0
/-- Each piece's last columns. -/
def lasts (w : FVec Ideal S2048x10240 .f32) : FVec Ideal S8x2048x512 .f32 :=
  extractStridedSlice S8x2048x512 ![0, 0, 768] (pieces w) slices_S8x2048x1280_S8x2048x512_0_0_768
/-- The two results joined into one matrix. -/
def joined (a : FVec Ideal S8x2048x768 .f32) (b : FVec Ideal S8x2048x512 .f32) : FVec Ideal S2048x10240 .f32 :=
  shapeCast S2048x10240 (transpose S2048x8x1280 [1, 0, 2]
    (concatenate S8x2048x1280 2 [⟨S8x2048x768, a⟩, ⟨S8x2048x512, b⟩] concatenates_S8x2048x768_S8x2048x512_S8x2048x1280_d2)
    transposes_S8x2048x1280_S2048x8x1280_1_0_2) shapeCasts_S2048x8x1280_S2048x10240

/-- A column from its piece and its place in the piece. -/
def colOf (q : Fin 8) (e : Fin 1280) : Fin 10240 := ⟨1280 * q.val + e.val, by omega⟩
/-- A column's piece. -/
def pc (k : Fin 10240) : Fin 8 := ⟨k.val / 1280, by omega⟩
/-- A column's place in its piece. -/
def pl (k : Fin 10240) : Fin 1280 := ⟨k.val % 1280, by omega⟩

/-- The first columns at coordinates. -/
theorem firsts_at (w : FVec Ideal S2048x10240 .f32) (q : Fin 8) (j : Fin 2048) (e : Fin 768) :
    firsts w (ix3 q j e) = w (ix2 j (colOf q ⟨e.val, by omega⟩)) := by
  pointwise [firsts, pieces]
  exact congrArg w (Shape.idx_ext₂ (by simp <;> omega) (by simp [colOf] <;> omega))
/-- The last columns at coordinates. -/
theorem lasts_at (w : FVec Ideal S2048x10240 .f32) (q : Fin 8) (j : Fin 2048) (e : Fin 512) :
    lasts w (ix3 q j e) = w (ix2 j (colOf q ⟨768 + e.val, by omega⟩)) := by
  pointwise [lasts, pieces]
  exact congrArg w (Shape.idx_ext₂ (by simp <;> omega) (by simp [colOf] <;> omega))

/-- The joined matrix at coordinates, in a piece's first columns. -/
theorem joined_first (a : FVec Ideal S8x2048x768 .f32) (b : FVec Ideal S8x2048x512 .f32) (i : Fin 2048) (k : Fin 10240) (h : k.val % 1280 < 768) :
    joined a b (ix2 i k) = a (ix3 (pc k) i ⟨k.val % 1280, h⟩) := by
  pointwise [joined]
  exact dif_pos h
/-- The joined matrix at coordinates, in a piece's last columns. -/
theorem joined_last (a : FVec Ideal S8x2048x768 .f32) (b : FVec Ideal S8x2048x512 .f32) (i : Fin 2048) (k : Fin 10240) (h : ¬ k.val % 1280 < 768) :
    joined a b (ix2 i k) = b (ix3 (pc k) i ⟨k.val % 1280 - 768, by omega⟩) := by
  pointwise [joined]
  exact dif_neg h

/-- The norm finds its operand. -/
theorem W1_x : V1 m ρ c main_arg0 = X m c := W1_args m ρ c main_arg0 (by decide)
/-- The norm finds its weight. -/
theorem W1_g : V1 m ρ c main_arg1 = Gn m c := W1_args m ρ c main_arg1 (by decide)

/-- The matrix's pieces after the norm. -/
theorem W2_w : W2 m ρ c (Proc.devRef .tc main_v2) = pieces (Wi m c) := by
  refine (W2_of m ρ c main_v2 (by decide)).trans ?_
  dsimp only [W1]
  after_reads_simp
  rfl

/-- The normed rows after the norm. -/
theorem W2_n : W2 m ρ c (Proc.devRef .tc main_v3_0) = Nrm (X m c) (Gn m c) := by
  refine (W2_arr m ρ c 2).trans ?_
  rw [arr0, W1_x, W1_g]

/-- The first half finds the normed rows. -/
theorem W3_n : V3 m ρ c main_v3_0 = Nrm (X m c) (Gn m c) := (W3_of m ρ c main_v3_0 (by decide)).trans (W2_n m ρ c)
/-- The first half finds each piece's first columns. -/
theorem W3_w : V3 m ρ c main_v4 = firsts (Wi m c) := by
  have h : V3 m ρ c main_v4 = (extractStridedSlice S8x2048x768 ![0, 0, 0] (W2 m ρ c (Proc.devRef .tc main_v2) : FVec Ideal S8x2048x1280 .f32)
      slices_S8x2048x1280_S8x2048x768_0_0_0 : FVec Ideal S8x2048x768 .f32) := by
    dsimp only [V3, W3]
    after_reads_simp
  rw [h, W2_w]
  rfl

/-- The second half finds the normed rows. -/
theorem W5_n : V5 m ρ c main_v3_0 = Nrm (X m c) (Gn m c) :=
  (W5_of m ρ c main_v3_0 (by decide)).trans ((W4_of m ρ c main_v3_0 (by decide)).trans (W3_n m ρ c))
/-- The second half finds each piece's last columns. -/
theorem W5_w : V5 m ρ c main_v6 = lasts (Wi m c) := by
  have h : V5 m ρ c main_v6 = (extractStridedSlice S8x2048x512 ![0, 0, 768] (W4 m ρ c (Proc.devRef .tc main_v2) : FVec Ideal S8x2048x1280 .f32)
      slices_S8x2048x1280_S8x2048x512_0_0_768 : FVec Ideal S8x2048x512 .f32) := by
    dsimp only [V5, W5]
    after_reads_simp
  rw [h, W4_of m ρ c main_v2 (by decide), W3_of m ρ c main_v2 (by decide), W2_w]
  rfl

/-- The first half's result. -/
theorem W6_l : W6 m ρ c (Proc.devRef .tc main_v5) = Left (Nrm (X m c) (Gn m c)) (firsts (Wi m c)) := by
  refine (W6_of m ρ c main_v5 (by decide)).trans ((W5_of m ρ c main_v5 (by decide)).trans ((W4_arr m ρ c 2).trans ?_))
  rw [arr1, W3_n, W3_w]
/-- The second half's result. -/
theorem W6_r : W6 m ρ c (Proc.devRef .tc main_v7) = Right (Nrm (X m c) (Gn m c)) (lasts (Wi m c)) := by
  refine (W6_arr m ρ c 2).trans ?_
  rw [arr2, W5_n, W5_w]

/-- The rows by the matrix. -/
def P (x : S2048x2048.Idx → EReal) (w : S2048x10240.Idx → EReal) : S2048x10240.Idx → EReal :=
  fun y => ∑ j : Fin 2048, x (ix2 (y 0) j) * w (ix2 j (y 1))

/-- The two halves joined are the rows by the matrix. -/
theorem joined_eq (x : S2048x2048.Idx → EReal) (w : FVec Ideal S2048x10240 .f32) : joined (Left x (firsts w)) (Right x (lasts w)) = P x w := by
  funext y
  idx_vars y
  by_cases h : y1.val % 1280 < 768
  · refine (joined_first _ _ y0 y1 h).trans (Finset.sum_congr rfl fun j _ => congrArg (x (ix2 y0 j) * ·) ?_)
    refine (firsts_at w _ j _).trans (congrArg w (congrArg (ix2 j) (Fin.ext ?_)))
    exact Nat.div_add_mod y1.val 1280
  · refine (joined_last _ _ y0 y1 h).trans (Finset.sum_congr rfl fun j _ => congrArg (x (ix2 y0 j) * ·) ?_)
    refine (lasts_at w _ j _).trans (congrArg w (congrArg (ix2 j) (Fin.ext ?_)))
    show 1280 * (y1.val / 1280) + (768 + (y1.val % 1280 - 768)) = y1.val
    omega

/-- The result array of the run. -/
theorem result : W7 m ρ c (Proc.devRef .tc main_v10) = P (Nrm (X m c) (Gn m c)) (Wi m c) := by
  have h : W7 m ρ c (Proc.devRef .tc main_v10) = joined (W6 m ρ c (Proc.devRef .tc main_v5)) (W6 m ρ c (Proc.devRef .tc main_v7)) := by
    dsimp only [W7]
    after_reads_simp
    rfl
  rw [h, W6_l, W6_r]
  exact joined_eq _ _

end KernelSide

section ReferenceSide

open Cert.Reference5Ideal.Read

variable (x : FVec Ideal S2048x2048 .f32) (g : FVec Ideal S1x2048 .f32) (w : FVec Ideal S2048x10240 .f32)

/-- The reference's sum of squares of a row. -/
theorem ref_sq (i : Cert.Reference5Ideal.S2048.Idx) : val_main_v2 (F := Ideal) x i = ∑ j : Fin 2048, x (ix2 (i 0) j) * x (ix2 (i 0) j) := by
  rw [val_main_v2_apply, val_main_cst_apply, show (FloatOps.ofBits (F := Ideal) .f32 0x00000000#32 : EReal) = 0 from Ideal.ofBits_zero_f32, zero_add]
  refine Finset.sum_congr rfl fun j _ => ?_
  rw [show idx_main_v2 i j = ix2 (i 0) j from Shape.idx_ext₂ rfl rfl]
  rfl

/-- The reference's normed rows. -/
theorem ref_norm (i k : Fin 2048) : val_main_v13 (F := Ideal) x g (ix2 i k) = Nrm x g (ix2 i k) := by
  rw [val_main_v13_apply, val_main_v10_apply, val_main_v9_apply, val_main_v8_apply, val_main_v7_apply, val_main_v5_apply, val_main_v3_apply,
    val_main_v4_apply, val_main_v6_apply, val_main_cst_0_apply, val_main_cst_1_apply, val_main_v12_apply, val_main_v11_apply, val_main_v0_apply, ref_sq]
  refine congrArg₂ (fun s t : EReal => s * t) rfl (congrArg g ?_)
  exact Shape.idx_ext₂ rfl (Nat.mod_eq_of_lt k.isLt)

/-- The reference's result. -/
theorem ref_result : val_main_v14 (F := Ideal) x g w = P (Nrm x g) w := by
  funext y
  idx_vars y
  refine (val_main_v14_apply x g w _).trans (Finset.sum_congr rfl fun j _ => congrArg₂ (fun s t : EReal => s * t) ?_ ?_)
  · rw [show lidx_main_v14 (ix2 y0 y1) j = ix2 y0 j from Shape.idx_ext₂ rfl rfl]
    exact ref_norm x g y0 j
  · exact congrArg w (Shape.idx_ext₂ rfl rfl)

end ReferenceSide

/-- The kernels run and leave their arguments. -/
theorem frame_k : @quiescent_Kernel5 Kernel5.Gen.facts := fun m ρ _ => Kernel5.Gen.frame m ρ
/-- The idealized kernels run and leave their arguments. -/
theorem frame_ki : @quiescent_Kernel5Ideal Kernel5Ideal.Gen.facts := fun m ρ _ => Kernel5Ideal.Gen.frame m ρ
/-- The reference runs and leaves its arguments. -/
theorem frame_ref : @quiescent_Reference5Ideal Reference5Ideal.Gen.facts := fun m ρ _ =>
  (θ_run Reference5Ideal.defs _ _).mono (fun r h => ⟨fun c => (h c).2, sem_eq_zero_of_no_sems (by decide) r.2⟩)
    (Reference5Ideal.Value.run (F := Ideal) m ρ)

/-- The value claim: the three calls and the reference leave the same projection. -/
theorem value : @algebraic_Kernel5Ideal_Reference5Ideal Kernel5Ideal.Gen.facts Reference5Ideal.Gen.facts := by
  intro m g m' g' _ he
  refine ⟨fun c => P (Nrm (X m c) (Gn m c)) (Wi m c), ?_, ?_⟩
  · refine (θ_run _ _ _).mono (fun r h c => ?_) (run_result (F := Ideal) m g)
    obtain ⟨h0, h1⟩ := h c
    exact ⟨h0.trans (result m g c), h1⟩
  · refine (θ_run _ _ _).mono (fun r h c => ?_) (Reference5Ideal.Value.run m' g')
    obtain ⟨h0, h1⟩ := h c
    obtain ⟨e0, e1, e2⟩ := he c
    refine ⟨((h0.trans (Reference5Ideal.Read.val_main_v14_eq _ _ _)).trans (ref_result _ _ _)).trans ?_, h1⟩
    rw [e0, e1, e2]
    rfl

end Cert.Mixin

end
-- ==== Proof.GatesPay.lean ====
/- The blocks the calls of the gated output projection compute, at coordinates. -/
module

public import proofs.«01_k».proof.Proof.Gen.Kernel7Ideal.Frame
public import Idealize.ShloMosaic.Lib.Pointwise

@[expose] public section

set_option maxRecDepth 16384
set_option maxHeartbeats 1000000

noncomputable section

namespace Cert.Gates

open Idealize.ShloMosaic Idealize.ShloMosaic.TcCoe Cert.Kernel7Ideal Cert.Kernel7Ideal.Gen

/-- The gated sum of two branches. -/
theorem pay_gate (a b : FVec Ideal S256x2048 .f32) (la : Vec Ideal S256x2048 .f32) (ba : Vec Ideal S1x2048 .f32) (lb : Vec Ideal S256x2048 .f32)
    (bb : Vec Ideal S1x2048 .f32) (i : Fin 256) (k : Fin 2048) :
    k0_pay1 (F := Ideal) a b la ba lb bb (ix2 i k) =
      Ideal.logistic (la (ix2 i k) + ba (ix2 0 k)) * a (ix2 i k) + Ideal.logistic (lb (ix2 i k) + bb (ix2 0 k)) * b (ix2 i k) := by
  pointwise [k0_pay1]

/-- The output projection's block with the residual. -/
theorem pay_out (x : Vec Ideal S1024x2048 .bf16) (w : Vec Ideal S1x2048x1024 .bf16) (r : Vec Ideal S1024x1024 .f32) (i k : Fin 1024) :
    k1_pay1 (F := Ideal) x w r (ix2 i k) = (∑ j : Fin 2048, x (ix2 i j) * w (ix3 0 j k)) + r (ix2 i k) := by
  pointwise [k1_pay1]

/-- A column's piece. -/
def pc (k : Fin 2048) : Fin 8 := ⟨k.val / 256, by omega⟩
/-- A column's place in its piece. -/
def pl (k : Fin 2048) : Fin 256 := ⟨k.val % 256, by omega⟩

/-- Eight pieces side by side, at a column. -/
theorem eight (f : Fin 8 → Fin 256 → EReal) (k : Fin 2048) :
    (if h : k.val < 256 then f 0 ⟨k.val, h⟩
      else if h : k.val - 256 < 256 then f 1 ⟨k.val - 256, h⟩
      else if h : k.val - 256 - 256 < 256 then f 2 ⟨k.val - 256 - 256, h⟩
      else if h : k.val - 256 - 256 - 256 < 256 then f 3 ⟨k.val - 256 - 256 - 256, h⟩
      else if h : k.val - 256 - 256 - 256 - 256 < 256 then f 4 ⟨k.val - 256 - 256 - 256 - 256, h⟩
      else if h : k.val - 256 - 256 - 256 - 256 - 256 < 256 then f 5 ⟨k.val - 256 - 256 - 256 - 256 - 256, h⟩
      else if h : k.val - 256 - 256 - 256 - 256 - 256 - 256 < 256 then f 6 ⟨k.val - 256 - 256 - 256 - 256 - 256 - 256, h⟩
      else f 7 ⟨k.val - 256 - 256 - 256 - 256 - 256 - 256 - 256, by omega⟩) = f (pc k) (pl k) := by
  split_ifs
  all_goals exact congrArg₂ f (Fin.ext (by simp only [pc]; omega)) (Fin.ext (by simp only [pl]; omega))

/-- The first branch's projection, joined from the pieces' products. -/
theorem pay_a (x0 x1 : Vec Ideal S256x512 .bf16) (x2 x3 : Vec Ideal S8x512x256 .bf16) (x4 x5 : Vec Ideal S256x2048 .f32) (x6 x7 : Vec Ideal S1x2048 .f32)
    (i : Fin 256) (k : Fin 2048) :
    k0_pay15 (F := Ideal) x0 x1 x2 x3 x4 x5 x6 x7 (ix2 i k) = ∑ j : Fin 512, x0 (ix2 i j) * x2 (ix3 (pc k) j (pl k)) := by
  pointwise [k0_pay15, k0_pay10, k0_pay9, k0_pay8, k0_pay7, k0_pay6, k0_pay5, k0_pay4]
  exact eight (fun q e => ∑ j : Fin 512, x0 (ix2 i j) * x2 (ix3 q j e)) k

/-- The second branch's projection, joined from the pieces' products. -/
theorem pay_b (x0 x1 : Vec Ideal S256x512 .bf16) (x2 x3 : Vec Ideal S8x512x256 .bf16) (x4 x5 : Vec Ideal S256x2048 .f32) (x6 x7 : Vec Ideal S1x2048 .f32)
    (i : Fin 256) (k : Fin 2048) :
    k0_pay16 (F := Ideal) x0 x1 x2 x3 x4 x5 x6 x7 (ix2 i k) = ∑ j : Fin 512, x1 (ix2 i j) * x3 (ix3 (pc k) j (pl k)) := by
  pointwise [k0_pay16, k0_pay14, k0_pay13, k0_pay12, k0_pay11]
  exact eight (fun q e => ∑ j : Fin 512, x1 (ix2 i j) * x3 (ix3 q j e)) k

end Cert.Gates

end
-- ==== Proof.GatesArr.lean ====
/- The result array of each call of the gated output projection, from the arrays it finds. -/
module

public import proofs.«01_k».proof.Proof.GatesPay
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Gates

open Idealize.ShloMosaic Idealize.ShloMosaic.TcCoe Cert.Kernel7Ideal Cert.Kernel7Ideal.Gen

variable (V : (c : Dev nD) → (b : Ref sig .tc) → Buf (Elt Ideal) ((c : Thread nD τ).loc b)) (c : Dev nD)

/-- A row of the gates' grid point. -/
def row0 (t : Fin cfg0.N) (i : Fin 256) : Fin 2048 := ⟨256 * t.val + i.val, by have h : t.val < 8 := t.isLt; omega⟩
/-- A column of the first gate in the combined projection. -/
def colA (k : Fin 2048) : Fin 10240 := ⟨6144 + k.val, by omega⟩
/-- A column of the second gate in the combined projection. -/
def colB (k : Fin 2048) : Fin 10240 := ⟨8192 + k.val, by omega⟩
/-- A column of the first gate's offsets. -/
def offA (k : Fin 2048) : Fin 4096 := ⟨k.val, by omega⟩
/-- A column of the second gate's offsets. -/
def offB (k : Fin 2048) : Fin 4096 := ⟨2048 + k.val, by omega⟩

/-- The gates' blocks. -/
theorem idx0 : ∀ t : Fin cfg0.N, win0_0.index t = ![t.val, 0] ∧ win0_1.index t = ![t.val, 0] ∧ win0_2.index t = ![0, 0, 0]
    ∧ win0_3.index t = ![0, 0, 0] ∧ win0_4.index t = ![t.val, 3] ∧ win0_5.index t = ![t.val, 4] ∧ win0_6.index t = ![0, 0]
    ∧ win0_7.index t = ![0, 1] ∧ win0_8.index t = ![t.val, 0] :=
  (by decide +kernel : ∀ t : Fin grid0.N, _)

/-- The first branch's block. -/
theorem blk0_0 (t : Fin cfg0.N) (i : Fin 256) (j : Fin 512) : iblk0 V c 0 t (ix2 i j) = V c main_v6 (ix2 (row0 t i) j) := by
  unfold iblk0
  blk_ext [idx0 t, row0]
/-- The second branch's block. -/
theorem blk0_1 (t : Fin cfg0.N) (i : Fin 256) (j : Fin 512) : iblk0 V c 1 t (ix2 i j) = V c main_v7 (ix2 (row0 t i) j) := by
  unfold iblk0
  blk_ext [idx0 t, row0]
/-- The first branch's matrix's block. -/
theorem blk0_2 (t : Fin cfg0.N) (q : Fin 8) (j : Fin 512) (e : Fin 256) : iblk0 V c 2 t (ix3 q j e) = V c main_v2 (ix3 q j e) := by
  unfold iblk0
  blk_ext [idx0 t]
/-- The second branch's matrix's block. -/
theorem blk0_3 (t : Fin cfg0.N) (q : Fin 8) (j : Fin 512) (e : Fin 256) : iblk0 V c 3 t (ix3 q j e) = V c main_v5 (ix3 q j e) := by
  unfold iblk0
  blk_ext [idx0 t]
/-- The first gate's block. -/
theorem blk0_4 (t : Fin cfg0.N) (i : Fin 256) (k : Fin 2048) : iblk0 V c 4 t (ix2 i k) = V c main_arg4 (ix2 (row0 t i) (colA k)) := by
  unfold iblk0
  blk_ext [idx0 t, row0, colA]
/-- The second gate's block. -/
theorem blk0_5 (t : Fin cfg0.N) (i : Fin 256) (k : Fin 2048) : iblk0 V c 5 t (ix2 i k) = V c main_arg4 (ix2 (row0 t i) (colB k)) := by
  unfold iblk0
  blk_ext [idx0 t, row0, colB]
/-- The first gate's offsets' block. -/
theorem blk0_6 (t : Fin cfg0.N) (k : Fin 2048) : iblk0 V c 6 t (ix2 0 k) = V c main_arg5 (ix2 0 (offA k)) := by
  unfold iblk0
  blk_ext [idx0 t, offA]
/-- The second gate's offsets' block. -/
theorem blk0_7 (t : Fin cfg0.N) (k : Fin 2048) : iblk0 V c 7 t (ix2 0 k) = V c main_arg5 (ix2 0 (offB k)) := by
  unfold iblk0
  blk_ext [idx0 t, offB]
/-- Where the gated sum's block lies. -/
theorem emb0 (t : Fin cfg0.N) (i : Fin 256) (k : Fin 2048) : ((cfg0.win 8).blk t).view.emb (ix2 i k) = ix2 (row0 t i) k := by
  blk_ext [idx0 t, row0]

/-- The gated sum of the branches' projections. -/
def Mix (a b : S2048x512.Idx → EReal) (wa wb : S8x512x256.Idx → EReal) (p : S2048x10240.Idx → EReal) (o : S1x4096.Idx → EReal) : S2048x2048.Idx → EReal :=
  fun y => Ideal.logistic (p (ix2 (y 0) (colA (y 1))) + o (ix2 0 (offA (y 1)))) * (∑ j : Fin 512, a (ix2 (y 0) j) * wa (ix3 (pc (y 1)) j (pl (y 1))))
    + Ideal.logistic (p (ix2 (y 0) (colB (y 1))) + o (ix2 0 (offB (y 1)))) * (∑ j : Fin 512, b (ix2 (y 0) j) * wb (ix3 (pc (y 1)) j (pl (y 1))))

/-- The gates' block at a grid point. -/
theorem out0 (t : Fin cfg0.N) (i : Fin 256) (k : Fin 2048) :
    out0_8 (F := Ideal) (iblk0 V c 0 t) (iblk0 V c 1 t) (iblk0 V c 2 t) (iblk0 V c 3 t) (iblk0 V c 4 t) (iblk0 V c 5 t) (iblk0 V c 6 t) (iblk0 V c 7 t) (ix2 i k)
      = Mix (V c main_v6) (V c main_v7) (V c main_v2) (V c main_v5) (V c main_arg4) (V c main_arg5) (ix2 (row0 t i) k) := by
  unfold out0_8
  frame_out
  refine (pay_gate _ _ _ _ _ _ i k).trans ?_
  rw [pay_a, pay_b]
  simp only [blk0_0, blk0_1, blk0_2, blk0_3, blk0_4, blk0_5, blk0_6, blk0_7]
  rfl

/-- The gates' array is the gated sum. -/
theorem arr0 : (dat0 (F := Ideal) V c).arrAt 8 cfg0.N = Mix (V c main_v6) (V c main_v7) (V c main_v2) (V c main_v5) (V c main_arg4) (V c main_arg5) := by
  refine (dat0 (F := Ideal) V c).arrAt_eq_of_covers 8 _ (by decide +kernel) fun t hf j => ?_
  blk_simp
  rw [after0_8]
  idx_vars j
  refine (out0 V c t j0 j1).trans ?_
  exact (congrArg (Mix (V c main_v6) (V c main_v7) (V c main_v2) (V c main_v5) (V c main_arg4) (V c main_arg5)) (emb0 t j0 j1)).symm

/-- A row of the output projection's grid point. -/
def row1 (t : Fin cfg1.N) (i : Fin 1024) : Fin 2048 := ⟨1024 * (t.val % 2) + i.val, by omega⟩
/-- A column of the output projection's grid point. -/
def col1 (t : Fin cfg1.N) (k : Fin 1024) : Fin 2048 := ⟨1024 * (t.val / 2) + k.val, by have h : t.val < 4 := t.isLt; omega⟩

/-- The output projection's blocks. -/
theorem idx1 : ∀ t : Fin cfg1.N, win1_0.index t = ![t.val % 2, 0] ∧ win1_1.index t = ![0, 0, t.val / 2]
    ∧ win1_2.index t = ![t.val % 2, t.val / 2] ∧ win1_3.index t = ![t.val % 2, t.val / 2] :=
  (by decide +kernel : ∀ t : Fin grid1.N, _)

/-- The output projection's first operand's block. -/
theorem blk1_0 (t : Fin cfg1.N) (i : Fin 1024) (j : Fin 2048) : iblk1 V c 0 t (ix2 i j) = V c main_v8_0 (ix2 (row1 t i) j) := by
  unfold iblk1
  blk_ext [idx1 t, row1]
/-- The output projection's second operand's block. -/
theorem blk1_1 (t : Fin cfg1.N) (j : Fin 2048) (k : Fin 1024) : iblk1 V c 1 t (ix3 0 j k) = V c main_v10 (ix3 0 j (col1 t k)) := by
  unfold iblk1
  blk_ext [idx1 t, col1]
/-- The residual's block. -/
theorem blk1_2 (t : Fin cfg1.N) (i k : Fin 1024) : iblk1 V c 2 t (ix2 i k) = V c main_arg7 (ix2 (row1 t i) (col1 t k)) := by
  unfold iblk1
  blk_ext [idx1 t, row1, col1]
/-- Where the output projection's block lies. -/
theorem emb1 (t : Fin cfg1.N) (i k : Fin 1024) : ((cfg1.win 3).blk t).view.emb (ix2 i k) = ix2 (row1 t i) (col1 t k) := by
  blk_ext [idx1 t, row1, col1]

/-- The product and the residual. -/
def Outp (x : S2048x2048.Idx → EReal) (w : S1x2048x2048.Idx → EReal) (r : S2048x2048.Idx → EReal) : S2048x2048.Idx → EReal :=
  fun y => (∑ j : Fin 2048, x (ix2 (y 0) j) * w (ix3 0 j (y 1))) + r (ix2 (y 0) (y 1))

/-- The output projection's block at a grid point. -/
theorem out1 (t : Fin cfg1.N) (i k : Fin 1024) :
    out1_3 (F := Ideal) (iblk1 V c 0 t) (iblk1 V c 1 t) (iblk1 V c 2 t) (ix2 i k)
      = Outp (V c main_v8_0) (V c main_v10) (V c main_arg7) (ix2 (row1 t i) (col1 t k)) := by
  unfold out1_3
  frame_out
  refine (pay_out _ _ _ i k).trans ?_
  simp only [blk1_0, blk1_1, blk1_2]
  rfl

/-- The output projection's array is the product and the residual. -/
theorem arr1 : (dat1 (F := Ideal) V c).arrAt 3 cfg1.N = Outp (V c main_v8_0) (V c main_v10) (V c main_arg7) := by
  refine (dat1 (F := Ideal) V c).arrAt_eq_of_covers 3 _ (by decide +kernel) fun t hf j => ?_
  blk_simp
  rw [after1_3]
  idx_vars j
  refine (out1 V c t j0 j1).trans ?_
  exact (congrArg (Outp (V c main_v8_0) (V c main_v10) (V c main_arg7)) (emb1 t j0 j1)).symm

end Cert.Gates

end
-- ==== Proof.GatesRun.lean ====
/- What a run of the gates and the output projection leaves. -/
module

public import proofs.«01_k».proof.Proof.Gen.Kernel7Ideal.Frame

@[expose] public section

set_option maxRecDepth 16384
set_option maxHeartbeats 1000000

noncomputable section

namespace Cert.Gates

open Idealize.ShloMosaic Idealize.ShloMosaic.TcCoe Cert.Kernel7Ideal Cert.Kernel7Ideal.Gen

open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- The result array and the arguments after a run. -/
theorem run_result : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Gates

end
-- ==== Proof.Gates.lean ====
/- The gated branches through the output projection: the kernels' array, the reference's, and the value claim. -/
module

public import proofs.«01_k».proof.Defs
public import proofs.«01_k».proof.Proof.GatesArr
public import proofs.«01_k».proof.Proof.GatesRun
public import Idealize.ShloMosaic.Lib.StableHlo.RunRead
public import proofs.«01_k».proof.Proof.Gen.Kernel7.Frame
public import proofs.«01_k».proof.Proof.Gen.Reference7Ideal.Run
public import proofs.«01_k».proof.Proof.Gen.Reference7Ideal.Read

@[expose] public section

set_option maxRecDepth 16384
set_option maxHeartbeats 1000000

noncomputable section

namespace Cert.Gates

open Idealize.ShloMosaic Idealize.ShloMosaic.TcCoe Cert.Kernel7Ideal Cert.Kernel7Ideal.Gen
open Idealize.SL.Sem

/-- A branch's projection, gated: from which columns the gate comes is given. -/
def gate (p : S2048x10240.Idx → EReal) (o : S1x4096.Idx → EReal) (i : Fin 2048) (k : Fin 10240) (e : Fin 4096) : EReal :=
  Ideal.logistic (p (ix2 i k) + o (ix2 0 e))

/-- The gated sum of the branches' projections. -/
def Gated (a b : S2048x512.Idx → EReal) (wa wb : S512x2048.Idx → EReal) (p : S2048x10240.Idx → EReal) (o : S1x4096.Idx → EReal) : S2048x2048.Idx → EReal :=
  fun y => gate p o (y 0) (colA (y 1)) (offA (y 1)) * (∑ j : Fin 512, a (ix2 (y 0) j) * wa (ix2 j (y 1)))
    + gate p o (y 0) (colB (y 1)) (offB (y 1)) * (∑ j : Fin 512, b (ix2 (y 0) j) * wb (ix2 j (y 1)))

/-- The rows by the output projection's matrix, and the residual. -/
def Res (x w r : S2048x2048.Idx → EReal) : S2048x2048.Idx → EReal :=
  fun y => (∑ j : Fin 2048, x (ix2 (y 0) j) * w (ix2 j (y 1))) + r (ix2 (y 0) (y 1))

section KernelSide

variable (m : (ℓ : Loc nD τ sig) → Buf (Elt Ideal) ℓ) (ρ : Dev nD → PrngReg) (c : Dev nD)

/-- The first branch. -/
def A : S2048x512.Idx → EReal := m ((c.tc : Thread nD τ).loc main_arg0)
/-- The second branch. -/
def B : S2048x512.Idx → EReal := m ((c.tc : Thread nD τ).loc main_arg1)
/-- The first branch's matrix. -/
def Wa : S512x2048.Idx → EReal := m ((c.tc : Thread nD τ).loc main_arg2)
/-- The second branch's matrix. -/
def Wb : S512x2048.Idx → EReal := m ((c.tc : Thread nD τ).loc main_arg3)
/-- The combined projection. -/
def Pj : S2048x10240.Idx → EReal := m ((c.tc : Thread nD τ).loc main_arg4)
/-- The gates' offsets. -/
def Of : S1x4096.Idx → EReal := m ((c.tc : Thread nD τ).loc main_arg5)
/-- The output projection's matrix. -/
def Wo : S2048x2048.Idx → EReal := m ((c.tc : Thread nD τ).loc main_arg6)
/-- The residual. -/
def Xr : S2048x2048.Idx → EReal := m ((c.tc : Thread nD τ).loc main_arg7)

/-- A branch's matrix by pieces of its columns. -/
def pieces (w : FVec Ideal S512x2048 .f32) : FVec Ideal S8x512x256 .f32 :=
  transpose S8x512x256 [1, 0, 2] (shapeCast S512x8x256 w shapeCasts_S512x2048_S512x8x256) transposes_S512x8x256_S8x512x256_1_0_2

/-- The pieces at a column's piece and place. -/
theorem pieces_at (w : FVec Ideal S512x2048 .f32) (j : Fin 512) (k : Fin 2048) : pieces w (ix3 (pc k) j (pl k)) = w (ix2 j k) := by
  pointwise [pieces]
  exact congrArg w (Shape.idx_ext₂ (by simp [pc, pl] <;> omega) (by simp [pc, pl] <;> omega))

/-- The gates find the first branch. -/
theorem W1_a : V1 m ρ c main_v6 = A m c := by
  dsimp only [V1, W1]
  after_reads_simp
  rfl
/-- The gates find the second branch. -/
theorem W1_b : V1 m ρ c main_v7 = B m c := by
  dsimp only [V1, W1]
  after_reads_simp
  rfl
/-- The gates find the first branch's matrix. -/
theorem W1_wa : V1 m ρ c main_v2 = pieces (Wa m c) := by
  dsimp only [V1, W1]
  after_reads_simp
  rfl
/-- The gates find the second branch's matrix. -/
theorem W1_wb : V1 m ρ c main_v5 = pieces (Wb m c) := by
  dsimp only [V1, W1]
  after_reads_simp
  rfl
/-- The gates find the combined projection. -/
theorem W1_p : V1 m ρ c main_arg4 = Pj m c := W1_args m ρ c main_arg4 (by decide)
/-- The gates find their offsets. -/
theorem W1_o : V1 m ρ c main_arg5 = Of m c := W1_args m ρ c main_arg5 (by decide)

/-- The gated sum over the pieces is the gated sum over the matrices. -/
theorem mix_eq (a b : S2048x512.Idx → EReal) (wa wb : FVec Ideal S512x2048 .f32) (p : S2048x10240.Idx → EReal) (o : S1x4096.Idx → EReal) :
    Mix a b (pieces wa) (pieces wb) p o = Gated a b wa wb p o := by
  have e (w : FVec Ideal S512x2048 .f32) (y : S2048x2048.Idx) (j : Fin 512) : pieces w (ix3 (pc (y 1)) j (pl (y 1))) = w (ix2 j (y 1)) :=
    pieces_at w j (y 1)
  funext y
  simp only [Mix, Gated, gate, e]

/-- The output projection finds the gated sum. -/
theorem W3_g : V3 m ρ c main_v8_0 = Gated (A m c) (B m c) (Wa m c) (Wb m c) (Pj m c) (Of m c) := by
  refine (W3_of m ρ c main_v8_0 (by decide)).trans ((W2_arr m ρ c 8).trans ?_)
  rw [arr0, W1_a, W1_b, W1_wa, W1_wb, W1_p, W1_o]
  exact mix_eq _ _ _ _ _ _

/-- The output projection finds its matrix. -/
theorem W3_w (j k : Fin 2048) : V3 m ρ c main_v10 (ix3 0 j k) = Wo m c (ix2 j k) := by
  have h : V3 m ρ c main_v10 = (broadcastInDim S1x2048x2048 ![1, 2] bcast_S2048x2048_S1x2048x2048_1_2 (W2 m ρ c (Proc.devRef .tc main_arg6) : FVec Ideal S2048x2048 .f32)) := by
    dsimp only [V3, W3]
    after_reads_simp
    rfl
  rw [h, W2_of m ρ c main_arg6 (by decide), W1_args m ρ c main_arg6 (by decide)]
  exact broadcastInDim_apply _ bcast_S2048x2048_S1x2048x2048_1_2 (Wo m c) (ix3 0 j k) (ix2 j k) (fun a => match a with
    | ⟨0, _⟩ => rfl
    | ⟨1, _⟩ => rfl)

/-- The output projection finds the residual. -/
theorem W3_x : V3 m ρ c main_arg7 = Xr m c :=
  (W3_of m ρ c main_arg7 (by decide)).trans ((W2_of m ρ c main_arg7 (by decide)).trans (W1_args m ρ c main_arg7 (by decide)))

/-- The result array of the run. -/
theorem result : W4 m ρ c (Proc.devRef .tc main_v11) = Res (Gated (A m c) (B m c) (Wa m c) (Wb m c) (Pj m c) (Of m c)) (Wo m c) (Xr m c) := by
  refine (W4_arr m ρ c 3).trans ?_
  rw [arr1, W3_g, W3_x]
  have e (y : S2048x2048.Idx) (j : Fin 2048) : V3 m ρ c main_v10 (ix3 0 j (y 1)) = Wo m c (ix2 j (y 1)) := W3_w m ρ c j (y 1)
  funext y
  simp only [Outp, Res, e]

end KernelSide

section ReferenceSide

open Cert.Reference7Ideal.Read

variable (a b : FVec Ideal S2048x512 .f32) (wa wb : FVec Ideal S512x2048 .f32) (p : FVec Ideal S2048x10240 .f32) (o : FVec Ideal S1x4096 .f32)
  (w x : FVec Ideal S2048x2048 .f32)

/-- The reference's gate at a column. -/
theorem ref_gate (i : Fin 2048) (e : Fin 4096) : val_main_v12 (F := Ideal) p o (ix2 i e) = gate p o i ⟨6144 + e.val, by omega⟩ e := by
  rw [val_main_v12_apply, val_main_v11_apply, val_main_v10_apply, val_main_v9_apply, val_main_v8_apply, val_main_v7_apply, val_main_v6_apply,
    val_main_v2_apply, val_main_v5_apply, val_main_v4_apply, val_main_v3_apply, val_main_cst_apply, val_main_cst_0_apply,
    show (FloatOps.ofBits (F := Ideal) .f32 0x3F800000#32 : EReal) = 1 from Ideal.ofBits_one_f32]
  refine congrArg Ideal.logistic (congrArg₂ (fun s t : EReal => s + t) (congrArg p ?_) (congrArg o ?_))
  · exact Shape.idx_ext₂ rfl rfl
  · exact Shape.idx_ext₂ rfl (Nat.mod_eq_of_lt e.isLt)

/-- The reference's gated sum. -/
theorem ref_gated (i k : Fin 2048) : val_main_v17 (F := Ideal) a b wa wb p o (ix2 i k) = Gated a b wa wb p o (ix2 i k) := by
  rw [val_main_v17_apply, val_main_v15_apply, val_main_v16_apply, val_main_v13_apply, val_main_v14_apply, val_main_v0_apply, val_main_v1_apply,
    show idx_main_v13 (ix2 i k) = ix2 i (offA k) from Shape.idx_ext₂ rfl rfl, show idx_main_v14 (ix2 i k) = ix2 i (offB k) from Shape.idx_ext₂ rfl rfl,
    ref_gate, ref_gate]
  refine congrArg₂ (fun s t : EReal => s + t) (congrArg₂ (fun s t : EReal => s * t) rfl ?_) (congrArg₂ (fun s t : EReal => s * t) ?_ ?_)
  · exact Finset.sum_congr rfl fun j _ => congrArg₂ (fun s t : EReal => s * t) (congrArg a (Shape.idx_ext₂ rfl rfl)) (congrArg wa (Shape.idx_ext₂ rfl rfl))
  · exact congrArg (fun e => gate p o i e (offB k)) (Fin.ext (by show 6144 + (2048 + k.val) = 8192 + k.val; omega))
  · exact Finset.sum_congr rfl fun j _ => congrArg₂ (fun s t : EReal => s * t) (congrArg b (Shape.idx_ext₂ rfl rfl)) (congrArg wb (Shape.idx_ext₂ rfl rfl))

/-- The reference's result. -/
theorem ref_result : val_main_v19 (F := Ideal) a b wa wb p o w x = Res (Gated a b wa wb p o) w x := by
  funext y
  idx_vars y
  rw [val_main_v19_apply]
  refine (add_comm (x (ix2 y0 y1) : EReal) _).trans (congrArg₂ (fun s t : EReal => s + t) ?_ rfl)
  refine (val_main_v18_apply a b wa wb p o w _).trans (Finset.sum_congr rfl fun j _ => congrArg₂ (fun s t : EReal => s * t) ?_ ?_)
  · rw [show lidx_main_v18 (ix2 y0 y1) j = ix2 y0 j from Shape.idx_ext₂ rfl rfl]
    exact ref_gated a b wa wb p o y0 j
  · exact congrArg w (Shape.idx_ext₂ rfl rfl)

end ReferenceSide

/-- The kernels run and leave their arguments. -/
theorem frame_k : @quiescent_Kernel7 Kernel7.Gen.facts := fun m ρ _ => Kernel7.Gen.frame m ρ
/-- The idealized kernels run and leave their arguments. -/
theorem frame_ki : @quiescent_Kernel7Ideal Kernel7Ideal.Gen.facts := fun m ρ _ => Kernel7Ideal.Gen.frame m ρ
/-- The reference runs and leaves its arguments. -/
theorem frame_ref : @quiescent_Reference7Ideal Reference7Ideal.Gen.facts := fun m ρ _ =>
  (θ_run Reference7Ideal.defs _ _).mono (fun r h => ⟨fun c => (h c).2, sem_eq_zero_of_no_sems (by decide) r.2⟩)
    (Reference7Ideal.Value.run (F := Ideal) m ρ)

/-- The value claim: the two calls and the reference leave the same rows. -/
theorem value : @algebraic_Kernel7Ideal_Reference7Ideal Kernel7Ideal.Gen.facts Reference7Ideal.Gen.facts := by
  intro m g m' g' _ he
  refine ⟨fun c => Res (Gated (A m c) (B m c) (Wa m c) (Wb m c) (Pj m c) (Of m c)) (Wo m c) (Xr m c), ?_, ?_⟩
  · refine (θ_run _ _ _).mono (fun r h c => ?_) (run_result (F := Ideal) m g)
    obtain ⟨h0, h1⟩ := h c
    exact ⟨h0.trans (result m g c), h1⟩
  · refine (θ_run _ _ _).mono (fun r h c => ?_) (Reference7Ideal.Value.run m' g')
    obtain ⟨h0, h1⟩ := h c
    obtain ⟨e0, e1, e2, e3, e4, e5, e6, e7⟩ := he c
    refine ⟨((h0.trans (Reference7Ideal.Read.val_main_v19_eq _ _ _ _ _ _ _ _)).trans (ref_result _ _ _ _ _ _ _ _)).trans ?_, h1⟩
    rw [e0, e1, e2, e3, e4, e5, e6, e7]
    rfl

end Cert.Gates

end
-- ==== Proof.GatesBwdArr.lean ====
/- The gates' backward call: blocks, arrays. -/
module

public import proofs.«01_k».proof.Proof.Gen.Kernel8Ideal.Frame
public import Idealize.ShloMosaic.Lib.Pointwise
public import Idealize.ShloMosaic.Lib.Pipeline.ValueKit
public import Idealize.ShloMosaic.Lib.Pipeline.ReadBack

@[expose] public section

set_option maxRecDepth 16384
set_option maxHeartbeats 1000000

noncomputable section

namespace Cert.GatesBwd

open Idealize.ShloMosaic Idealize.ShloMosaic.TcCoe Cert.Kernel8Ideal Cert.Kernel8Ideal.Gen

/-- The gradient of the gated sum, at a cell of a block. -/
theorem pay5 (x : Vec Ideal S256x2048 .bf16) (w : Vec Ideal S2048x2048 .bf16) (i : Fin 256) (k : Fin 2048) :
    k0_pay5 (F := Ideal) x w (ix2 i k) = ∑ j : Fin 2048, x (ix2 i j) * w (ix2 k j) := by
  pointwise [k0_pay5]
/-- The first gate at a cell of a block. -/
theorem pay6 (l : Vec Ideal S256x2048 .f32) (b : Vec Ideal S1x2048 .f32) (i : Fin 256) (k : Fin 2048) :
    k0_pay6 (F := Ideal) l b (ix2 i k) = Ideal.logistic (l (ix2 i k) + b (ix2 0 k)) := by
  pointwise [k0_pay6]
/-- The second gate at a cell of a block. -/
theorem pay11 (l : Vec Ideal S256x2048 .f32) (b : Vec Ideal S1x2048 .f32) (i : Fin 256) (k : Fin 2048) :
    k0_pay11 (F := Ideal) l b (ix2 i k) = Ideal.logistic (l (ix2 i k) + b (ix2 0 k)) := by
  pointwise [k0_pay11]
/-- The gradient through a gate. -/
def dl (d y g : EReal) : EReal := d * y * g * (1 - g)
/-- The second gate's gradient at a cell of a block. -/
theorem pay1 (d g : FVec Ideal S256x2048 .f32) (y : Vec Ideal S256x2048 .bf16) (i : Fin 256) (k : Fin 2048) :
    k0_pay1 (F := Ideal) d g y (ix2 i k) = dl (d (ix2 i k)) (y (ix2 i k)) (g (ix2 i k)) := by
  pointwise [k0_pay1]
  rfl
/-- The first gate's gradient at a cell of a block. -/
theorem pay8 (x : Vec Ideal S256x2048 .bf16) (w : Vec Ideal S2048x2048 .bf16) (l : Vec Ideal S256x2048 .f32) (b : Vec Ideal S1x2048 .f32)
    (y : Vec Ideal S256x2048 .bf16) (i : Fin 256) (k : Fin 2048) :
    k0_pay8 (F := Ideal) x w l b y (ix2 i k) = dl (k0_pay5 (F := Ideal) x w (ix2 i k)) (y (ix2 i k)) (k0_pay6 (F := Ideal) l b (ix2 i k)) := by
  pointwise [k0_pay8]
  rfl

/-- The first gradients summed over a block's rows, beside the second's. -/
theorem pay3 (d g : FVec Ideal S256x2048 .f32) (y : Vec Ideal S256x2048 .bf16) (v : FVec Ideal S1x2048 .f32) (k : Fin 4096) :
    k0_pay3 (F := Ideal) d v g y (ix2 0 k) = if h : k.val < 2048 then v (ix2 0 ⟨k.val, h⟩)
      else ∑ i : Fin 256, k0_pay1 (F := Ideal) d g y (ix2 i ⟨k.val - 2048, by omega⟩) := by
  pointwise [k0_pay3]
/-- The first gradients summed over a block's rows. -/
theorem pay10 (x : Vec Ideal S256x2048 .bf16) (w : Vec Ideal S2048x2048 .bf16) (l : Vec Ideal S256x2048 .f32) (b : Vec Ideal S1x2048 .f32)
    (y : Vec Ideal S256x2048 .bf16) (k : Fin 2048) :
    k0_pay10 (F := Ideal) x w l b y (ix2 0 k) = ∑ i : Fin 256, k0_pay8 (F := Ideal) x w l b y (ix2 i k) := by
  pointwise [k0_pay10]
/-- The sums so far and the block's. -/
theorem pay4 (d g : FVec Ideal S256x2048 .f32) (y : Vec Ideal S256x2048 .bf16) (v : FVec Ideal S1x2048 .f32) (a : Vec Ideal S1x4096 .f32) (k : Fin 4096) :
    k0_pay4 (F := Ideal) d v g y a (ix2 0 k) = a (ix2 0 k) + k0_pay3 (F := Ideal) d v g y (ix2 0 k) := by
  unfold k0_pay4
  generalize k0_pay3 (F := Ideal) d v g y = b
  pointwise []

/-- A column of the first gate. -/
def colA (k : Fin 2048) : Fin 4096 := ⟨k.val, by omega⟩
/-- A column of the second gate. -/
def colB (k : Fin 2048) : Fin 4096 := ⟨2048 + k.val, by omega⟩
/-- A gate's column in the combined projection. -/
def wide (k : Fin 4096) : Fin 10240 := ⟨6144 + k.val, by omega⟩

/-- Half of the offsets. -/
theorem ld_o (w : Vec Ideal S1x4096 .f32) (n : ℕ) (h) (k : Fin 2048) (e : Fin 4096) (he : e.val = n + k.val) :
    View.ld w (Rect.unit (s := S1x4096) ![0, n] ![1, 2048] h) (ix2 0 k) = w (ix2 0 e) :=
  congrArg w (Shape.idx_ext₂ (by simp [Rect.unit]) (by simp [Rect.unit, he]))

variable (m : (ℓ : Loc nD τ sig) → Buf (Elt Ideal) ℓ) (c : Dev nD)

/-- A row of a grid point's block. -/
def row (t : Fin cfg0.N) (i : Fin 256) : Fin 2048 := ⟨256 * t.val + i.val, by have h : t.val < 8 := t.isLt; omega⟩

/-- Where the blocks lie. -/
theorem idx : ∀ t : Fin cfg0.N, win0_0.index t = ![t.val, 0] ∧ win0_1.index t = ![0, 0] ∧ win0_2.index t = ![t.val, 3]
    ∧ win0_3.index t = ![t.val, 4] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-- The incoming gradient's block. -/
theorem blk_d (t : Fin cfg0.N) (i : Fin 256) (k : Fin 2048) : iblk m c 0 t (ix2 i k) = V m c main_v0 (ix2 (row t i) k) := by
  unfold iblk
  blk_ext [idx t, row]
/-- The output projection's matrix's block. -/
theorem blk_w (t : Fin cfg0.N) (j k : Fin 2048) : iblk m c 1 t (ix2 j k) = V m c main_v1 (ix2 j k) := by
  unfold iblk
  blk_ext [idx t]
/-- The first gate's block. -/
theorem blk_p (t : Fin cfg0.N) (i : Fin 256) (k : Fin 2048) : iblk m c 2 t (ix2 i k) = V m c main_arg2 (ix2 (row t i) (wide (colA k))) := by
  unfold iblk
  blk_ext [idx t, row, wide, colA]
/-- The second gate's block. -/
theorem blk_q (t : Fin cfg0.N) (i : Fin 256) (k : Fin 2048) : iblk m c 3 t (ix2 i k) = V m c main_arg2 (ix2 (row t i) (wide (colB k))) := by
  unfold iblk
  blk_ext [idx t, row, wide, colB]
/-- The offsets' block. -/
theorem blk_o (t : Fin cfg0.N) (k : Fin 4096) : iblk m c 4 t (ix2 0 k) = V m c main_arg3 (ix2 0 k) := by
  unfold iblk
  blk_ext [idx t]
/-- The first branch's block. -/
theorem blk_a (t : Fin cfg0.N) (i : Fin 256) (k : Fin 2048) : iblk m c 5 t (ix2 i k) = V m c main_v2 (ix2 (row t i) k) := by
  unfold iblk
  blk_ext [idx t, row]
/-- The second branch's block. -/
theorem blk_b (t : Fin cfg0.N) (i : Fin 256) (k : Fin 2048) : iblk m c 6 t (ix2 i k) = V m c main_v3 (ix2 (row t i) k) := by
  unfold iblk
  blk_ext [idx t, row]
/-- Where the branches' gradients' blocks lie. -/
theorem emb7 (t : Fin cfg0.N) (i : Fin 256) (k : Fin 2048) : ((cfg0.win 7).blk t).view.emb (ix2 i k) = ix2 (row t i) k
    ∧ ((cfg0.win 8).blk t).view.emb (ix2 i k) = ix2 (row t i) k := by
  constructor <;> blk_ext [idx t, row]
/-- Where the gates' gradients' block lies. -/
theorem emb9 (t : Fin cfg0.N) (i : Fin 256) (k : Fin 4096) : ((cfg0.win 9).blk t).view.emb (ix2 i k) = ix2 (row t i) k := by
  blk_ext [idx t, row]
/-- Where the offsets' gradients' block lies. -/
theorem emb10 (t : Fin cfg0.N) (k : Fin 4096) : ((cfg0.win 10).blk t).view.emb (ix2 0 k) = ix2 0 k := by
  blk_ext [idx t]

/-- A gate. -/
def gate (p : S2048x10240.Idx → EReal) (o : S1x4096.Idx → EReal) (i : Fin 2048) (k : Fin 4096) : EReal := Ideal.logistic (p (ix2 i (wide k)) + o (ix2 0 k))
/-- The gradient of the gated sum. -/
def Dm (d w : S2048x2048.Idx → EReal) (i k : Fin 2048) : EReal := ∑ j : Fin 2048, d (ix2 i j) * w (ix2 k j)
/-- The first branch's gradient. -/
def Da (d w : S2048x2048.Idx → EReal) (p : S2048x10240.Idx → EReal) (o : S1x4096.Idx → EReal) : S2048x2048.Idx → EReal :=
  fun y => Dm d w (y 0) (y 1) * gate p o (y 0) (colA (y 1))
/-- The second branch's gradient. -/
def Db (d w : S2048x2048.Idx → EReal) (p : S2048x10240.Idx → EReal) (o : S1x4096.Idx → EReal) : S2048x2048.Idx → EReal :=
  fun y => Dm d w (y 0) (y 1) * gate p o (y 0) (colB (y 1))
/-- The gates' gradient. -/
def Dg (d w : S2048x2048.Idx → EReal) (p : S2048x10240.Idx → EReal) (o : S1x4096.Idx → EReal) (a b : S2048x2048.Idx → EReal) : S2048x4096.Idx → EReal :=
  fun y => if h : (y 1).val < 2048 then dl (Dm d w (y 0) ⟨(y 1).val, h⟩) (a (ix2 (y 0) ⟨(y 1).val, h⟩)) (gate p o (y 0) (y 1))
    else dl (Dm d w (y 0) ⟨(y 1).val - 2048, by have h' : (y 1).val < 4096 := (y 1).isLt; omega⟩) (b (ix2 (y 0) ⟨(y 1).val - 2048, by have h' : (y 1).val < 4096 := (y 1).isLt; omega⟩))
      (gate p o (y 0) (y 1))

/-- The gates' gradient in the program. -/
def G : S2048x4096.Idx → EReal := Dg (V m c main_v0) (V m c main_v1) (V m c main_arg2) (V m c main_arg3) (V m c main_v2) (V m c main_v3)

/-- The gradient of the gated sum at a grid point. -/
theorem dm_at (t : Fin cfg0.N) (i : Fin 256) (k : Fin 2048) :
    k0_pay5 (F := Ideal) (iblk m c 0 t) (iblk m c 1 t) (ix2 i k) = Dm (V m c main_v0) (V m c main_v1) (row t i) k := by
  refine (pay5 _ _ i k).trans ?_
  simp only [blk_d, blk_w]
  rfl
/-- The first gate at a grid point. -/
theorem ga_at (t : Fin cfg0.N) (h) (i : Fin 256) (k : Fin 2048) :
    k0_pay6 (F := Ideal) (iblk m c 2 t) (View.ld (iblk m c 4 t) (Rect.unit (s := S1x4096) ![0, 0] ![1, 2048] h)) (ix2 i k)
      = gate (V m c main_arg2) (V m c main_arg3) (row t i) (colA k) := by
  refine (pay6 _ _ i k).trans ?_
  rw [ld_o _ 0 h k (colA k) (Nat.zero_add _).symm, blk_p, blk_o]
  rfl
/-- The second gate at a grid point. -/
theorem gb_at (t : Fin cfg0.N) (h) (i : Fin 256) (k : Fin 2048) :
    k0_pay11 (F := Ideal) (iblk m c 3 t) (View.ld (iblk m c 4 t) (Rect.unit (s := S1x4096) ![0, 2048] ![1, 2048] h)) (ix2 i k)
      = gate (V m c main_arg2) (V m c main_arg3) (row t i) (colB k) := by
  refine (pay11 _ _ i k).trans ?_
  rw [ld_o _ 2048 h k (colB k) rfl, blk_q, blk_o]
  rfl
/-- The first gate's gradient at a grid point. -/
theorem la_at (t : Fin cfg0.N) (h) (i : Fin 256) (k : Fin 2048) :
    k0_pay8 (F := Ideal) (iblk m c 0 t) (iblk m c 1 t) (iblk m c 2 t) (View.ld (iblk m c 4 t) (Rect.unit (s := S1x4096) ![0, 0] ![1, 2048] h))
      (iblk m c 5 t) (ix2 i k) = G m c (ix2 (row t i) (colA k)) := by
  refine (pay8 _ _ _ _ _ i k).trans ?_
  rw [dm_at, ga_at, blk_a]
  refine Eq.trans ?_ (dif_pos (show (colA k).val < 2048 from k.isLt)).symm
  rfl
/-- The second gate's gradient at a grid point. -/
theorem lb_at (t : Fin cfg0.N) (h) (i : Fin 256) (k : Fin 2048) :
    k0_pay1 (F := Ideal) (k0_pay5 (F := Ideal) (iblk m c 0 t) (iblk m c 1 t))
      (k0_pay11 (F := Ideal) (iblk m c 3 t) (View.ld (iblk m c 4 t) (Rect.unit (s := S1x4096) ![0, 2048] ![1, 2048] h)))
      (iblk m c 6 t) (ix2 i k) = G m c (ix2 (row t i) (colB k)) := by
  refine (pay1 _ _ _ i k).trans ?_
  rw [dm_at, gb_at, blk_b]
  have e : (⟨(colB k).val - 2048, by show 2048 + k.val - 2048 < 2048; omega⟩ : Fin 2048) = k := Fin.ext (by show 2048 + k.val - 2048 = k.val; omega)
  refine Eq.trans ?_ (dif_neg (show ¬ (2048 + k.val) < 2048 by omega)).symm
  exact congrArg (fun q => dl (Dm (V m c main_v0) (V m c main_v1) (row t i) q) (V m c main_v3 (ix2 (row t i) q)) (gate (V m c main_arg2) (V m c main_arg3) (row t i) (colB k))) e.symm

/-- A grid point's sums. -/
def part (g : S2048x4096.Idx → EReal) (k : Fin 4096) (n : ℕ) : EReal := ∑ i : Fin 256, g (ix2 ⟨(256 * n + i.val) % 2048, by omega⟩ k)

/-- The block's sums at a grid point. -/
theorem part_at (t : Fin cfg0.N) (h h') (k : Fin 4096) :
    k0_pay3 (F := Ideal) (k0_pay5 (F := Ideal) (iblk m c 0 t) (iblk m c 1 t))
      (k0_pay10 (F := Ideal) (iblk m c 0 t) (iblk m c 1 t) (iblk m c 2 t) (View.ld (iblk m c 4 t) (Rect.unit (s := S1x4096) ![0, 0] ![1, 2048] h)) (iblk m c 5 t))
      (k0_pay11 (F := Ideal) (iblk m c 3 t) (View.ld (iblk m c 4 t) (Rect.unit (s := S1x4096) ![0, 2048] ![1, 2048] h')))
      (iblk m c 6 t) (ix2 0 k) = part (G m c) k t.val := by
  have hN : t.val < 8 := t.isLt
  have hr (i : Fin 256) : (⟨(256 * t.val + i.val) % 2048, by omega⟩ : Fin 2048) = row t i := Fin.ext (by simp only [row]; omega)
  rw [pay3]
  unfold part
  by_cases hk : k.val < 2048
  · rw [dif_pos hk, pay10]
    refine Finset.sum_congr rfl fun i _ => (la_at m c t h i _).trans ?_
    rw [hr]
    rfl
  · rw [dif_neg hk]
    refine Finset.sum_congr rfl fun i _ => (lb_at m c t h' i _).trans ?_
    rw [hr]
    exact congrArg (fun e => G m c (ix2 (row t i) e)) (Fin.ext (by show 2048 + (k.val - 2048) = k.val; omega))

/-- The gates' gradients' block from its two halves. -/
theorem gates_at (t : Fin cfg0.N) (h h' g g') (i : Fin 256) (k : Fin 4096) :
    View.canon (Val := Elt Ideal) (e := .bf16) (s := S256x4096)
      [⟨Rect.unit (s := S256x4096) ![0, 2048] ![256, 2048] h', k0_pay2 (F := Ideal) (k0_pay5 (F := Ideal) (iblk m c 0 t) (iblk m c 1 t))
          (k0_pay11 (F := Ideal) (iblk m c 3 t) (View.ld (iblk m c 4 t) (Rect.unit (s := S1x4096) ![0, 2048] ![1, 2048] g'))) (iblk m c 6 t)⟩,
        ⟨Rect.unit (s := S256x4096) ![0, 0] ![256, 2048] h, k0_pay9 (F := Ideal) (iblk m c 0 t) (iblk m c 1 t) (iblk m c 2 t)
          (View.ld (iblk m c 4 t) (Rect.unit (s := S1x4096) ![0, 0] ![1, 2048] g)) (iblk m c 5 t)⟩] (ix2 i k) = G m c (ix2 (row t i) k) := by
  refine View.canon_apply_of_pieces (Val := Elt Ideal) (e := .bf16) (fun y : S256x4096.Idx => G m c (ix2 (row t (y 0)) (y 1))) _
    (View.PiecesOf.mem (Val := Elt Ideal) (e := .bf16) (s := S256x4096) (G := fun y : S256x4096.Idx => G m c (ix2 (row t (y 0)) (y 1))) ?_) (ix2 i k)
    (View.cover_of_tiledL (s := S256x4096) _ S256x2048.size (by sl_kernel_rfl) (ix2 i k))
  refine ⟨fun x => ?_, fun x => ?_, trivial⟩
  · idx_vars x
    refine (lb_at m c t g' x0 x1).trans (congrArg (G m c) (Shape.idx_ext₂ ?_ ?_))
    · exact congrArg (fun q => (row t q).val) (Fin.ext (by show x0.val = 0 + 1 * x0.val; omega))
    · show 2048 + x1.val = 2048 + 1 * x1.val
      omega
  · idx_vars x
    refine (la_at m c t g x0 x1).trans (congrArg (G m c) (Shape.idx_ext₂ ?_ ?_))
    · exact congrArg (fun q => (row t q).val) (Fin.ext (by show x0.val = 0 + 1 * x0.val; omega))
    · show x1.val = 0 + 1 * x1.val
      omega

/-- The branches' and the gates' blocks at a grid point. -/
theorem out_at (t : Fin cfg0.N) (i : Fin 256) :
    (∀ k : Fin 2048, (outsAt0 m c t.val t.isLt).1 (ix2 i k) = Da (V m c main_v0) (V m c main_v1) (V m c main_arg2) (V m c main_arg3) (ix2 (row t i) k))
    ∧ (∀ k : Fin 2048, (outsAt0 m c t.val t.isLt).2.1 (ix2 i k) = Db (V m c main_v0) (V m c main_v1) (V m c main_arg2) (V m c main_arg3) (ix2 (row t i) k))
    ∧ (∀ k : Fin 4096, (outsAt0 m c t.val t.isLt).2.2.1 (ix2 i k) = G m c (ix2 (row t i) k)) := by
  by_cases h : t.val % 8 = 0
  · have h1 : ¬1 ≤ t.val := by have hN : t.val < 8 := t.isLt; omega
    rw [outsAt0_A m c t h h1]
    refine ⟨fun k => ?_, fun k => ?_, fun k => ?_⟩
    · dsimp only
      frame_out
      exact congrArg₂ (fun s t : EReal => s * t) (dm_at m c t i k) (ga_at m c t _ i k)
    · dsimp only
      frame_out
      exact congrArg₂ (fun s t : EReal => s * t) (dm_at m c t i k) (gb_at m c t _ i k)
    · dsimp only
      frame_out
      exact gates_at m c t _ _ _ _ i k
  · have h1 : 1 ≤ t.val := by omega
    rw [outsAt0_B m c t h h1]
    refine ⟨fun k => ?_, fun k => ?_, fun k => ?_⟩
    · dsimp only
      frame_out
      exact congrArg₂ (fun s t : EReal => s * t) (dm_at m c t i k) (ga_at m c t _ i k)
    · dsimp only
      frame_out
      exact congrArg₂ (fun s t : EReal => s * t) (dm_at m c t i k) (gb_at m c t _ i k)
    · dsimp only
      frame_out
      exact gates_at m c t _ _ _ _ i k

/-- The branches' and the gates' arrays. -/
theorem arr7 : (dats (F := Ideal) m 0 c).arrAt 7 cfg0.N = Da (V m c main_v0) (V m c main_v1) (V m c main_arg2) (V m c main_arg3)
    ∧ (dats (F := Ideal) m 0 c).arrAt 8 cfg0.N = Db (V m c main_v0) (V m c main_v1) (V m c main_arg2) (V m c main_arg3)
    ∧ (dats (F := Ideal) m 0 c).arrAt 9 cfg0.N = G m c := by
  refine ⟨(dats (F := Ideal) m 0 c).arrAt_eq_of_covers 7 _ (by decide +kernel) fun t hf j => ?_,
    (dats (F := Ideal) m 0 c).arrAt_eq_of_covers 8 _ (by decide +kernel) fun t hf j => ?_,
    (dats (F := Ideal) m 0 c).arrAt_eq_of_covers 9 _ (by decide +kernel) fun t hf j => ?_⟩
  all_goals
    blk_simp
    idx_vars j
  · rw [after0_7, (emb7 t j0 j1).1]
    exact (out_at m c t j0).1 j1
  · rw [after0_8, (emb7 t j0 j1).2]
    exact (out_at m c t j0).2.1 j1
  · rw [after0_9, emb9]
    exact (out_at m c t j0).2.2 j1

/-- The offsets' gradients after a grid point. -/
theorem sums_at (k : Fin 4096) (t : Fin cfg0.N) :
    (outsAt0 m c t.val t.isLt).2.2.2 (ix2 0 k) = 0 + ∑ n ∈ Finset.range (t.val % 8 + 1), part (G m c) k (8 * (t.val / 8) + n) :=
  Pipeline.eq_sum_of_reset_step (fun n h => (outsAt0 m c n h).2.2.2 (ix2 0 k) : (n : ℕ) → n < cfg0.N → EReal) 8 0 (part (G m c) k)
    (fun t h => by
      have h1 : ¬1 ≤ t.val := by have hN : t.val < 8 := t.isLt; omega
      rw [zero_add, outsAt0_A m c t h h1]
      dsimp only
      frame_out
      exact part_at m c t _ _ k)
    (fun t h => by
      have h1 : 1 ≤ t.val := by omega
      rw [outsAt0_B m c t h h1]
      dsimp only
      frame_out
      rw [pay4, part_at])
    t

/-- The offsets' gradients' array. -/
theorem arr10 : (dats (F := Ideal) m 0 c).arrAt 10 cfg0.N = fun y => ∑ n ∈ Finset.range 8, part (G m c) (y 1) n := by
  refine (dats (F := Ideal) m 0 c).arrAt_eq_of_covers 10 _ (by decide +kernel) fun t hf j => ?_
  blk_simp
  rw [after0_10]
  idx_vars j
  obtain rfl : j0 = 0 := Fin.ext (by omega)
  have h7 := (flush0_10 t).mp hf
  have hN : t.val < 8 := t.isLt
  have h0 : t.val / 8 = 0 := by omega
  refine (sums_at m c j1 t).trans ?_
  rw [h7, h0, zero_add, emb10]
  simp only [Nat.mul_zero, Nat.zero_add]
  rfl

end Cert.GatesBwd

end
-- ==== Proof.GatesBwd.lean ====
/- The gates' backward: the kernel's arrays, the reference's, and the value claim. -/
module

public import proofs.«01_k».proof.Defs
public import proofs.«01_k».proof.Proof.GatesBwdArr
public import Idealize.ShloMosaic.Lib.StableHlo.RunRead
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384
set_option maxHeartbeats 1000000

noncomputable section

namespace Cert.GatesBwd

open Idealize.ShloMosaic Idealize.ShloMosaic.TcCoe Cert.Kernel8Ideal Cert.Kernel8Ideal.Gen
open Idealize.SL.Sem

/-- The offsets' gradient: the gates' gradient summed over the rows. -/
def Do (g : S2048x4096.Idx → EReal) : S1x4096.Idx → EReal := fun y => ∑ r : Fin 2048, g (ix2 r (y 1))

/-- The blocks' sums make up the whole sum. -/
theorem sum_blocks (g : S2048x4096.Idx → EReal) (k : Fin 4096) : ∑ n ∈ Finset.range 8, part g k n = ∑ r : Fin 2048, g (ix2 r k) := by
  rw [Finset.sum_range]
  unfold part
  rw [← Fintype.sum_prod_type (fun p : Fin 8 × Fin 256 => g (ix2 ⟨(256 * p.1.val + p.2.val) % 2048, by omega⟩ k))]
  refine Finset.sum_bij' (fun p _ => ⟨(256 * p.1.val + p.2.val) % 2048, by omega⟩)
    (fun r _ => (⟨r.val / 256, by omega⟩, ⟨r.val % 256, by omega⟩)) ?_ ?_ ?_ ?_ ?_
  · intros; simp
  · intros; simp
  · rintro ⟨n, i⟩ -
    exact Prod.ext (Fin.ext (by simp only []; omega)) (Fin.ext (by simp only []; omega))
  · intro r _
    exact Fin.ext (by simp only []; omega)
  · intros; rfl

section Entry

variable (m : (ℓ : Loc nD τ sig) → Buf (Elt Ideal) ℓ) (c : Dev nD)

/-- The incoming gradient. -/
def D1 : S2048x2048.Idx → EReal := m ((c.tc : Thread nD τ).loc main_arg0)
/-- The output projection's matrix. -/
def Wo : S2048x2048.Idx → EReal := m ((c.tc : Thread nD τ).loc main_arg1)
/-- The combined projection. -/
def Pj : S2048x10240.Idx → EReal := m ((c.tc : Thread nD τ).loc main_arg2)
/-- The gates' offsets. -/
def Of : S1x4096.Idx → EReal := m ((c.tc : Thread nD τ).loc main_arg3)
/-- The first branch. -/
def Ya : S2048x2048.Idx → EReal := m ((c.tc : Thread nD τ).loc main_arg4)
/-- The second branch. -/
def Yb : S2048x2048.Idx → EReal := m ((c.tc : Thread nD τ).loc main_arg5)

/-- The call finds the incoming gradient. -/
theorem V_d : V m c main_v0 = D1 m c := by
  dsimp only [V]
  after_reads_simp
  rfl
/-- The call finds the matrix. -/
theorem V_w : V m c main_v1 = Wo m c := by
  dsimp only [V]
  after_reads_simp
  rfl
/-- The call finds the first branch. -/
theorem V_a : V m c main_v2 = Ya m c := by
  dsimp only [V]
  after_reads_simp
  rfl
/-- The call finds the second branch. -/
theorem V_b : V m c main_v3 = Yb m c := by
  dsimp only [V]
  after_reads_simp
  rfl
/-- The gates' gradient from the arguments. -/
theorem G_eq : G m c = Dg (D1 m c) (Wo m c) (Pj m c) (Of m c) (Ya m c) (Yb m c) := by
  unfold G
  rw [V_d, V_w, V_a, V_b, V_main_arg2, V_main_arg3]
  rfl

end Entry

section Reference

open Cert.Reference8Ideal.Read

variable (d w : FVec Ideal S2048x2048 .f32) (p : FVec Ideal S2048x10240 .f32) (o : FVec Ideal S1x4096 .f32) (a b : FVec Ideal S2048x2048 .f32)

/-- The reference's gradient of the gated sum. -/
theorem ref_dm (i k : Fin 2048) : val_main_v20 (F := Ideal) d w (ix2 i k) = Dm d w i k :=
  (val_main_v20_apply d w _).trans (Finset.sum_congr rfl fun j _ =>
    congrArg₂ (fun s t : EReal => s * t) (congrArg d (Shape.idx_ext₂ rfl rfl)) (congrArg w (Shape.idx_ext₂ rfl rfl)))

/-- The reference's gate. -/
theorem ref_gate (i : Fin 2048) (e : Fin 4096) : val_main_v10 (F := Ideal) p o (ix2 i e) = gate p o i e := by
  rw [val_main_v10_apply, val_main_v9_apply, val_main_v8_apply, val_main_v7_apply, val_main_v6_apply, val_main_v5_apply, val_main_v4_apply,
    val_main_v0_apply, val_main_v3_apply, val_main_v2_apply, val_main_v1_apply, val_main_cst_apply, val_main_cst_0_apply,
    show (FloatOps.ofBits (F := Ideal) .f32 0x3F800000#32 : EReal) = 1 from Ideal.ofBits_one_f32]
  refine congrArg Ideal.logistic (congrArg₂ (fun s t : EReal => s + t) (congrArg p ?_) (congrArg o ?_))
  · exact Shape.idx_ext₂ rfl rfl
  · exact Shape.idx_ext₂ rfl (Nat.mod_eq_of_lt e.isLt)

/-- The reference's first branch's gradient. -/
theorem ref_a : val_main_v31 (F := Ideal) d w p o = Da d w p o := by
  funext y
  idx_vars y
  refine Eq.trans (b := (val_main_v14 (F := Ideal) p o (ix2 y0 y1) * val_main_v20 (F := Ideal) d w (ix2 y0 y1) : EReal)) rfl ?_
  rw [val_main_v14_apply, show idx_main_v14 (ix2 y0 y1) = ix2 y0 (colA y1) from Shape.idx_ext₂ rfl rfl, ref_gate, ref_dm]
  exact mul_comm (_ : EReal) _

/-- The reference's second branch's gradient. -/
theorem ref_b : val_main_v32 (F := Ideal) d w p o = Db d w p o := by
  funext y
  idx_vars y
  refine Eq.trans (b := (val_main_v15 (F := Ideal) p o (ix2 y0 y1) * val_main_v20 (F := Ideal) d w (ix2 y0 y1) : EReal)) rfl ?_
  rw [val_main_v15_apply, show idx_main_v15 (ix2 y0 y1) = ix2 y0 (colB y1) from Shape.idx_ext₂ rfl rfl, ref_gate, ref_dm]
  exact mul_comm (_ : EReal) _

/-- The gradient through a gate, as the reference multiplies it. -/
theorem ref_slope (i : Fin 2048) (e : Fin 4096) : val_main_v13 (F := Ideal) p o (ix2 i e) = gate p o i e * (1 - gate p o i e) := by
  rw [val_main_v13_apply, val_main_v12_apply, val_main_v11_apply, val_main_cst_1_apply,
    show (FloatOps.ofBits (F := Ideal) .f32 0x3F800000#32 : EReal) = 1 from Ideal.ofBits_one_f32, ref_gate]
  rfl

/-- The reference's two branches' products, side by side. -/
theorem ref_both (i : Fin 2048) (e : Fin 4096) : val_main_v25 (F := Ideal) d w a b (ix2 i e)
    = if h : e.val < 2048 then val_main_v24 (F := Ideal) d w a (ix2 i ⟨e.val, h⟩) else val_main_v22 (F := Ideal) d w b (ix2 i ⟨e.val - 2048, by omega⟩) := by
  unfold val_main_v25
  generalize val_main_v24 (F := Ideal) d w a = u
  generalize val_main_v22 (F := Ideal) d w b = v
  pointwise []

/-- The reference's gates' gradient. -/
theorem ref_g : val_main_v26 (F := Ideal) d w p o a b = Dg d w p o a b := by
  funext y
  idx_vars y
  rw [val_main_v26_apply, ref_slope, ref_both]
  unfold Dg
  by_cases h : y1.val < 2048
  · rw [dif_pos h]
    refine Eq.trans ?_ (dif_pos (show ((ix2 y0 y1 : S2048x4096.Idx) 1).val < 2048 from h)).symm
    rw [val_main_v24_apply, ref_dm]
    exact (mul_assoc (_ : EReal) _ _).symm
  · rw [dif_neg h]
    refine Eq.trans ?_ (dif_neg (show ¬ ((ix2 y0 y1 : S2048x4096.Idx) 1).val < 2048 from h)).symm
    rw [val_main_v22_apply, ref_dm]
    exact (mul_assoc (_ : EReal) _ _).symm

/-- The reference's offsets' gradient. -/
theorem ref_o : val_main_v30 (F := Ideal) d w p o a b = Do (Dg d w p o a b) := by
  funext y
  idx_vars y
  obtain rfl : y0 = 0 := Fin.ext (by omega)
  rw [val_main_v30_apply, val_main_v29_apply, show val_main_cst_3 (F := Ideal) (Shape.Idx.first Reference8Ideal.Gen.h_S_) = (0 : EReal) from Ideal.ofBits_zero_f32,
    zero_add, Fin.sum_univ_one, val_main_v28_apply, val_main_v27_apply,
    show val_main_cst_2 (F := Ideal) (Shape.Idx.first Reference8Ideal.Gen.h_S_) = (0 : EReal) from Ideal.ofBits_zero_f32, zero_add, ref_g]
  refine Finset.sum_congr rfl fun r _ => congrArg (Dg d w p o a b) (Shape.idx_ext₂ rfl ?_)
  show 0 * 4096 + y1.val = y1.val
  omega

end Reference

/-- The kernel runs and leaves its arguments. -/
theorem frame_k : @quiescent_Kernel8 Kernel8.Gen.facts := fun m ρ _ => Kernel8.Gen.frame m ρ
/-- The idealized kernel runs and leaves its arguments. -/
theorem frame_ki : @quiescent_Kernel8Ideal Kernel8Ideal.Gen.facts := fun m ρ _ => Kernel8Ideal.Gen.frame m ρ
/-- The reference runs and leaves its arguments. -/
theorem frame_ref : @quiescent_Reference8Ideal Reference8Ideal.Gen.facts := fun m ρ _ =>
  (θ_run Reference8Ideal.defs _ _).mono (fun r h => ⟨fun c => (h c).2.2.2.2, sem_eq_zero_of_no_sems (by decide) r.2⟩)
    (Reference8Ideal.Value.run (F := Ideal) m ρ)

/-- The value claim: the call and the reference leave the same gradients. -/
theorem value : @algebraic_Kernel8Ideal_Reference8Ideal Kernel8Ideal.Gen.facts Reference8Ideal.Gen.facts := by
  intro m g m' g' _ he
  refine ⟨fun c => Da (D1 m c) (Wo m c) (Pj m c) (Of m c), fun c => Db (D1 m c) (Wo m c) (Pj m c) (Of m c),
    fun c => Dg (D1 m c) (Wo m c) (Pj m c) (Of m c) (Ya m c) (Yb m c), fun c => Do (Dg (D1 m c) (Wo m c) (Pj m c) (Of m c) (Ya m c) (Yb m c)), ?_, ?_⟩
  · refine (θ_run _ _ _).mono (fun r h c => ?_) (Kernel8Ideal.Value.run_blocks (F := Ideal) m g)
    obtain ⟨h7, h8, h9, h10, hk⟩ := h c
    obtain ⟨a7, a8, a9⟩ := arr7 m c
    refine ⟨h7.trans ?_, h8.trans ?_, h9.trans ?_, h10.trans ?_, hk⟩
    · rw [a7, V_d, V_w, V_main_arg2, V_main_arg3]
      rfl
    · rw [a8, V_d, V_w, V_main_arg2, V_main_arg3]
      rfl
    · rw [a9, G_eq]
    · rw [arr10, G_eq]
      exact funext fun y => sum_blocks _ (y 1)
  · refine (θ_run _ _ _).mono (fun r h c => ?_) (Reference8Ideal.Value.run m' g')
    obtain ⟨h0, h1, h2, h3, hk⟩ := h c
    obtain ⟨e0, e1, e2, e3, e4, e5⟩ := he c
    refine ⟨((h0.trans (Reference8Ideal.Read.val_main_v31_eq _ _ _ _)).trans (ref_a _ _ _ _)).trans ?_,
      ((h1.trans (Reference8Ideal.Read.val_main_v32_eq _ _ _ _)).trans (ref_b _ _ _ _)).trans ?_,
      ((h2.trans (Reference8Ideal.Read.val_main_v33_eq _ _ _ _ _ _)).trans (ref_g _ _ _ _ _ _)).trans ?_,
      ((h3.trans (Reference8Ideal.Read.val_main_v30_eq _ _ _ _ _ _)).trans (ref_o _ _ _ _ _ _)).trans ?_, hk⟩
    · rw [e0, e1, e2, e3]; rfl
    · rw [e0, e1, e2, e3]; rfl
    · rw [e0, e1, e2, e3, e4, e5]; rfl
    · rw [e0, e1, e2, e3, e4, e5]; rfl

end Cert.GatesBwd

end
-- ==== Proof.NormMath.lean ====
/- The norm's gradient over the extended reals: the reciprocal root is a finite factor, which distributes. -/
module

public import Idealize.ShloMosaic.Lib.Pointwise
public import Idealize.ShloMosaic.Lib.Pipeline.ValueKit

@[expose] public section

set_option maxHeartbeats 1000000

noncomputable section

namespace Cert.Norm

open Idealize.ShloMosaic

/-- The row's length. -/
theorem len : Ideal.ofBits .f32 0x45000000#32 = ((2048 : ℝ) : EReal) := by
  simp [Ideal.ofBits, Ideal.ieee]
  rw [← EReal.coe_mul]
  norm_num

/-- Minus a half. -/
theorem mhalf : Ideal.ofBits .f32 0xBF000000#32 = ((-(1 / 2) : ℝ) : EReal) := by
  simp [Ideal.ofBits, Ideal.ieee]
  rw [← EReal.coe_mul]
  norm_num

/-- The offset under the root is a positive number. -/
theorem eps : ∃ e : ℝ, 0 < e ∧ Ideal.ofBits .f32 0x358637BD#32 = (e : EReal) := by
  refine ⟨8796093 * 2 ^ (-43 : ℤ), by positivity, ?_⟩
  simp [Ideal.ofBits, Ideal.ieee]

/-- The mean square with the offset, from the sum of squares. -/
def ms (q : EReal) : EReal := Ideal.div q (Ideal.ofBits .f32 0x45000000#32) + Ideal.ofBits .f32 0x358637BD#32

/-- The reciprocal root is a finite number that is not negative, and over the mean square it is its third power. -/
theorem root (q : EReal) (hq : 0 ≤ q) :
    ∃ s : ℝ, 0 ≤ s ∧ Ideal.rsqrt (ms q) = (s : EReal) ∧ Ideal.div (Ideal.rsqrt (ms q)) (ms q) = ((s * s * s : ℝ) : EReal) := by
  obtain ⟨e, he, hb⟩ := eps
  unfold ms
  rw [len, Ideal.div_coe (by norm_num), hb]
  induction q with
  | bot => simp at hq
  | top =>
    have h : (⊤ : EReal) * ((1 / 2048 : ℝ) : EReal) + (e : EReal) = ⊤ := by
      rw [EReal.top_mul_coe_of_pos (by norm_num), EReal.top_add_coe]
    rw [h]
    exact ⟨0, le_refl 0, rfl, by simp [Ideal.div]⟩
  | coe r =>
    have hr : 0 ≤ r := EReal.coe_nonneg.mp hq
    rw [← EReal.coe_mul, ← EReal.coe_add]
    have hv : 0 < r * (1 / 2048) + e := by positivity
    have hs : 0 < Real.sqrt (r * (1 / 2048) + e) := Real.sqrt_pos.mpr hv
    have hq2 := Real.mul_self_sqrt hv.le
    generalize r * (1 / 2048) + e = v at *
    rw [Ideal.rsqrt_coe, if_neg (not_lt.mpr hv.le), if_neg hv.ne']
    refine ⟨(Real.sqrt v)⁻¹, (inv_pos.mpr hs).le, rfl, ?_⟩
    rw [Ideal.div_coe hv.ne', ← EReal.coe_mul]
    refine congrArg _ ?_
    generalize Real.sqrt v = w at *
    subst hq2
    field_simp

/-- A finite factor that is not negative times any sum. -/
theorem mul_sum_finite {ι : Type} (u : Finset ι) (s : ℝ) (hs : 0 ≤ s) (f : ι → EReal) :
    (s : EReal) * ∑ i ∈ u, f i = ∑ i ∈ u, (s : EReal) * f i := by
  classical
  induction u using Finset.induction_on with
  | empty => simp
  | insert i u hi ih =>
    rw [Finset.sum_insert hi, Finset.sum_insert hi,
      EReal.left_distrib_of_nonneg_of_ne_top (EReal.coe_nonneg.mpr hs) (EReal.coe_ne_top s), ih]

/-- The gradient as the call multiplies it is the derivative as the chain rule writes it. -/
theorem grad_eq (q x t res : EReal) (hq : 0 ≤ q) {n : ℕ} (X T : Fin n → EReal) :
    Ideal.rsqrt (ms q) * (t - (x * Ideal.rsqrt (ms q))
        * Ideal.div (∑ k, T k * (X k * Ideal.rsqrt (ms q))) (Ideal.ofBits .f32 0x45000000#32)) + res
      = ((res + t * Ideal.rsqrt (ms q))
          + x * Ideal.div ((∑ k, X k * T k) * (Ideal.ofBits .f32 0xBF000000#32 * Ideal.div (Ideal.rsqrt (ms q)) (ms q))) (Ideal.ofBits .f32 0x45000000#32))
        + Ideal.div ((∑ k, X k * T k) * (Ideal.ofBits .f32 0xBF000000#32 * Ideal.div (Ideal.rsqrt (ms q)) (ms q))) (Ideal.ofBits .f32 0x45000000#32) * x := by
  obtain ⟨s, hs, h1, h3⟩ := root q hq
  have hS : ∑ k, T k * (X k * (s : EReal)) = (s : EReal) * ∑ k, X k * T k := by
    rw [mul_sum_finite _ s hs]
    exact Finset.sum_congr rfl fun k _ => by ac_rfl
  rw [h3, h1, len, mhalf, Ideal.div_coe (by norm_num), Ideal.div_coe (by norm_num), hS]
  generalize ∑ k, X k * T k = S
  have hu : (0 : EReal) ≤ ((1 / 2 * (s * s * s) * (1 / 2048) : ℝ) : EReal) := EReal.coe_nonneg.mpr (by positivity)
  have hB : x * ((S * (((-(1 / 2) : ℝ) : EReal) * ((s * s * s : ℝ) : EReal))) * ((1 / 2048 : ℝ) : EReal))
      = -(x * S) * ((1 / 2 * (s * s * s) * (1 / 2048) : ℝ) : EReal) := by
    rw [neg_mul, ← mul_neg, ← EReal.coe_neg, ← EReal.coe_mul, mul_assoc S, ← EReal.coe_mul, ← mul_assoc]
    congr 2
    ring
  have hA : (s : EReal) * -((x * (s : EReal)) * (((s : EReal) * S) * ((1 / 2048 : ℝ) : EReal)))
      = -(x * S) * ((1 / 2 * (s * s * s) * (1 / 2048) : ℝ) : EReal) + -(x * S) * ((1 / 2 * (s * s * s) * (1 / 2048) : ℝ) : EReal) := by
    rw [← EReal.left_distrib_of_nonneg hu hu, ← EReal.coe_add, mul_neg, neg_mul]
    refine congrArg _ ?_
    have h : (1 / 2 * (s * s * s) * (1 / 2048) + 1 / 2 * (s * s * s) * (1 / 2048) : ℝ) = s * s * s * (1 / 2048) := by ring
    rw [h, EReal.coe_mul, EReal.coe_mul, EReal.coe_mul]
    ac_rfl
  rw [mul_comm _ x, hB, sub_eq_add_neg, EReal.left_distrib_of_nonneg_of_ne_top (EReal.coe_nonneg.mpr hs) (EReal.coe_ne_top s), hA, mul_comm t]
  generalize -(x * S) * ((1 / 2 * (s * s * s) * (1 / 2048) : ℝ) : EReal) = b
  generalize (s : EReal) * t = a
  ac_rfl

end Cert.Norm

end
-- ==== Proof.NormArr.lean ====
/- The norm's backward call: blocks, arrays. -/
module

public import proofs.«01_k».proof.Proof.Gen.Kernel6Ideal.Frame
public import proofs.«01_k».proof.Proof.NormMath
public import Idealize.ShloMosaic.Lib.Pointwise
public import Idealize.ShloMosaic.Lib.Pipeline.ValueKit

@[expose] public section

set_option maxRecDepth 16384
set_option maxHeartbeats 1000000

noncomputable section

namespace Cert.Norm

open Idealize.ShloMosaic Idealize.ShloMosaic.TcCoe Cert.Kernel6Ideal Cert.Kernel6Ideal.Gen

/-- The normalised block. -/
theorem pay2 (r : Vec Ideal S256x1 .f32) (x : Vec Ideal S256x2048 .f32) (i : Fin 256) (k : Fin 2048) :
    k0_pay2 (F := Ideal) r x (ix2 i k) = x (ix2 i k) * r (ix2 i 0) := by
  pointwise [k0_pay2, k0_pay1]

/-- The input's gradient's block. -/
theorem pay3 (r : Vec Ideal S256x1 .f32) (x d : Vec Ideal S256x2048 .f32) (g : Vec Ideal S1x2048 .f32) (s : Vec Ideal S256x2048 .f32)
    (i : Fin 256) (k : Fin 2048) :
    k0_pay3 (F := Ideal) r x d g s (ix2 i k) = r (ix2 i 0) * (d (ix2 i k) * g (ix2 0 k) - (x (ix2 i k) * r (ix2 i 0))
        * Ideal.div (∑ l : Fin 2048, (d (ix2 i l) * g (ix2 0 l)) * (x (ix2 i l) * r (ix2 i 0))) (Ideal.ofBits .f32 0x45000000#32))
      + s (ix2 i k) := by
  pointwise [k0_pay3, k0_pay2, k0_pay1]

/-- The gain's gradient over a block's rows. -/
theorem pay4 (r : Vec Ideal S256x1 .f32) (x d : Vec Ideal S256x2048 .f32) (k : Fin 2048) :
    k0_pay4 (F := Ideal) r x d (ix2 0 k) = ∑ i : Fin 256, d (ix2 i k) * (x (ix2 i k) * r (ix2 i 0)) := by
  pointwise [k0_pay4, k0_pay2, k0_pay1]

/-- The gain's gradient so far and the block's. -/
theorem pay5 (r : Vec Ideal S256x1 .f32) (x d : Vec Ideal S256x2048 .f32) (l : Vec Ideal S1x2048 .f32) (k : Fin 2048) :
    k0_pay5 (F := Ideal) r x d l (ix2 0 k) = l (ix2 0 k) + k0_pay4 (F := Ideal) r x d (ix2 0 k) := by
  unfold k0_pay5
  generalize k0_pay4 (F := Ideal) r x d = b
  pointwise []

variable (m : (ℓ : Loc nD τ sig) → Buf (Elt Ideal) ℓ) (c : Dev nD)

/-- A row of a grid point's block. -/
def row (t : Fin cfg0.N) (i : Fin 256) : Fin 2048 := ⟨256 * t.val + i.val, by have h : t.val < 8 := t.isLt; omega⟩

/-- Where the blocks lie. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The incoming gradient's block. -/
theorem blk_d (t : Fin cfg0.N) (i : Fin 256) (k : Fin 2048) : iblk m c 0 t (ix2 i k) = V m c main_arg0 (ix2 (row t i) k) := by
  unfold iblk
  blk_ext [idx t, row]
/-- The input's block. -/
theorem blk_x (t : Fin cfg0.N) (i : Fin 256) (k : Fin 2048) : iblk m c 1 t (ix2 i k) = V m c main_arg1 (ix2 (row t i) k) := by
  unfold iblk
  blk_ext [idx t, row]
/-- The reciprocal roots' block. -/
theorem blk_r (t : Fin cfg0.N) (i : Fin 256) : iblk m c 2 t (ix2 i 0) = V m c main_v7 (ix2 (row t i) 0) := by
  unfold iblk
  blk_ext [idx t, row]
/-- The gain. -/
theorem blk_g (t : Fin cfg0.N) (k : Fin 2048) : iblk m c 3 t (ix2 0 k) = V m c main_arg2 (ix2 0 k) := by
  unfold iblk
  blk_ext [idx t]
/-- The residual's gradient's block. -/
theorem blk_s (t : Fin cfg0.N) (i : Fin 256) (k : Fin 2048) : iblk m c 4 t (ix2 i k) = V m c main_arg3 (ix2 (row t i) k) := by
  unfold iblk
  blk_ext [idx t, row]
/-- Where the input's gradient's block lies. -/
theorem emb5 (t : Fin cfg0.N) (i : Fin 256) (k : Fin 2048) : ((cfg0.win 5).blk t).view.emb (ix2 i k) = ix2 (row t i) k := by
  blk_ext [idx t, row]
/-- Where the gain's gradient lies. -/
theorem emb6 (t : Fin cfg0.N) (k : Fin 2048) : ((cfg0.win 6).blk t).view.emb (ix2 0 k) = ix2 0 k := by
  blk_ext [idx t]

/-- The input's gradient, the residual's added. -/
def Dx (r : S2048x1.Idx → EReal) (x d : S2048x2048.Idx → EReal) (g : S1x2048.Idx → EReal) (s : S2048x2048.Idx → EReal) : S2048x2048.Idx → EReal :=
  fun y => r (ix2 (y 0) 0) * (d y * g (ix2 0 (y 1)) - (x y * r (ix2 (y 0) 0))
    * Ideal.div (∑ l : Fin 2048, (d (ix2 (y 0) l) * g (ix2 0 l)) * (x (ix2 (y 0) l) * r (ix2 (y 0) 0))) (Ideal.ofBits .f32 0x45000000#32)) + s y

/-- The gain's gradient at one row. -/
def Dr (r : S2048x1.Idx → EReal) (x d : S2048x2048.Idx → EReal) (i k : Fin 2048) : EReal := d (ix2 i k) * (x (ix2 i k) * r (ix2 i 0))

/-- A grid point's part of the gain's gradient. -/
def part (f : Fin 2048 → Fin 2048 → EReal) (k : Fin 2048) (n : ℕ) : EReal := ∑ i : Fin 256, f ⟨(256 * n + i.val) % 2048, by omega⟩ k

/-- The call's input's gradient. -/
def X : S2048x2048.Idx → EReal := Dx (V m c main_v7) (V m c main_arg1) (V m c main_arg0) (V m c main_arg2) (V m c main_arg3)
/-- The call's gain's gradient at one row. -/
def R : Fin 2048 → Fin 2048 → EReal := Dr (V m c main_v7) (V m c main_arg1) (V m c main_arg0)

/-- The input's gradient's block at a grid point. -/
theorem dx_at (t : Fin cfg0.N) (i : Fin 256) (k : Fin 2048) :
    k0_pay3 (F := Ideal) (iblk m c 2 t) (iblk m c 1 t) (iblk m c 0 t) (iblk m c 3 t) (iblk m c 4 t) (ix2 i k) = X m c (ix2 (row t i) k) := by
  refine (pay3 _ _ _ _ _ i k).trans ?_
  simp only [blk_d, blk_x, blk_r, blk_g, blk_s]
  rfl

/-- The block's part of the gain's gradient at a grid point. -/
theorem part_at (t : Fin cfg0.N) (k : Fin 2048) :
    k0_pay4 (F := Ideal) (iblk m c 2 t) (iblk m c 1 t) (iblk m c 0 t) (ix2 0 k) = part (R m c) k t.val := by
  refine (pay4 _ _ _ k).trans (Finset.sum_congr rfl fun i _ => ?_)
  have hN : t.val < 8 := t.isLt
  have hr : (⟨(256 * t.val + i.val) % 2048, by omega⟩ : Fin 2048) = row t i := Fin.ext (by simp only [row]; omega)
  rw [blk_d, blk_x, blk_r, hr]
  rfl

/-- The input's gradient's block after a grid point. -/
theorem out_at (t : Fin cfg0.N) (i : Fin 256) (k : Fin 2048) : (outsAt0 m c t.val t.isLt).1 (ix2 i k) = X m c (ix2 (row t i) k) := by
  by_cases h : t.val % 8 = 0
  · have h1 : ¬1 ≤ t.val := by have hN : t.val < 8 := t.isLt; omega
    rw [outsAt0_A m c t h h1]
    dsimp only
    frame_out
    exact dx_at m c t i k
  · have h1 : 1 ≤ t.val := by omega
    rw [outsAt0_B m c t h h1]
    dsimp only
    frame_out
    exact dx_at m c t i k

/-- The input's gradient's array. -/
theorem arr5 : (dats (F := Ideal) m 0 c).arrAt 5 cfg0.N = X m c := by
  refine (dats (F := Ideal) m 0 c).arrAt_eq_of_covers 5 _ (by decide +kernel) fun t hf j => ?_
  blk_simp
  rw [after0_5]
  idx_vars j
  exact (out_at m c t j0 j1).trans (congrArg (X m c) (emb5 t j0 j1)).symm

/-- The gain's gradient after a grid point. -/
theorem gain_at (t : Fin cfg0.N) (k : Fin 2048) :
    (outsAt0 m c t.val t.isLt).2 (ix2 0 k) = 0 + ∑ n ∈ Finset.range (t.val % 8 + 1), part (R m c) k (8 * (t.val / 8) + n) :=
  Pipeline.eq_sum_of_reset_step (fun n h => (outsAt0 m c n h).2 (ix2 0 k) : (n : ℕ) → n < cfg0.N → EReal) 8 0 (part (R m c) k)
    (fun t h => by
      have h1 : ¬1 ≤ t.val := by have hN : t.val < 8 := t.isLt; omega
      rw [zero_add, outsAt0_A m c t h h1]
      dsimp only
      frame_out
      exact part_at m c t k)
    (fun t h => by
      have h1 : 1 ≤ t.val := by omega
      rw [outsAt0_B m c t h h1]
      dsimp only
      frame_out
      rw [pay5, part_at])
    t

/-- The gain's gradient's array. -/
theorem arr6 : (dats (F := Ideal) m 0 c).arrAt 6 cfg0.N = fun y => ∑ n ∈ Finset.range 8, part (R m c) (y 1) n := by
  refine (dats (F := Ideal) m 0 c).arrAt_eq_of_covers 6 _ (by decide +kernel) fun t hf j => ?_
  blk_simp
  rw [after0_6]
  idx_vars j
  obtain rfl : j0 = 0 := Fin.ext (by omega)
  have h7 := (flush0_6 t).mp hf
  have hN : t.val < 8 := t.isLt
  have h0 : t.val / 8 = 0 := by omega
  refine (gain_at m c t j1).trans ?_
  rw [h7, h0, zero_add, emb6]
  simp only [Nat.mul_zero, Nat.zero_add]
  rfl

end Cert.Norm

end
-- ==== Proof.Norm.lean ====
/- The norm's backward: the kernel's arrays, the reference's, and the value claim. -/
module

public import proofs.«01_k».proof.Defs
public import proofs.«01_k».proof.Proof.NormArr
public import Idealize.ShloMosaic.Lib.StableHlo.RunRead
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384
set_option maxHeartbeats 1000000

noncomputable section

namespace Cert.Norm

open Idealize.ShloMosaic Idealize.ShloMosaic.TcCoe Cert.Kernel6Ideal Cert.Kernel6Ideal.Gen
open Idealize.SL.Sem

/-- A square is not negative. -/
theorem sq_nonneg (e : EReal) : 0 ≤ e * e := by
  induction e with
  | bot => simp
  | top => simp
  | coe r =>
    rw [← EReal.coe_mul]
    exact EReal.coe_nonneg.mpr (mul_self_nonneg r)

/-- A row's sum of squares. -/
def Q (x : S2048x2048.Idx → EReal) (i : Fin 2048) : EReal := ∑ k : Fin 2048, x (ix2 i k) * x (ix2 i k)

/-- A row's reciprocal root. -/
def Rt (x : S2048x2048.Idx → EReal) : S2048x1.Idx → EReal := fun y => Ideal.rsqrt (ms (Q x (y 0)))

/-- The gain's gradient. -/
def Gn (x d : S2048x2048.Idx → EReal) : S1x2048.Idx → EReal := fun y => ∑ i : Fin 2048, Dr (Rt x) x d i (y 1)

/-- The blocks' sums make up the whole sum. -/
theorem sum_blocks (f : Fin 2048 → Fin 2048 → EReal) (k : Fin 2048) : ∑ n ∈ Finset.range 8, part f k n = ∑ r : Fin 2048, f r k := by
  rw [Finset.sum_range]
  unfold part
  rw [← Fintype.sum_prod_type (fun p : Fin 8 × Fin 256 => f ⟨(256 * p.1.val + p.2.val) % 2048, by omega⟩ k)]
  refine Finset.sum_bij' (fun p _ => ⟨(256 * p.1.val + p.2.val) % 2048, by omega⟩)
    (fun r _ => (⟨r.val / 256, by omega⟩, ⟨r.val % 256, by omega⟩)) ?_ ?_ ?_ ?_ ?_
  · intros; simp
  · intros; simp
  · rintro ⟨n, i⟩ -
    exact Prod.ext (Fin.ext (by simp only []; omega)) (Fin.ext (by simp only []; omega))
  · intro r _
    exact Fin.ext (by simp only []; omega)
  · intros; rfl

section Entry

variable (m : (ℓ : Loc nD τ sig) → Buf (Elt Ideal) ℓ) (c : Dev nD)

/-- The gradient of the normalised input. -/
def dn : S2048x2048.Idx → EReal := m ((c.tc : Thread nD τ).loc main_arg0)
/-- The input. -/
def xs : S2048x2048.Idx → EReal := m ((c.tc : Thread nD τ).loc main_arg1)
/-- The gain. -/
def gs : S1x2048.Idx → EReal := m ((c.tc : Thread nD τ).loc main_arg2)
/-- The residual's gradient. -/
def rs : S2048x2048.Idx → EReal := m ((c.tc : Thread nD τ).loc main_arg3)

/-- The reciprocal roots as the host writes them. -/
theorem root_host (x : FVec Ideal S2048x2048 .f32) (i : Fin 2048) :
    (Host.rsqrt (addf (Host.divf
        (broadcastInDim S2048x1 ![0] bcast_S2048_S2048x1_0
          (Host.reduceAdd (mulf x x) (constant S_ .f32 0x00000000#32) reducesTo_S2048x2048_S2048_d1 h_S_ : FVec Ideal S2048 .f32) : FVec Ideal S2048x1 .f32)
        (broadcastInDim S2048x1 ![] bcast_S_S2048x1 (constant S_ .f32 0x45000000#32 : FVec Ideal S_ .f32) : FVec Ideal S2048x1 .f32))
      (broadcastInDim S2048x1 ![] bcast_S_S2048x1 (constant S_ .f32 0x358637BD#32 : FVec Ideal S_ .f32) : FVec Ideal S2048x1 .f32)) : FVec Ideal S2048x1 .f32) (ix2 i 0)
      = Rt x (ix2 i 0) := by
  pointwise []
  rfl

/-- The call finds the reciprocal roots. -/
theorem V_r : V m c main_v7 = Rt (xs m c) := by
  dsimp only [V]
  after_reads_simp
  funext y
  idx_vars y
  obtain rfl : y1 = 0 := Fin.ext (by omega)
  exact root_host (xs m c) y0

end Entry

section Reference

open Cert.Reference6Ideal.Read

variable (d x : FVec Ideal S2048x2048 .f32) (g : FVec Ideal S1x2048 .f32) (s : FVec Ideal S2048x2048 .f32)

/-- The reference's mean square. -/
theorem ref_ms (i : Fin 2048) : val_main_v7 (F := Ideal) x (ix2 i 0) = ms (Q x i) := by
  rw [val_main_v7_apply, val_main_v6_apply, val_main_cst_1_apply, val_main_v5_apply, val_main_v4_apply, val_main_cst_0_apply, val_main_v3_apply, val_main_v2_apply,
    show val_main_cst (F := Ideal) (Shape.Idx.first Reference6Ideal.Gen.h_S_) = (0 : EReal) from Ideal.ofBits_zero_f32, zero_add]
  refine congrArg ms (Finset.sum_congr rfl fun k _ => ?_)
  exact congrArg (fun e : EReal => e * e) (congrArg x (Shape.idx_ext₂ rfl rfl))

/-- The reference's reciprocal root. -/
theorem ref_root (i : Fin 2048) : val_main_v8 (F := Ideal) x (ix2 i 0) = Ideal.rsqrt (ms (Q x i)) := by
  rw [val_main_v8_apply, ref_ms]
  rfl

/-- The reference's gain's gradient. -/
theorem ref_gain : val_main_v38 (F := Ideal) d x = Gn x d := by
  funext y
  idx_vars y
  obtain rfl : y0 = 0 := Fin.ext (by omega)
  rw [val_main_v38_apply, val_main_v22_apply, show val_main_cst_4 (F := Ideal) (Shape.Idx.first Reference6Ideal.Gen.h_S_) = (0 : EReal) from Ideal.ofBits_zero_f32,
    zero_add, Fin.sum_univ_one, val_main_v19_apply, val_main_v18_apply,
    show val_main_cst_3 (F := Ideal) (Shape.Idx.first Reference6Ideal.Gen.h_S_) = (0 : EReal) from Ideal.ofBits_zero_f32, zero_add]
  refine Finset.sum_congr rfl fun i _ => ?_
  have e : idx_main_v18 (idx_main_v19 (idx_main_v22 (idx_main_v38 (ix2 0 y1)) 0)) i = ix2 i y1 :=
    Shape.idx_ext₂ rfl (by simp [idx_main_v18, idx_main_v19, idx_main_v22, idx_main_v38])
  rw [e, val_main_v17_apply, val_main_v13_apply, val_main_v12_apply, show idx_main_v12 (ix2 i y1) = ix2 i 0 from Shape.idx_ext₂ rfl rfl, ref_root]
  exact mul_comm (_ : EReal) _

/-- The reference's gradient of the normalised row, before the root. -/
theorem ref_t (i k : Fin 2048) : val_main_v21 (F := Ideal) d g (ix2 i k) = d (ix2 i k) * g (ix2 0 k) := by
  rw [val_main_v21_apply, val_main_v20_apply, val_main_v14_apply, val_main_v0_apply]
  exact congrArg (fun e : EReal => d (ix2 i k) * e) (congrArg g (Shape.idx_ext₂ rfl (Nat.mod_eq_of_lt k.isLt)))

/-- The reference's gradient through the root. -/
theorem ref_c (i k : Fin 2048) : val_main_v33 (F := Ideal) d x g (ix2 i k)
    = Ideal.div ((∑ l : Fin 2048, x (ix2 i l) * (d (ix2 i l) * g (ix2 0 l)))
        * (Ideal.ofBits .f32 0xBF000000#32 * Ideal.div (Ideal.rsqrt (ms (Q x i))) (ms (Q x i)))) (Ideal.ofBits .f32 0x45000000#32) := by
  rw [val_main_v33_apply, val_main_v32_apply, show val_main_cst_7 (F := Ideal) (Shape.Idx.first Reference6Ideal.Gen.h_S_) = (0 : EReal) from Ideal.ofBits_zero_f32,
    zero_add, Fin.sum_univ_one]
  have e : idx_main_v32 (idx_main_v33 (ix2 i k)) 0 = ix2 i 0 := Shape.idx_ext₂ rfl rfl
  rw [e, val_main_v31_apply, val_main_v30_apply, val_main_cst_6_apply, val_main_v29_apply, val_main_v11_apply, val_main_v10_apply, val_main_cst_2_apply,
    val_main_v9_apply, ref_root, ref_ms, val_main_v25_apply, val_main_v24_apply,
    show val_main_cst_5 (F := Ideal) (Shape.Idx.first Reference6Ideal.Gen.h_S_) = (0 : EReal) from Ideal.ofBits_zero_f32, zero_add]
  have h : ∑ l : Fin 2048, val_main_v23 (F := Ideal) d x g (idx_main_v24 (idx_main_v25 (ix2 i 0)) l)
      = ∑ l : Fin 2048, x (ix2 i l) * (d (ix2 i l) * g (ix2 0 l)) := by
    refine Finset.sum_congr rfl fun l _ => ?_
    have e : idx_main_v24 (idx_main_v25 (ix2 i 0)) l = ix2 i l := by
      refine Shape.idx_ext₂ ?_ rfl
      simp [idx_main_v24, idx_main_v25]
    rw [e, val_main_v23_apply, ref_t]
    rfl
  rw [h]
  rfl

/-- The reference's input's gradient. -/
theorem ref_x : val_main_v37 (F := Ideal) d x g s = Dx (Rt x) x d g s := by
  funext y
  idx_vars y
  rw [val_main_v37_apply, val_main_v36_apply, val_main_v35_apply, val_main_v34_apply, val_main_v28_apply, val_main_v27_apply, val_main_v26_apply, ref_c, ref_t,
    show idx_main_v26 (ix2 y0 y1) = ix2 y0 0 from Shape.idx_ext₂ rfl rfl, ref_root]
  exact (grad_eq (Q x y0) (x (ix2 y0 y1)) (d (ix2 y0 y1) * g (ix2 0 y1)) (s (ix2 y0 y1)) (Finset.sum_nonneg fun k _ => sq_nonneg _)
    (fun l => x (ix2 y0 l)) (fun l => d (ix2 y0 l) * g (ix2 0 l))).symm

end Reference

/-- The kernel runs and leaves its arguments. -/
theorem frame_k : @quiescent_Kernel6 Kernel6.Gen.facts := fun m ρ _ => Kernel6.Gen.frame m ρ
/-- The idealized kernel runs and leaves its arguments. -/
theorem frame_ki : @quiescent_Kernel6Ideal Kernel6Ideal.Gen.facts := fun m ρ _ => Kernel6Ideal.Gen.frame m ρ
/-- The reference runs and leaves its arguments. -/
theorem frame_ref : @quiescent_Reference6Ideal Reference6Ideal.Gen.facts := fun m ρ _ =>
  (θ_run Reference6Ideal.defs _ _).mono (fun r h => ⟨fun c => (h c).2.2, sem_eq_zero_of_no_sems (by decide) r.2⟩)
    (Reference6Ideal.Value.run (F := Ideal) m ρ)

/-- The value claim: the call and the reference leave the same gradients. -/
theorem value : @algebraic_Kernel6Ideal_Reference6Ideal Kernel6Ideal.Gen.facts Reference6Ideal.Gen.facts := by
  intro m g m' g' _ he
  refine ⟨fun c => Dx (Rt (xs m c)) (xs m c) (dn m c) (gs m c) (rs m c), fun c => Gn (xs m c) (dn m c), ?_, ?_⟩
  · refine (θ_run _ _ _).mono (fun r h c => ?_) (Kernel6Ideal.Value.run_blocks (F := Ideal) m g)
    obtain ⟨h5, h6, hk⟩ := h c
    refine ⟨h5.trans ?_, h6.trans ?_, hk⟩
    · rw [arr5]
      unfold X
      rw [V_r, V_main_arg0, V_main_arg1, V_main_arg2, V_main_arg3]
      rfl
    · rw [arr6]
      unfold R
      rw [V_r, V_main_arg0, V_main_arg1]
      exact funext fun y => sum_blocks _ (y 1)
  · refine (θ_run _ _ _).mono (fun r h c => ?_) (Reference6Ideal.Value.run m' g')
    obtain ⟨h0, h1, hk⟩ := h c
    obtain ⟨e0, e1, e2, e3⟩ := he c
    refine ⟨((h0.trans (Reference6Ideal.Read.val_main_v37_eq _ _)).trans (ref_x _ _ _ _)).trans ?_,
      ((h1.trans (Reference6Ideal.Read.val_main_v38_eq _ _)).trans (ref_gain _ _)).trans ?_, hk⟩
    · rw [e0, e1, e2, e3]; rfl
    · rw [e0, e1]; rfl

end Cert.Norm

end
-- ==== Proof.SmallRun.lean ====
/- A run of the small parameters' optimiser call: what the body leaves in each result, the launch, and the frame. -/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Small

open Idealize.ShloMosaic Idealize.ShloMosaic.TcCoe Idealize.ShloMosaic.Tactic Cert.Kernel10Ideal Cert.Kernel10Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2220000 in
/-- The arguments after a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## The body's accesses -/

abbrev r0_0 : Rect S144x128 := Rect.unit (s := S144x128) ![0, 0] S144x128.size inb_S144x128_S144x128_0_0
abbrev r0_1 : Rect S1x2048 := Rect.unit (s := S1x2048) ![0, 0] S1x128.size inb_S1x2048_S1x128_0_0
abbrev r0_2 : Rect S1x2048 := Rect.unit (s := S1x2048) ![0, 128] S1x128.size inb_S1x2048_S1x128_0_128
abbrev r0_3 : Rect S1x2048 := Rect.unit (s := S1x2048) ![0, 256] S1x128.size inb_S1x2048_S1x128_0_256
abbrev r0_4 : Rect S1x2048 := Rect.unit (s := S1x2048) ![0, 384] S1x128.size inb_S1x2048_S1x128_0_384
abbrev r0_5 : Rect S1x2048 := Rect.unit (s := S1x2048) ![0, 512] S1x128.size inb_S1x2048_S1x128_0_512
abbrev r0_6 : Rect S1x2048 := Rect.unit (s := S1x2048) ![0, 640] S1x128.size inb_S1x2048_S1x128_0_640
abbrev r0_7 : Rect S1x2048 := Rect.unit (s := S1x2048) ![0, 768] S1x128.size inb_S1x2048_S1x128_0_768
abbrev r0_8 : Rect S1x2048 := Rect.unit (s := S1x2048) ![0, 896] S1x128.size inb_S1x2048_S1x128_0_896
abbrev r0_9 : Rect S1x2048 := Rect.unit (s := S1x2048) ![0, 1024] S1x128.size inb_S1x2048_S1x128_0_1024
abbrev r0_10 : Rect S1x2048 := Rect.unit (s := S1x2048) ![0, 1152] S1x128.size inb_S1x2048_S1x128_0_1152
abbrev r0_11 : Rect S1x2048 := Rect.unit (s := S1x2048) ![0, 1280] S1x128.size inb_S1x2048_S1x128_0_1280
abbrev r0_12 : Rect S1x2048 := Rect.unit (s := S1x2048) ![0, 1408] S1x128.size inb_S1x2048_S1x128_0_1408
abbrev r0_13 : Rect S1x2048 := Rect.unit (s := S1x2048) ![0, 1536] S1x128.size inb_S1x2048_S1x128_0_1536
abbrev r0_14 : Rect S1x2048 := Rect.unit (s := S1x2048) ![0, 1664] S1x128.size inb_S1x2048_S1x128_0_1664
abbrev r0_15 : Rect S1x2048 := Rect.unit (s := S1x2048) ![0, 1792] S1x128.size inb_S1x2048_S1x128_0_1792
abbrev r0_16 : Rect S1x2048 := Rect.unit (s := S1x2048) ![0, 1920] S1x128.size inb_S1x2048_S1x128_0_1920
abbrev r0_17 : Rect S1x4096 := Rect.unit (s := S1x4096) ![0, 0] S1x128.size inb_S1x4096_S1x128_0_0
abbrev r0_18 : Rect S1x4096 := Rect.unit (s := S1x4096) ![0, 128] S1x128.size inb_S1x4096_S1x128_0_128
abbrev r0_19 : Rect S1x4096 := Rect.unit (s := S1x4096) ![0, 256] S1x128.size inb_S1x4096_S1x128_0_256
abbrev r0_20 : Rect S1x4096 := Rect.unit (s := S1x4096) ![0, 384] S1x128.size inb_S1x4096_S1x128_0_384
abbrev r0_21 : Rect S1x4096 := Rect.unit (s := S1x4096) ![0, 512] S1x128.size inb_S1x4096_S1x128_0_512
abbrev r0_22 : Rect S1x4096 := Rect.unit (s := S1x4096) ![0, 640] S1x128.size inb_S1x4096_S1x128_0_640
abbrev r0_23 : Rect S1x4096 := Rect.unit (s := S1x4096) ![0, 768] S1x128.size inb_S1x4096_S1x128_0_768
abbrev r0_24 : Rect S1x4096 := Rect.unit (s := S1x4096) ![0, 896] S1x128.size inb_S1x4096_S1x128_0_896
abbrev r0_25 : Rect S1x4096 := Rect.unit (s := S1x4096) ![0, 1024] S1x128.size inb_S1x4096_S1x128_0_1024
abbrev r0_26 : Rect S1x4096 := Rect.unit (s := S1x4096) ![0, 1152] S1x128.size inb_S1x4096_S1x128_0_1152
abbrev r0_27 : Rect S1x4096 := Rect.unit (s := S1x4096) ![0, 1280] S1x128.size inb_S1x4096_S1x128_0_1280
abbrev r0_28 : Rect S1x4096 := Rect.unit (s := S1x4096) ![0, 1408] S1x128.size inb_S1x4096_S1x128_0_1408
abbrev r0_29 : Rect S1x4096 := Rect.unit (s := S1x4096) ![0, 1536] S1x128.size inb_S1x4096_S1x128_0_1536
abbrev r0_30 : Rect S1x4096 := Rect.unit (s := S1x4096) ![0, 1664] S1x128.size inb_S1x4096_S1x128_0_1664
abbrev r0_31 : Rect S1x4096 := Rect.unit (s := S1x4096) ![0, 1792] S1x128.size inb_S1x4096_S1x128_0_1792
abbrev r0_32 : Rect S1x4096 := Rect.unit (s := S1x4096) ![0, 1920] S1x128.size inb_S1x4096_S1x128_0_1920
abbrev r0_33 : Rect S1x4096 := Rect.unit (s := S1x4096) ![0, 2048] S1x128.size inb_S1x4096_S1x128_0_2048
abbrev r0_34 : Rect S1x4096 := Rect.unit (s := S1x4096) ![0, 2176] S1x128.size inb_S1x4096_S1x128_0_2176
abbrev r0_35 : Rect S1x4096 := Rect.unit (s := S1x4096) ![0, 2304] S1x128.size inb_S1x4096_S1x128_0_2304
abbrev r0_36 : Rect S1x4096 := Rect.unit (s := S1x4096) ![0, 2432] S1x128.size inb_S1x4096_S1x128_0_2432
abbrev r0_37 : Rect S1x4096 := Rect.unit (s := S1x4096) ![0, 2560] S1x128.size inb_S1x4096_S1x128_0_2560
abbrev r0_38 : Rect S1x4096 := Rect.unit (s := S1x4096) ![0, 2688] S1x128.size inb_S1x4096_S1x128_0_2688
abbrev r0_39 : Rect S1x4096 := Rect.unit (s := S1x4096) ![0, 2816] S1x128.size inb_S1x4096_S1x128_0_2816
abbrev r0_40 : Rect S1x4096 := Rect.unit (s := S1x4096) ![0, 2944] S1x128.size inb_S1x4096_S1x128_0_2944
abbrev r0_41 : Rect S1x4096 := Rect.unit (s := S1x4096) ![0, 3072] S1x128.size inb_S1x4096_S1x128_0_3072
abbrev r0_42 : Rect S1x4096 := Rect.unit (s := S1x4096) ![0, 3200] S1x128.size inb_S1x4096_S1x128_0_3200
abbrev r0_43 : Rect S1x4096 := Rect.unit (s := S1x4096) ![0, 3328] S1x128.size inb_S1x4096_S1x128_0_3328
abbrev r0_44 : Rect S1x4096 := Rect.unit (s := S1x4096) ![0, 3456] S1x128.size inb_S1x4096_S1x128_0_3456
abbrev r0_45 : Rect S1x4096 := Rect.unit (s := S1x4096) ![0, 3584] S1x128.size inb_S1x4096_S1x128_0_3584
abbrev r0_46 : Rect S1x4096 := Rect.unit (s := S1x4096) ![0, 3712] S1x128.size inb_S1x4096_S1x128_0_3712
abbrev r0_47 : Rect S1x4096 := Rect.unit (s := S1x4096) ![0, 3840] S1x128.size inb_S1x4096_S1x128_0_3840
abbrev r0_48 : Rect S1x4096 := Rect.unit (s := S1x4096) ![0, 3968] S1x128.size inb_S1x4096_S1x128_0_3968
abbrev r0_49 : Rect S1x128 := Rect.unit (s := S1x128) ![0, 0] S1x128.size inb_S1x128_S1x128_0_0
abbrev r0_50 : Rect S64x128 := Rect.unit (s := S64x128) ![0, 0] S64x128.size inb_S64x128_S64x128_0_0
abbrev r0_51 : Rect S1x1 := Rect.unit (s := S1x1) ![0, 0] S1x1.size inb_S1x1_S1x1_0_0

/-! ## What the body leaves in each output window's buffer -/

def k0_pay281 (x0 : Vec F S144x128 .f32) (x1 : Vec F S144x128 .f32) (x2 : Vec F S144x128 .f32) (x3 : Vec F S144x128 .f32) : FVec F S144x128 .f32 :=
  k0_pay3 (View.ld x0 r0_0) (View.ld x2 r0_0) -- `v8`
def k0_pay282 (x0 : Vec F S144x128 .f32) (x1 : Vec F S144x128 .f32) (x2 : Vec F S144x128 .f32) (x3 : Vec F S144x128 .f32) : FVec F S144x128 .f32 :=
  k0_pay4 (View.ld x0 r0_0) (View.ld x3 r0_0) -- `v14`
def k0_pay283 (x0 : Vec F S144x128 .f32) (x1 : Vec F S144x128 .f32) (x2 : Vec F S144x128 .f32) (x3 : Vec F S144x128 .f32) : FVec F S144x128 .f32 :=
  k0_pay5 (View.ld x0 r0_0) (View.ld x1 r0_0) (View.ld x2 r0_0) (View.ld x3 r0_0) -- `v27`

/-- Window 4's buffer after the body. -/
def out0_4 (x0 : Vec F S144x128 .f32) (x1 : Vec F S144x128 .f32) (x2 : Vec F S144x128 .f32) (x3 : Vec F S144x128 .f32) : Vec F S1x2048 .f32 :=
  View.canon [⟨r0_16, k0_pay21 (View.ld x0 r0_0)⟩,
    ⟨r0_15, k0_pay20 (View.ld x0 r0_0)⟩,
    ⟨r0_14, k0_pay19 (View.ld x0 r0_0)⟩,
    ⟨r0_13, k0_pay18 (View.ld x0 r0_0)⟩,
    ⟨r0_12, k0_pay17 (View.ld x0 r0_0)⟩,
    ⟨r0_11, k0_pay16 (View.ld x0 r0_0)⟩,
    ⟨r0_10, k0_pay15 (View.ld x0 r0_0)⟩,
    ⟨r0_9, k0_pay14 (View.ld x0 r0_0)⟩,
    ⟨r0_8, k0_pay13 (View.ld x0 r0_0)⟩,
    ⟨r0_7, k0_pay12 (View.ld x0 r0_0)⟩,
    ⟨r0_6, k0_pay11 (View.ld x0 r0_0)⟩,
    ⟨r0_5, k0_pay10 (View.ld x0 r0_0)⟩,
    ⟨r0_4, k0_pay9 (View.ld x0 r0_0)⟩,
    ⟨r0_3, k0_pay8 (View.ld x0 r0_0)⟩,
    ⟨r0_2, k0_pay7 (View.ld x0 r0_0)⟩,
    ⟨r0_1, k0_pay6 (View.ld x0 r0_0)⟩]

/-- Its stores cover it. -/
theorem cover0_4 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 5's buffer after the body. -/
def out0_5 (x0 : Vec F S144x128 .f32) (x1 : Vec F S144x128 .f32) (x2 : Vec F S144x128 .f32) (x3 : Vec F S144x128 .f32) : Vec F S1x4096 .f32 :=
  View.canon [⟨r0_48, k0_pay53 (View.ld x0 r0_0)⟩,
    ⟨r0_47, k0_pay52 (View.ld x0 r0_0)⟩,
    ⟨r0_46, k0_pay51 (View.ld x0 r0_0)⟩,
    ⟨r0_45, k0_pay50 (View.ld x0 r0_0)⟩,
    ⟨r0_44, k0_pay49 (View.ld x0 r0_0)⟩,
    ⟨r0_43, k0_pay48 (View.ld x0 r0_0)⟩,
    ⟨r0_42, k0_pay47 (View.ld x0 r0_0)⟩,
    ⟨r0_41, k0_pay46 (View.ld x0 r0_0)⟩,
    ⟨r0_40, k0_pay45 (View.ld x0 r0_0)⟩,
    ⟨r0_39, k0_pay44 (View.ld x0 r0_0)⟩,
    ⟨r0_38, k0_pay43 (View.ld x0 r0_0)⟩,
    ⟨r0_37, k0_pay42 (View.ld x0 r0_0)⟩,
    ⟨r0_36, k0_pay41 (View.ld x0 r0_0)⟩,
    ⟨r0_35, k0_pay40 (View.ld x0 r0_0)⟩,
    ⟨r0_34, k0_pay39 (View.ld x0 r0_0)⟩,
    ⟨r0_33, k0_pay38 (View.ld x0 r0_0)⟩,
    ⟨r0_32, k0_pay37 (View.ld x0 r0_0)⟩,
    ⟨r0_31, k0_pay36 (View.ld x0 r0_0)⟩,
    ⟨r0_30, k0_pay35 (View.ld x0 r0_0)⟩,
    ⟨r0_29, k0_pay34 (View.ld x0 r0_0)⟩,
    ⟨r0_28, k0_pay33 (View.ld x0 r0_0)⟩,
    ⟨r0_27, k0_pay32 (View.ld x0 r0_0)⟩,
    ⟨r0_26, k0_pay31 (View.ld x0 r0_0)⟩,
    ⟨r0_25, k0_pay30 (View.ld x0 r0_0)⟩,
    ⟨r0_24, k0_pay29 (View.ld x0 r0_0)⟩,
    ⟨r0_23, k0_pay28 (View.ld x0 r0_0)⟩,
    ⟨r0_22, k0_pay27 (View.ld x0 r0_0)⟩,
    ⟨r0_21, k0_pay26 (View.ld x0 r0_0)⟩,
    ⟨r0_20, k0_pay25 (View.ld x0 r0_0)⟩,
    ⟨r0_19, k0_pay24 (View.ld x0 r0_0)⟩,
    ⟨r0_18, k0_pay23 (View.ld x0 r0_0)⟩,
    ⟨r0_17, k0_pay22 (View.ld x0 r0_0)⟩]

/-- Its stores cover it. -/
theorem cover0_5 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (p16 : Vec F S1x128 .f32) (p17 : Vec F S1x128 .f32) (p18 : Vec F S1x128 .f32) (p19 : Vec F S1x128 .f32) (p20 : Vec F S1x128 .f32) (p21 : Vec F S1x128 .f32) (p22 : Vec F S1x128 .f32) (p23 : Vec F S1x128 .f32) (p24 : Vec F S1x128 .f32) (p25 : Vec F S1x128 .f32) (p26 : Vec F S1x128 .f32) (p27 : Vec F S1x128 .f32) (p28 : Vec F S1x128 .f32) (p29 : Vec F S1x128 .f32) (p30 : Vec F S1x128 .f32) (p31 : Vec F S1x128 .f32) (y : S1x4096.Idx) :
    ∃ pc ∈ ([⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] : List (View.Piece (Elt F) S1x4096 .f32)), y ∈ pc.1.set :=
  View.cover_of_tiled [⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] S1x128.size (by rfl) y

/-- Window 6's buffer after the body. -/
def out0_6 (x0 : Vec F S144x128 .f32) (x1 : Vec F S144x128 .f32) (x2 : Vec F S144x128 .f32) (x3 : Vec F S144x128 .f32) : Vec F S1x128 .f32 :=
  View.canon [⟨r0_49, k0_pay70 (View.ld x0 r0_0)⟩]

/-- Its stores cover it. -/
theorem cover0_6 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 7's buffer after the body. -/
def out0_7 (x0 : Vec F S144x128 .f32) (x1 : Vec F S144x128 .f32) (x2 : Vec F S144x128 .f32) (x3 : Vec F S144x128 .f32) : Vec F S1x128 .f32 :=
  View.canon [⟨r0_49, k0_pay71 (View.ld x0 r0_0)⟩]

/-- Its stores cover it. -/
theorem cover0_7 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 8's buffer after the body. -/
def out0_8 (x0 : Vec F S144x128 .f32) (x1 : Vec F S144x128 .f32) (x2 : Vec F S144x128 .f32) (x3 : Vec F S144x128 .f32) : Vec F S1x128 .f32 :=
  View.canon [⟨r0_49, k0_pay72 (View.ld x0 r0_0)⟩]

/-- Its stores cover it. -/
theorem cover0_8 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 9's buffer after the body. -/
def out0_9 (x0 : Vec F S144x128 .f32) (x1 : Vec F S144x128 .f32) (x2 : Vec F S144x128 .f32) (x3 : Vec F S144x128 .f32) : Vec F S1x128 .f32 :=
  View.canon [⟨r0_49, k0_pay73 (View.ld x0 r0_0)⟩]

/-- Its stores cover it. -/
theorem cover0_9 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 10's buffer after the body. -/
def out0_10 (x0 : Vec F S144x128 .f32) (x1 : Vec F S144x128 .f32) (x2 : Vec F S144x128 .f32) (x3 : Vec F S144x128 .f32) : Vec F S64x128 .f32 :=
  View.canon [⟨r0_50, k0_pay74 (View.ld x0 r0_0)⟩]

/-- Its stores cover it. -/
theorem cover0_10 (p0 : Vec F S64x128 .f32) (y : S64x128.Idx) :
    ∃ pc ∈ ([⟨r0_50, p0⟩] : List (View.Piece (Elt F) S64x128 .f32)), y ∈ pc.1.set :=
  View.cover_of_tiled [⟨r0_50, p0⟩] S64x128.size (by rfl) y

/-- Window 11's buffer after the body. -/
def out0_11 (x0 : Vec F S144x128 .f32) (x1 : Vec F S144x128 .f32) (x2 : Vec F S144x128 .f32) (x3 : Vec F S144x128 .f32) : Vec F S1x2048 .f32 :=
  View.canon [⟨r0_16, k0_pay69 (View.ld x0 r0_0)⟩,
    ⟨r0_15, k0_pay68 (View.ld x0 r0_0)⟩,
    ⟨r0_14, k0_pay67 (View.ld x0 r0_0)⟩,
    ⟨r0_13, k0_pay66 (View.ld x0 r0_0)⟩,
    ⟨r0_12, k0_pay65 (View.ld x0 r0_0)⟩,
    ⟨r0_11, k0_pay64 (View.ld x0 r0_0)⟩,
    ⟨r0_10, k0_pay63 (View.ld x0 r0_0)⟩,
    ⟨r0_9, k0_pay62 (View.ld x0 r0_0)⟩,
    ⟨r0_8, k0_pay61 (View.ld x0 r0_0)⟩,
    ⟨r0_7, k0_pay60 (View.ld x0 r0_0)⟩,
    ⟨r0_6, k0_pay59 (View.ld x0 r0_0)⟩,
    ⟨r0_5, k0_pay58 (View.ld x0 r0_0)⟩,
    ⟨r0_4, k0_pay57 (View.ld x0 r0_0)⟩,
    ⟨r0_3, k0_pay56 (View.ld x0 r0_0)⟩,
    ⟨r0_2, k0_pay55 (View.ld x0 r0_0)⟩,
    ⟨r0_1, k0_pay54 (View.ld x0 r0_0)⟩]

/-- Its stores cover it. -/
theorem cover0_11 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 12's buffer after the body. -/
def out0_12 (x0 : Vec F S144x128 .f32) (x1 : Vec F S144x128 .f32) (x2 : Vec F S144x128 .f32) (x3 : Vec F S144x128 .f32) : Vec F S1x2048 .f32 :=
  View.canon [⟨r0_16, k0_pay90 (k0_pay283 x0 x1 x2 x3)⟩,
    ⟨r0_15, k0_pay89 (k0_pay283 x0 x1 x2 x3)⟩,
    ⟨r0_14, k0_pay88 (k0_pay283 x0 x1 x2 x3)⟩,
    ⟨r0_13, k0_pay87 (k0_pay283 x0 x1 x2 x3)⟩,
    ⟨r0_12, k0_pay86 (k0_pay283 x0 x1 x2 x3)⟩,
    ⟨r0_11, k0_pay85 (k0_pay283 x0 x1 x2 x3)⟩,
    ⟨r0_10, k0_pay84 (k0_pay283 x0 x1 x2 x3)⟩,
    ⟨r0_9, k0_pay83 (k0_pay283 x0 x1 x2 x3)⟩,
    ⟨r0_8, k0_pay82 (k0_pay283 x0 x1 x2 x3)⟩,
    ⟨r0_7, k0_pay81 (k0_pay283 x0 x1 x2 x3)⟩,
    ⟨r0_6, k0_pay80 (k0_pay283 x0 x1 x2 x3)⟩,
    ⟨r0_5, k0_pay79 (k0_pay283 x0 x1 x2 x3)⟩,
    ⟨r0_4, k0_pay78 (k0_pay283 x0 x1 x2 x3)⟩,
    ⟨r0_3, k0_pay77 (k0_pay283 x0 x1 x2 x3)⟩,
    ⟨r0_2, k0_pay76 (k0_pay283 x0 x1 x2 x3)⟩,
    ⟨r0_1, k0_pay75 (k0_pay283 x0 x1 x2 x3)⟩]

/-- Its stores cover it. -/
theorem cover0_12 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 13's buffer after the body. -/
def out0_13 (x0 : Vec F S144x128 .f32) (x1 : Vec F S144x128 .f32) (x2 : Vec F S144x128 .f32) (x3 : Vec F S144x128 .f32) : Vec F S1x4096 .f32 :=
  View.canon [⟨r0_48, k0_pay122 (k0_pay283 x0 x1 x2 x3)⟩,
    ⟨r0_47, k0_pay121 (k0_pay283 x0 x1 x2 x3)⟩,
    ⟨r0_46, k0_pay120 (k0_pay283 x0 x1 x2 x3)⟩,
    ⟨r0_45, k0_pay119 (k0_pay283 x0 x1 x2 x3)⟩,
    ⟨r0_44, k0_pay118 (k0_pay283 x0 x1 x2 x3)⟩,
    ⟨r0_43, k0_pay117 (k0_pay283 x0 x1 x2 x3)⟩,
    ⟨r0_42, k0_pay116 (k0_pay283 x0 x1 x2 x3)⟩,
    ⟨r0_41, k0_pay115 (k0_pay283 x0 x1 x2 x3)⟩,
    ⟨r0_40, k0_pay114 (k0_pay283 x0 x1 x2 x3)⟩,
    ⟨r0_39, k0_pay113 (k0_pay283 x0 x1 x2 x3)⟩,
    ⟨r0_38, k0_pay112 (k0_pay283 x0 x1 x2 x3)⟩,
    ⟨r0_37, k0_pay111 (k0_pay283 x0 x1 x2 x3)⟩,
    ⟨r0_36, k0_pay110 (k0_pay283 x0 x1 x2 x3)⟩,
    ⟨r0_35, k0_pay109 (k0_pay283 x0 x1 x2 x3)⟩,
    ⟨r0_34, k0_pay108 (k0_pay283 x0 x1 x2 x3)⟩,
    ⟨r0_33, k0_pay107 (k0_pay283 x0 x1 x2 x3)⟩,
    ⟨r0_32, k0_pay106 (k0_pay283 x0 x1 x2 x3)⟩,
    ⟨r0_31, k0_pay105 (k0_pay283 x0 x1 x2 x3)⟩,
    ⟨r0_30, k0_pay104 (k0_pay283 x0 x1 x2 x3)⟩,
    ⟨r0_29, k0_pay103 (k0_pay283 x0 x1 x2 x3)⟩,
    ⟨r0_28, k0_pay102 (k0_pay283 x0 x1 x2 x3)⟩,
    ⟨r0_27, k0_pay101 (k0_pay283 x0 x1 x2 x3)⟩,
    ⟨r0_26, k0_pay100 (k0_pay283 x0 x1 x2 x3)⟩,
    ⟨r0_25, k0_pay99 (k0_pay283 x0 x1 x2 x3)⟩,
    ⟨r0_24, k0_pay98 (k0_pay283 x0 x1 x2 x3)⟩,
    ⟨r0_23, k0_pay97 (k0_pay283 x0 x1 x2 x3)⟩,
    ⟨r0_22, k0_pay96 (k0_pay283 x0 x1 x2 x3)⟩,
    ⟨r0_21, k0_pay95 (k0_pay283 x0 x1 x2 x3)⟩,
    ⟨r0_20, k0_pay94 (k0_pay283 x0 x1 x2 x3)⟩,
    ⟨r0_19, k0_pay93 (k0_pay283 x0 x1 x2 x3)⟩,
    ⟨r0_18, k0_pay92 (k0_pay283 x0 x1 x2 x3)⟩,
    ⟨r0_17, k0_pay91 (k0_pay283 x0 x1 x2 x3)⟩]

/-- Its stores cover it. -/
theorem cover0_13 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (p16 : Vec F S1x128 .f32) (p17 : Vec F S1x128 .f32) (p18 : Vec F S1x128 .f32) (p19 : Vec F S1x128 .f32) (p20 : Vec F S1x128 .f32) (p21 : Vec F S1x128 .f32) (p22 : Vec F S1x128 .f32) (p23 : Vec F S1x128 .f32) (p24 : Vec F S1x128 .f32) (p25 : Vec F S1x128 .f32) (p26 : Vec F S1x128 .f32) (p27 : Vec F S1x128 .f32) (p28 : Vec F S1x128 .f32) (p29 : Vec F S1x128 .f32) (p30 : Vec F S1x128 .f32) (p31 : Vec F S1x128 .f32) (y : S1x4096.Idx) :
    ∃ pc ∈ ([⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] : List (View.Piece (Elt F) S1x4096 .f32)), y ∈ pc.1.set :=
  View.cover_of_tiled [⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] S1x128.size (by rfl) y

/-- Window 14's buffer after the body. -/
def out0_14 (x0 : Vec F S144x128 .f32) (x1 : Vec F S144x128 .f32) (x2 : Vec F S144x128 .f32) (x3 : Vec F S144x128 .f32) : Vec F S1x128 .f32 :=
  View.canon [⟨r0_49, k0_pay139 (k0_pay283 x0 x1 x2 x3)⟩]

/-- Its stores cover it. -/
theorem cover0_14 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 15's buffer after the body. -/
def out0_15 (x0 : Vec F S144x128 .f32) (x1 : Vec F S144x128 .f32) (x2 : Vec F S144x128 .f32) (x3 : Vec F S144x128 .f32) : Vec F S1x128 .f32 :=
  View.canon [⟨r0_49, k0_pay140 (k0_pay283 x0 x1 x2 x3)⟩]

/-- Its stores cover it. -/
theorem cover0_15 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 16's buffer after the body. -/
def out0_16 (x0 : Vec F S144x128 .f32) (x1 : Vec F S144x128 .f32) (x2 : Vec F S144x128 .f32) (x3 : Vec F S144x128 .f32) : Vec F S1x128 .f32 :=
  View.canon [⟨r0_49, k0_pay141 (k0_pay283 x0 x1 x2 x3)⟩]

/-- Its stores cover it. -/
theorem cover0_16 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 17's buffer after the body. -/
def out0_17 (x0 : Vec F S144x128 .f32) (x1 : Vec F S144x128 .f32) (x2 : Vec F S144x128 .f32) (x3 : Vec F S144x128 .f32) : Vec F S1x128 .f32 :=
  View.canon [⟨r0_49, k0_pay142 (k0_pay283 x0 x1 x2 x3)⟩]

/-- Its stores cover it. -/
theorem cover0_17 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 18's buffer after the body. -/
def out0_18 (x0 : Vec F S144x128 .f32) (x1 : Vec F S144x128 .f32) (x2 : Vec F S144x128 .f32) (x3 : Vec F S144x128 .f32) : Vec F S64x128 .f32 :=
  View.canon [⟨r0_50, k0_pay143 (k0_pay283 x0 x1 x2 x3)⟩]

/-- Its stores cover it. -/
theorem cover0_18 (p0 : Vec F S64x128 .f32) (y : S64x128.Idx) :
    ∃ pc ∈ ([⟨r0_50, p0⟩] : List (View.Piece (Elt F) S64x128 .f32)), y ∈ pc.1.set :=
  View.cover_of_tiled [⟨r0_50, p0⟩] S64x128.size (by rfl) y

/-- Window 19's buffer after the body. -/
def out0_19 (x0 : Vec F S144x128 .f32) (x1 : Vec F S144x128 .f32) (x2 : Vec F S144x128 .f32) (x3 : Vec F S144x128 .f32) : Vec F S1x2048 .f32 :=
  View.canon [⟨r0_16, k0_pay138 (k0_pay283 x0 x1 x2 x3)⟩,
    ⟨r0_15, k0_pay137 (k0_pay283 x0 x1 x2 x3)⟩,
    ⟨r0_14, k0_pay136 (k0_pay283 x0 x1 x2 x3)⟩,
    ⟨r0_13, k0_pay135 (k0_pay283 x0 x1 x2 x3)⟩,
    ⟨r0_12, k0_pay134 (k0_pay283 x0 x1 x2 x3)⟩,
    ⟨r0_11, k0_pay133 (k0_pay283 x0 x1 x2 x3)⟩,
    ⟨r0_10, k0_pay132 (k0_pay283 x0 x1 x2 x3)⟩,
    ⟨r0_9, k0_pay131 (k0_pay283 x0 x1 x2 x3)⟩,
    ⟨r0_8, k0_pay130 (k0_pay283 x0 x1 x2 x3)⟩,
    ⟨r0_7, k0_pay129 (k0_pay283 x0 x1 x2 x3)⟩,
    ⟨r0_6, k0_pay128 (k0_pay283 x0 x1 x2 x3)⟩,
    ⟨r0_5, k0_pay127 (k0_pay283 x0 x1 x2 x3)⟩,
    ⟨r0_4, k0_pay126 (k0_pay283 x0 x1 x2 x3)⟩,
    ⟨r0_3, k0_pay125 (k0_pay283 x0 x1 x2 x3)⟩,
    ⟨r0_2, k0_pay124 (k0_pay283 x0 x1 x2 x3)⟩,
    ⟨r0_1, k0_pay123 (k0_pay283 x0 x1 x2 x3)⟩]

/-- Its stores cover it. -/
theorem cover0_19 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 20's buffer after the body. -/
def out0_20 (x0 : Vec F S144x128 .f32) (x1 : Vec F S144x128 .f32) (x2 : Vec F S144x128 .f32) (x3 : Vec F S144x128 .f32) : Vec F S1x2048 .f32 :=
  View.canon [⟨r0_16, k0_pay159 (k0_pay281 x0 x1 x2 x3)⟩,
    ⟨r0_15, k0_pay158 (k0_pay281 x0 x1 x2 x3)⟩,
    ⟨r0_14, k0_pay157 (k0_pay281 x0 x1 x2 x3)⟩,
    ⟨r0_13, k0_pay156 (k0_pay281 x0 x1 x2 x3)⟩,
    ⟨r0_12, k0_pay155 (k0_pay281 x0 x1 x2 x3)⟩,
    ⟨r0_11, k0_pay154 (k0_pay281 x0 x1 x2 x3)⟩,
    ⟨r0_10, k0_pay153 (k0_pay281 x0 x1 x2 x3)⟩,
    ⟨r0_9, k0_pay152 (k0_pay281 x0 x1 x2 x3)⟩,
    ⟨r0_8, k0_pay151 (k0_pay281 x0 x1 x2 x3)⟩,
    ⟨r0_7, k0_pay150 (k0_pay281 x0 x1 x2 x3)⟩,
    ⟨r0_6, k0_pay149 (k0_pay281 x0 x1 x2 x3)⟩,
    ⟨r0_5, k0_pay148 (k0_pay281 x0 x1 x2 x3)⟩,
    ⟨r0_4, k0_pay147 (k0_pay281 x0 x1 x2 x3)⟩,
    ⟨r0_3, k0_pay146 (k0_pay281 x0 x1 x2 x3)⟩,
    ⟨r0_2, k0_pay145 (k0_pay281 x0 x1 x2 x3)⟩,
    ⟨r0_1, k0_pay144 (k0_pay281 x0 x1 x2 x3)⟩]

/-- Its stores cover it. -/
theorem cover0_20 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 21's buffer after the body. -/
def out0_21 (x0 : Vec F S144x128 .f32) (x1 : Vec F S144x128 .f32) (x2 : Vec F S144x128 .f32) (x3 : Vec F S144x128 .f32) : Vec F S1x4096 .f32 :=
  View.canon [⟨r0_48, k0_pay191 (k0_pay281 x0 x1 x2 x3)⟩,
    ⟨r0_47, k0_pay190 (k0_pay281 x0 x1 x2 x3)⟩,
    ⟨r0_46, k0_pay189 (k0_pay281 x0 x1 x2 x3)⟩,
    ⟨r0_45, k0_pay188 (k0_pay281 x0 x1 x2 x3)⟩,
    ⟨r0_44, k0_pay187 (k0_pay281 x0 x1 x2 x3)⟩,
    ⟨r0_43, k0_pay186 (k0_pay281 x0 x1 x2 x3)⟩,
    ⟨r0_42, k0_pay185 (k0_pay281 x0 x1 x2 x3)⟩,
    ⟨r0_41, k0_pay184 (k0_pay281 x0 x1 x2 x3)⟩,
    ⟨r0_40, k0_pay183 (k0_pay281 x0 x1 x2 x3)⟩,
    ⟨r0_39, k0_pay182 (k0_pay281 x0 x1 x2 x3)⟩,
    ⟨r0_38, k0_pay181 (k0_pay281 x0 x1 x2 x3)⟩,
    ⟨r0_37, k0_pay180 (k0_pay281 x0 x1 x2 x3)⟩,
    ⟨r0_36, k0_pay179 (k0_pay281 x0 x1 x2 x3)⟩,
    ⟨r0_35, k0_pay178 (k0_pay281 x0 x1 x2 x3)⟩,
    ⟨r0_34, k0_pay177 (k0_pay281 x0 x1 x2 x3)⟩,
    ⟨r0_33, k0_pay176 (k0_pay281 x0 x1 x2 x3)⟩,
    ⟨r0_32, k0_pay175 (k0_pay281 x0 x1 x2 x3)⟩,
    ⟨r0_31, k0_pay174 (k0_pay281 x0 x1 x2 x3)⟩,
    ⟨r0_30, k0_pay173 (k0_pay281 x0 x1 x2 x3)⟩,
    ⟨r0_29, k0_pay172 (k0_pay281 x0 x1 x2 x3)⟩,
    ⟨r0_28, k0_pay171 (k0_pay281 x0 x1 x2 x3)⟩,
    ⟨r0_27, k0_pay170 (k0_pay281 x0 x1 x2 x3)⟩,
    ⟨r0_26, k0_pay169 (k0_pay281 x0 x1 x2 x3)⟩,
    ⟨r0_25, k0_pay168 (k0_pay281 x0 x1 x2 x3)⟩,
    ⟨r0_24, k0_pay167 (k0_pay281 x0 x1 x2 x3)⟩,
    ⟨r0_23, k0_pay166 (k0_pay281 x0 x1 x2 x3)⟩,
    ⟨r0_22, k0_pay165 (k0_pay281 x0 x1 x2 x3)⟩,
    ⟨r0_21, k0_pay164 (k0_pay281 x0 x1 x2 x3)⟩,
    ⟨r0_20, k0_pay163 (k0_pay281 x0 x1 x2 x3)⟩,
    ⟨r0_19, k0_pay162 (k0_pay281 x0 x1 x2 x3)⟩,
    ⟨r0_18, k0_pay161 (k0_pay281 x0 x1 x2 x3)⟩,
    ⟨r0_17, k0_pay160 (k0_pay281 x0 x1 x2 x3)⟩]

/-- Its stores cover it. -/
theorem cover0_21 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (p16 : Vec F S1x128 .f32) (p17 : Vec F S1x128 .f32) (p18 : Vec F S1x128 .f32) (p19 : Vec F S1x128 .f32) (p20 : Vec F S1x128 .f32) (p21 : Vec F S1x128 .f32) (p22 : Vec F S1x128 .f32) (p23 : Vec F S1x128 .f32) (p24 : Vec F S1x128 .f32) (p25 : Vec F S1x128 .f32) (p26 : Vec F S1x128 .f32) (p27 : Vec F S1x128 .f32) (p28 : Vec F S1x128 .f32) (p29 : Vec F S1x128 .f32) (p30 : Vec F S1x128 .f32) (p31 : Vec F S1x128 .f32) (y : S1x4096.Idx) :
    ∃ pc ∈ ([⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] : List (View.Piece (Elt F) S1x4096 .f32)), y ∈ pc.1.set :=
  View.cover_of_tiled [⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] S1x128.size (by rfl) y

/-- Window 22's buffer after the body. -/
def out0_22 (x0 : Vec F S144x128 .f32) (x1 : Vec F S144x128 .f32) (x2 : Vec F S144x128 .f32) (x3 : Vec F S144x128 .f32) : Vec F S1x128 .f32 :=
  View.canon [⟨r0_49, k0_pay208 (k0_pay281 x0 x1 x2 x3)⟩]

/-- Its stores cover it. -/
theorem cover0_22 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 23's buffer after the body. -/
def out0_23 (x0 : Vec F S144x128 .f32) (x1 : Vec F S144x128 .f32) (x2 : Vec F S144x128 .f32) (x3 : Vec F S144x128 .f32) : Vec F S1x128 .f32 :=
  View.canon [⟨r0_49, k0_pay209 (k0_pay281 x0 x1 x2 x3)⟩]

/-- Its stores cover it. -/
theorem cover0_23 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 24's buffer after the body. -/
def out0_24 (x0 : Vec F S144x128 .f32) (x1 : Vec F S144x128 .f32) (x2 : Vec F S144x128 .f32) (x3 : Vec F S144x128 .f32) : Vec F S1x128 .f32 :=
  View.canon [⟨r0_49, k0_pay210 (k0_pay281 x0 x1 x2 x3)⟩]

/-- Its stores cover it. -/
theorem cover0_24 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 25's buffer after the body. -/
def out0_25 (x0 : Vec F S144x128 .f32) (x1 : Vec F S144x128 .f32) (x2 : Vec F S144x128 .f32) (x3 : Vec F S144x128 .f32) : Vec F S1x128 .f32 :=
  View.canon [⟨r0_49, k0_pay211 (k0_pay281 x0 x1 x2 x3)⟩]

/-- Its stores cover it. -/
theorem cover0_25 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 26's buffer after the body. -/
def out0_26 (x0 : Vec F S144x128 .f32) (x1 : Vec F S144x128 .f32) (x2 : Vec F S144x128 .f32) (x3 : Vec F S144x128 .f32) : Vec F S64x128 .f32 :=
  View.canon [⟨r0_50, k0_pay212 (k0_pay281 x0 x1 x2 x3)⟩]

/-- Its stores cover it. -/
theorem cover0_26 (p0 : Vec F S64x128 .f32) (y : S64x128.Idx) :
    ∃ pc ∈ ([⟨r0_50, p0⟩] : List (View.Piece (Elt F) S64x128 .f32)), y ∈ pc.1.set :=
  View.cover_of_tiled [⟨r0_50, p0⟩] S64x128.size (by rfl) y

/-- Window 27's buffer after the body. -/
def out0_27 (x0 : Vec F S144x128 .f32) (x1 : Vec F S144x128 .f32) (x2 : Vec F S144x128 .f32) (x3 : Vec F S144x128 .f32) : Vec F S1x2048 .f32 :=
  View.canon [⟨r0_16, k0_pay207 (k0_pay281 x0 x1 x2 x3)⟩,
    ⟨r0_15, k0_pay206 (k0_pay281 x0 x1 x2 x3)⟩,
    ⟨r0_14, k0_pay205 (k0_pay281 x0 x1 x2 x3)⟩,
    ⟨r0_13, k0_pay204 (k0_pay281 x0 x1 x2 x3)⟩,
    ⟨r0_12, k0_pay203 (k0_pay281 x0 x1 x2 x3)⟩,
    ⟨r0_11, k0_pay202 (k0_pay281 x0 x1 x2 x3)⟩,
    ⟨r0_10, k0_pay201 (k0_pay281 x0 x1 x2 x3)⟩,
    ⟨r0_9, k0_pay200 (k0_pay281 x0 x1 x2 x3)⟩,
    ⟨r0_8, k0_pay199 (k0_pay281 x0 x1 x2 x3)⟩,
    ⟨r0_7, k0_pay198 (k0_pay281 x0 x1 x2 x3)⟩,
    ⟨r0_6, k0_pay197 (k0_pay281 x0 x1 x2 x3)⟩,
    ⟨r0_5, k0_pay196 (k0_pay281 x0 x1 x2 x3)⟩,
    ⟨r0_4, k0_pay195 (k0_pay281 x0 x1 x2 x3)⟩,
    ⟨r0_3, k0_pay194 (k0_pay281 x0 x1 x2 x3)⟩,
    ⟨r0_2, k0_pay193 (k0_pay281 x0 x1 x2 x3)⟩,
    ⟨r0_1, k0_pay192 (k0_pay281 x0 x1 x2 x3)⟩]

/-- Its stores cover it. -/
theorem cover0_27 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 28's buffer after the body. -/
def out0_28 (x0 : Vec F S144x128 .f32) (x1 : Vec F S144x128 .f32) (x2 : Vec F S144x128 .f32) (x3 : Vec F S144x128 .f32) : Vec F S1x2048 .f32 :=
  View.canon [⟨r0_16, k0_pay228 (k0_pay282 x0 x1 x2 x3)⟩,
    ⟨r0_15, k0_pay227 (k0_pay282 x0 x1 x2 x3)⟩,
    ⟨r0_14, k0_pay226 (k0_pay282 x0 x1 x2 x3)⟩,
    ⟨r0_13, k0_pay225 (k0_pay282 x0 x1 x2 x3)⟩,
    ⟨r0_12, k0_pay224 (k0_pay282 x0 x1 x2 x3)⟩,
    ⟨r0_11, k0_pay223 (k0_pay282 x0 x1 x2 x3)⟩,
    ⟨r0_10, k0_pay222 (k0_pay282 x0 x1 x2 x3)⟩,
    ⟨r0_9, k0_pay221 (k0_pay282 x0 x1 x2 x3)⟩,
    ⟨r0_8, k0_pay220 (k0_pay282 x0 x1 x2 x3)⟩,
    ⟨r0_7, k0_pay219 (k0_pay282 x0 x1 x2 x3)⟩,
    ⟨r0_6, k0_pay218 (k0_pay282 x0 x1 x2 x3)⟩,
    ⟨r0_5, k0_pay217 (k0_pay282 x0 x1 x2 x3)⟩,
    ⟨r0_4, k0_pay216 (k0_pay282 x0 x1 x2 x3)⟩,
    ⟨r0_3, k0_pay215 (k0_pay282 x0 x1 x2 x3)⟩,
    ⟨r0_2, k0_pay214 (k0_pay282 x0 x1 x2 x3)⟩,
    ⟨r0_1, k0_pay213 (k0_pay282 x0 x1 x2 x3)⟩]

/-- Its stores cover it. -/
theorem cover0_28 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 29's buffer after the body. -/
def out0_29 (x0 : Vec F S144x128 .f32) (x1 : Vec F S144x128 .f32) (x2 : Vec F S144x128 .f32) (x3 : Vec F S144x128 .f32) : Vec F S1x4096 .f32 :=
  View.canon [⟨r0_48, k0_pay260 (k0_pay282 x0 x1 x2 x3)⟩,
    ⟨r0_47, k0_pay259 (k0_pay282 x0 x1 x2 x3)⟩,
    ⟨r0_46, k0_pay258 (k0_pay282 x0 x1 x2 x3)⟩,
    ⟨r0_45, k0_pay257 (k0_pay282 x0 x1 x2 x3)⟩,
    ⟨r0_44, k0_pay256 (k0_pay282 x0 x1 x2 x3)⟩,
    ⟨r0_43, k0_pay255 (k0_pay282 x0 x1 x2 x3)⟩,
    ⟨r0_42, k0_pay254 (k0_pay282 x0 x1 x2 x3)⟩,
    ⟨r0_41, k0_pay253 (k0_pay282 x0 x1 x2 x3)⟩,
    ⟨r0_40, k0_pay252 (k0_pay282 x0 x1 x2 x3)⟩,
    ⟨r0_39, k0_pay251 (k0_pay282 x0 x1 x2 x3)⟩,
    ⟨r0_38, k0_pay250 (k0_pay282 x0 x1 x2 x3)⟩,
    ⟨r0_37, k0_pay249 (k0_pay282 x0 x1 x2 x3)⟩,
    ⟨r0_36, k0_pay248 (k0_pay282 x0 x1 x2 x3)⟩,
    ⟨r0_35, k0_pay247 (k0_pay282 x0 x1 x2 x3)⟩,
    ⟨r0_34, k0_pay246 (k0_pay282 x0 x1 x2 x3)⟩,
    ⟨r0_33, k0_pay245 (k0_pay282 x0 x1 x2 x3)⟩,
    ⟨r0_32, k0_pay244 (k0_pay282 x0 x1 x2 x3)⟩,
    ⟨r0_31, k0_pay243 (k0_pay282 x0 x1 x2 x3)⟩,
    ⟨r0_30, k0_pay242 (k0_pay282 x0 x1 x2 x3)⟩,
    ⟨r0_29, k0_pay241 (k0_pay282 x0 x1 x2 x3)⟩,
    ⟨r0_28, k0_pay240 (k0_pay282 x0 x1 x2 x3)⟩,
    ⟨r0_27, k0_pay239 (k0_pay282 x0 x1 x2 x3)⟩,
    ⟨r0_26, k0_pay238 (k0_pay282 x0 x1 x2 x3)⟩,
    ⟨r0_25, k0_pay237 (k0_pay282 x0 x1 x2 x3)⟩,
    ⟨r0_24, k0_pay236 (k0_pay282 x0 x1 x2 x3)⟩,
    ⟨r0_23, k0_pay235 (k0_pay282 x0 x1 x2 x3)⟩,
    ⟨r0_22, k0_pay234 (k0_pay282 x0 x1 x2 x3)⟩,
    ⟨r0_21, k0_pay233 (k0_pay282 x0 x1 x2 x3)⟩,
    ⟨r0_20, k0_pay232 (k0_pay282 x0 x1 x2 x3)⟩,
    ⟨r0_19, k0_pay231 (k0_pay282 x0 x1 x2 x3)⟩,
    ⟨r0_18, k0_pay230 (k0_pay282 x0 x1 x2 x3)⟩,
    ⟨r0_17, k0_pay229 (k0_pay282 x0 x1 x2 x3)⟩]

/-- Its stores cover it. -/
theorem cover0_29 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (p16 : Vec F S1x128 .f32) (p17 : Vec F S1x128 .f32) (p18 : Vec F S1x128 .f32) (p19 : Vec F S1x128 .f32) (p20 : Vec F S1x128 .f32) (p21 : Vec F S1x128 .f32) (p22 : Vec F S1x128 .f32) (p23 : Vec F S1x128 .f32) (p24 : Vec F S1x128 .f32) (p25 : Vec F S1x128 .f32) (p26 : Vec F S1x128 .f32) (p27 : Vec F S1x128 .f32) (p28 : Vec F S1x128 .f32) (p29 : Vec F S1x128 .f32) (p30 : Vec F S1x128 .f32) (p31 : Vec F S1x128 .f32) (y : S1x4096.Idx) :
    ∃ pc ∈ ([⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] : List (View.Piece (Elt F) S1x4096 .f32)), y ∈ pc.1.set :=
  View.cover_of_tiled [⟨r0_48, p0⟩, ⟨r0_47, p1⟩, ⟨r0_46, p2⟩, ⟨r0_45, p3⟩, ⟨r0_44, p4⟩, ⟨r0_43, p5⟩, ⟨r0_42, p6⟩, ⟨r0_41, p7⟩, ⟨r0_40, p8⟩, ⟨r0_39, p9⟩, ⟨r0_38, p10⟩, ⟨r0_37, p11⟩, ⟨r0_36, p12⟩, ⟨r0_35, p13⟩, ⟨r0_34, p14⟩, ⟨r0_33, p15⟩, ⟨r0_32, p16⟩, ⟨r0_31, p17⟩, ⟨r0_30, p18⟩, ⟨r0_29, p19⟩, ⟨r0_28, p20⟩, ⟨r0_27, p21⟩, ⟨r0_26, p22⟩, ⟨r0_25, p23⟩, ⟨r0_24, p24⟩, ⟨r0_23, p25⟩, ⟨r0_22, p26⟩, ⟨r0_21, p27⟩, ⟨r0_20, p28⟩, ⟨r0_19, p29⟩, ⟨r0_18, p30⟩, ⟨r0_17, p31⟩] S1x128.size (by rfl) y

/-- Window 30's buffer after the body. -/
def out0_30 (x0 : Vec F S144x128 .f32) (x1 : Vec F S144x128 .f32) (x2 : Vec F S144x128 .f32) (x3 : Vec F S144x128 .f32) : Vec F S1x128 .f32 :=
  View.canon [⟨r0_49, k0_pay277 (k0_pay282 x0 x1 x2 x3)⟩]

/-- Its stores cover it. -/
theorem cover0_30 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 31's buffer after the body. -/
def out0_31 (x0 : Vec F S144x128 .f32) (x1 : Vec F S144x128 .f32) (x2 : Vec F S144x128 .f32) (x3 : Vec F S144x128 .f32) : Vec F S1x128 .f32 :=
  View.canon [⟨r0_49, k0_pay278 (k0_pay282 x0 x1 x2 x3)⟩]

/-- Its stores cover it. -/
theorem cover0_31 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 32's buffer after the body. -/
def out0_32 (x0 : Vec F S144x128 .f32) (x1 : Vec F S144x128 .f32) (x2 : Vec F S144x128 .f32) (x3 : Vec F S144x128 .f32) : Vec F S1x128 .f32 :=
  View.canon [⟨r0_49, k0_pay279 (k0_pay282 x0 x1 x2 x3)⟩]

/-- Its stores cover it. -/
theorem cover0_32 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 33's buffer after the body. -/
def out0_33 (x0 : Vec F S144x128 .f32) (x1 : Vec F S144x128 .f32) (x2 : Vec F S144x128 .f32) (x3 : Vec F S144x128 .f32) : Vec F S1x128 .f32 :=
  View.canon [⟨r0_49, k0_pay280 (k0_pay282 x0 x1 x2 x3)⟩]

/-- Its stores cover it. -/
theorem cover0_33 (p0 : Vec F S1x128 .f32) (y : S1x128.Idx) :
    ∃ pc ∈ ([⟨r0_49, p0⟩] : List (View.Piece (Elt F) S1x128 .f32)), y ∈ pc.1.set :=
  View.cover_of_tiled [⟨r0_49, p0⟩] S1x128.size (by rfl) y

/-- Window 34's buffer after the body. -/
def out0_34 (x0 : Vec F S144x128 .f32) (x1 : Vec F S144x128 .f32) (x2 : Vec F S144x128 .f32) (x3 : Vec F S144x128 .f32) : Vec F S64x128 .f32 :=
  View.canon [⟨r0_50, k0_pay1 (k0_pay282 x0 x1 x2 x3)⟩]

/-- Its stores cover it. -/
theorem cover0_34 (p0 : Vec F S64x128 .f32) (y : S64x128.Idx) :
    ∃ pc ∈ ([⟨r0_50, p0⟩] : List (View.Piece (Elt F) S64x128 .f32)), y ∈ pc.1.set :=
  View.cover_of_tiled [⟨r0_50, p0⟩] S64x128.size (by rfl) y

/-- Window 35's buffer after the body. -/
def out0_35 (x0 : Vec F S144x128 .f32) (x1 : Vec F S144x128 .f32) (x2 : Vec F S144x128 .f32) (x3 : Vec F S144x128 .f32) : Vec F S1x2048 .f32 :=
  View.canon [⟨r0_16, k0_pay276 (k0_pay282 x0 x1 x2 x3)⟩,
    ⟨r0_15, k0_pay275 (k0_pay282 x0 x1 x2 x3)⟩,
    ⟨r0_14, k0_pay274 (k0_pay282 x0 x1 x2 x3)⟩,
    ⟨r0_13, k0_pay273 (k0_pay282 x0 x1 x2 x3)⟩,
    ⟨r0_12, k0_pay272 (k0_pay282 x0 x1 x2 x3)⟩,
    ⟨r0_11, k0_pay271 (k0_pay282 x0 x1 x2 x3)⟩,
    ⟨r0_10, k0_pay270 (k0_pay282 x0 x1 x2 x3)⟩,
    ⟨r0_9, k0_pay269 (k0_pay282 x0 x1 x2 x3)⟩,
    ⟨r0_8, k0_pay268 (k0_pay282 x0 x1 x2 x3)⟩,
    ⟨r0_7, k0_pay267 (k0_pay282 x0 x1 x2 x3)⟩,
    ⟨r0_6, k0_pay266 (k0_pay282 x0 x1 x2 x3)⟩,
    ⟨r0_5, k0_pay265 (k0_pay282 x0 x1 x2 x3)⟩,
    ⟨r0_4, k0_pay264 (k0_pay282 x0 x1 x2 x3)⟩,
    ⟨r0_3, k0_pay263 (k0_pay282 x0 x1 x2 x3)⟩,
    ⟨r0_2, k0_pay262 (k0_pay282 x0 x1 x2 x3)⟩,
    ⟨r0_1, k0_pay261 (k0_pay282 x0 x1 x2 x3)⟩]

/-- Its stores cover it. -/
theorem cover0_35 (p0 : Vec F S1x128 .f32) (p1 : Vec F S1x128 .f32) (p2 : Vec F S1x128 .f32) (p3 : Vec F S1x128 .f32) (p4 : Vec F S1x128 .f32) (p5 : Vec F S1x128 .f32) (p6 : Vec F S1x128 .f32) (p7 : Vec F S1x128 .f32) (p8 : Vec F S1x128 .f32) (p9 : Vec F S1x128 .f32) (p10 : Vec F S1x128 .f32) (p11 : Vec F S1x128 .f32) (p12 : Vec F S1x128 .f32) (p13 : Vec F S1x128 .f32) (p14 : Vec F S1x128 .f32) (p15 : Vec F S1x128 .f32) (y : S1x2048.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] : List (View.Piece (Elt F) S1x2048 .f32)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩, ⟨r0_8, p8⟩, ⟨r0_7, p9⟩, ⟨r0_6, p10⟩, ⟨r0_5, p11⟩, ⟨r0_4, p12⟩, ⟨r0_3, p13⟩, ⟨r0_2, p14⟩, ⟨r0_1, p15⟩] S1x128.size (by rfl) y

/-- Window 36's buffer after the body. -/
def out0_36 (x0 : Vec F S144x128 .f32) (x1 : Vec F S144x128 .f32) (x2 : Vec F S144x128 .f32) (x3 : Vec F S144x128 .f32) : Vec F S1x1 .f32 :=
  View.canon [⟨r0_51, k0_pay2 (View.ld x0 r0_0)⟩]

/-- Its stores cover it. -/
theorem cover0_36 (p0 : Vec F S1x1 .f32) (y : S1x1.Idx) :
    ∃ pc ∈ ([⟨r0_51, p0⟩] : List (View.Piece (Elt F) S1x1 .f32)), y ∈ pc.1.set :=
  View.cover_of_tiled [⟨r0_51, p0⟩] S1x1.size (by rfl) y

/-! ## The body's triple -/

set_option maxHeartbeats 2428000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S144x128 .f32) (harg0 : arg0.IsWhole) (arg1 : Memref sig .tc .vmem S144x128 .f32) (harg1 : arg1.IsWhole) (arg2 : Memref sig .tc .vmem S144x128 .f32) (harg2 : arg2.IsWhole) (arg3 : Memref sig .tc .vmem S144x128 .f32) (harg3 : arg3.IsWhole) (arg4 : Memref sig .tc .vmem S1x2048 .f32) (harg4 : arg4.IsWhole) (arg5 : Memref sig .tc .vmem S1x4096 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4096 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S64x128 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x4096 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole) (arg26 : Memref sig .tc .vmem S64x128 .f32) (harg26 : arg26.IsWhole) (arg27 : Memref sig .tc .vmem S1x2048 .f32) (harg27 : arg27.IsWhole) (arg28 : Memref sig .tc .vmem S1x2048 .f32) (harg28 : arg28.IsWhole) (arg29 : Memref sig .tc .vmem S1x4096 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S64x128 .f32) (harg34 : arg34.IsWhole) (arg35 : Memref sig .tc .vmem S1x2048 .f32) (harg35 : arg35.IsWhole) (arg36 : Memref sig .tc .vmem S1x1 .f32) (harg36 : arg36.IsWhole)
    (x0 : Vec F S144x128 .f32) (x1 : Vec F S144x128 .f32) (x2 : Vec F S144x128 .f32) (x3 : Vec F S144x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3) ∗ owns (c : Thread nD τ) arg7 fullShare (out0_7 x0 x1 x2 x3) ∗ owns (c : Thread nD τ) arg8 fullShare (out0_8 x0 x1 x2 x3) ∗ owns (c : Thread nD τ) arg9 fullShare (out0_9 x0 x1 x2 x3) ∗ owns (c : Thread nD τ) arg10 fullShare (out0_10 x0 x1 x2 x3) ∗ owns (c : Thread nD τ) arg11 fullShare (out0_11 x0 x1 x2 x3) ∗ owns (c : Thread nD τ) arg12 fullShare (out0_12 x0 x1 x2 x3) ∗ owns (c : Thread nD τ) arg13 fullShare (out0_13 x0 x1 x2 x3) ∗ owns (c : Thread nD τ) arg14 fullShare (out0_14 x0 x1 x2 x3) ∗ owns (c : Thread nD τ) arg15 fullShare (out0_15 x0 x1 x2 x3) ∗ owns (c : Thread nD τ) arg16 fullShare (out0_16 x0 x1 x2 x3) ∗ owns (c : Thread nD τ) arg17 fullShare (out0_17 x0 x1 x2 x3) ∗ owns (c : Thread nD τ) arg18 fullShare (out0_18 x0 x1 x2 x3) ∗ owns (c : Thread nD τ) arg19 fullShare (out0_19 x0 x1 x2 x3) ∗ owns (c : Thread nD τ) arg20 fullShare (out0_20 x0 x1 x2 x3) ∗ owns (c : Thread nD τ) arg21 fullShare (out0_21 x0 x1 x2 x3) ∗ owns (c : Thread nD τ) arg22 fullShare (out0_22 x0 x1 x2 x3) ∗ owns (c : Thread nD τ) arg23 fullShare (out0_23 x0 x1 x2 x3) ∗ owns (c : Thread nD τ) arg24 fullShare (out0_24 x0 x1 x2 x3) ∗ owns (c : Thread nD τ) arg25 fullShare (out0_25 x0 x1 x2 x3) ∗ owns (c : Thread nD τ) arg26 fullShare (out0_26 x0 x1 x2 x3) ∗ owns (c : Thread nD τ) arg27 fullShare (out0_27 x0 x1 x2 x3) ∗ owns (c : Thread nD τ) arg28 fullShare (out0_28 x0 x1 x2 x3) ∗ owns (c : Thread nD τ) arg29 fullShare (out0_29 x0 x1 x2 x3) ∗ owns (c : Thread nD τ) arg30 fullShare (out0_30 x0 x1 x2 x3) ∗ owns (c : Thread nD τ) arg31 fullShare (out0_31 x0 x1 x2 x3) ∗ owns (c : Thread nD τ) arg32 fullShare (out0_32 x0 x1 x2 x3) ∗ owns (c : Thread nD τ) arg33 fullShare (out0_33 x0 x1 x2 x3) ∗ owns (c : Thread nD τ) arg34 fullShare (out0_34 x0 x1 x2 x3) ∗ owns (c : Thread nD τ) arg35 fullShare (out0_35 x0 x1 x2 x3) ∗ owns (c : Thread nD τ) arg36 fullShare (out0_36 x0 x1 x2 x3)) -∗ K ⟨⟩))
      ⊢ wp frame (wpE (defs₀ (F := F)) Variants.none c none) E (cc0_small_params_adamw arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_small_params_adamw_eq_skeleton]; unfold cc0_small_params_adamw_skel
  simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _ _ _ _ _ _ _ _ _)).trans ?_
    rfl
  isplitl [H5]
  · iexists _; isplitr
    swap; · iexact H5
    ipureintro
    refine (View.read_writes_eq_canon _ _ _ (cover0_5 _ _ _ _ _ _ _ _ _ _ _ _ _ _ _ _ _ _ _ _ _ _ _ _ _ _ _ _ _ _ _ _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _ _ _ _ _ _ _ _ _ _ _ _ _ _ _ _)).trans ?_
    rfl
  isplitl [H12]
  · iexists _; isplitr
    swap; · iexact H12
    ipureintro
    refine (View.read_writes_eq_canon _ _ _ (cover0_12 _ _ _ _ _ _ _ _ _ _ _ _ _ _ _ _)).trans ?_
    rfl
  isplitl [H13]
  · iexists _; isplitr
    swap; · iexact H13
    ipureintro
    refine (View.read_writes_eq_canon _ _ _ (cover0_13 _ _ _ _ _ _ _ _ _ _ _ _ _ _ _ _ _ _ _ _ _ _ _ _ _ _ _ _ _ _ _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _ _ _ _ _ _ _ _ _ _ _ _ _ _ _)).trans ?_
    rfl
  isplitl [H20]
  · iexists _; isplitr
    swap; · iexact H20
    ipureintro
    refine (View.read_writes_eq_canon _ _ _ (cover0_20 _ _ _ _ _ _ _ _ _ _ _ _ _ _ _ _)).trans ?_
    rfl
  isplitl [H21]
  · iexists _; isplitr
    swap; · iexact H21
    ipureintro
    refine (View.read_writes_eq_canon _ _ _ (cover0_21 _ _ _ _ _ _ _ _ _ _ _ _ _ _ _ _ _ _ _ _ _ _ _ _ _ _ _ _ _ _ _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _ _ _ _ _ _ _ _ _ _ _ _ _ _ _ _)).trans ?_
    rfl
  isplitl [H28]
  · iexists _; isplitr
    swap; · iexact H28
    ipureintro
    refine (View.read_writes_eq_canon _ _ _ (cover0_28 _ _ _ _ _ _ _ _ _ _ _ _ _ _ _ _)).trans ?_
    rfl
  isplitl [H29]
  · iexists _; isplitr
    swap; · iexact H29
    ipureintro
    refine (View.read_writes_eq_canon _ _ _ (cover0_29 _ _ _ _ _ _ _ _ _ _ _ _ _ _ _ _ _ _ _ _ _ _ _ _ _ _ _ _ _ _ _ _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _ _ _ _ _ _ _ _ _ _ _ _ _ _ _ _)).trans ?_
    rfl
  iexists _; isplitr
  swap; · iexact H36
  ipureintro
  refine (View.read_writes_eq_canon _ _ _ (cover0_36 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
    | ⟨7, _⟩ => out0_7 (iblk m c 0 t) (iblk m c 1 t) (iblk m c 2 t) (iblk m c 3 t)
    | ⟨8, _⟩ => out0_8 (iblk m c 0 t) (iblk m c 1 t) (iblk m c 2 t) (iblk m c 3 t)
    | ⟨9, _⟩ => out0_9 (iblk m c 0 t) (iblk m c 1 t) (iblk m c 2 t) (iblk m c 3 t)
    | ⟨10, _⟩ => out0_10 (iblk m c 0 t) (iblk m c 1 t) (iblk m c 2 t) (iblk m c 3 t)
    | ⟨11, _⟩ => out0_11 (iblk m c 0 t) (iblk m c 1 t) (iblk m c 2 t) (iblk m c 3 t)
    | ⟨12, _⟩ => out0_12 (iblk m c 0 t) (iblk m c 1 t) (iblk m c 2 t) (iblk m c 3 t)
    | ⟨13, _⟩ => out0_13 (iblk m c 0 t) (iblk m c 1 t) (iblk m c 2 t) (iblk m c 3 t)
    | ⟨14, _⟩ => out0_14 (iblk m c 0 t) (iblk m c 1 t) (iblk m c 2 t) (iblk m c 3 t)
    | ⟨15, _⟩ => out0_15 (iblk m c 0 t) (iblk m c 1 t) (iblk m c 2 t) (iblk m c 3 t)
    | ⟨16, _⟩ => out0_16 (iblk m c 0 t) (iblk m c 1 t) (iblk m c 2 t) (iblk m c 3 t)
    | ⟨17, _⟩ => out0_17 (iblk m c 0 t) (iblk m c 1 t) (iblk m c 2 t) (iblk m c 3 t)
    | ⟨18, _⟩ => out0_18 (iblk m c 0 t) (iblk m c 1 t) (iblk m c 2 t) (iblk m c 3 t)
    | ⟨19, _⟩ => out0_19 (iblk m c 0 t) (iblk m c 1 t) (iblk m c 2 t) (iblk m c 3 t)
    | ⟨20, _⟩ => out0_20 (iblk m c 0 t) (iblk m c 1 t) (iblk m c 2 t) (iblk m c 3 t)
    | ⟨21, _⟩ => out0_21 (iblk m c 0 t) (iblk m c 1 t) (iblk m c 2 t) (iblk m c 3 t)
    | ⟨22, _⟩ => out0_22 (iblk m c 0 t) (iblk m c 1 t) (iblk m c 2 t) (iblk m c 3 t)
    | ⟨23, _⟩ => out0_23 (iblk m c 0 t) (iblk m c 1 t) (iblk m c 2 t) (iblk m c 3 t)
    | ⟨24, _⟩ => out0_24 (iblk m c 0 t) (iblk m c 1 t) (iblk m c 2 t) (iblk m c 3 t)
    | ⟨25, _⟩ => out0_25 (iblk m c 0 t) (iblk m c 1 t) (iblk m c 2 t) (iblk m c 3 t)
    | ⟨26, _⟩ => out0_26 (iblk m c 0 t) (iblk m c 1 t) (iblk m c 2 t) (iblk m c 3 t)
    | ⟨27, _⟩ => out0_27 (iblk m c 0 t) (iblk m c 1 t) (iblk m c 2 t) (iblk m c 3 t)
    | ⟨28, _⟩ => out0_28 (iblk m c 0 t) (iblk m c 1 t) (iblk m c 2 t) (iblk m c 3 t)
    | ⟨29, _⟩ => out0_29 (iblk m c 0 t) (iblk m c 1 t) (iblk m c 2 t) (iblk m c 3 t)
    | ⟨30, _⟩ => out0_30 (iblk m c 0 t) (iblk m c 1 t) (iblk m c 2 t) (iblk m c 3 t)
    | ⟨31, _⟩ => out0_31 (iblk m c 0 t) (iblk m c 1 t) (iblk m c 2 t) (iblk m c 3 t)
    | ⟨32, _⟩ => out0_32 (iblk m c 0 t) (iblk m c 1 t) (iblk m c 2 t) (iblk m c 3 t)
    | ⟨33, _⟩ => out0_33 (iblk m c 0 t) (iblk m c 1 t) (iblk m c 2 t) (iblk m c 3 t)
    | ⟨34, _⟩ => out0_34 (iblk m c 0 t) (iblk m c 1 t) (iblk m c 2 t) (iblk m c 3 t)
    | ⟨35, _⟩ => out0_35 (iblk m c 0 t) (iblk m c 1 t) (iblk m c 2 t) (iblk m c 3 t)
    | ⟨36, _⟩ => out0_36 (iblk m c 0 t) (iblk m c 1 t) (iblk m c 2 t) (iblk m c 3 t)
    | ⟨_ + 37, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]
theorem after0_6 (c : Dev nD) (t : Fin cfg0.N) : (dats m 0 c).after 6 t = out0_6 (iblk m c 0 t) (iblk m c 1 t) (iblk m c 2 t) (iblk m c 3 t) := by dsimp only [dats]
theorem after0_7 (c : Dev nD) (t : Fin cfg0.N) : (dats m 0 c).after 7 t = out0_7 (iblk m c 0 t) (iblk m c 1 t) (iblk m c 2 t) (iblk m c 3 t) := by dsimp only [dats]
theorem after0_8 (c : Dev nD) (t : Fin cfg0.N) : (dats m 0 c).after 8 t = out0_8 (iblk m c 0 t) (iblk m c 1 t) (iblk m c 2 t) (iblk m c 3 t) := by dsimp only [dats]
theorem after0_9 (c : Dev nD) (t : Fin cfg0.N) : (dats m 0 c).after 9 t = out0_9 (iblk m c 0 t) (iblk m c 1 t) (iblk m c 2 t) (iblk m c 3 t) := by dsimp only [dats]
theorem after0_10 (c : Dev nD) (t : Fin cfg0.N) : (dats m 0 c).after 10 t = out0_10 (iblk m c 0 t) (iblk m c 1 t) (iblk m c 2 t) (iblk m c 3 t) := by dsimp only [dats]
theorem after0_11 (c : Dev nD) (t : Fin cfg0.N) : (dats m 0 c).after 11 t = out0_11 (iblk m c 0 t) (iblk m c 1 t) (iblk m c 2 t) (iblk m c 3 t) := by dsimp only [dats]
theorem after0_12 (c : Dev nD) (t : Fin cfg0.N) : (dats m 0 c).after 12 t = out0_12 (iblk m c 0 t) (iblk m c 1 t) (iblk m c 2 t) (iblk m c 3 t) := by dsimp only [dats]
theorem after0_13 (c : Dev nD) (t : Fin cfg0.N) : (dats m 0 c).after 13 t = out0_13 (iblk m c 0 t) (iblk m c 1 t) (iblk m c 2 t) (iblk m c 3 t) := by dsimp only [dats]
theorem after0_14 (c : Dev nD) (t : Fin cfg0.N) : (dats m 0 c).after 14 t = out0_14 (iblk m c 0 t) (iblk m c 1 t) (iblk m c 2 t) (iblk m c 3 t) := by dsimp only [dats]
theorem after0_15 (c : Dev nD) (t : Fin cfg0.N) : (dats m 0 c).after 15 t = out0_15 (iblk m c 0 t) (iblk m c 1 t) (iblk m c 2 t) (iblk m c 3 t) := by dsimp only [dats]
theorem after0_16 (c : Dev nD) (t : Fin cfg0.N) : (dats m 0 c).after 16 t = out0_16 (iblk m c 0 t) (iblk m c 1 t) (iblk m c 2 t) (iblk m c 3 t) := by dsimp only [dats]
theorem after0_17 (c : Dev nD) (t : Fin cfg0.N) : (dats m 0 c).after 17 t = out0_17 (iblk m c 0 t) (iblk m c 1 t) (iblk m c 2 t) (iblk m c 3 t) := by dsimp only [dats]
theorem after0_18 (c : Dev nD) (t : Fin cfg0.N) : (dats m 0 c).after 18 t = out0_18 (iblk m c 0 t) (iblk m c 1 t) (iblk m c 2 t) (iblk m c 3 t) := by dsimp only [dats]
theorem after0_19 (c : Dev nD) (t : Fin cfg0.N) : (dats m 0 c).after 19 t = out0_19 (iblk m c 0 t) (iblk m c 1 t) (iblk m c 2 t) (iblk m c 3 t) := by dsimp only [dats]
theorem after0_20 (c : Dev nD) (t : Fin cfg0.N) : (dats m 0 c).after 20 t = out0_20 (iblk m c 0 t) (iblk m c 1 t) (iblk m c 2 t) (iblk m c 3 t) := by dsimp only [dats]
theorem after0_21 (c : Dev nD) (t : Fin cfg0.N) : (dats m 0 c).after 21 t = out0_21 (iblk m c 0 t) (iblk m c 1 t) (iblk m c 2 t) (iblk m c 3 t) := by dsimp only [dats]
theorem after0_22 (c : Dev nD) (t : Fin cfg0.N) : (dats m 0 c).after 22 t = out0_22 (iblk m c 0 t) (iblk m c 1 t) (iblk m c 2 t) (iblk m c 3 t) := by dsimp only [dats]
theorem after0_23 (c : Dev nD) (t : Fin cfg0.N) : (dats m 0 c).after 23 t = out0_23 (iblk m c 0 t) (iblk m c 1 t) (iblk m c 2 t) (iblk m c 3 t) := by dsimp only [dats]
theorem after0_24 (c : Dev nD) (t : Fin cfg0.N) : (dats m 0 c).after 24 t = out0_24 (iblk m c 0 t) (iblk m c 1 t) (iblk m c 2 t) (iblk m c 3 t) := by dsimp only [dats]
theorem after0_25 (c : Dev nD) (t : Fin cfg0.N) : (dats m 0 c).after 25 t = out0_25 (iblk m c 0 t) (iblk m c 1 t) (iblk m c 2 t) (iblk m c 3 t) := by dsimp only [dats]
theorem after0_26 (c : Dev nD) (t : Fin cfg0.N) : (dats m 0 c).after 26 t = out0_26 (iblk m c 0 t) (iblk m c 1 t) (iblk m c 2 t) (iblk m c 3 t) := by dsimp only [dats]
theorem after0_27 (c : Dev nD) (t : Fin cfg0.N) : (dats m 0 c).after 27 t = out0_27 (iblk m c 0 t) (iblk m c 1 t) (iblk m c 2 t) (iblk m c 3 t) := by dsimp only [dats]
theorem after0_28 (c : Dev nD) (t : Fin cfg0.N) : (dats m 0 c).after 28 t = out0_28 (iblk m c 0 t) (iblk m c 1 t) (iblk m c 2 t) (iblk m c 3 t) := by dsimp only [dats]
theorem after0_29 (c : Dev nD) (t : Fin cfg0.N) : (dats m 0 c).after 29 t = out0_29 (iblk m c 0 t) (iblk m c 1 t) (iblk m c 2 t) (iblk m c 3 t) := by dsimp only [dats]
theorem after0_30 (c : Dev nD) (t : Fin cfg0.N) : (dats m 0 c).after 30 t = out0_30 (iblk m c 0 t) (iblk m c 1 t) (iblk m c 2 t) (iblk m c 3 t) := by dsimp only [dats]
theorem after0_31 (c : Dev nD) (t : Fin cfg0.N) : (dats m 0 c).after 31 t = out0_31 (iblk m c 0 t) (iblk m c 1 t) (iblk m c 2 t) (iblk m c 3 t) := by dsimp only [dats]
theorem after0_32 (c : Dev nD) (t : Fin cfg0.N) : (dats m 0 c).after 32 t = out0_32 (iblk m c 0 t) (iblk m c 1 t) (iblk m c 2 t) (iblk m c 3 t) := by dsimp only [dats]
theorem after0_33 (c : Dev nD) (t : Fin cfg0.N) : (dats m 0 c).after 33 t = out0_33 (iblk m c 0 t) (iblk m c 1 t) (iblk m c 2 t) (iblk m c 3 t) := by dsimp only [dats]
theorem after0_34 (c : Dev nD) (t : Fin cfg0.N) : (dats m 0 c).after 34 t = out0_34 (iblk m c 0 t) (iblk m c 1 t) (iblk m c 2 t) (iblk m c 3 t) := by dsimp only [dats]
theorem after0_35 (c : Dev nD) (t : Fin cfg0.N) : (dats m 0 c).after 35 t = out0_35 (iblk m c 0 t) (iblk m c 1 t) (iblk m c 2 t) (iblk m c 3 t) := by dsimp only [dats]
theorem after0_36 (c : Dev nD) (t : Fin cfg0.N) : (dats m 0 c).after 36 t = out0_36 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Small

end
-- ==== Proof.SmallArr.lean ====
/- The small parameters' optimiser call: each result array, from the packed rows the call finds. -/
module

public import proofs.«01_k».proof.Proof.SmallRun
public import proofs.«01_k».proof.Proof.ProjPay
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 1000000

noncomputable section

namespace Cert.Small

open Idealize.ShloMosaic Idealize.ShloMosaic.TcCoe Cert.Kernel10Ideal Cert.Kernel10Ideal.Gen
open Cert.Proj (mom var adam)

/-- Rows laid side by side, from a row on. -/
def lanes (off : ℕ) (v : S144x128.Idx → EReal) {C : ℕ} : (⟨2, ![1, C]⟩ : Shape).Idx → EReal :=
  fun y => v (ix2 ⟨(off + (y 1).val / 128) % 144, Nat.mod_lt _ (by decide)⟩ ⟨(y 1).val % 128, Nat.mod_lt _ (by decide)⟩)
/-- One row. -/
def line (n : Fin 144) (v : S144x128.Idx → EReal) : S1x128.Idx → EReal := fun y => v (ix2 n (y 1))
/-- The rows of the bias table. -/
def table (v : S144x128.Idx → EReal) : S64x128.Idx → EReal :=
  fun y => v (ix2 ⟨56 + (y 0).val, by have h : (y 0).val < 64 := (y 0).isLt; omega⟩ (y 1))
/-- The loss's cell. -/
def cell (v : S144x128.Idx → EReal) : S1x1.Idx → EReal := fun _ => v (ix2 136 0)

/-- Stores which cover a buffer and agree with a function leave it. -/
theorem canon_of {s : Shape} (G : s.Idx → EReal) (L : List (View.Piece (Elt Ideal) s .f32)) (hc : ∀ y, ∃ pc ∈ L, y ∈ pc.1.set)
    (h : View.PiecesOf (Val := Elt Ideal) (e := .f32) G L) (y : s.Idx) : View.canon (Val := Elt Ideal) L y = G y :=
  View.canon_apply_of_pieces (Val := Elt Ideal) (e := .f32) G L (View.PiecesOf.mem (Val := Elt Ideal) (e := .f32) (s := s) (G := G) h) y (hc y)

/-- A stored row lies at its lanes. -/
theorem piece_at {C n off k : ℕ} (v : S144x128.Idx → EReal) (hs : S144x128.Slices ![n, 0] S1x128)
    (h) (hn : n < 144) (ho : off ≤ n) (hk : k = 128 * (n - off)) (x : S1x128.Idx) :
    extractStridedSlice S1x128 ![n, 0] v hs x
      = lanes off v ((Rect.unit (s := (⟨2, ![1, C]⟩ : Shape)) ![0, k] S1x128.size h).emb x) := by
  subst hk
  idx_vars x
  refine congrArg v (Shape.idx_ext₂ ?_ ?_)
  · show n + x0.val = (off + (128 * (n - off) + 1 * x1.val) / 128) % 144
    omega
  · show 0 + x1.val = (128 * (n - off) + 1 * x1.val) % 128
    omega

/-- The lanes from row 0 on, as the body stores them. -/
def wide0 (v : Vec Ideal S144x128 .f32) : Vec Ideal S1x2048 .f32 :=
  View.canon (Val := Elt Ideal) (e := .f32) (s := S1x2048) [⟨r0_16, k0_pay21 v⟩, ⟨r0_15, k0_pay20 v⟩, ⟨r0_14, k0_pay19 v⟩, ⟨r0_13, k0_pay18 v⟩,
    ⟨r0_12, k0_pay17 v⟩, ⟨r0_11, k0_pay16 v⟩, ⟨r0_10, k0_pay15 v⟩, ⟨r0_9, k0_pay14 v⟩,
    ⟨r0_8, k0_pay13 v⟩, ⟨r0_7, k0_pay12 v⟩, ⟨r0_6, k0_pay11 v⟩, ⟨r0_5, k0_pay10 v⟩,
    ⟨r0_4, k0_pay9 v⟩, ⟨r0_3, k0_pay8 v⟩, ⟨r0_2, k0_pay7 v⟩, ⟨r0_1, k0_pay6 v⟩]

/-- The stored lanes from row 0 on. -/
theorem wide0_eq (v : Vec Ideal S144x128 .f32) : wide0 v = lanes 0 v :=
  funext fun y => canon_of (s := S1x2048) (lanes 0 v) _ (cover0_4 (F := Ideal) _ _ _ _ _ _ _ _ _ _ _ _ _ _ _ _) (by
    unfold View.PiecesOf; repeat' (first | exact trivial | refine ⟨fun x => piece_at v (by decide) (by decide) (by decide) (by decide) (by decide) x, ?_⟩)) y

/-- The lanes from row 16 on, as the body stores them. -/
def wide16 (v : Vec Ideal S144x128 .f32) : Vec Ideal S1x4096 .f32 :=
  View.canon (Val := Elt Ideal) (e := .f32) (s := S1x4096) [⟨r0_48, k0_pay53 v⟩, ⟨r0_47, k0_pay52 v⟩, ⟨r0_46, k0_pay51 v⟩, ⟨r0_45, k0_pay50 v⟩,
    ⟨r0_44, k0_pay49 v⟩, ⟨r0_43, k0_pay48 v⟩, ⟨r0_42, k0_pay47 v⟩, ⟨r0_41, k0_pay46 v⟩,
    ⟨r0_40, k0_pay45 v⟩, ⟨r0_39, k0_pay44 v⟩, ⟨r0_38, k0_pay43 v⟩, ⟨r0_37, k0_pay42 v⟩,
    ⟨r0_36, k0_pay41 v⟩, ⟨r0_35, k0_pay40 v⟩, ⟨r0_34, k0_pay39 v⟩, ⟨r0_33, k0_pay38 v⟩,
    ⟨r0_32, k0_pay37 v⟩, ⟨r0_31, k0_pay36 v⟩, ⟨r0_30, k0_pay35 v⟩, ⟨r0_29, k0_pay34 v⟩,
    ⟨r0_28, k0_pay33 v⟩, ⟨r0_27, k0_pay32 v⟩, ⟨r0_26, k0_pay31 v⟩, ⟨r0_25, k0_pay30 v⟩,
    ⟨r0_24, k0_pay29 v⟩, ⟨r0_23, k0_pay28 v⟩, ⟨r0_22, k0_pay27 v⟩, ⟨r0_21, k0_pay26 v⟩,
    ⟨r0_20, k0_pay25 v⟩, ⟨r0_19, k0_pay24 v⟩, ⟨r0_18, k0_pay23 v⟩, ⟨r0_17, k0_pay22 v⟩]

/-- The stored lanes from row 16 on. -/
theorem wide16_eq (v : Vec Ideal S144x128 .f32) : wide16 v = lanes 16 v :=
  funext fun y => canon_of (s := S1x4096) (lanes 16 v) _ (cover0_5 (F := Ideal) _ _ _ _ _ _ _ _ _ _ _ _ _ _ _ _ _ _ _ _ _ _ _ _ _ _ _ _ _ _ _ _) (by
    unfold View.PiecesOf; repeat' (first | exact trivial | refine ⟨fun x => piece_at v (by decide) (by decide) (by decide) (by decide) (by decide) x, ?_⟩)) y

/-- The lanes from row 120 on, as the body stores them. -/
def wide120 (v : Vec Ideal S144x128 .f32) : Vec Ideal S1x2048 .f32 :=
  View.canon (Val := Elt Ideal) (e := .f32) (s := S1x2048) [⟨r0_16, k0_pay69 v⟩, ⟨r0_15, k0_pay68 v⟩, ⟨r0_14, k0_pay67 v⟩, ⟨r0_13, k0_pay66 v⟩,
    ⟨r0_12, k0_pay65 v⟩, ⟨r0_11, k0_pay64 v⟩, ⟨r0_10, k0_pay63 v⟩, ⟨r0_9, k0_pay62 v⟩,
    ⟨r0_8, k0_pay61 v⟩, ⟨r0_7, k0_pay60 v⟩, ⟨r0_6, k0_pay59 v⟩, ⟨r0_5, k0_pay58 v⟩,
    ⟨r0_4, k0_pay57 v⟩, ⟨r0_3, k0_pay56 v⟩, ⟨r0_2, k0_pay55 v⟩, ⟨r0_1, k0_pay54 v⟩]

/-- The stored lanes from row 120 on. -/
theorem wide120_eq (v : Vec Ideal S144x128 .f32) : wide120 v = lanes 120 v :=
  funext fun y => canon_of (s := S1x2048) (lanes 120 v) _ (cover0_11 (F := Ideal) _ _ _ _ _ _ _ _ _ _ _ _ _ _ _ _) (by
    unfold View.PiecesOf; repeat' (first | exact trivial | refine ⟨fun x => piece_at v (by decide) (by decide) (by decide) (by decide) (by decide) x, ?_⟩)) y

/-- The stored row. -/
theorem line_of (n : ℕ) (hn : n < 144) (v : Vec Ideal S144x128 .f32) (hs : S144x128.Slices ![n, 0] S1x128) :
    View.canon (Val := Elt Ideal) (e := .f32) (s := S1x128) [⟨r0_49, extractStridedSlice S1x128 ![n, 0] v hs⟩] = line ⟨n, hn⟩ v :=
  funext fun y => canon_of (s := S1x128) (line ⟨n, hn⟩ v) _ (cover0_6 (F := Ideal) _) ⟨fun u => by
    idx_vars u
    refine congrArg v (Shape.idx_ext₂ ?_ ?_)
    · show n + u0.val = n
      omega
    · show 0 + u1.val = 0 + 1 * u1.val
      omega, trivial⟩ y
/-- The stored table. -/
theorem table_of (v : Vec Ideal S144x128 .f32) (hs : S144x128.Slices ![56, 0] S64x128) :
    View.canon (Val := Elt Ideal) (e := .f32) (s := S64x128) [⟨r0_50, extractStridedSlice S64x128 ![56, 0] v hs⟩] = table v :=
  funext fun y => canon_of (s := S64x128) (table v) _ (cover0_10 (F := Ideal) _) ⟨fun u => by
    idx_vars u
    refine congrArg v (Shape.idx_ext₂ ?_ ?_)
    · show 56 + u0.val = 56 + (0 + 1 * u0.val)
      omega
    · show 0 + u1.val = 0 + 1 * u1.val
      omega, trivial⟩ y
/-- The stored cell. -/
theorem cell_of (x0 x1 x2 x3 : Vec Ideal S144x128 .f32) : out0_36 (F := Ideal) x0 x1 x2 x3 = cell (View.ld x0 r0_0) :=
  funext fun y => canon_of (s := S1x1) (cell (View.ld x0 r0_0)) _ (cover0_36 (F := Ideal) _) ⟨fun u => by
    idx_vars u
    refine (?_ : k0_pay2 (F := Ideal) (View.ld x0 r0_0) (ix2 u0 u1) = _)
    pointwise [k0_pay2]
    exact congrArg x0 (Shape.idx_ext₂ rfl rfl), trivial⟩ y

/-- A whole load is the array. -/
theorem ld_all (x : Vec Ideal S144x128 .f32) : View.ld x r0_0 = x := by
  funext y
  idx_vars y
  exact congrArg x (Shape.idx_ext₂ (by show 0 + 1 * y0.val = y0.val; omega) (by show 0 + 1 * y1.val = y1.val; omega))

/-- The three steps of the packed rows. -/
theorem steps (g w a b : Vec Ideal S144x128 .f32) :
    k0_pay283 (F := Ideal) g w a b = (fun y => adam (mom (g y) (a y)) (var (g y) (b y)) (w y))
      ∧ k0_pay281 (F := Ideal) g w a b = (fun y => mom (g y) (a y)) ∧ k0_pay282 (F := Ideal) g w a b = (fun y => var (g y) (b y)) := by
  unfold k0_pay283 k0_pay281 k0_pay282
  rw [ld_all, ld_all, ld_all, ld_all]
  refine ⟨?_, ?_, ?_⟩
  all_goals
    funext y
    idx_vars y
    pointwise [k0_pay5, k0_pay4, k0_pay3]
    rfl

variable (m : (ℓ : Loc nD τ sig) → Buf (Elt Ideal) ℓ) (c : Dev nD)

/-- The packed gradients. -/
def Gr0 : S144x128.Idx → EReal := m ((c.tc : Thread nD τ).loc main_arg0)
/-- The packed weights. -/
def Wt : S144x128.Idx → EReal := m ((c.tc : Thread nD τ).loc main_arg1)
/-- The packed first moments. -/
def M0 : S144x128.Idx → EReal := m ((c.tc : Thread nD τ).loc main_arg2)
/-- The packed second moments. -/
def V0 : S144x128.Idx → EReal := m ((c.tc : Thread nD τ).loc main_arg3)
/-- The first moments' step. -/
def Mo : S144x128.Idx → EReal := fun y => mom (Gr0 m c y) (M0 m c y)
/-- The second moments' step. -/
def Va : S144x128.Idx → EReal := fun y => var (Gr0 m c y) (V0 m c y)
/-- The weights' step. -/
def Dl : S144x128.Idx → EReal := fun y => adam (Mo m c y) (Va m c y) (Wt m c y)

/-- The call's only blocks are the whole arrays. -/
theorem blk_all (t : Fin cfg0.N) : iblk (F := Ideal) m c 0 t = Gr0 m c ∧ iblk (F := Ideal) m c 1 t = Wt m c
    ∧ iblk (F := Ideal) m c 2 t = M0 m c ∧ iblk (F := Ideal) m c 3 t = V0 m c := by
  unfold iblk
  refine ⟨?_, ?_, ?_, ?_⟩
  all_goals
    funext y
    idx_vars y
    blk_ext []
    all_goals exact (congrArg (· + _) (Nat.zero_mul _)).trans (Nat.zero_add _)

/-- The arrays of the gradients. -/
theorem arrs0 : (dats (F := Ideal) m 0 c).arrAt 4 cfg0.N = lanes 0 (Gr0 m c)
    ∧ (dats (F := Ideal) m 0 c).arrAt 5 cfg0.N = lanes 16 (Gr0 m c)
    ∧ (dats (F := Ideal) m 0 c).arrAt 6 cfg0.N = line 48 (Gr0 m c)
    ∧ (dats (F := Ideal) m 0 c).arrAt 7 cfg0.N = line 49 (Gr0 m c)
    ∧ (dats (F := Ideal) m 0 c).arrAt 8 cfg0.N = line 50 (Gr0 m c)
    ∧ (dats (F := Ideal) m 0 c).arrAt 9 cfg0.N = line 51 (Gr0 m c)
    ∧ (dats (F := Ideal) m 0 c).arrAt 10 cfg0.N = table (Gr0 m c)
    ∧ (dats (F := Ideal) m 0 c).arrAt 11 cfg0.N = lanes 120 (Gr0 m c) := by
  obtain ⟨b0, b1, b2, b3⟩ := blk_all m c t0_0
  obtain ⟨hd, hm, hv⟩ := steps (Gr0 m c) (Wt m c) (M0 m c) (V0 m c)
  refine ⟨(dats (F := Ideal) m 0 c).arrAt_eq_of_after_last 4 t0_0 (by decide +kernel) _ fun j => ?_,
    (dats (F := Ideal) m 0 c).arrAt_eq_of_after_last 5 t0_0 (by decide +kernel) _ fun j => ?_,
    (dats (F := Ideal) m 0 c).arrAt_eq_of_after_last 6 t0_0 (by decide +kernel) _ fun j => ?_,
    (dats (F := Ideal) m 0 c).arrAt_eq_of_after_last 7 t0_0 (by decide +kernel) _ fun j => ?_,
    (dats (F := Ideal) m 0 c).arrAt_eq_of_after_last 8 t0_0 (by decide +kernel) _ fun j => ?_,
    (dats (F := Ideal) m 0 c).arrAt_eq_of_after_last 9 t0_0 (by decide +kernel) _ fun j => ?_,
    (dats (F := Ideal) m 0 c).arrAt_eq_of_after_last 10 t0_0 (by decide +kernel) _ fun j => ?_,
    (dats (F := Ideal) m 0 c).arrAt_eq_of_after_last 11 t0_0 (by decide +kernel) _ fun j => ?_⟩
  all_goals blk_simp
  · rw [after0_4, b0, b1, b2, b3]
    exact congrFun ((wide0_eq _).trans (congrArg (fun v => lanes 0 v) (ld_all (Gr0 m c)))) j
  · rw [after0_5, b0, b1, b2, b3]
    exact congrFun ((wide16_eq _).trans (congrArg (fun v => lanes 16 v) (ld_all (Gr0 m c)))) j
  · rw [after0_6, b0, b1, b2, b3]
    exact congrFun ((line_of 48 (by decide) _ (by decide)).trans (congrArg (line 48) (ld_all (Gr0 m c)))) j
  · rw [after0_7, b0, b1, b2, b3]
    exact congrFun ((line_of 49 (by decide) _ (by decide)).trans (congrArg (line 49) (ld_all (Gr0 m c)))) j
  · rw [after0_8, b0, b1, b2, b3]
    exact congrFun ((line_of 50 (by decide) _ (by decide)).trans (congrArg (line 50) (ld_all (Gr0 m c)))) j
  · rw [after0_9, b0, b1, b2, b3]
    exact congrFun ((line_of 51 (by decide) _ (by decide)).trans (congrArg (line 51) (ld_all (Gr0 m c)))) j
  · rw [after0_10, b0, b1, b2, b3]
    exact congrFun ((table_of _ (by decide)).trans (congrArg (table) (ld_all (Gr0 m c)))) j
  · rw [after0_11, b0, b1, b2, b3]
    exact congrFun ((wide120_eq _).trans (congrArg (fun v => lanes 120 v) (ld_all (Gr0 m c)))) j
/-- The arrays of the weights' steps. -/
theorem arrs1 : (dats (F := Ideal) m 0 c).arrAt 12 cfg0.N = lanes 0 (Dl m c)
    ∧ (dats (F := Ideal) m 0 c).arrAt 13 cfg0.N = lanes 16 (Dl m c)
    ∧ (dats (F := Ideal) m 0 c).arrAt 14 cfg0.N = line 48 (Dl m c)
    ∧ (dats (F := Ideal) m 0 c).arrAt 15 cfg0.N = line 49 (Dl m c)
    ∧ (dats (F := Ideal) m 0 c).arrAt 16 cfg0.N = line 50 (Dl m c)
    ∧ (dats (F := Ideal) m 0 c).arrAt 17 cfg0.N = line 51 (Dl m c)
    ∧ (dats (F := Ideal) m 0 c).arrAt 18 cfg0.N = table (Dl m c)
    ∧ (dats (F := Ideal) m 0 c).arrAt 19 cfg0.N = lanes 120 (Dl m c) := by
  obtain ⟨b0, b1, b2, b3⟩ := blk_all m c t0_0
  obtain ⟨hd, hm, hv⟩ := steps (Gr0 m c) (Wt m c) (M0 m c) (V0 m c)
  refine ⟨(dats (F := Ideal) m 0 c).arrAt_eq_of_after_last 12 t0_0 (by decide +kernel) _ fun j => ?_,
    (dats (F := Ideal) m 0 c).arrAt_eq_of_after_last 13 t0_0 (by decide +kernel) _ fun j => ?_,
    (dats (F := Ideal) m 0 c).arrAt_eq_of_after_last 14 t0_0 (by decide +kernel) _ fun j => ?_,
    (dats (F := Ideal) m 0 c).arrAt_eq_of_after_last 15 t0_0 (by decide +kernel) _ fun j => ?_,
    (dats (F := Ideal) m 0 c).arrAt_eq_of_after_last 16 t0_0 (by decide +kernel) _ fun j => ?_,
    (dats (F := Ideal) m 0 c).arrAt_eq_of_after_last 17 t0_0 (by decide +kernel) _ fun j => ?_,
    (dats (F := Ideal) m 0 c).arrAt_eq_of_after_last 18 t0_0 (by decide +kernel) _ fun j => ?_,
    (dats (F := Ideal) m 0 c).arrAt_eq_of_after_last 19 t0_0 (by decide +kernel) _ fun j => ?_⟩
  all_goals blk_simp
  · rw [after0_12, b0, b1, b2, b3]
    exact congrFun ((wide0_eq _).trans (congrArg (fun v => lanes 0 v) (hd))) j
  · rw [after0_13, b0, b1, b2, b3]
    exact congrFun ((wide16_eq _).trans (congrArg (fun v => lanes 16 v) (hd))) j
  · rw [after0_14, b0, b1, b2, b3]
    exact congrFun ((line_of 48 (by decide) _ (by decide)).trans (congrArg (line 48) (hd))) j
  · rw [after0_15, b0, b1, b2, b3]
    exact congrFun ((line_of 49 (by decide) _ (by decide)).trans (congrArg (line 49) (hd))) j
  · rw [after0_16, b0, b1, b2, b3]
    exact congrFun ((line_of 50 (by decide) _ (by decide)).trans (congrArg (line 50) (hd))) j
  · rw [after0_17, b0, b1, b2, b3]
    exact congrFun ((line_of 51 (by decide) _ (by decide)).trans (congrArg (line 51) (hd))) j
  · rw [after0_18, b0, b1, b2, b3]
    exact congrFun ((table_of _ (by decide)).trans (congrArg (table) (hd))) j
  · rw [after0_19, b0, b1, b2, b3]
    exact congrFun ((wide120_eq _).trans (congrArg (fun v => lanes 120 v) (hd))) j
/-- The arrays of the first moments. -/
theorem arrs2 : (dats (F := Ideal) m 0 c).arrAt 20 cfg0.N = lanes 0 (Mo m c)
    ∧ (dats (F := Ideal) m 0 c).arrAt 21 cfg0.N = lanes 16 (Mo m c)
    ∧ (dats (F := Ideal) m 0 c).arrAt 22 cfg0.N = line 48 (Mo m c)
    ∧ (dats (F := Ideal) m 0 c).arrAt 23 cfg0.N = line 49 (Mo m c)
    ∧ (dats (F := Ideal) m 0 c).arrAt 24 cfg0.N = line 50 (Mo m c)
    ∧ (dats (F := Ideal) m 0 c).arrAt 25 cfg0.N = line 51 (Mo m c)
    ∧ (dats (F := Ideal) m 0 c).arrAt 26 cfg0.N = table (Mo m c)
    ∧ (dats (F := Ideal) m 0 c).arrAt 27 cfg0.N = lanes 120 (Mo m c) := by
  obtain ⟨b0, b1, b2, b3⟩ := blk_all m c t0_0
  obtain ⟨hd, hm, hv⟩ := steps (Gr0 m c) (Wt m c) (M0 m c) (V0 m c)
  refine ⟨(dats (F := Ideal) m 0 c).arrAt_eq_of_after_last 20 t0_0 (by decide +kernel) _ fun j => ?_,
    (dats (F := Ideal) m 0 c).arrAt_eq_of_after_last 21 t0_0 (by decide +kernel) _ fun j => ?_,
    (dats (F := Ideal) m 0 c).arrAt_eq_of_after_last 22 t0_0 (by decide +kernel) _ fun j => ?_,
    (dats (F := Ideal) m 0 c).arrAt_eq_of_after_last 23 t0_0 (by decide +kernel) _ fun j => ?_,
    (dats (F := Ideal) m 0 c).arrAt_eq_of_after_last 24 t0_0 (by decide +kernel) _ fun j => ?_,
    (dats (F := Ideal) m 0 c).arrAt_eq_of_after_last 25 t0_0 (by decide +kernel) _ fun j => ?_,
    (dats (F := Ideal) m 0 c).arrAt_eq_of_after_last 26 t0_0 (by decide +kernel) _ fun j => ?_,
    (dats (F := Ideal) m 0 c).arrAt_eq_of_after_last 27 t0_0 (by decide +kernel) _ fun j => ?_⟩
  all_goals blk_simp
  · rw [after0_20, b0, b1, b2, b3]
    exact congrFun ((wide0_eq _).trans (congrArg (fun v => lanes 0 v) (hm))) j
  · rw [after0_21, b0, b1, b2, b3]
    exact congrFun ((wide16_eq _).trans (congrArg (fun v => lanes 16 v) (hm))) j
  · rw [after0_22, b0, b1, b2, b3]
    exact congrFun ((line_of 48 (by decide) _ (by decide)).trans (congrArg (line 48) (hm))) j
  · rw [after0_23, b0, b1, b2, b3]
    exact congrFun ((line_of 49 (by decide) _ (by decide)).trans (congrArg (line 49) (hm))) j
  · rw [after0_24, b0, b1, b2, b3]
    exact congrFun ((line_of 50 (by decide) _ (by decide)).trans (congrArg (line 50) (hm))) j
  · rw [after0_25, b0, b1, b2, b3]
    exact congrFun ((line_of 51 (by decide) _ (by decide)).trans (congrArg (line 51) (hm))) j
  · rw [after0_26, b0, b1, b2, b3]
    exact congrFun ((table_of _ (by decide)).trans (congrArg (table) (hm))) j
  · rw [after0_27, b0, b1, b2, b3]
    exact congrFun ((wide120_eq _).trans (congrArg (fun v => lanes 120 v) (hm))) j
/-- The arrays of the second moments. -/
theorem arrs3 : (dats (F := Ideal) m 0 c).arrAt 28 cfg0.N = lanes 0 (Va m c)
    ∧ (dats (F := Ideal) m 0 c).arrAt 29 cfg0.N = lanes 16 (Va m c)
    ∧ (dats (F := Ideal) m 0 c).arrAt 30 cfg0.N = line 48 (Va m c)
    ∧ (dats (F := Ideal) m 0 c).arrAt 31 cfg0.N = line 49 (Va m c)
    ∧ (dats (F := Ideal) m 0 c).arrAt 32 cfg0.N = line 50 (Va m c)
    ∧ (dats (F := Ideal) m 0 c).arrAt 33 cfg0.N = line 51 (Va m c)
    ∧ (dats (F := Ideal) m 0 c).arrAt 34 cfg0.N = table (Va m c)
    ∧ (dats (F := Ideal) m 0 c).arrAt 35 cfg0.N = lanes 120 (Va m c) := by
  obtain ⟨b0, b1, b2, b3⟩ := blk_all m c t0_0
  obtain ⟨hd, hm, hv⟩ := steps (Gr0 m c) (Wt m c) (M0 m c) (V0 m c)
  refine ⟨(dats (F := Ideal) m 0 c).arrAt_eq_of_after_last 28 t0_0 (by decide +kernel) _ fun j => ?_,
    (dats (F := Ideal) m 0 c).arrAt_eq_of_after_last 29 t0_0 (by decide +kernel) _ fun j => ?_,
    (dats (F := Ideal) m 0 c).arrAt_eq_of_after_last 30 t0_0 (by decide +kernel) _ fun j => ?_,
    (dats (F := Ideal) m 0 c).arrAt_eq_of_after_last 31 t0_0 (by decide +kernel) _ fun j => ?_,
    (dats (F := Ideal) m 0 c).arrAt_eq_of_after_last 32 t0_0 (by decide +kernel) _ fun j => ?_,
    (dats (F := Ideal) m 0 c).arrAt_eq_of_after_last 33 t0_0 (by decide +kernel) _ fun j => ?_,
    (dats (F := Ideal) m 0 c).arrAt_eq_of_after_last 34 t0_0 (by decide +kernel) _ fun j => ?_,
    (dats (F := Ideal) m 0 c).arrAt_eq_of_after_last 35 t0_0 (by decide +kernel) _ fun j => ?_⟩
  all_goals blk_simp
  · rw [after0_28, b0, b1, b2, b3]
    exact congrFun ((wide0_eq _).trans (congrArg (fun v => lanes 0 v) (hv))) j
  · rw [after0_29, b0, b1, b2, b3]
    exact congrFun ((wide16_eq _).trans (congrArg (fun v => lanes 16 v) (hv))) j
  · rw [after0_30, b0, b1, b2, b3]
    exact congrFun ((line_of 48 (by decide) _ (by decide)).trans (congrArg (line 48) (hv))) j
  · rw [after0_31, b0, b1, b2, b3]
    exact congrFun ((line_of 49 (by decide) _ (by decide)).trans (congrArg (line 49) (hv))) j
  · rw [after0_32, b0, b1, b2, b3]
    exact congrFun ((line_of 50 (by decide) _ (by decide)).trans (congrArg (line 50) (hv))) j
  · rw [after0_33, b0, b1, b2, b3]
    exact congrFun ((line_of 51 (by decide) _ (by decide)).trans (congrArg (line 51) (hv))) j
  · rw [after0_34, b0, b1, b2, b3]
    exact congrFun ((table_of _ (by decide)).trans (congrArg (table) (hv))) j
  · rw [after0_35, b0, b1, b2, b3]
    exact congrFun ((wide120_eq _).trans (congrArg (fun v => lanes 120 v) (hv))) j
/-- The loss's array. -/
theorem arr_loss : (dats (F := Ideal) m 0 c).arrAt 36 cfg0.N = cell (Gr0 m c) := by
  obtain ⟨b0, b1, b2, b3⟩ := blk_all m c t0_0
  refine (dats (F := Ideal) m 0 c).arrAt_eq_of_after_last 36 t0_0 (by decide +kernel) _ fun j => ?_
  blk_simp
  rw [after0_36, b0, b1, b2, b3, cell_of, ld_all]

end Cert.Small

end
-- ==== Proof.Small.lean ====
/- The small parameters' optimiser call: the reference, and the value claim. -/
module

public import proofs.«01_k».proof.Defs
public import proofs.«01_k».proof.Proof.SmallArr
public import Idealize.ShloMosaic.Lib.StableHlo.RunRead
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run

@[expose] public section

set_option maxRecDepth 16384
set_option maxHeartbeats 1000000

noncomputable section

namespace Cert.Small

open Idealize.ShloMosaic Idealize.ShloMosaic.TcCoe
open Idealize.SL.Sem
open Cert.Proj (mom var adam)

/-- The two launches are the same. -/
theorem launch_eq (m : (ℓ : Loc Kernel10.nD Kernel10.τ Kernel10.sig) → Buf (Elt Bits) ℓ) (ρ : Dev Kernel10.nD → PrngReg) :
    (θ_run (Kernel10.defs (F := Bits)) (onTc (τ := Kernel10.τ) (Kernel10.main (F := Bits))) ⟨m, fun _ => 0, ρ⟩)
      = (θ_run (Kernel10Ideal.defs (F := Bits)) (onTc (τ := Kernel10Ideal.τ) (Kernel10Ideal.main (F := Bits))) ⟨m, fun _ => 0, ρ⟩) := by
  sl_kernel_rfl
/-- The kernel runs and leaves its arguments. -/
theorem frame_k : @quiescent_Kernel10 Kernel10.Gen.facts := fun m ρ _ => by
  rw [launch_eq]
  exact frame (F := Bits) m ρ
/-- The idealized kernel runs and leaves its arguments. -/
theorem frame_ki : @quiescent_Kernel10Ideal Kernel10Ideal.Gen.facts := fun m ρ _ => frame (F := Ideal) m ρ

/-- The reference runs and leaves its arguments. -/
theorem frame_ref : @quiescent_Reference10Ideal Reference10Ideal.Gen.facts := fun m ρ _ =>
  (θ_run Reference10Ideal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Reference10Ideal.Value.run (F := Ideal) m ρ)

section RefSide

open Cert.Reference10Ideal Cert.Reference10Ideal.Gen

/-- The reference's lanes of sixteen rows. -/
theorem lanes16_ref (n : ℕ) (hn : n ≤ 128) (v : FVec Ideal S144x128 .f32) (hs : S144x128.Slices ![n, 0] S16x128) (hc : S16x128.ShapeCasts S1x2048) :
    shapeCast S1x2048 (extractStridedSlice S16x128 ![n, 0] v hs) hc = lanes n v := by
  funext y
  idx_vars y
  pointwise []
  refine congrArg v (Shape.idx_ext₂ ?_ ?_)
  · show n + y1.val / 128 = (n + y1.val / 128) % 144
    omega
  · rfl
/-- The reference's lanes of thirty-two rows. -/
theorem lanes32_ref (v : FVec Ideal S144x128 .f32) (hs : S144x128.Slices ![16, 0] S32x128) (hc : S32x128.ShapeCasts S1x4096) :
    shapeCast S1x4096 (extractStridedSlice S32x128 ![16, 0] v hs) hc = lanes 16 v := by
  funext y
  idx_vars y
  pointwise []
  refine congrArg v (Shape.idx_ext₂ ?_ ?_)
  · show 16 + y1.val / 128 = (16 + y1.val / 128) % 144
    omega
  · rfl
/-- The reference's row. -/
theorem line_ref (n : ℕ) (hn : n < 144) (v : FVec Ideal S144x128 .f32) (hs : S144x128.Slices ![n, 0] S1x128) :
    extractStridedSlice S1x128 ![n, 0] v hs = line ⟨n, hn⟩ v := by
  funext y
  idx_vars y
  refine congrArg v (Shape.idx_ext₂ ?_ ?_)
  · show n + y0.val = n
    omega
  · show 0 + y1.val = y1.val
    omega
/-- The reference's table. -/
theorem table_ref (v : FVec Ideal S144x128 .f32) (hs : S144x128.Slices ![56, 0] S64x128) :
    extractStridedSlice S64x128 ![56, 0] v hs = table v := by
  funext y
  idx_vars y
  exact congrArg v (Shape.idx_ext₂ rfl (Nat.zero_add _))
/-- The reference's cell. -/
theorem cell_ref (v : FVec Ideal S144x128 .f32) (hs : S144x128.Slices ![136, 0] S1x1) :
    extractStridedSlice S1x1 ![136, 0] v hs = cell v := by
  funext y
  idx_vars y
  refine congrArg v (Shape.idx_ext₂ ?_ ?_)
  · show 136 + y0.val = 136
    omega
  · show 0 + y1.val = 0
    omega

/-- A number at every place. -/
abbrev all (b : BitVec 32) : FVec Ideal S144x128 .f32 := broadcastInDim S144x128 ![] bcast_S_S144x128 (constant S_ .f32 b)
/-- The reference's first moments. -/
abbrev refM (g a : FVec Ideal S144x128 .f32) : FVec Ideal S144x128 .f32 := addf (mulf (all 0x3F666666#32) a) (mulf (all 0x3DCCCCCD#32) g)
/-- The reference's second moments. -/
abbrev refV (g b : FVec Ideal S144x128 .f32) : FVec Ideal S144x128 .f32 :=
  addf (mulf (all 0x3F7FBE77#32) b) (mulf (all 0x3A83126F#32) (mulf g g))
/-- The reference's steps of the weights. -/
abbrev refD (g w a b : FVec Ideal S144x128 .f32) : FVec Ideal S144x128 .f32 :=
  mulf (all 0xBA83126F#32) (addf (Host.divf (Host.divf (refM g a) (all 0x3F26BD02#32))
    (addf (Host.sqrt (Host.divf (refV g b) (all 0x3C231ACC#32))) (all 0x322BCC77#32))) (mulf (all 0x3C23D70A#32) w))
/-- The reference's steps, place by place. -/
theorem ref_steps (g w a b : FVec Ideal S144x128 .f32) :
    refD g w a b = (fun y => adam (mom (g y) (a y)) (var (g y) (b y)) (w y))
      ∧ refM g a = (fun y => mom (g y) (a y)) ∧ refV g b = (fun y => var (g y) (b y)) := by
  refine ⟨?_, ?_, ?_⟩
  all_goals
    funext y
    rfl

end RefSide

/-- The value claim: the call and the reference leave the same gradients, steps, moments and loss. -/
theorem value : @algebraic_Kernel10Ideal_Reference10Ideal Kernel10Ideal.Gen.facts Reference10Ideal.Gen.facts := by
  intro m g m' g' _ he
  refine ⟨fun c => lanes 0 (Gr0 m c), fun c => lanes 16 (Gr0 m c), fun c => line 48 (Gr0 m c), fun c => line 49 (Gr0 m c), fun c => line 50 (Gr0 m c), fun c => line 51 (Gr0 m c), fun c => table (Gr0 m c), fun c => lanes 120 (Gr0 m c),
    fun c => lanes 0 (Dl m c), fun c => lanes 16 (Dl m c), fun c => line 48 (Dl m c), fun c => line 49 (Dl m c), fun c => line 50 (Dl m c), fun c => line 51 (Dl m c), fun c => table (Dl m c), fun c => lanes 120 (Dl m c),
    fun c => lanes 0 (Mo m c), fun c => lanes 16 (Mo m c), fun c => line 48 (Mo m c), fun c => line 49 (Mo m c), fun c => line 50 (Mo m c), fun c => line 51 (Mo m c), fun c => table (Mo m c), fun c => lanes 120 (Mo m c),
    fun c => lanes 0 (Va m c), fun c => lanes 16 (Va m c), fun c => line 48 (Va m c), fun c => line 49 (Va m c), fun c => line 50 (Va m c), fun c => line 51 (Va m c), fun c => table (Va m c), fun c => lanes 120 (Va m c), fun c => cell (Gr0 m c), ?_, ?_⟩
  · refine (θ_run _ _ _).mono (fun r h c => ?_) (θ_run_and (run_main (F := Ideal) m g) (unchanged (F := Ideal) m g))
    have p := (h.1 c).1
    obtain ⟨a4, a5, a6, a7, a8, a9, a10, a11⟩ := arrs0 m c
    obtain ⟨a12, a13, a14, a15, a16, a17, a18, a19⟩ := arrs1 m c
    obtain ⟨a20, a21, a22, a23, a24, a25, a26, a27⟩ := arrs2 m c
    obtain ⟨a28, a29, a30, a31, a32, a33, a34, a35⟩ := arrs3 m c
    exact ⟨(p 4).trans a4, (p 5).trans a5, (p 6).trans a6, (p 7).trans a7, (p 8).trans a8, (p 9).trans a9, (p 10).trans a10, (p 11).trans a11,
      (p 12).trans a12, (p 13).trans a13, (p 14).trans a14, (p 15).trans a15, (p 16).trans a16, (p 17).trans a17, (p 18).trans a18, (p 19).trans a19,
      (p 20).trans a20, (p 21).trans a21, (p 22).trans a22, (p 23).trans a23, (p 24).trans a24, (p 25).trans a25, (p 26).trans a26, (p 27).trans a27,
      (p 28).trans a28, (p 29).trans a29, (p 30).trans a30, (p 31).trans a31, (p 32).trans a32, (p 33).trans a33, (p 34).trans a34, (p 35).trans a35,
      (p 36).trans (arr_loss m c), h.2 c⟩
  · refine (θ_run _ _ _).mono (fun r h c => ?_) (Reference10Ideal.Value.run m' g')
    obtain ⟨h0, h1, h2, h3, h4, h5, h6, h7, h8, h9, h10, h11, h12, h13, h14, h15, h16, h17, h18, h19, h20, h21, h22, h23, h24, h25, h26, h27, h28, h29, h30, h31, h32, hk⟩ := h c
    obtain ⟨e0, e1, e2, e3⟩ := he c
    rw [e0] at h0 h1 h2 h3 h4 h5 h6 h7 h8 h9 h10 h11 h12 h13 h14 h15 h16 h17 h18 h19 h20 h21 h22 h23 h24 h25 h26 h27 h28 h29 h30 h31 h32
    rw [e1] at h8 h9 h10 h11 h12 h13 h14 h15
    rw [e2] at h8 h9 h10 h11 h12 h13 h14 h15 h16 h17 h18 h19 h20 h21 h22 h23
    rw [e3] at h8 h9 h10 h11 h12 h13 h14 h15 h24 h25 h26 h27 h28 h29 h30 h31
    obtain ⟨hd, hm, hv⟩ := ref_steps (Gr0 m c) (Wt m c) (M0 m c) (V0 m c)
    exact ⟨h0.trans (lanes16_ref 0 (by decide) _ _ _),
      h1.trans (lanes32_ref _ _ _),
      h2.trans (line_ref 48 (by decide) _ _),
      h3.trans (line_ref 49 (by decide) _ _),
      h4.trans (line_ref 50 (by decide) _ _),
      h5.trans (line_ref 51 (by decide) _ _),
      h6.trans (table_ref _ _),
      h7.trans (lanes16_ref 120 (by decide) _ _ _),
      (h8.trans (lanes16_ref 0 (by decide) _ _ _)).trans (congrArg (fun v => lanes 0 v) hd),
      (h9.trans (lanes32_ref _ _ _)).trans (congrArg (fun v => lanes 16 v) hd),
      (h10.trans (line_ref 48 (by decide) _ _)).trans (congrArg (fun v => line 48 v) hd),
      (h11.trans (line_ref 49 (by decide) _ _)).trans (congrArg (fun v => line 49 v) hd),
      (h12.trans (line_ref 50 (by decide) _ _)).trans (congrArg (fun v => line 50 v) hd),
      (h13.trans (line_ref 51 (by decide) _ _)).trans (congrArg (fun v => line 51 v) hd),
      (h14.trans (table_ref _ _)).trans (congrArg (fun v => table v) hd),
      (h15.trans (lanes16_ref 120 (by decide) _ _ _)).trans (congrArg (fun v => lanes 120 v) hd),
      (h16.trans (lanes16_ref 0 (by decide) _ _ _)).trans (congrArg (fun v => lanes 0 v) hm),
      (h17.trans (lanes32_ref _ _ _)).trans (congrArg (fun v => lanes 16 v) hm),
      (h18.trans (line_ref 48 (by decide) _ _)).trans (congrArg (fun v => line 48 v) hm),
      (h19.trans (line_ref 49 (by decide) _ _)).trans (congrArg (fun v => line 49 v) hm),
      (h20.trans (line_ref 50 (by decide) _ _)).trans (congrArg (fun v => line 50 v) hm),
      (h21.trans (line_ref 51 (by decide) _ _)).trans (congrArg (fun v => line 51 v) hm),
      (h22.trans (table_ref _ _)).trans (congrArg (fun v => table v) hm),
      (h23.trans (lanes16_ref 120 (by decide) _ _ _)).trans (congrArg (fun v => lanes 120 v) hm),
      (h24.trans (lanes16_ref 0 (by decide) _ _ _)).trans (congrArg (fun v => lanes 0 v) hv),
      (h25.trans (lanes32_ref _ _ _)).trans (congrArg (fun v => lanes 16 v) hv),
      (h26.trans (line_ref 48 (by decide) _ _)).trans (congrArg (fun v => line 48 v) hv),
      (h27.trans (line_ref 49 (by decide) _ _)).trans (congrArg (fun v => line 49 v) hv),
      (h28.trans (line_ref 50 (by decide) _ _)).trans (congrArg (fun v => line 50 v) hv),
      (h29.trans (line_ref 51 (by decide) _ _)).trans (congrArg (fun v => line 51 v) hv),
      (h30.trans (table_ref _ _)).trans (congrArg (fun v => table v) hv),
      (h31.trans (lanes16_ref 120 (by decide) _ _ _)).trans (congrArg (fun v => lanes 120 v) hv),
      h32.trans (cell_ref _ _), hk⟩

end Cert.Small

end
-- ==== Proof.NormFfn.lean ====
/- The feed-forward norm's backward call. -/
module

public import proofs.«01_k».proof.Defs
public import proofs.«01_k».proof.Proof.Norm
public import Idealize.ShloMosaic.Lib.StableHlo.RunRead
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384
set_option maxHeartbeats 1000000

noncomputable section

namespace Cert.NormFfn

open Idealize.ShloMosaic Idealize.ShloMosaic.TcCoe Cert.Kernel11Ideal Cert.Kernel11Ideal.Gen
open Idealize.SL.Sem
open Cert.Norm (Dx Dr part Rt Gn sum_blocks pay3 pay4 pay5)

section KernelSide

variable (m : (ℓ : Loc nD τ sig) → Buf (Elt Ideal) ℓ) (c : Dev nD)

/-- The stored blocks are the mixer norm's. -/
theorem pays (r : Vec Ideal S256x1 .f32) (x d : Vec Ideal S256x2048 .f32) (g : Vec Ideal S1x2048 .f32) (s : Vec Ideal S256x2048 .f32) (l : Vec Ideal S1x2048 .f32) :
    k0_pay3 (F := Ideal) r x d g s = Kernel6Ideal.Gen.k0_pay3 (F := Ideal) r x d g s
      ∧ (k0_pay4 (F := Ideal) r x d g s : S256x2048.Idx → EReal) = k0_pay3 (F := Ideal) r x d g s
      ∧ k0_pay5 (F := Ideal) r x d = Kernel6Ideal.Gen.k0_pay4 (F := Ideal) r x d
      ∧ k0_pay6 (F := Ideal) r x d l = Kernel6Ideal.Gen.k0_pay5 (F := Ideal) r x d l := ⟨rfl, rfl, rfl, rfl⟩

/-- A row of a grid point's block. -/
def row (t : Fin cfg0.N) (i : Fin 256) : Fin 2048 := ⟨256 * t.val + i.val, by have h : t.val < 8 := t.isLt; omega⟩

/-- Where the blocks lie. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The blocks which a grid point reads. -/
theorem blks (t : Fin cfg0.N) (i : Fin 256) (k : Fin 2048) : iblk m c 0 t (ix2 i k) = V m c main_arg0 (ix2 (row t i) k)
    ∧ iblk m c 1 t (ix2 i k) = V m c main_arg1 (ix2 (row t i) k) ∧ iblk m c 2 t (ix2 i 0) = V m c main_v7 (ix2 (row t i) 0)
    ∧ iblk m c 3 t (ix2 0 k) = V m c main_arg2 (ix2 0 k) ∧ iblk m c 4 t (ix2 i k) = V m c main_arg3 (ix2 (row t i) k) := by
  unfold iblk
  refine ⟨?_, ?_, ?_, ?_, ?_⟩
  all_goals blk_ext [idx t, row]
/-- Where the blocks lie which it writes. -/
theorem embs (t : Fin cfg0.N) (i : Fin 256) (k : Fin 2048) : ((cfg0.win 5).blk t).view.emb (ix2 i k) = ix2 (row t i) k
    ∧ ((cfg0.win 6).blk t).view.emb (ix2 i k) = ix2 (row t i) k ∧ ((cfg0.win 7).blk t).view.emb (ix2 0 k) = ix2 0 k := by
  refine ⟨?_, ?_, ?_⟩
  all_goals blk_ext [idx t, row]

/-- The call's input's gradient. -/
def X : S2048x2048.Idx → EReal := Dx (V m c main_v7) (V m c main_arg1) (V m c main_arg0) (V m c main_arg2) (V m c main_arg3)
/-- The call's gain's gradient at one row. -/
def R : Fin 2048 → Fin 2048 → EReal := Dr (V m c main_v7) (V m c main_arg1) (V m c main_arg0)

/-- The input's gradient's block at a grid point. -/
theorem dx_at (t : Fin cfg0.N) (i : Fin 256) (k : Fin 2048) :
    k0_pay3 (F := Ideal) (iblk m c 2 t) (iblk m c 1 t) (iblk m c 0 t) (iblk m c 3 t) (iblk m c 4 t) (ix2 i k) = X m c (ix2 (row t i) k) := by
  rw [(pays _ _ _ _ _ (fun _ => 0)).1]
  refine (pay3 _ _ _ _ _ i k).trans ?_
  simp only [(blks m c t _ _).1, (blks m c t _ k).2.1, (blks m c t i _).2.1, (blks m c t i k).2.2.1, (blks m c t i _).2.2.2.1, (blks m c t _ _).2.2.2.2]
  rfl

/-- The block's part of the gain's gradient at a grid point. -/
theorem part_at (t : Fin cfg0.N) (k : Fin 2048) :
    k0_pay5 (F := Ideal) (iblk m c 2 t) (iblk m c 1 t) (iblk m c 0 t) (ix2 0 k) = part (R m c) k t.val := by
  refine (pay4 _ _ _ k).trans (Finset.sum_congr rfl fun i _ => ?_)
  have hN : t.val < 8 := t.isLt
  have hr : (⟨(256 * t.val + i.val) % 2048, by omega⟩ : Fin 2048) = row t i := Fin.ext (by simp only [row]; omega)
  obtain ⟨b0, b1, b2, -, -⟩ := blks m c t i k
  rw [b0, b1, b2, hr]
  rfl

/-- The input's gradient's block after a grid point, and its copy. -/
theorem out_at (t : Fin cfg0.N) (i : Fin 256) (k : Fin 2048) : (outsAt0 m c t.val t.isLt).1 (ix2 i k) = X m c (ix2 (row t i) k)
    ∧ (outsAt0 m c t.val t.isLt).2.1 (ix2 i k) = X m c (ix2 (row t i) k) := by
  by_cases h : t.val % 8 = 0
  · have h1 : ¬1 ≤ t.val := by have hN : t.val < 8 := t.isLt; omega
    rw [outsAt0_A m c t h h1]
    dsimp only
    constructor
    all_goals
      frame_out
      exact dx_at m c t i k
  · have h1 : 1 ≤ t.val := by omega
    rw [outsAt0_B m c t h h1]
    dsimp only
    constructor
    all_goals
      frame_out
      exact dx_at m c t i k

/-- The input's gradient's array. -/
theorem arr5 : (dats (F := Ideal) m 0 c).arrAt 5 cfg0.N = X m c := by
  refine (dats (F := Ideal) m 0 c).arrAt_eq_of_covers 5 _ (by decide +kernel) fun t hf j => ?_
  blk_simp
  rw [after0_5]
  idx_vars j
  exact (out_at m c t j0 j1).1.trans (congrArg (X m c) (embs t j0 j1).1).symm

/-- Its copy's array. -/
theorem arr6 : (dats (F := Ideal) m 0 c).arrAt 6 cfg0.N = X m c := by
  refine (dats (F := Ideal) m 0 c).arrAt_eq_of_covers 6 _ (by decide +kernel) fun t hf j => ?_
  blk_simp
  rw [after0_6]
  idx_vars j
  exact (out_at m c t j0 j1).2.trans (congrArg (X m c) (embs t j0 j1).2.1).symm

/-- The gain's gradient after a grid point. -/
theorem gain_at (t : Fin cfg0.N) (k : Fin 2048) :
    (outsAt0 m c t.val t.isLt).2.2 (ix2 0 k) = 0 + ∑ n ∈ Finset.range (t.val % 8 + 1), part (R m c) k (8 * (t.val / 8) + n) :=
  Pipeline.eq_sum_of_reset_step (fun n h => (outsAt0 m c n h).2.2 (ix2 0 k) : (n : ℕ) → n < cfg0.N → EReal) 8 0 (part (R m c) k)
    (fun t h => by
      have h1 : ¬1 ≤ t.val := by have hN : t.val < 8 := t.isLt; omega
      rw [zero_add, outsAt0_A m c t h h1]
      dsimp only
      frame_out
      exact part_at m c t k)
    (fun t h => by
      have h1 : 1 ≤ t.val := by omega
      rw [outsAt0_B m c t h h1]
      dsimp only
      frame_out
      refine (pay5 _ _ _ _ k).trans ?_
      rw [← part_at]
      rfl)
    t

/-- The gain's gradient's array. -/
theorem arr7 : (dats (F := Ideal) m 0 c).arrAt 7 cfg0.N = fun y => ∑ n ∈ Finset.range 8, part (R m c) (y 1) n := by
  refine (dats (F := Ideal) m 0 c).arrAt_eq_of_covers 7 _ (by decide +kernel) fun t hf j => ?_
  blk_simp
  rw [after0_7]
  idx_vars j
  obtain rfl : j0 = 0 := Fin.ext (by omega)
  have h7 := (flush0_7 t).mp hf
  have hN : t.val < 8 := t.isLt
  have h0 : t.val / 8 = 0 := by omega
  refine (gain_at m c t j1).trans ?_
  rw [h7, h0, zero_add, (embs t 0 j1).2.2]
  simp only [Nat.mul_zero, Nat.zero_add]
  rfl

/-- The gradient of the normalised input. -/
def dn : S2048x2048.Idx → EReal := m ((c.tc : Thread nD τ).loc main_arg0)
/-- The input. -/
def xs : S2048x2048.Idx → EReal := m ((c.tc : Thread nD τ).loc main_arg1)
/-- The gain. -/
def gs : S1x2048.Idx → EReal := m ((c.tc : Thread nD τ).loc main_arg2)
/-- The residual's gradient. -/
def rs : S2048x2048.Idx → EReal := m ((c.tc : Thread nD τ).loc main_arg3)

/-- The call finds the reciprocal roots. -/
theorem V_r : V m c main_v7 = Rt (xs m c) := by
  dsimp only [V]
  after_reads_simp
  funext y
  idx_vars y
  obtain rfl : y1 = 0 := Fin.ext (by omega)
  exact Norm.root_host (xs m c) y0

/-- The call's input's gradient from the arguments. -/
theorem X_eq : X m c = Dx (Rt (xs m c)) (xs m c) (dn m c) (gs m c) (rs m c) := by
  unfold X
  rw [V_r, V_main_arg0, V_main_arg1, V_main_arg2, V_main_arg3]
  rfl

end KernelSide

section Reference

open Cert.Reference11Ideal.Read

variable (d x : FVec Ideal S2048x2048 .f32) (g : FVec Ideal S1x2048 .f32) (s : FVec Ideal S2048x2048 .f32)

/-- The reference's input's gradient. -/
theorem ref_x : val_main_v37 (F := Ideal) d x g s = Dx (Rt x) x d g s :=
  (by sl_kernel_rfl : val_main_v37 (F := Ideal) d x g s = Reference6Ideal.Read.val_main_v37 (F := Ideal) d x g s).trans (Norm.ref_x d x g s)
/-- Its copy. -/
theorem ref_copy : (val_main_v39 (F := Ideal) d x g s : S2048x2048.Idx → EReal) = Dx (Rt x) x d g s :=
  (funext fun y => val_main_v39_apply (F := Ideal) d x g s y : _).trans (ref_x d x g s)
/-- The reference's gain's gradient. -/
theorem ref_gain : val_main_v38 (F := Ideal) d x = Gn x d :=
  (by sl_kernel_rfl : val_main_v38 (F := Ideal) d x = Reference6Ideal.Read.val_main_v38 (F := Ideal) d x).trans (Norm.ref_gain d x)

end Reference

/-- The kernel runs and leaves its arguments. -/
theorem frame_k : @quiescent_Kernel11 Kernel11.Gen.facts := fun m ρ _ => Kernel11.Gen.frame m ρ
/-- The idealized kernel runs and leaves its arguments. -/
theorem frame_ki : @quiescent_Kernel11Ideal Kernel11Ideal.Gen.facts := fun m ρ _ => Kernel11Ideal.Gen.frame m ρ
/-- The reference runs and leaves its arguments. -/
theorem frame_ref : @quiescent_Reference11Ideal Reference11Ideal.Gen.facts := fun m ρ _ =>
  (θ_run Reference11Ideal.defs _ _).mono (fun r h => ⟨fun c => (h c).2.2.2, sem_eq_zero_of_no_sems (by decide) r.2⟩)
    (Reference11Ideal.Value.run (F := Ideal) m ρ)

/-- The value claim: the call and the reference leave the same gradients. -/
theorem value : @algebraic_Kernel11Ideal_Reference11Ideal Kernel11Ideal.Gen.facts Reference11Ideal.Gen.facts := by
  intro m g m' g' _ he
  refine ⟨fun c => Dx (Rt (xs m c)) (xs m c) (dn m c) (gs m c) (rs m c), fun c => Dx (Rt (xs m c)) (xs m c) (dn m c) (gs m c) (rs m c),
    fun c => Gn (xs m c) (dn m c), ?_, ?_⟩
  · refine (θ_run _ _ _).mono (fun r h c => ?_) (Kernel11Ideal.Value.run_blocks (F := Ideal) m g)
    obtain ⟨h5, h6, h7, hk⟩ := h c
    refine ⟨(h5.trans (arr5 m c)).trans (X_eq m c), (h6.trans (arr6 m c)).trans (X_eq m c), h7.trans ?_, hk⟩
    rw [arr7]
    unfold R
    rw [V_r, V_main_arg0, V_main_arg1]
    exact funext fun y => sum_blocks _ (y 1)
  · refine (θ_run _ _ _).mono (fun r h c => ?_) (Reference11Ideal.Value.run m' g')
    obtain ⟨h0, h1, h2, hk⟩ := h c
    obtain ⟨e0, e1, e2, e3⟩ := he c
    refine ⟨((h0.trans (Reference11Ideal.Read.val_main_v37_eq _ _)).trans (ref_x _ _ _ _)).trans ?_,
      ((h1.trans (Reference11Ideal.Read.val_main_v39_eq _ _)).trans (ref_copy _ _ _ _)).trans ?_,
      ((h2.trans (Reference11Ideal.Read.val_main_v38_eq _ _)).trans (ref_gain _ _)).trans ?_, hk⟩
    · rw [e0, e1, e2, e3]; rfl
    · rw [e0, e1, e2, e3]; rfl
    · rw [e0, e1]; rfl

end Cert.NormFfn

end
-- ==== Proof.Branch.lean ====
/- The gradient of a branch's projection with respect to its input: the blocks, the reference, and the value claim. -/
module

public import proofs.«01_k».proof.Defs
public import Idealize.ShloMosaic.Lib.Pointwise
public import Idealize.ShloMosaic.Lib.Pipeline.ValueKit
public import Idealize.ShloMosaic.Lib.StableHlo.RunRead
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384
set_option maxHeartbeats 1000000

noncomputable section

namespace Cert.Branch

open Idealize.ShloMosaic Idealize.ShloMosaic.TcCoe Idealize.SL.Sem

section Blocks

open Cert.Kernel12Ideal Cert.Kernel12Ideal.Gen

/-- A product over one piece. -/
def part (x : Vec Ideal S1024x256 .bf16) (w : Vec Ideal S1x512x256 .bf16) (i : Fin 1024) (k : Fin 512) : EReal :=
  ∑ e : Fin 256, x (ix2 i e) * w (ix3 0 k e)

/-- The first four products. -/
theorem pay2 (x0 : Vec Ideal S1024x256 .bf16) (w0 : Vec Ideal S1x512x256 .bf16) (x1 : Vec Ideal S1024x256 .bf16) (w1 : Vec Ideal S1x512x256 .bf16)
    (x2 : Vec Ideal S1024x256 .bf16) (w2 : Vec Ideal S1x512x256 .bf16) (x3 : Vec Ideal S1024x256 .bf16) (w3 : Vec Ideal S1x512x256 .bf16)
    (i : Fin 1024) (k : Fin 512) :
    k0_pay2 (F := Ideal) x0 w0 x1 w1 x2 w2 x3 w3 (ix2 i k)
      = ((part x0 w0 i k + part x1 w1 i k) + part x2 w2 i k) + part x3 w3 i k := by
  unfold part
  pointwise [k0_pay2]

/-- A product by itself. -/
theorem pay3 (x : Vec Ideal S1024x256 .bf16) (w : Vec Ideal S1x512x256 .bf16) (i : Fin 1024) (k : Fin 512) :
    k0_pay3 (F := Ideal) x w (ix2 i k) = part x w i k := by
  unfold part
  pointwise [k0_pay3]

/-- The last three products. -/
theorem pay1 (a b : FVec Ideal S1024x512 .f32) (x0 : Vec Ideal S1024x256 .bf16) (w0 : Vec Ideal S1x512x256 .bf16)
    (x1 : Vec Ideal S1024x256 .bf16) (w1 : Vec Ideal S1x512x256 .bf16) (x2 : Vec Ideal S1024x256 .bf16) (w2 : Vec Ideal S1x512x256 .bf16)
    (i : Fin 1024) (k : Fin 512) :
    k0_pay1 (F := Ideal) a b x0 w0 x1 w1 x2 w2 (ix2 i k)
      = (((a (ix2 i k) + b (ix2 i k)) + part x0 w0 i k) + part x1 w1 i k) + part x2 w2 i k := by
  unfold part
  pointwise [k0_pay1]

variable (m : (ℓ : Loc nD τ sig) → Buf (Elt Ideal) ℓ) (c : Dev nD)

/-- A row of the product's block. -/
def row (t : Fin cfg0.N) (i : Fin 1024) : Fin 2048 := ⟨1024 * t.val + i.val, by have h : t.val < 2 := t.isLt; omega⟩
/-- An inner coordinate, from its piece and its place there. -/
def inner (q : Fin 8) (e : Fin 256) : Fin 2048 := ⟨256 * q.val + e.val, by omega⟩

/-- Where the blocks lie. -/
theorem idx : ∀ t : Fin cfg0.N, win0_0.index t = ![t.val, 0] ∧ win0_1.index t = ![0, 0, 0] ∧ win0_2.index t = ![t.val, 0] :=
  (by decide +kernel : ∀ t : Fin grid0.N, _)

/-- The gradient's block. -/
theorem blk_x (t : Fin cfg0.N) (i : Fin 1024) (k : Fin 2048) : iblk m c 0 t (ix2 i k) = V m c main_v3 (ix2 (row t i) k) := by
  unfold iblk
  blk_ext [idx t, row]
/-- The weight's block. -/
theorem blk_w (t : Fin cfg0.N) (q : Fin 8) (k : Fin 512) (e : Fin 256) : iblk m c 1 t (ix3 q k e) = V m c main_v2 (ix3 q k e) := by
  unfold iblk
  blk_ext [idx t]
/-- Where the product's block lies. -/
theorem emb (t : Fin cfg0.N) (i : Fin 1024) (k : Fin 512) : ((cfg0.win 2).blk t).view.emb (ix2 i k) = ix2 (row t i) k := by
  blk_ext [idx t, row]

/-- A piece of the gradient's block. -/
theorem ld_x (x : Vec Ideal S1024x2048 .bf16) (q : Fin 8) (n : ℕ) (hn : n = 256 * q.val) (h) (i : Fin 1024) (e : Fin 256) :
    View.ld x (Rect.unit (s := S1024x2048) ![0, n] S1024x256.size h) (ix2 i e) = x (ix2 i (inner q e)) := by
  subst hn
  exact congrArg x (Shape.idx_ext₂ (by simp [Rect.unit]) (by simp [Rect.unit, inner]))
/-- A piece of the weight's block. -/
theorem ld_w (w : Vec Ideal S8x512x256 .bf16) (q : Fin 8) (n : ℕ) (hn : n = q.val) (h) (k : Fin 512) (e : Fin 256) :
    View.ld w (Rect.unit (s := S8x512x256) ![n, 0, 0] S1x512x256.size h) (ix3 0 k e) = w (ix3 q k e) := by
  subst hn
  exact congrArg w (funext fun a => Fin.ext (by match a with | ⟨0, _⟩ => simp [Rect.unit] | ⟨1, _⟩ => simp [Rect.unit] | ⟨2, _⟩ => simp [Rect.unit]))

/-- The product over a piece, from the whole arrays. -/
def term (x : S2048x2048.Idx → EReal) (w : S8x512x256.Idx → EReal) (I : Fin 2048) (k : Fin 512) (q : Fin 8) : EReal :=
  ∑ e : Fin 256, x (ix2 I (inner q e)) * w (ix3 q k e)
/-- The product over the pieces. -/
def Sum (x : S2048x2048.Idx → EReal) (w : S8x512x256.Idx → EReal) : S2048x512.Idx → EReal :=
  fun y => ∑ q : Fin 8, term x w (y 0) (y 1) q

/-- A product over a piece, from the whole arrays. -/
theorem part_at (x : Vec Ideal S1024x2048 .bf16) (w : Vec Ideal S8x512x256 .bf16) (X : S2048x2048.Idx → EReal) (W : S8x512x256.Idx → EReal)
    (i : Fin 1024) (k : Fin 512) (I : Fin 2048) (hx : ∀ l, x (ix2 i l) = X (ix2 I l)) (hw : ∀ q e, w (ix3 q k e) = W (ix3 q k e))
    (q : Fin 8) (n n' : ℕ) (hn : n = 256 * q.val) (hn' : n' = q.val) (h h') :
    part (View.ld x (Rect.unit (s := S1024x2048) ![0, n] S1024x256.size h))
        (View.ld w (Rect.unit (s := S8x512x256) ![n', 0, 0] S1x512x256.size h')) i k = term X W I k q :=
  Finset.sum_congr rfl fun e _ => congrArg₂ (fun a b : EReal => a * b) ((ld_x x q n hn h i e).trans (hx (inner q e)))
    ((ld_w w q n' hn' h' k e).trans (hw q e))

/-- The product's block at a grid point. -/
theorem out2 (t : Fin cfg0.N) (i : Fin 1024) (k : Fin 512) :
    out0_2 (F := Ideal) (iblk m c 0 t) (iblk m c 1 t) (ix2 i k) = Sum (V m c main_v3) (V m c main_v2) (ix2 (row t i) k) := by
  unfold out0_2
  frame_out
  have P := part_at (iblk m c 0 t) (iblk m c 1 t) (V m c main_v3) (V m c main_v2) i k (row t i) (blk_x m c t i) (fun q e => blk_w m c t q k e)
  rw [pay1, pay2, pay3, P 0 0 0 rfl rfl, P 1 256 1 rfl rfl, P 2 512 2 rfl rfl, P 3 768 3 rfl rfl, P 4 1024 4 rfl rfl, P 5 1280 5 rfl rfl,
    P 6 1536 6 rfl rfl, P 7 1792 7 rfl rfl]
  exact (Fin.sum_univ_eight (term (V m c main_v3) (V m c main_v2) (row t i) k)).symm

/-- The product's array. -/
theorem arr : (dats (F := Ideal) m 0 c).arrAt 2 cfg0.N = Sum (V m c main_v3) (V m c main_v2) := by
  refine (dats (F := Ideal) m 0 c).arrAt_eq_of_covers 2 _ (by decide +kernel) fun t hf j => ?_
  blk_simp
  rw [after0_2]
  idx_vars j
  refine (out2 m c t j0 j1).trans ?_
  exact (congrArg (Sum (V m c main_v3) (V m c main_v2)) (emb t j0 j1)).symm

/-- The gradient by the branch's projection. -/
def dy : S2048x2048.Idx → EReal := m ((c.tc : Thread nD τ).loc main_arg0)
/-- The projection's matrix. -/
def wp : S512x2048.Idx → EReal := m ((c.tc : Thread nD τ).loc main_arg1)

/-- The matrix by pieces of its columns. -/
def pieces (w : FVec Ideal S512x2048 .f32) : FVec Ideal S8x512x256 .f32 :=
  transpose S8x512x256 [1, 0, 2] (shapeCast S512x8x256 w shapeCasts_S512x2048_S512x8x256) transposes_S512x8x256_S8x512x256_1_0_2

/-- The pieces at coordinates. -/
theorem pieces_at (w : FVec Ideal S512x2048 .f32) (q : Fin 8) (k : Fin 512) (e : Fin 256) : pieces w (ix3 q k e) = w (ix2 k (inner q e)) := by
  pointwise [pieces]
  exact congrArg w (Shape.idx_ext₂ (by simp <;> omega) (by simp [inner] <;> omega))

/-- The call finds the gradient. -/
theorem V_dy : V m c main_v3 = dy m c := by
  dsimp only [V]
  after_reads_simp
  rfl
/-- The call finds the pieces. -/
theorem V_pieces : V m c main_v2 = pieces (wp m c) := by
  dsimp only [V]
  after_reads_simp
  rfl

/-- The gradient by the branch. -/
def Db (x : S2048x2048.Idx → EReal) (w : S512x2048.Idx → EReal) : S2048x512.Idx → EReal :=
  fun y => ∑ k : Fin 2048, x (ix2 (y 0) k) * w (ix2 (y 1) k)

/-- A sum over the inner coordinate is the sum over its pieces. -/
theorem sum_inner (f : Fin 2048 → EReal) : ∑ q : Fin 8, ∑ e : Fin 256, f (inner q e) = ∑ k : Fin 2048, f k := by
  rw [← Finset.sum_product' (f := fun q e => f (inner q e))]
  refine Finset.sum_bij' (fun p _ => inner p.1 p.2) (fun k _ => (⟨k.val / 256, by omega⟩, ⟨k.val % 256, by omega⟩)) ?_ ?_ ?_ ?_ ?_
  · intros; simp
  · intros; simp
  · rintro ⟨q, e⟩ -
    exact Prod.ext (Fin.ext (by simp only [inner]; omega)) (Fin.ext (by simp only [inner]; omega))
  · intro k _
    exact Fin.ext (by simp only [inner]; omega)
  · intros; rfl

/-- The call's product is the gradient. -/
theorem sum_eq (x : S2048x2048.Idx → EReal) (w : FVec Ideal S512x2048 .f32) : Sum x (pieces w) = Db x w := by
  funext y
  idx_vars y
  refine Eq.trans ?_ (sum_inner (fun k => x (ix2 y0 k) * w (ix2 y1 k)))
  exact Finset.sum_congr rfl fun q _ => Finset.sum_congr rfl fun e _ => congrArg (x (ix2 y0 (inner q e)) * ·) (pieces_at w q y1 e)

end Blocks

/-- The reference's gradient by the branch. -/
theorem ref_db (x : FVec Ideal Reference12Ideal.S2048x2048 .f32) (w : FVec Ideal Reference12Ideal.S512x2048 .f32) :
    Reference12Ideal.Read.val_main_v2 (F := Ideal) x w = Db x w := by
  funext y
  idx_vars y
  exact (Reference12Ideal.Read.val_main_v2_apply x w _).trans (Finset.sum_congr rfl fun k _ => congrArg₂ (fun s t : EReal => s * t)
    (congrArg x (Shape.idx_ext₂ rfl rfl)) (congrArg w (Shape.idx_ext₂ rfl rfl)))

/-- The kernel runs and leaves its arguments. -/
theorem frame_k : @quiescent_Kernel12 Kernel12.Gen.facts := fun m ρ _ => Kernel12.Gen.frame m ρ
/-- The idealized kernel runs and leaves its arguments. -/
theorem frame_ki : @quiescent_Kernel12Ideal Kernel12Ideal.Gen.facts := fun m ρ _ => Kernel12Ideal.Gen.frame m ρ
/-- The reference runs and leaves its arguments. -/
theorem frame_ref : @quiescent_Reference12Ideal Reference12Ideal.Gen.facts := fun m ρ _ =>
  (θ_run Reference12Ideal.defs _ _).mono (fun r h => ⟨fun c => (h c).2, sem_eq_zero_of_no_sems (by decide) r.2⟩)
    (Reference12Ideal.Value.run (F := Ideal) m ρ)

/-- The value claim: the call and the reference leave the same gradient. -/
theorem value : @algebraic_Kernel12Ideal_Reference12Ideal Kernel12Ideal.Gen.facts Reference12Ideal.Gen.facts := by
  intro m g m' g' _ he
  refine ⟨fun c => Db (dy m c) (wp m c), ?_, ?_⟩
  · refine (θ_run _ _ _).mono (fun r h c => ?_) (Kernel12Ideal.Value.run_blocks (F := Ideal) m g)
    obtain ⟨h2, hk⟩ := h c
    refine ⟨h2.trans ?_, hk⟩
    rw [arr, V_dy, V_pieces]
    exact sum_eq _ _
  · refine (θ_run _ _ _).mono (fun r h c => ?_) (Reference12Ideal.Value.run m' g')
    obtain ⟨h0, hk⟩ := h c
    obtain ⟨e0, e1⟩ := he c
    refine ⟨((h0.trans (Reference12Ideal.Read.val_main_v2_eq _ _)).trans (ref_db _ _)).trans ?_, hk⟩
    rw [e0, e1]
    rfl

end Cert.Branch

end
-- ==== Proof.NormFwd.lean ====
/- The feed-forward norm's forward call: the kernel's arrays, the reference's, and the value claim. -/
module

public import proofs.«01_k».proof.Defs
public import proofs.«01_k».proof.Proof.Norm
public import proofs.«01_k».proof.Proof.Mixin
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384
set_option maxHeartbeats 1000000

noncomputable section

namespace Cert.NormFwd

open Idealize.ShloMosaic Idealize.ShloMosaic.TcCoe Cert.Kernel13Ideal Cert.Kernel13Ideal.Gen
open Idealize.SL.Sem
open Cert.Norm (Rt)
open Cert.Mixin (Nrm pay_norm)

section KernelSide

/-- The stored normed block is the mixer norm's. -/
theorem pay2 (x : Vec Ideal S256x2048 .f32) (g : Vec Ideal S1x2048 .f32) :
    k0_pay2 (F := Ideal) x g = Kernel5Ideal.Gen.k0_pay2 (F := Ideal) x g := rfl
/-- The stored reciprocal roots. -/
theorem pay1 (x : Vec Ideal S256x2048 .f32) (i : Fin 256) :
    k0_pay1 (F := Ideal) x (ix2 i 0) = Mixin.rs (∑ j : Fin 2048, x (ix2 i j) * x (ix2 i j)) := by
  pointwise [k0_pay1]
  rfl

variable (m : (ℓ : Loc nD τ sig) → Buf (Elt Ideal) ℓ) (c : Dev nD)

/-- A row of a grid point's block. -/
def row (t : Fin cfg0.N) (i : Fin 256) : Fin 2048 := ⟨256 * t.val + i.val, by have h : t.val < 8 := t.isLt; omega⟩

/-- Where the blocks lie. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The input's block. -/
theorem blk_x (t : Fin cfg0.N) (i : Fin 256) (k : Fin 2048) : iblk m c 0 t (ix2 i k) = V m c main_arg0 (ix2 (row t i) k) := by
  unfold iblk
  blk_ext [idx t, row]
/-- The gain's block. -/
theorem blk_g (t : Fin cfg0.N) (k : Fin 2048) : iblk m c 1 t (ix2 0 k) = V m c main_arg1 (ix2 0 k) := by
  unfold iblk
  blk_ext [idx t]
/-- Where the normed block lies. -/
theorem emb2 (t : Fin cfg0.N) (i : Fin 256) (k : Fin 2048) : ((cfg0.win 2).blk t).view.emb (ix2 i k) = ix2 (row t i) k := by
  blk_ext [idx t, row]
/-- Where the reciprocal roots' block lies. -/
theorem emb3 (t : Fin cfg0.N) (i : Fin 256) : ((cfg0.win 3).blk t).view.emb (ix2 i 0) = ix2 (row t i) 0 := by
  blk_ext [idx t, row]

/-- The normed array. -/
theorem arr2 : (dats (F := Ideal) m 0 c).arrAt 2 cfg0.N = Nrm (V m c main_arg0) (V m c main_arg1) := by
  refine (dats (F := Ideal) m 0 c).arrAt_eq_of_covers 2 _ (by decide +kernel) fun t hf j => ?_
  blk_simp
  rw [after0_2]
  idx_vars j
  unfold out0_2
  frame_out
  rw [emb2, pay2]
  refine (pay_norm _ _ j0 j1).trans ?_
  simp only [blk_x, blk_g]
  rfl

/-- The reciprocal roots' array. -/
theorem arr3 : (dats (F := Ideal) m 0 c).arrAt 3 cfg0.N = Rt (V m c main_arg0) := by
  refine (dats (F := Ideal) m 0 c).arrAt_eq_of_covers 3 _ (by decide +kernel) fun t hf j => ?_
  blk_simp
  rw [after0_3]
  idx_vars j
  obtain rfl : j1 = 0 := Fin.ext (by omega)
  unfold out0_3
  frame_out
  rw [emb3]
  refine (pay1 _ j0).trans ?_
  simp only [blk_x]
  rfl

/-- The input. -/
def xs : S2048x2048.Idx → EReal := m ((c.tc : Thread nD τ).loc main_arg0)
/-- The gain. -/
def gs : S1x2048.Idx → EReal := m ((c.tc : Thread nD τ).loc main_arg1)

end KernelSide

section Reference

open Cert.Reference13Ideal.Read

variable (x : FVec Ideal S2048x2048 .f32) (g : FVec Ideal S1x2048 .f32)

/-- The reference's normed array. -/
theorem ref_norm : (val_main_v22 (F := Ideal) x g : S2048x2048.Idx → EReal) = Nrm x g := by
  funext y
  idx_vars y
  refine (val_main_v22_apply (F := Ideal) x g _).trans ?_
  exact (congrFun (by sl_kernel_rfl : val_main_v21 (F := Ideal) x g = Reference5Ideal.Read.val_main_v13 (F := Ideal) x g) (ix2 y0 y1)).trans
    (Mixin.ref_norm x g y0 y1)
/-- The reference's reciprocal roots. -/
theorem ref_root : val_main_v7 (F := Ideal) x = Rt x := by
  funext y
  idx_vars y
  obtain rfl : y1 = 0 := Fin.ext (by omega)
  exact Norm.root_host x y0

end Reference

/-- The kernel runs and leaves its arguments. -/
theorem frame_k : @quiescent_Kernel13 Kernel13.Gen.facts := fun m ρ _ => Kernel13.Gen.frame m ρ
/-- The idealized kernel runs and leaves its arguments. -/
theorem frame_ki : @quiescent_Kernel13Ideal Kernel13Ideal.Gen.facts := fun m ρ _ => Kernel13Ideal.Gen.frame m ρ
/-- The reference runs and leaves its arguments. -/
theorem frame_ref : @quiescent_Reference13Ideal Reference13Ideal.Gen.facts := fun m ρ _ =>
  (θ_run Reference13Ideal.defs _ _).mono (fun r h => ⟨fun c => (h c).2.2, sem_eq_zero_of_no_sems (by decide) r.2⟩)
    (Reference13Ideal.Value.run (F := Ideal) m ρ)

/-- The value claim: the call and the reference leave the same normed array and reciprocal roots. -/
theorem value : @algebraic_Kernel13Ideal_Reference13Ideal Kernel13Ideal.Gen.facts Reference13Ideal.Gen.facts := by
  intro m g m' g' _ he
  refine ⟨fun c => Nrm (xs m c) (gs m c), fun c => Rt (xs m c), ?_, ?_⟩
  · refine (θ_run _ _ _).mono (fun r h c => ?_) (Kernel13Ideal.Value.run_blocks (F := Ideal) m g)
    obtain ⟨h2, h3, hk⟩ := h c
    refine ⟨h2.trans ?_, h3.trans ?_, hk⟩
    · rw [arr2, V_main_arg0, V_main_arg1]
      rfl
    · rw [arr3, V_main_arg0]
      rfl
  · refine (θ_run _ _ _).mono (fun r h c => ?_) (Reference13Ideal.Value.run m' g')
    obtain ⟨h0, h1, hk⟩ := h c
    obtain ⟨e0, e1⟩ := he c
    refine ⟨((h0.trans (Reference13Ideal.Read.val_main_v22_eq _ _)).trans (ref_norm _ _)).trans ?_,
      ((h1.trans (Reference13Ideal.Read.val_main_v7_eq _)).trans (ref_root _)).trans ?_, hk⟩
    · rw [e0, e1]; rfl
    · rw [e0]; rfl

end Cert.NormFwd

end
-- ==== Proof.Forward.lean ====
/- The dilated attention's forward call of one group: its output and its log-denominators are the reference's, from
   memories agreeing on real arguments. -/
module

public import proofs.«01_k».proof.Defs
public import proofs.«01_k».proof.Proof.Attention
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Pre_finite14

@[expose] public section

set_option maxRecDepth 16384
set_option maxHeartbeats 4000000

noncomputable section

namespace Cert.Forward

open Idealize.ShloMosaic Idealize.ShloMosaic.TcCoe Idealize.SL.Sem Cert.Attn Cert.Kernel14Ideal Cert.Kernel14Ideal.Gen

/-! ### One residue class -/

section Lane

/-- The three blocks of a class hold the inputs of a head and a residue class. -/
structure Has (y : Args) (h : Fin 4) (r : Fin 16) (q k v : FVec Ideal S1x128x128 .bf16) : Prop where
  q : ∀ m e, q (ix3 0 m e) = (((y.inp h r).q m e : ℝ) : EReal)
  k : ∀ m e, k (ix3 0 m e) = (((y.inp h r).k m e : ℝ) : EReal)
  v : ∀ m e, v (ix3 0 m e) = (((y.inp h r).v m e : ℝ) : EReal)

variable {y : Args} {h : Fin 4} {r : Fin 16} {q k v : FVec Ideal S1x128x128 .bf16}

/-- The class's scores at coordinates. -/
theorem score_at (H : Has y h r q k v) (m j : Fin 128) : k0_pay2 (F := Ideal) q k (ix2 m j)
    = if Near m j then (((y.inp h r).s m j : ℝ) : EReal) else ⊥ :=
  Ker.laneS_at (y := y) (h := h) (r := r) (q := q) (k := k) (v := v)
    (d := fun i => (((y.inp h r).d (i 1) (i 2) : ℝ) : EReal)) (l := fun i => (((y.inp h r).lse (i 1) : ℝ) : EReal))
    (s := fun i => (((y.inp h r).dsum (i 1) : ℝ) : EReal))
    ⟨H.q, H.k, H.v, fun _ _ => rfl, fun _ => rfl, fun _ => rfl⟩ m j

/-- The class's row maxima. -/
theorem top_at (H : Has y h r q k v) (m : Fin 128) : k0_pay3 (F := Ideal) q k (ix2 m 0) = (((y.inp h r).t m : ℝ) : EReal) := by
  pointwise [k0_pay3]
  simp only [score_at H]
  rw [ofBits_ninf]
  exact fold_max_real Finset.univ (fun j => Near m j) (fun j => (y.inp h r).s m j) ⟨m, Finset.mem_univ _, near_self m⟩

/-- The class's exponentials. -/
theorem exp_at (H : Has y h r q k v) (m j : Fin 128) : k0_pay4 (F := Ideal) q k (ix2 m j) = (((y.inp h r).a m j : ℝ) : EReal) := by
  pointwise [k0_pay4]
  rw [score_at H, top_at H, exp_ite]; rfl

/-- The class's denominators. -/
theorem den_at (H : Has y h r q k v) (m : Fin 128) : k0_pay5 (F := Ideal) q k (ix2 m 0) = (((y.inp h r).Z m : ℝ) : EReal) := by
  pointwise [k0_pay5]
  simp only [exp_at H, Ideal.ofBits_zero_f32, zero_add, coe_sum]
  rfl

/-- The class's output. -/
theorem out_at (H : Has y h r q k v) (m e : Fin 128) : k0_pay6 (F := Ideal) q k v (ix3 0 m e) = (((y.inp h r).o2 m e : ℝ) : EReal) := by
  pointwise [k0_pay6]
  simp only [exp_at H, H.v, den_at H, Ideal.ofBits_zero_f32, zero_add, ← EReal.coe_mul, coe_sum]
  rw [div_coe' _ _ (Ref.zpos y h r m).ne', Finset.sum_div]
  refine congrArg _ (Finset.sum_congr rfl fun j _ => ?_)
  rw [(y.inp h r).p_eq m j ⟨m, near_self m⟩]
  ring

/-- The class's log-denominators. -/
theorem log_at (H : Has y h r q k v) (m : Fin 128) : k0_pay7 (F := Ideal) (k0_pay3 q k) (k0_pay5 q k) (ix3 0 m 0)
    = (((y.inp h r).l2 m : ℝ) : EReal) := by
  pointwise [k0_pay7]
  rw [den_at H, top_at H, log_coe' _ (Ref.zpos y h r m), ← EReal.coe_add]; rfl

end Lane

/-! ### One grid point -/

/-- The three blocks of a grid point hold the inputs of one head. -/
structure Blocks (y : Args) (h : Fin 4) (q k v : FVec Ideal S1x128x2048 .bf16) : Prop where
  q : ∀ (r : Fin 16) (m e : Fin 128) (i : Fin 2048), i.val = 128 * r.val + e.val → q (ix3 0 m i) = (((y.inp h r).q m e : ℝ) : EReal)
  k : ∀ (r : Fin 16) (m e : Fin 128) (i : Fin 2048), i.val = 128 * r.val + e.val → k (ix3 0 m i) = (((y.inp h r).k m e : ℝ) : EReal)
  v : ∀ (r : Fin 16) (m e : Fin 128) (i : Fin 2048), i.val = 128 * r.val + e.val → v (ix3 0 m i) = (((y.inp h r).v m e : ℝ) : EReal)

/-- The output's block. -/
def Go (y : Args) (h : Fin 4) : FVec Ideal S1x128x2048 .f32 :=
  fun i => (((y.inp h (Ref.lane (i 2))).o2 (i 1) (Ref.chan (i 2)) : ℝ) : EReal)
/-- The log-denominators' block. -/
def Gl (y : Args) (h : Fin 4) : FVec Ideal S1x128x16 .f32 :=
  fun i => (((y.inp h (i 2)).l2 (i 1) : ℝ) : EReal)

section Point

variable {y : Args} {h : Fin 4} {q k v : FVec Ideal S1x128x2048 .bf16}

/-- The blocks of one class hold that class's inputs. -/
theorem Blocks.lane (H : Blocks y h q k v) (r : Fin 16) (n : ℕ) (hn : n = 128 * r.val)
    (i1 : ∀ a, (![0, 0, n] : Fin 3 → ℕ) a + (![1, 128, 128] : Fin 3 → ℕ) a ≤ S1x128x2048.size a) :
    Has y h r (View.ld (Val := Elt Ideal) (e' := .bf16) q (Rect.unit ![0, 0, n] ![1, 128, 128] i1))
      (View.ld (Val := Elt Ideal) (e' := .bf16) k (Rect.unit ![0, 0, n] ![1, 128, 128] i1))
      (View.ld (Val := Elt Ideal) (e' := .bf16) v (Rect.unit ![0, 0, n] ![1, 128, 128] i1)) := by
  refine ⟨fun m e => ?_, fun m e => ?_, fun m e => ?_⟩
  · pointwise []
    exact H.q r m e _ (by simp only [hn])
  · pointwise []
    exact H.k r m e _ (by simp only [hn])
  · pointwise []
    exact H.v r m e _ (by simp only [hn])

/-- A class's output is a block of the whole. -/
theorem piece_o (r : Fin 16) (n : ℕ) (hn : n = 128 * r.val)
    (i1 : ∀ a, (![0, 0, n] : Fin 3 → ℕ) a + (![1, 128, 128] : Fin 3 → ℕ) a ≤ S1x128x2048.size a)
    {q k v : FVec Ideal S1x128x128 .bf16} (H : Has y h r q k v) (x : S1x128x128.Idx) :
    k0_pay6 (F := Ideal) q k v x = Go y h ((Rect.unit (s := S1x128x2048) ![0, 0, n] ![1, 128, 128] i1).emb x) := by
  idx_vars x
  obtain rfl : x0 = 0 := Subsingleton.elim _ _
  rw [out_at H, show (Rect.unit (s := S1x128x2048) ![0, 0, n] ![1, 128, 128] i1).emb (ix3 0 x1 x2)
    = ix3 0 x1 ⟨128 * r.val + x2.val, by omega⟩ from ?_]
  · show _ = (((y.inp h (Ref.lane ⟨128 * r.val + x2.val, by omega⟩)).o2 x1 (Ref.chan ⟨128 * r.val + x2.val, by omega⟩) : ℝ) : EReal)
    rw [Ker.lane_eq r x2 _ rfl, Ker.chan_eq r x2 _ rfl]
  subst hn
  funext b
  apply Fin.ext
  fin_cases b <;> rw [Rect.emb_apply] <;> simp [Rect.unit, ix2, ix3]

/-- A class's log-denominators are a block of the whole. -/
theorem piece_l (r : Fin 16) (n : ℕ) (hn : n = r.val)
    (i1 : ∀ a, (![0, 0, n] : Fin 3 → ℕ) a + (![1, 128, 1] : Fin 3 → ℕ) a ≤ S1x128x16.size a)
    {q k v : FVec Ideal S1x128x128 .bf16} (H : Has y h r q k v) (x : S1x128x1.Idx) :
    k0_pay7 (F := Ideal) (k0_pay3 q k) (k0_pay5 q k) x
      = Gl y h ((Rect.unit (s := S1x128x16) ![0, 0, n] ![1, 128, 1] i1).emb x) := by
  idx_vars x
  obtain rfl : x0 = 0 := Subsingleton.elim _ _
  obtain rfl : x2 = 0 := Subsingleton.elim _ _
  rw [log_at H, show (Rect.unit (s := S1x128x16) ![0, 0, n] ![1, 128, 1] i1).emb (ix3 0 x1 0) = ix3 0 x1 r from ?_]
  · rfl
  subst hn
  funext b
  apply Fin.ext
  fin_cases b <;> rw [Rect.emb_apply] <;> simp [Rect.unit, ix2, ix3]

/-- The fourth class's output is the other classes' operations, written in two parts. -/
theorem split_o (q k v : FVec Ideal S1x128x128 .bf16) :
    k0_pay28 (F := Ideal) (k0_pay23 q k) (k0_pay24 q k) v = k0_pay6 (F := Ideal) q k v := by
  sl_kernel_rfl
/-- The fourth class's log-denominators are the other classes' operations, written in two parts. -/
theorem split_l (q k : FVec Ideal S1x128x128 .bf16) :
    k0_pay29 (F := Ideal) (k0_pay23 q k) (k0_pay24 q k) = k0_pay7 (F := Ideal) (k0_pay3 q k) (k0_pay5 q k) := by
  sl_kernel_rfl

/-- The output's block after a grid point. -/
theorem out_o (H : Blocks y h q k v) (j : S1x128x2048.Idx) : out0_3 (F := Ideal) q k v j = Go y h j := by
  frame_out
  refine View.canon_apply_of_pieces (Val := Elt Ideal) (e := .f32) (Go y h) _ (View.PiecesOf.mem ?_) j
    (View.cover_of_tiledL (s := S1x128x2048) _ S1x128x128.size (by sl_kernel_rfl) j)
  refine ⟨fun x => piece_o 15 1920 rfl (by decide) (H.lane 15 1920 rfl (by decide)) x,
    fun x => piece_o 14 1792 rfl (by decide) (H.lane 14 1792 rfl (by decide)) x,
    fun x => piece_o 13 1664 rfl (by decide) (H.lane 13 1664 rfl (by decide)) x,
    fun x => piece_o 12 1536 rfl (by decide) (H.lane 12 1536 rfl (by decide)) x,
    fun x => piece_o 11 1408 rfl (by decide) (H.lane 11 1408 rfl (by decide)) x,
    fun x => piece_o 10 1280 rfl (by decide) (H.lane 10 1280 rfl (by decide)) x,
    fun x => piece_o 9 1152 rfl (by decide) (H.lane 9 1152 rfl (by decide)) x,
    fun x => piece_o 8 1024 rfl (by decide) (H.lane 8 1024 rfl (by decide)) x,
    fun x => piece_o 7 896 rfl (by decide) (H.lane 7 896 rfl (by decide)) x,
    fun x => piece_o 6 768 rfl (by decide) (H.lane 6 768 rfl (by decide)) x,
    fun x => piece_o 5 640 rfl (by decide) (H.lane 5 640 rfl (by decide)) x,
    fun x => piece_o 4 512 rfl (by decide) (H.lane 4 512 rfl (by decide)) x,
    fun x => (congrFun (split_o _ _ _) x).trans (piece_o 3 384 rfl (by decide) (H.lane 3 384 rfl (by decide)) x),
    fun x => piece_o 2 256 rfl (by decide) (H.lane 2 256 rfl (by decide)) x,
    fun x => piece_o 1 128 rfl (by decide) (H.lane 1 128 rfl (by decide)) x,
    fun x => piece_o 0 0 rfl (by decide) (H.lane 0 0 rfl (by decide)) x,
    trivial⟩

/-- The log-denominators' block after a grid point. -/
theorem out_l (H : Blocks y h q k v) (j : S1x128x16.Idx) : out0_4 (F := Ideal) q k v j = Gl y h j := by
  frame_out
  refine View.canon_apply_of_pieces (Val := Elt Ideal) (e := .f32) (Gl y h) _ (View.PiecesOf.mem ?_) j
    (View.cover_of_tiledL (s := S1x128x16) _ S1x128x1.size (by sl_kernel_rfl) j)
  refine ⟨fun x => piece_l 15 15 rfl (by decide) (H.lane 15 1920 rfl (by decide)) x,
    fun x => piece_l 14 14 rfl (by decide) (H.lane 14 1792 rfl (by decide)) x,
    fun x => piece_l 13 13 rfl (by decide) (H.lane 13 1664 rfl (by decide)) x,
    fun x => piece_l 12 12 rfl (by decide) (H.lane 12 1536 rfl (by decide)) x,
    fun x => piece_l 11 11 rfl (by decide) (H.lane 11 1408 rfl (by decide)) x,
    fun x => piece_l 10 10 rfl (by decide) (H.lane 10 1280 rfl (by decide)) x,
    fun x => piece_l 9 9 rfl (by decide) (H.lane 9 1152 rfl (by decide)) x,
    fun x => piece_l 8 8 rfl (by decide) (H.lane 8 1024 rfl (by decide)) x,
    fun x => piece_l 7 7 rfl (by decide) (H.lane 7 896 rfl (by decide)) x,
    fun x => piece_l 6 6 rfl (by decide) (H.lane 6 768 rfl (by decide)) x,
    fun x => piece_l 5 5 rfl (by decide) (H.lane 5 640 rfl (by decide)) x,
    fun x => piece_l 4 4 rfl (by decide) (H.lane 4 512 rfl (by decide)) x,
    fun x => (congrFun (split_l _ _) x).trans (piece_l 3 3 rfl (by decide) (H.lane 3 384 rfl (by decide)) x),
    fun x => piece_l 2 2 rfl (by decide) (H.lane 2 256 rfl (by decide)) x,
    fun x => piece_l 1 1 rfl (by decide) (H.lane 1 128 rfl (by decide)) x,
    fun x => piece_l 0 0 rfl (by decide) (H.lane 0 0 rfl (by decide)) x,
    trivial⟩

end Point

/-! ### The whole arrays -/

section Arrays

variable (m : (ℓ : Loc nD τ sig) → Buf (Elt Ideal) ℓ) (c : Dev nD)

/-- The queries. -/
abbrev mq : FVec Ideal S1x2048x4x128 .f32 := m ((c : Thread nD τ).loc main_arg0)
/-- The keys. -/
abbrev mk : FVec Ideal S1x2048x4x128 .f32 := m ((c : Thread nD τ).loc main_arg1)
/-- The values. -/
abbrev mv : FVec Ideal S1x2048x4x128 .f32 := m ((c : Thread nD τ).loc main_arg2)

/-- The queries' lanes at the region's entry. -/
theorem V_q : V m c main_v3 = Ker.lanes (mq m c) := by
  unfold V
  after_reads_simp
  rfl
/-- The keys' lanes at the region's entry. -/
theorem V_k : V m c main_v7 = Ker.lanes (mk m c) := by
  unfold V
  after_reads_simp
  rfl
/-- The values' lanes at the region's entry. -/
theorem V_v : V m c main_v11 = Ker.lanes (mv m c) := by
  unfold V
  after_reads_simp
  rfl

/-- Every window's block of a grid point is that head's block. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] :=
  (by decide +kernel : ∀ t : Fin grid0.N, _)

/-- The head of a grid point. -/
def head (t : Fin cfg0.N) : Fin 4 := ⟨t.val, t.isLt⟩

/-- The queries' block. -/
theorem iblk_q (t : Fin cfg0.N) (a : Fin 128) (i : Fin 2048) : iblk m c 0 t (ix3 0 a i) = V m c main_v3 (ix3 (head t) a i) := by
  unfold iblk
  blk_ext [idx t, head]
/-- The keys' block. -/
theorem iblk_k (t : Fin cfg0.N) (a : Fin 128) (i : Fin 2048) : iblk m c 1 t (ix3 0 a i) = V m c main_v7 (ix3 (head t) a i) := by
  unfold iblk
  blk_ext [idx t, head]
/-- The values' block. -/
theorem iblk_v (t : Fin cfg0.N) (a : Fin 128) (i : Fin 2048) : iblk m c 2 t (ix3 0 a i) = V m c main_v11 (ix3 (head t) a i) := by
  unfold iblk
  blk_ext [idx t, head]

/-- The arguments are the given real arrays. -/
structure Holding (y : Args) : Prop where
  q : mq m c = up y.q
  k : mk m c = up y.k
  v : mv m c = up y.v

variable {m c} {y : Args}

/-- The blocks of a grid point hold one head's inputs. -/
theorem Holding.blocks (H : Holding m c y) (t : Fin cfg0.N) : Blocks y (head t) (iblk m c 0 t) (iblk m c 1 t) (iblk m c 2 t) where
  q r a e i hi := by rw [iblk_q, V_q, H.q]; exact Ker.lanes_at (head t) r y.q a e i hi
  k r a e i hi := by rw [iblk_k, V_k, H.k]; exact Ker.lanes_at (head t) r y.k a e i hi
  v r a e i hi := by rw [iblk_v, V_v, H.v]; exact Ker.lanes_at (head t) r y.v a e i hi

/-- The output, by head. -/
def Ro (y : Args) : FVec Ideal S4x128x2048 .f32 :=
  fun i => (((y.inp (i 0) (Ref.lane (i 2))).o2 (i 1) (Ref.chan (i 2)) : ℝ) : EReal)
/-- The log-denominators, by head. -/
def Rl (y : Args) : FVec Ideal S4x128x16 .f32 := fun i => (((y.inp (i 0) (i 2)).l2 (i 1) : ℝ) : EReal)

/-- Where the output's block of a grid point lies. -/
theorem emb_o (t : Fin cfg0.N) (a : Fin 128) (i : Fin 2048) :
    ((cfg0.win 3).blk t).view.emb (ix3 0 a i) = ix3 (head t) a i := by
  blk_ext [idx t, head]
/-- Where the log-denominators' block of a grid point lies. -/
theorem emb_l (t : Fin cfg0.N) (a : Fin 128) (i : Fin 16) :
    ((cfg0.win 4).blk t).view.emb (ix3 0 a i) = ix3 (head t) a i := by
  blk_ext [idx t, head]

/-- The first result array is the output. -/
theorem Holding.arr_o (H : Holding m c y) : (dats m 0 c).arrAt 3 cfg0.N = Ro y := by
  refine (dats m 0 c).arrAt_eq_of_covers 3 _ (by decide +kernel) fun t hf j => ?_
  blk_simp
  rw [after0_3]
  idx_vars j
  obtain rfl : j0 = 0 := Subsingleton.elim _ _
  refine (out_o (H.blocks t) _).trans ?_
  exact (congrArg (Ro y) (emb_o t j1 j2)).symm

/-- The second result array is the log-denominators. -/
theorem Holding.arr_l (H : Holding m c y) : (dats m 0 c).arrAt 4 cfg0.N = Rl y := by
  refine (dats m 0 c).arrAt_eq_of_covers 4 _ (by decide +kernel) fun t hf j => ?_
  blk_simp
  rw [after0_4]
  idx_vars j
  obtain rfl : j0 = 0 := Subsingleton.elim _ _
  refine (out_l (H.blocks t) _).trans ?_
  exact (congrArg (Rl y) (emb_l t j1 j2)).symm

end Arrays

/-! ### The reference -/

section Reference

open Cert.Reference14Ideal.Read

/-- The reference's output in the layout of the arguments is the attention's. -/
theorem ref_out (q k v : FVec Ideal S1x2048x4x128 .f32) :
    val_main_v33 (F := Ideal) q k v = ReferenceIdeal.Read.val_main_v38 (F := Ideal) q k v := by
  sl_kernel_rfl
/-- The reference's log-denominators in the layout of the arguments are the attention's. -/
theorem ref_log (q k : FVec Ideal S1x2048x4x128 .f32) :
    val_main_v35 (F := Ideal) q k = ReferenceIdeal.Read.val_main_v40 (F := Ideal) q k := by
  sl_kernel_rfl

/-- The reference's first result is the output, by head. -/
theorem ref_o (y : Args) : val_main_v38 (F := Ideal) (up y.q) (up y.k) (up y.v) = Ro y := by
  funext i
  idx_vars i
  pointwise [val_main_v38, val_main_v37, val_main_v36]
  rw [ref_out, Ref.v38]
  show _ = (((y.inp i0 (Ref.lane i2)).o2 i1 (Ref.chan i2) : ℝ) : EReal)
  congr 3
  · exact Fin.ext (by simp only [res, Ref.lane]; omega)
  · exact Fin.ext (by simp only [quo]; omega)

/-- The reference's second result is the log-denominators, by head. -/
theorem ref_l (y : Args) : val_main_v40 (F := Ideal) (up y.q) (up y.k) = Rl y := by
  funext i
  idx_vars i
  pointwise [val_main_v40, val_main_v39]
  rw [ref_log, Ref.v40]
  show _ = (((y.inp i0 i2).l2 i1 : ℝ) : EReal)
  congr 2
  · exact congrArg (y.inp i0) (Fin.ext (by simp only [res]; omega))
  · exact Fin.ext (by simp only [quo]; omega)

end Reference

/-! ### The claims -/

/-- The three arguments of a memory where the precondition holds are real arrays. -/
theorem finite_args (q k v : FVec Ideal Pre_finite14.S1x2048x4x128 .f32)
    (h : @Pre_finite14.fn Pre_finite14.Gen.facts Ideal _ q k v = fun _ => 1#1) :
    (∀ i, q i ≠ ⊤ ∧ q i ≠ ⊥) ∧ (∀ i, k i ≠ ⊤ ∧ k i ≠ ⊥) ∧ (∀ i, v i ≠ ⊤ ∧ v i ≠ ⊥) := by
  have := Pre_finite14.Gen.facts
  have e := congrFun h (fun a => a.elim0)
  simp only [Pre_finite14.fn, andi, IntOp.andi_eq_one] at e
  obtain ⟨⟨⟨-, h0⟩, h1⟩, h2⟩ := e
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

/-- The real arrays of a device's arguments; the call takes none of the other five. -/
def args (m : (ℓ : Loc nD τ sig) → Buf (Elt Ideal) ℓ) (c : Dev nD) : Args where
  q i := (mq m c i).toReal
  k i := (mk m c i).toReal
  v i := (mv m c i).toReal
  o0 _ := 0
  l0 _ := 0
  o1 _ := 0
  l1 _ := 0
  d _ := 0

/-- Under the precondition the arguments are those real arrays. -/
theorem holding (m : (ℓ : Loc nD τ sig) → Buf (Elt Ideal) ℓ)
    (hp : @Pre_Kernel14Ideal_finite14 Pre_finite14.Gen.facts m) (c : Dev nD) : Holding m c (args m c) := by
  obtain ⟨h0, h1, h2⟩ := finite_args _ _ _ (hp c)
  exact ⟨up_toReal _ h0, up_toReal _ h1, up_toReal _ h2⟩

/-- The reference runs and leaves its arguments. -/
theorem frame_ref : @quiescent_Reference14Ideal Reference14Ideal.Gen.facts := fun m ρ _ =>
  (θ_run Reference14Ideal.defs _ _).mono (fun r h => ⟨fun c => (h c).2.2, sem_eq_zero_of_no_sems (by decide) r.2⟩)
    (Reference14Ideal.Value.run (F := Ideal) m ρ)

/-- The value claim: the call and the reference leave the same output and log-denominators. -/
theorem value : @algebraic_Kernel14Ideal_Reference14Ideal_pre_finite14 Kernel14Ideal.Gen.facts Reference14Ideal.Gen.facts
    Pre_finite14.Gen.facts := by
  intro m g m' g' hp he
  refine ⟨fun c => Ro (args m c), fun c => Rl (args m c), ?_, ?_⟩
  · refine (θ_run _ _ _).mono (fun r h c => ?_) (Kernel14Ideal.Value.run_blocks (F := Ideal) m g)
    obtain ⟨h0, h1, hk⟩ := h c
    exact ⟨h0.trans (holding m hp c).arr_o, h1.trans (holding m hp c).arr_l, hk⟩
  · refine (θ_run _ _ _).mono (fun r h c => ?_) (Reference14Ideal.Value.run m' g')
    obtain ⟨h0, h1, hk⟩ := h c
    obtain ⟨e0, e1, e2⟩ := he c
    have H := holding m hp c
    refine ⟨(h0.trans (Reference14Ideal.Read.val_main_v38_eq _ _)).trans ?_,
      (h1.trans (Reference14Ideal.Read.val_main_v40_eq _ _)).trans ?_, hk⟩
    · show _ = Ro (args m c)
      rw [e0, e1, e2, ← ref_o, ← H.q, ← H.k, ← H.v]
    · show _ = Rl (args m c)
      rw [e0, e1, ← ref_l, ← H.q, ← H.k]

end Cert.Forward

end
-- ==== Proof.StepsArr.lean ====
/- The optimizer's four calls: each result array, from the arrays the call finds. -/
module

public import proofs.«01_k».proof.Proof.ProjPay
public import proofs.«01_k».proof.Proof.Gen.Kernel9Ideal.Frame
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Steps

open Idealize.ShloMosaic Idealize.ShloMosaic.TcCoe Cert.Kernel9Ideal Cert.Kernel9Ideal.Gen
open Cert.Proj (mom var adam)

section Steps

variable {R C : ℕ}

/-- The chips' partial gradients added up. -/
def Gr (p : (⟨3, ![4, R, C]⟩ : Shape).Idx → EReal) : (⟨2, ![R, C]⟩ : Shape).Idx → EReal := fun y => ∑ q : Fin 4, p (ix3 q (y 0) (y 1))
/-- The first moment's step. -/
def Mo (p : (⟨3, ![4, R, C]⟩ : Shape).Idx → EReal) (m : (⟨2, ![R, C]⟩ : Shape).Idx → EReal) : (⟨2, ![R, C]⟩ : Shape).Idx → EReal :=
  fun y => mom (Gr p y) (m y)
/-- The second moment's step. -/
def Va (p : (⟨3, ![4, R, C]⟩ : Shape).Idx → EReal) (v : (⟨2, ![R, C]⟩ : Shape).Idx → EReal) : (⟨2, ![R, C]⟩ : Shape).Idx → EReal :=
  fun y => var (Gr p y) (v y)
/-- The weight's step. -/
def De (p : (⟨3, ![4, R, C]⟩ : Shape).Idx → EReal) (w m v : (⟨2, ![R, C]⟩ : Shape).Idx → EReal) : (⟨2, ![R, C]⟩ : Shape).Idx → EReal :=
  fun y => adam (Mo p m y) (Va p v y) (w y)

/-- One chip's partial gradient of a block. -/
theorem ld_p (w : Vec Ideal (⟨3, ![4, R, C]⟩ : Shape) .bf16) (q : Fin 4) (n : ℕ) (hn : n = q.val) (h) (i : Fin R) (j : Fin C) :
    View.ld w (Rect.unit (s := ⟨3, ![4, R, C]⟩) ![n, 0, 0] ![1, R, C] h) (ix3 0 i j) = w (ix3 q i j) := by
  subst hn
  exact congrArg w (funext fun a => Fin.ext (by match a with | ⟨0, _⟩ => simp [Rect.unit] | ⟨1, _⟩ => simp [Rect.unit] | ⟨2, _⟩ => simp [Rect.unit]))

/-- The four partial gradients at a cell. -/
theorem gr_four (p : (⟨3, ![4, R, C]⟩ : Shape).Idx → EReal) (i : Fin R) (k : Fin C) :
    p (ix3 0 i k) + p (ix3 1 i k) + p (ix3 2 i k) + p (ix3 3 i k) = Gr p (ix2 i k) :=
  (Fin.sum_univ_four fun q => p (ix3 q i k)).symm
/-- The weight's step, argument by argument. -/
theorem adam_congr {g g' a a' b b' w w' : EReal} (hg : g = g') (ha : a = a') (hb : b = b') (hw : w = w') :
    adam (mom g a) (var g b) w = adam (mom g' a') (var g' b') w' := by rw [hg, ha, hb, hw]

end Steps

variable (V : (c : Dev nD) → (b : Ref sig .tc) → Buf (Elt Ideal) ((c : Thread nD τ).loc b)) (c : Dev nD)

/-- A row of the first call's grid point. -/
def row0 (t : Fin cfg0.N) (i : Fin 256) : Fin 2048 := ⟨256 * t.val + i.val, by have h : t.val < 8 := t.isLt; omega⟩
/-- The first call's blocks. -/
theorem idx0 : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)
/-- The first call's blocks' cells. -/
theorem blk0 (t : Fin cfg0.N) (i : Fin 256) (k : Fin 1280) :
    (∀ q : Fin 4, iblk0 V c 0 t (ix3 q i k) = V c main_v0 (ix3 q (row0 t i) k)) ∧ iblk0 V c 1 t (ix2 i k) = V c main_arg1 (ix2 (row0 t i) k)
      ∧ iblk0 V c 2 t (ix2 i k) = V c main_arg2 (ix2 (row0 t i) k) ∧ iblk0 V c 3 t (ix2 i k) = V c main_arg3 (ix2 (row0 t i) k) := by
  unfold iblk0
  refine ⟨fun q => ?_, ?_, ?_, ?_⟩ <;> blk_ext [idx0 t, row0]
/-- Where the first call's result blocks lie. -/
theorem emb0 (t : Fin cfg0.N) (i : Fin 256) (k : Fin 1280) :
    ((cfg0.win 4).blk t).view.emb (ix2 i k) = ix2 (row0 t i) k ∧ ((cfg0.win 5).blk t).view.emb (ix2 i k) = ix2 (row0 t i) k
      ∧ ((cfg0.win 6).blk t).view.emb (ix2 i k) = ix2 (row0 t i) k ∧ ((cfg0.win 7).blk t).view.emb (ix2 i k) = ix2 (row0 t i) k := by
  refine ⟨?_, ?_, ?_, ?_⟩ <;> blk_ext [idx0 t, row0]
/-- The first call's gradient at a cell. -/
theorem pay0 (p q r s : Vec Ideal S1x256x1280 .bf16) (i : Fin 256) (k : Fin 1280) :
    k0_pay2 (F := Ideal) p q r s (ix2 i k) = p (ix3 0 i k) + q (ix3 0 i k) + r (ix3 0 i k) + s (ix3 0 i k) := by
  pointwise [k0_pay2]
/-- The first call's gradient at a cell of a block. -/
theorem grad0 (t : Fin cfg0.N) (i : Fin 256) (k : Fin 1280) :
    k0_pay2 (F := Ideal) (View.ld (iblk0 V c 0 t) r0_0) (View.ld (iblk0 V c 0 t) r0_1) (View.ld (iblk0 V c 0 t) r0_2) (View.ld (iblk0 V c 0 t) r0_3) (ix2 i k)
      = Gr (V c main_v0) (ix2 (row0 t i) k) := by
  rw [pay0, ld_p _ 0 0 rfl, ld_p _ 1 1 rfl, ld_p _ 2 2 rfl, ld_p _ 3 3 rfl]
  simp only [(blk0 V c t i k).1]
  exact gr_four (V c main_v0) (row0 t i) k
/-- The first call's arrays. -/
theorem arr0 : (dat0 (F := Ideal) V c).arrAt 4 cfg0.N = Gr (V c main_v0)
    ∧ (dat0 (F := Ideal) V c).arrAt 5 cfg0.N = De (V c main_v0) (V c main_arg1) (V c main_arg2) (V c main_arg3)
    ∧ (dat0 (F := Ideal) V c).arrAt 6 cfg0.N = Mo (V c main_v0) (V c main_arg2)
    ∧ (dat0 (F := Ideal) V c).arrAt 7 cfg0.N = Va (V c main_v0) (V c main_arg3) := by
  refine ⟨(dat0 (F := Ideal) V c).arrAt_eq_of_covers 4 _ (by decide +kernel) fun t hf j => ?_,
    (dat0 (F := Ideal) V c).arrAt_eq_of_covers 5 _ (by decide +kernel) fun t hf j => ?_,
    (dat0 (F := Ideal) V c).arrAt_eq_of_covers 6 _ (by decide +kernel) fun t hf j => ?_,
    (dat0 (F := Ideal) V c).arrAt_eq_of_covers 7 _ (by decide +kernel) fun t hf j => ?_⟩
  all_goals
    blk_simp
    idx_vars j
    obtain ⟨-, b1, b2, b3⟩ := blk0 V c t j0 j1
    obtain ⟨e4, e5, e6, e7⟩ := emb0 t j0 j1
  · rw [after0_4, e4]
    unfold out0_4
    frame_out
    exact grad0 V c t j0 j1
  · rw [after0_5, e5]
    unfold out0_5
    frame_out
    exact adam_congr (grad0 V c t j0 j1) b2 b3 b1
  · rw [after0_6, e6]
    unfold out0_6
    frame_out
    exact congrArg₂ mom (grad0 V c t j0 j1) b2
  · rw [after0_7, e7]
    unfold out0_7
    frame_out
    exact congrArg₂ var (grad0 V c t j0 j1) b3

/-- A row of the second call's grid point. -/
def row1 (t : Fin cfg1.N) (i : Fin 256) : Fin 512 := ⟨256 * t.val + i.val, by have h : t.val < 2 := t.isLt; omega⟩
/-- The second call's blocks. -/
theorem idx1 : ∀ t : Fin cfg1.N, win1_0.index t = ![0, t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] :=
  (by decide +kernel : ∀ t : Fin grid1.N, _)
/-- The second call's blocks' cells. -/
theorem blk1 (t : Fin cfg1.N) (i : Fin 256) (k : Fin 256) :
    (∀ q : Fin 4, iblk1 V c 0 t (ix3 q i k) = V c main_v2 (ix3 q (row1 t i) k)) ∧ iblk1 V c 1 t (ix2 i k) = V c main_arg5 (ix2 (row1 t i) k)
      ∧ iblk1 V c 2 t (ix2 i k) = V c main_arg6 (ix2 (row1 t i) k) ∧ iblk1 V c 3 t (ix2 i k) = V c main_arg7 (ix2 (row1 t i) k) := by
  unfold iblk1
  refine ⟨fun q => ?_, ?_, ?_, ?_⟩ <;> blk_ext [idx1 t, row1]
/-- Where the second call's result blocks lie. -/
theorem emb1 (t : Fin cfg1.N) (i : Fin 256) (k : Fin 256) :
    ((cfg1.win 4).blk t).view.emb (ix2 i k) = ix2 (row1 t i) k ∧ ((cfg1.win 5).blk t).view.emb (ix2 i k) = ix2 (row1 t i) k
      ∧ ((cfg1.win 6).blk t).view.emb (ix2 i k) = ix2 (row1 t i) k ∧ ((cfg1.win 7).blk t).view.emb (ix2 i k) = ix2 (row1 t i) k := by
  refine ⟨?_, ?_, ?_, ?_⟩ <;> blk_ext [idx1 t, row1]
/-- The second call's gradient at a cell. -/
theorem pay1 (p q r s : Vec Ideal S1x256x256 .bf16) (i : Fin 256) (k : Fin 256) :
    k1_pay2 (F := Ideal) p q r s (ix2 i k) = p (ix3 0 i k) + q (ix3 0 i k) + r (ix3 0 i k) + s (ix3 0 i k) := by
  pointwise [k1_pay2]
/-- The second call's gradient at a cell of a block. -/
theorem grad1 (t : Fin cfg1.N) (i : Fin 256) (k : Fin 256) :
    k1_pay2 (F := Ideal) (View.ld (iblk1 V c 0 t) r1_0) (View.ld (iblk1 V c 0 t) r1_1) (View.ld (iblk1 V c 0 t) r1_2) (View.ld (iblk1 V c 0 t) r1_3) (ix2 i k)
      = Gr (V c main_v2) (ix2 (row1 t i) k) := by
  rw [pay1, ld_p _ 0 0 rfl, ld_p _ 1 1 rfl, ld_p _ 2 2 rfl, ld_p _ 3 3 rfl]
  simp only [(blk1 V c t i k).1]
  exact gr_four (V c main_v2) (row1 t i) k
/-- The second call's arrays. -/
theorem arr1 : (dat1 (F := Ideal) V c).arrAt 4 cfg1.N = Gr (V c main_v2)
    ∧ (dat1 (F := Ideal) V c).arrAt 5 cfg1.N = De (V c main_v2) (V c main_arg5) (V c main_arg6) (V c main_arg7)
    ∧ (dat1 (F := Ideal) V c).arrAt 6 cfg1.N = Mo (V c main_v2) (V c main_arg6)
    ∧ (dat1 (F := Ideal) V c).arrAt 7 cfg1.N = Va (V c main_v2) (V c main_arg7) := by
  refine ⟨(dat1 (F := Ideal) V c).arrAt_eq_of_covers 4 _ (by decide +kernel) fun t hf j => ?_,
    (dat1 (F := Ideal) V c).arrAt_eq_of_covers 5 _ (by decide +kernel) fun t hf j => ?_,
    (dat1 (F := Ideal) V c).arrAt_eq_of_covers 6 _ (by decide +kernel) fun t hf j => ?_,
    (dat1 (F := Ideal) V c).arrAt_eq_of_covers 7 _ (by decide +kernel) fun t hf j => ?_⟩
  all_goals
    blk_simp
    idx_vars j
    obtain ⟨-, b1, b2, b3⟩ := blk1 V c t j0 j1
    obtain ⟨e4, e5, e6, e7⟩ := emb1 t j0 j1
  · rw [after1_4, e4]
    unfold out1_4
    frame_out
    exact grad1 V c t j0 j1
  · rw [after1_5, e5]
    unfold out1_5
    frame_out
    exact adam_congr (grad1 V c t j0 j1) b2 b3 b1
  · rw [after1_6, e6]
    unfold out1_6
    frame_out
    exact congrArg₂ mom (grad1 V c t j0 j1) b2
  · rw [after1_7, e7]
    unfold out1_7
    frame_out
    exact congrArg₂ var (grad1 V c t j0 j1) b3

/-- A row of the third call's grid point. -/
def row2 (t : Fin cfg2.N) (i : Fin 256) : Fin 256 := ⟨256 * t.val + i.val, by have h : t.val < 1 := t.isLt; omega⟩
/-- The third call's blocks. -/
theorem idx2 : ∀ t : Fin cfg2.N, win2_0.index t = ![0, t.val, 0] ∧ win2_1.index t = ![t.val, 0] ∧ win2_2.index t = ![t.val, 0]
    ∧ win2_3.index t = ![t.val, 0] ∧ win2_4.index t = ![t.val, 0] ∧ win2_5.index t = ![t.val, 0] ∧ win2_6.index t = ![t.val, 0]
    ∧ win2_7.index t = ![t.val, 0] :=
  (by decide +kernel : ∀ t : Fin grid2.N, _)
/-- The third call's blocks' cells. -/
theorem blk2 (t : Fin cfg2.N) (i : Fin 256) (k : Fin 2048) :
    (∀ q : Fin 4, iblk2 V c 0 t (ix3 q i k) = V c main_v4 (ix3 q (row2 t i) k)) ∧ iblk2 V c 1 t (ix2 i k) = V c main_arg9 (ix2 (row2 t i) k)
      ∧ iblk2 V c 2 t (ix2 i k) = V c main_arg10 (ix2 (row2 t i) k) ∧ iblk2 V c 3 t (ix2 i k) = V c main_arg11 (ix2 (row2 t i) k) := by
  unfold iblk2
  refine ⟨fun q => ?_, ?_, ?_, ?_⟩ <;> blk_ext [idx2 t, row2]
/-- Where the third call's result blocks lie. -/
theorem emb2 (t : Fin cfg2.N) (i : Fin 256) (k : Fin 2048) :
    ((cfg2.win 4).blk t).view.emb (ix2 i k) = ix2 (row2 t i) k ∧ ((cfg2.win 5).blk t).view.emb (ix2 i k) = ix2 (row2 t i) k
      ∧ ((cfg2.win 6).blk t).view.emb (ix2 i k) = ix2 (row2 t i) k ∧ ((cfg2.win 7).blk t).view.emb (ix2 i k) = ix2 (row2 t i) k := by
  refine ⟨?_, ?_, ?_, ?_⟩ <;> blk_ext [idx2 t, row2]
/-- The third call's gradient at a cell. -/
theorem pay2 (p q r s : Vec Ideal S1x256x2048 .bf16) (i : Fin 256) (k : Fin 2048) :
    k2_pay2 (F := Ideal) p q r s (ix2 i k) = p (ix3 0 i k) + q (ix3 0 i k) + r (ix3 0 i k) + s (ix3 0 i k) := by
  pointwise [k2_pay2]
/-- The third call's gradient at a cell of a block. -/
theorem grad2 (t : Fin cfg2.N) (i : Fin 256) (k : Fin 2048) :
    k2_pay2 (F := Ideal) (View.ld (iblk2 V c 0 t) r2_0) (View.ld (iblk2 V c 0 t) r2_1) (View.ld (iblk2 V c 0 t) r2_2) (View.ld (iblk2 V c 0 t) r2_3) (ix2 i k)
      = Gr (V c main_v4) (ix2 (row2 t i) k) := by
  rw [pay2, ld_p _ 0 0 rfl, ld_p _ 1 1 rfl, ld_p _ 2 2 rfl, ld_p _ 3 3 rfl]
  simp only [(blk2 V c t i k).1]
  exact gr_four (V c main_v4) (row2 t i) k
/-- The third call's arrays. -/
theorem arr2 : (dat2 (F := Ideal) V c).arrAt 4 cfg2.N = Gr (V c main_v4)
    ∧ (dat2 (F := Ideal) V c).arrAt 5 cfg2.N = De (V c main_v4) (V c main_arg9) (V c main_arg10) (V c main_arg11)
    ∧ (dat2 (F := Ideal) V c).arrAt 6 cfg2.N = Mo (V c main_v4) (V c main_arg10)
    ∧ (dat2 (F := Ideal) V c).arrAt 7 cfg2.N = Va (V c main_v4) (V c main_arg11) := by
  refine ⟨(dat2 (F := Ideal) V c).arrAt_eq_of_covers 4 _ (by decide +kernel) fun t hf j => ?_,
    (dat2 (F := Ideal) V c).arrAt_eq_of_covers 5 _ (by decide +kernel) fun t hf j => ?_,
    (dat2 (F := Ideal) V c).arrAt_eq_of_covers 6 _ (by decide +kernel) fun t hf j => ?_,
    (dat2 (F := Ideal) V c).arrAt_eq_of_covers 7 _ (by decide +kernel) fun t hf j => ?_⟩
  all_goals
    blk_simp
    idx_vars j
    obtain ⟨-, b1, b2, b3⟩ := blk2 V c t j0 j1
    obtain ⟨e4, e5, e6, e7⟩ := emb2 t j0 j1
  · rw [after2_4, e4]
    unfold out2_4
    frame_out
    exact grad2 V c t j0 j1
  · rw [after2_5, e5]
    unfold out2_5
    frame_out
    exact adam_congr (grad2 V c t j0 j1) b2 b3 b1
  · rw [after2_6, e6]
    unfold out2_6
    frame_out
    exact congrArg₂ mom (grad2 V c t j0 j1) b2
  · rw [after2_7, e7]
    unfold out2_7
    frame_out
    exact congrArg₂ var (grad2 V c t j0 j1) b3

/-- A row of the fourth call's grid point. -/
def row3 (t : Fin cfg3.N) (i : Fin 256) : Fin 2048 := ⟨256 * t.val + i.val, by have h : t.val < 8 := t.isLt; omega⟩
/-- The fourth call's blocks. -/
theorem idx3 : ∀ t : Fin cfg3.N, win3_0.index t = ![0, t.val, 0] ∧ win3_1.index t = ![t.val, 0] ∧ win3_2.index t = ![t.val, 0]
    ∧ win3_3.index t = ![t.val, 0] ∧ win3_4.index t = ![t.val, 0] ∧ win3_5.index t = ![t.val, 0] ∧ win3_6.index t = ![t.val, 0]
    ∧ win3_7.index t = ![t.val, 0] :=
  (by decide +kernel : ∀ t : Fin grid3.N, _)
/-- The fourth call's blocks' cells. -/
theorem blk3 (t : Fin cfg3.N) (i : Fin 256) (k : Fin 1024) :
    (∀ q : Fin 4, iblk3 V c 0 t (ix3 q i k) = V c main_v6 (ix3 q (row3 t i) k)) ∧ iblk3 V c 1 t (ix2 i k) = V c main_arg13 (ix2 (row3 t i) k)
      ∧ iblk3 V c 2 t (ix2 i k) = V c main_arg14 (ix2 (row3 t i) k) ∧ iblk3 V c 3 t (ix2 i k) = V c main_arg15 (ix2 (row3 t i) k) := by
  unfold iblk3
  refine ⟨fun q => ?_, ?_, ?_, ?_⟩ <;> blk_ext [idx3 t, row3]
/-- Where the fourth call's result blocks lie. -/
theorem emb3 (t : Fin cfg3.N) (i : Fin 256) (k : Fin 1024) :
    ((cfg3.win 4).blk t).view.emb (ix2 i k) = ix2 (row3 t i) k ∧ ((cfg3.win 5).blk t).view.emb (ix2 i k) = ix2 (row3 t i) k
      ∧ ((cfg3.win 6).blk t).view.emb (ix2 i k) = ix2 (row3 t i) k ∧ ((cfg3.win 7).blk t).view.emb (ix2 i k) = ix2 (row3 t i) k := by
  refine ⟨?_, ?_, ?_, ?_⟩ <;> blk_ext [idx3 t, row3]
/-- The fourth call's gradient at a cell. -/
theorem pay3 (p q r s : Vec Ideal S1x256x1024 .bf16) (i : Fin 256) (k : Fin 1024) :
    k3_pay2 (F := Ideal) p q r s (ix2 i k) = p (ix3 0 i k) + q (ix3 0 i k) + r (ix3 0 i k) + s (ix3 0 i k) := by
  pointwise [k3_pay2]
/-- The fourth call's gradient at a cell of a block. -/
theorem grad3 (t : Fin cfg3.N) (i : Fin 256) (k : Fin 1024) :
    k3_pay2 (F := Ideal) (View.ld (iblk3 V c 0 t) r3_0) (View.ld (iblk3 V c 0 t) r3_1) (View.ld (iblk3 V c 0 t) r3_2) (View.ld (iblk3 V c 0 t) r3_3) (ix2 i k)
      = Gr (V c main_v6) (ix2 (row3 t i) k) := by
  rw [pay3, ld_p _ 0 0 rfl, ld_p _ 1 1 rfl, ld_p _ 2 2 rfl, ld_p _ 3 3 rfl]
  simp only [(blk3 V c t i k).1]
  exact gr_four (V c main_v6) (row3 t i) k
/-- The fourth call's arrays. -/
theorem arr3 : (dat3 (F := Ideal) V c).arrAt 4 cfg3.N = Gr (V c main_v6)
    ∧ (dat3 (F := Ideal) V c).arrAt 5 cfg3.N = De (V c main_v6) (V c main_arg13) (V c main_arg14) (V c main_arg15)
    ∧ (dat3 (F := Ideal) V c).arrAt 6 cfg3.N = Mo (V c main_v6) (V c main_arg14)
    ∧ (dat3 (F := Ideal) V c).arrAt 7 cfg3.N = Va (V c main_v6) (V c main_arg15) := by
  refine ⟨(dat3 (F := Ideal) V c).arrAt_eq_of_covers 4 _ (by decide +kernel) fun t hf j => ?_,
    (dat3 (F := Ideal) V c).arrAt_eq_of_covers 5 _ (by decide +kernel) fun t hf j => ?_,
    (dat3 (F := Ideal) V c).arrAt_eq_of_covers 6 _ (by decide +kernel) fun t hf j => ?_,
    (dat3 (F := Ideal) V c).arrAt_eq_of_covers 7 _ (by decide +kernel) fun t hf j => ?_⟩
  all_goals
    blk_simp
    idx_vars j
    obtain ⟨-, b1, b2, b3⟩ := blk3 V c t j0 j1
    obtain ⟨e4, e5, e6, e7⟩ := emb3 t j0 j1
  · rw [after3_4, e4]
    unfold out3_4
    frame_out
    exact grad3 V c t j0 j1
  · rw [after3_5, e5]
    unfold out3_5
    frame_out
    exact adam_congr (grad3 V c t j0 j1) b2 b3 b1
  · rw [after3_6, e6]
    unfold out3_6
    frame_out
    exact congrArg₂ mom (grad3 V c t j0 j1) b2
  · rw [after3_7, e7]
    unfold out3_7
    frame_out
    exact congrArg₂ var (grad3 V c t j0 j1) b3

end Cert.Steps

end
-- ==== Proof.StepsRun.lean ====
/- The run of the optimizer's four calls, with the result arrays stated. -/
module

public import proofs.«01_k».proof.Proof.Gen.Kernel9Ideal.Frame

@[expose] public section

set_option maxRecDepth 16384
set_option maxHeartbeats 1000000

noncomputable section

namespace Cert.Steps

open Idealize.ShloMosaic Idealize.ShloMosaic.TcCoe Cert.Kernel9Ideal Cert.Kernel9Ideal.Gen

open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- The result array and the arguments after a run. -/
theorem run_result : θ_run defs (onTc (τ := τ) (main (F := F))) ⟨m, fun _ => 0, ρ⟩ (fun r => ∀ c : Dev nD,
      r.2.mem ((c.tc : Thread nD τ).loc main_v1_0) = W8 m ρ c (Proc.devRef .tc main_v1_0)
      ∧ r.2.mem ((c.tc : Thread nD τ).loc main_v1_1) = W8 m ρ c (Proc.devRef .tc main_v1_1)
      ∧ r.2.mem ((c.tc : Thread nD τ).loc main_v1_2) = W8 m ρ c (Proc.devRef .tc main_v1_2)
      ∧ r.2.mem ((c.tc : Thread nD τ).loc main_v1_3) = W8 m ρ c (Proc.devRef .tc main_v1_3)
      ∧ r.2.mem ((c.tc : Thread nD τ).loc main_v3_0) = W8 m ρ c (Proc.devRef .tc main_v3_0)
      ∧ r.2.mem ((c.tc : Thread nD τ).loc main_v3_1) = W8 m ρ c (Proc.devRef .tc main_v3_1)
      ∧ r.2.mem ((c.tc : Thread nD τ).loc main_v3_2) = W8 m ρ c (Proc.devRef .tc main_v3_2)
      ∧ r.2.mem ((c.tc : Thread nD τ).loc main_v3_3) = W8 m ρ c (Proc.devRef .tc main_v3_3)
      ∧ r.2.mem ((c.tc : Thread nD τ).loc main_v5_0) = W8 m ρ c (Proc.devRef .tc main_v5_0)
      ∧ r.2.mem ((c.tc : Thread nD τ).loc main_v5_1) = W8 m ρ c (Proc.devRef .tc main_v5_1)
      ∧ r.2.mem ((c.tc : Thread nD τ).loc main_v5_2) = W8 m ρ c (Proc.devRef .tc main_v5_2)
      ∧ r.2.mem ((c.tc : Thread nD τ).loc main_v5_3) = W8 m ρ c (Proc.devRef .tc main_v5_3)
      ∧ r.2.mem ((c.tc : Thread nD τ).loc main_v7_0) = W8 m ρ c (Proc.devRef .tc main_v7_0)
      ∧ r.2.mem ((c.tc : Thread nD τ).loc main_v7_1) = W8 m ρ c (Proc.devRef .tc main_v7_1)
      ∧ r.2.mem ((c.tc : Thread nD τ).loc main_v7_2) = W8 m ρ c (Proc.devRef .tc main_v7_2)
      ∧ r.2.mem ((c.tc : Thread nD τ).loc main_v7_3) = W8 m ρ c (Proc.devRef .tc main_v7_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v1_0 (by decide)),
       h c _ (mem_uc main_v1_1 (by decide)),
       h c _ (mem_uc main_v1_2 (by decide)),
       h c _ (mem_uc main_v1_3 (by decide)),
       h c _ (mem_uc main_v3_0 (by decide)),
       h c _ (mem_uc main_v3_1 (by decide)),
       h c _ (mem_uc main_v3_2 (by decide)),
       h c _ (mem_uc main_v3_3 (by decide)),
       h c _ (mem_uc main_v5_0 (by decide)),
       h c _ (mem_uc main_v5_1 (by decide)),
       h c _ (mem_uc main_v5_2 (by decide)),
       h c _ (mem_uc main_v5_3 (by decide)),
       h c _ (mem_uc main_v7_0 (by decide)),
       h c _ (mem_uc main_v7_1 (by decide)),
       h c _ (mem_uc main_v7_2 (by decide)),
       h c _ (mem_uc main_v7_3 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.Steps

end
-- ==== Proof.Steps.lean ====
/- The optimizer's steps of four matrices: the kernels' arrays, the reference's, and the value claim. -/
module

public import proofs.«01_k».proof.Defs
public import proofs.«01_k».proof.Proof.StepsArr
public import proofs.«01_k».proof.Proof.StepsRun
public import Idealize.ShloMosaic.Lib.StableHlo.RunRead
public import proofs.«01_k».proof.Proof.Gen.Kernel9.Frame
public import proofs.«01_k».proof.Proof.Gen.Reference9Ideal.Run
public import proofs.«01_k».proof.Proof.Gen.Reference9Ideal.Read

@[expose] public section

set_option maxRecDepth 16384
set_option maxHeartbeats 1000000

noncomputable section

namespace Cert.Steps

open Idealize.ShloMosaic Idealize.ShloMosaic.TcCoe Cert.Kernel9Ideal Cert.Kernel9Ideal.Gen
open Idealize.SL.Sem
open Cert.Proj (mom var)

section KernelSide

variable (m : (ℓ : Loc nD τ sig) → Buf (Elt Ideal) ℓ) (ρ : Dev nD → PrngReg) (c : Dev nD)

/-- The first matrix's partial gradients. -/
def p0 : S4x2048x1280.Idx → EReal := m ((c.tc : Thread nD τ).loc main_arg0)
/-- The first matrix's weights. -/
def w0 : S2048x1280.Idx → EReal := m ((c.tc : Thread nD τ).loc main_arg1)
/-- The first matrix's first moments. -/
def a0 : S2048x1280.Idx → EReal := m ((c.tc : Thread nD τ).loc main_arg2)
/-- The first matrix's second moments. -/
def b0 : S2048x1280.Idx → EReal := m ((c.tc : Thread nD τ).loc main_arg3)
/-- The second matrix's partial gradients. -/
def p1 : S4x512x256.Idx → EReal := m ((c.tc : Thread nD τ).loc main_arg4)
/-- The second matrix's weights. -/
def w1 : S512x256.Idx → EReal := m ((c.tc : Thread nD τ).loc main_arg5)
/-- The second matrix's first moments. -/
def a1 : S512x256.Idx → EReal := m ((c.tc : Thread nD τ).loc main_arg6)
/-- The second matrix's second moments. -/
def b1 : S512x256.Idx → EReal := m ((c.tc : Thread nD τ).loc main_arg7)
/-- The third matrix's partial gradients. -/
def p2 : S4x256x2048.Idx → EReal := m ((c.tc : Thread nD τ).loc main_arg8)
/-- The third matrix's weights. -/
def w2 : S256x2048.Idx → EReal := m ((c.tc : Thread nD τ).loc main_arg9)
/-- The third matrix's first moments. -/
def a2 : S256x2048.Idx → EReal := m ((c.tc : Thread nD τ).loc main_arg10)
/-- The third matrix's second moments. -/
def b2 : S256x2048.Idx → EReal := m ((c.tc : Thread nD τ).loc main_arg11)
/-- The fourth matrix's partial gradients. -/
def p3 : S4x2048x1024.Idx → EReal := m ((c.tc : Thread nD τ).loc main_arg12)
/-- The fourth matrix's weights. -/
def w3 : S2048x1024.Idx → EReal := m ((c.tc : Thread nD τ).loc main_arg13)
/-- The fourth matrix's first moments. -/
def a3 : S2048x1024.Idx → EReal := m ((c.tc : Thread nD τ).loc main_arg14)
/-- The fourth matrix's second moments. -/
def b3 : S2048x1024.Idx → EReal := m ((c.tc : Thread nD τ).loc main_arg15)

/-- What the first call finds. -/
theorem ent0 : V1 m ρ c main_v0 = p0 m c ∧ V1 m ρ c main_arg1 = w0 m c
    ∧ V1 m ρ c main_arg2 = a0 m c ∧ V1 m ρ c main_arg3 = b0 m c := by
  refine ⟨?_, W1_args m ρ c main_arg1 (by decide), W1_args m ρ c main_arg2 (by decide), W1_args m ρ c main_arg3 (by decide)⟩
  dsimp only [V1, W1]
  after_reads_simp
  rfl
/-- The first call's arrays last to the end. -/
theorem keep0 : ∀ b ∈ [main_v1_0, main_v1_1, main_v1_2, main_v1_3], W8 m ρ c (Proc.devRef .tc b) = W2 m ρ c (Proc.devRef .tc b) := by
  intro b hb
  simp only [List.mem_cons, List.not_mem_nil, or_false] at hb
  rcases hb with rfl | rfl | rfl | rfl
  all_goals rw [W8_of m ρ c _ (by decide), W7_of m ρ c _ (by decide), W6_of m ρ c _ (by decide), W5_of m ρ c _ (by decide), W4_of m ρ c _ (by decide), W3_of m ρ c _ (by decide)]
/-- The first matrix's results. -/
theorem res0 : W8 m ρ c (Proc.devRef .tc main_v1_0) = Gr (p0 m c)
    ∧ W8 m ρ c (Proc.devRef .tc main_v1_1) = De (p0 m c) (w0 m c) (a0 m c) (b0 m c)
    ∧ W8 m ρ c (Proc.devRef .tc main_v1_2) = Mo (p0 m c) (a0 m c)
    ∧ W8 m ρ c (Proc.devRef .tc main_v1_3) = Va (p0 m c) (b0 m c) := by
  obtain ⟨k4, k5, k6, k7⟩ := arr0 (V1 m ρ) c
  obtain ⟨ep, ew, ea, eb⟩ := ent0 m ρ c
  rw [ep] at k4 k5 k6 k7
  rw [ew, ea, eb] at k5
  rw [ea] at k6
  rw [eb] at k7
  exact ⟨(keep0 m ρ c main_v1_0 (by decide)).trans ((W2_arr m ρ c 4).trans k4), (keep0 m ρ c main_v1_1 (by decide)).trans ((W2_arr m ρ c 5).trans k5),
    (keep0 m ρ c main_v1_2 (by decide)).trans ((W2_arr m ρ c 6).trans k6), (keep0 m ρ c main_v1_3 (by decide)).trans ((W2_arr m ρ c 7).trans k7)⟩

/-- What the second call finds. -/
theorem ent1 : V3 m ρ c main_v2 = p1 m c ∧ V3 m ρ c main_arg5 = w1 m c
    ∧ V3 m ρ c main_arg6 = a1 m c ∧ V3 m ρ c main_arg7 = b1 m c := by
  refine ⟨?_, W3_args m ρ c main_arg5 (by decide), W3_args m ρ c main_arg6 (by decide), W3_args m ρ c main_arg7 (by decide)⟩
  have h : V3 m ρ c main_v2 = W2 m ρ c (Proc.devRef .tc main_arg4) := by
    dsimp only [V3, W3]
    after_reads_simp
    rfl
  exact h.trans (W2_args m ρ c main_arg4 (by decide))
/-- The second call's arrays last to the end. -/
theorem keep1 : ∀ b ∈ [main_v3_0, main_v3_1, main_v3_2, main_v3_3], W8 m ρ c (Proc.devRef .tc b) = W4 m ρ c (Proc.devRef .tc b) := by
  intro b hb
  simp only [List.mem_cons, List.not_mem_nil, or_false] at hb
  rcases hb with rfl | rfl | rfl | rfl
  all_goals rw [W8_of m ρ c _ (by decide), W7_of m ρ c _ (by decide), W6_of m ρ c _ (by decide), W5_of m ρ c _ (by decide)]
/-- The second matrix's results. -/
theorem res1 : W8 m ρ c (Proc.devRef .tc main_v3_0) = Gr (p1 m c)
    ∧ W8 m ρ c (Proc.devRef .tc main_v3_1) = De (p1 m c) (w1 m c) (a1 m c) (b1 m c)
    ∧ W8 m ρ c (Proc.devRef .tc main_v3_2) = Mo (p1 m c) (a1 m c)
    ∧ W8 m ρ c (Proc.devRef .tc main_v3_3) = Va (p1 m c) (b1 m c) := by
  obtain ⟨k4, k5, k6, k7⟩ := arr1 (V3 m ρ) c
  obtain ⟨ep, ew, ea, eb⟩ := ent1 m ρ c
  rw [ep] at k4 k5 k6 k7
  rw [ew, ea, eb] at k5
  rw [ea] at k6
  rw [eb] at k7
  exact ⟨(keep1 m ρ c main_v3_0 (by decide)).trans ((W4_arr m ρ c 4).trans k4), (keep1 m ρ c main_v3_1 (by decide)).trans ((W4_arr m ρ c 5).trans k5),
    (keep1 m ρ c main_v3_2 (by decide)).trans ((W4_arr m ρ c 6).trans k6), (keep1 m ρ c main_v3_3 (by decide)).trans ((W4_arr m ρ c 7).trans k7)⟩

/-- What the third call finds. -/
theorem ent2 : V5 m ρ c main_v4 = p2 m c ∧ V5 m ρ c main_arg9 = w2 m c
    ∧ V5 m ρ c main_arg10 = a2 m c ∧ V5 m ρ c main_arg11 = b2 m c := by
  refine ⟨?_, W5_args m ρ c main_arg9 (by decide), W5_args m ρ c main_arg10 (by decide), W5_args m ρ c main_arg11 (by decide)⟩
  have h : V5 m ρ c main_v4 = W4 m ρ c (Proc.devRef .tc main_arg8) := by
    dsimp only [V5, W5]
    after_reads_simp
    rfl
  exact h.trans (W4_args m ρ c main_arg8 (by decide))
/-- The third call's arrays last to the end. -/
theorem keep2 : ∀ b ∈ [main_v5_0, main_v5_1, main_v5_2, main_v5_3], W8 m ρ c (Proc.devRef .tc b) = W6 m ρ c (Proc.devRef .tc b) := by
  intro b hb
  simp only [List.mem_cons, List.not_mem_nil, or_false] at hb
  rcases hb with rfl | rfl | rfl | rfl
  all_goals rw [W8_of m ρ c _ (by decide), W7_of m ρ c _ (by decide)]
/-- The third matrix's results. -/
theorem res2 : W8 m ρ c (Proc.devRef .tc main_v5_0) = Gr (p2 m c)
    ∧ W8 m ρ c (Proc.devRef .tc main_v5_1) = De (p2 m c) (w2 m c) (a2 m c) (b2 m c)
    ∧ W8 m ρ c (Proc.devRef .tc main_v5_2) = Mo (p2 m c) (a2 m c)
    ∧ W8 m ρ c (Proc.devRef .tc main_v5_3) = Va (p2 m c) (b2 m c) := by
  obtain ⟨k4, k5, k6, k7⟩ := arr2 (V5 m ρ) c
  obtain ⟨ep, ew, ea, eb⟩ := ent2 m ρ c
  rw [ep] at k4 k5 k6 k7
  rw [ew, ea, eb] at k5
  rw [ea] at k6
  rw [eb] at k7
  exact ⟨(keep2 m ρ c main_v5_0 (by decide)).trans ((W6_arr m ρ c 4).trans k4), (keep2 m ρ c main_v5_1 (by decide)).trans ((W6_arr m ρ c 5).trans k5),
    (keep2 m ρ c main_v5_2 (by decide)).trans ((W6_arr m ρ c 6).trans k6), (keep2 m ρ c main_v5_3 (by decide)).trans ((W6_arr m ρ c 7).trans k7)⟩

/-- What the fourth call finds. -/
theorem ent3 : V7 m ρ c main_v6 = p3 m c ∧ V7 m ρ c main_arg13 = w3 m c
    ∧ V7 m ρ c main_arg14 = a3 m c ∧ V7 m ρ c main_arg15 = b3 m c := by
  refine ⟨?_, W7_args m ρ c main_arg13 (by decide), W7_args m ρ c main_arg14 (by decide), W7_args m ρ c main_arg15 (by decide)⟩
  have h : V7 m ρ c main_v6 = W6 m ρ c (Proc.devRef .tc main_arg12) := by
    dsimp only [V7, W7]
    after_reads_simp
    rfl
  exact h.trans (W6_args m ρ c main_arg12 (by decide))
/-- The fourth matrix's results. -/
theorem res3 : W8 m ρ c (Proc.devRef .tc main_v7_0) = Gr (p3 m c)
    ∧ W8 m ρ c (Proc.devRef .tc main_v7_1) = De (p3 m c) (w3 m c) (a3 m c) (b3 m c)
    ∧ W8 m ρ c (Proc.devRef .tc main_v7_2) = Mo (p3 m c) (a3 m c)
    ∧ W8 m ρ c (Proc.devRef .tc main_v7_3) = Va (p3 m c) (b3 m c) := by
  obtain ⟨k4, k5, k6, k7⟩ := arr3 (V7 m ρ) c
  obtain ⟨ep, ew, ea, eb⟩ := ent3 m ρ c
  rw [ep] at k4 k5 k6 k7
  rw [ew, ea, eb] at k5
  rw [ea] at k6
  rw [eb] at k7
  exact ⟨((W8_arr m ρ c 4).trans k4), ((W8_arr m ρ c 5).trans k5),
    ((W8_arr m ρ c 6).trans k6), ((W8_arr m ρ c 7).trans k7)⟩

end KernelSide

section ReferenceSide

open Cert.Reference9Ideal.Read

/-- The reference's first gradient. -/
theorem ref_g0 (p : FVec Ideal S4x2048x1280 .f32) : val_main_v0 (F := Ideal) p = Gr p := by
  funext y
  refine (val_main_v0_apply p y).trans ((congrArg (· + _) Ideal.ofBits_zero_f32).trans ((zero_add (_ : EReal)).trans ?_))
  exact Finset.sum_congr rfl fun q _ => congrArg p (funext fun l => Fin.ext (by match l with | ⟨0, _⟩ => rfl | ⟨1, _⟩ => rfl | ⟨2, _⟩ => rfl))
/-- The reference's first moments and step. -/
theorem ref_s0 (p : FVec Ideal S4x2048x1280 .f32) (w a b : FVec Ideal S2048x1280 .f32) :
    val_main_v5 (F := Ideal) p a = Mo p a ∧ val_main_v11 (F := Ideal) p b = Va p b ∧ val_main_v24 (F := Ideal) p w a b = De p w a b := by
  have e (y : S2048x1280.Idx) := congrFun (ref_g0 p) y
  exact ⟨funext fun y => congrArg (fun g : EReal => mom g (a y)) (e y), funext fun y => congrArg (fun g : EReal => var g (b y)) (e y),
    funext fun y => adam_congr (e y) (rfl : a y = a y) (rfl : b y = b y) (rfl : w y = w y)⟩
/-- The reference's second gradient. -/
theorem ref_g1 (p : FVec Ideal S4x512x256 .f32) : val_main_v25 (F := Ideal) p = Gr p := by
  funext y
  refine (val_main_v25_apply p y).trans ((congrArg (· + _) Ideal.ofBits_zero_f32).trans ((zero_add (_ : EReal)).trans ?_))
  exact Finset.sum_congr rfl fun q _ => congrArg p (funext fun l => Fin.ext (by match l with | ⟨0, _⟩ => rfl | ⟨1, _⟩ => rfl | ⟨2, _⟩ => rfl))
/-- The reference's second moments and step. -/
theorem ref_s1 (p : FVec Ideal S4x512x256 .f32) (w a b : FVec Ideal S512x256 .f32) :
    val_main_v30 (F := Ideal) p a = Mo p a ∧ val_main_v36 (F := Ideal) p b = Va p b ∧ val_main_v49 (F := Ideal) p w a b = De p w a b := by
  have e (y : S512x256.Idx) := congrFun (ref_g1 p) y
  exact ⟨funext fun y => congrArg (fun g : EReal => mom g (a y)) (e y), funext fun y => congrArg (fun g : EReal => var g (b y)) (e y),
    funext fun y => adam_congr (e y) (rfl : a y = a y) (rfl : b y = b y) (rfl : w y = w y)⟩
/-- The reference's third gradient. -/
theorem ref_g2 (p : FVec Ideal S4x256x2048 .f32) : val_main_v50 (F := Ideal) p = Gr p := by
  funext y
  refine (val_main_v50_apply p y).trans ((congrArg (· + _) Ideal.ofBits_zero_f32).trans ((zero_add (_ : EReal)).trans ?_))
  exact Finset.sum_congr rfl fun q _ => congrArg p (funext fun l => Fin.ext (by match l with | ⟨0, _⟩ => rfl | ⟨1, _⟩ => rfl | ⟨2, _⟩ => rfl))
/-- The reference's third moments and step. -/
theorem ref_s2 (p : FVec Ideal S4x256x2048 .f32) (w a b : FVec Ideal S256x2048 .f32) :
    val_main_v55 (F := Ideal) p a = Mo p a ∧ val_main_v61 (F := Ideal) p b = Va p b ∧ val_main_v74 (F := Ideal) p w a b = De p w a b := by
  have e (y : S256x2048.Idx) := congrFun (ref_g2 p) y
  exact ⟨funext fun y => congrArg (fun g : EReal => mom g (a y)) (e y), funext fun y => congrArg (fun g : EReal => var g (b y)) (e y),
    funext fun y => adam_congr (e y) (rfl : a y = a y) (rfl : b y = b y) (rfl : w y = w y)⟩
/-- The reference's fourth gradient. -/
theorem ref_g3 (p : FVec Ideal S4x2048x1024 .f32) : val_main_v75 (F := Ideal) p = Gr p := by
  funext y
  refine (val_main_v75_apply p y).trans ((congrArg (· + _) Ideal.ofBits_zero_f32).trans ((zero_add (_ : EReal)).trans ?_))
  exact Finset.sum_congr rfl fun q _ => congrArg p (funext fun l => Fin.ext (by match l with | ⟨0, _⟩ => rfl | ⟨1, _⟩ => rfl | ⟨2, _⟩ => rfl))
/-- The reference's fourth moments and step. -/
theorem ref_s3 (p : FVec Ideal S4x2048x1024 .f32) (w a b : FVec Ideal S2048x1024 .f32) :
    val_main_v80 (F := Ideal) p a = Mo p a ∧ val_main_v86 (F := Ideal) p b = Va p b ∧ val_main_v99 (F := Ideal) p w a b = De p w a b := by
  have e (y : S2048x1024.Idx) := congrFun (ref_g3 p) y
  exact ⟨funext fun y => congrArg (fun g : EReal => mom g (a y)) (e y), funext fun y => congrArg (fun g : EReal => var g (b y)) (e y),
    funext fun y => adam_congr (e y) (rfl : a y = a y) (rfl : b y = b y) (rfl : w y = w y)⟩

end ReferenceSide

/-- The kernels run and leave their arguments. -/
theorem frame_k : @quiescent_Kernel9 Kernel9.Gen.facts := fun m ρ _ => Kernel9.Gen.frame m ρ
/-- The idealized kernels run and leave their arguments. -/
theorem frame_ki : @quiescent_Kernel9Ideal Kernel9Ideal.Gen.facts := fun m ρ _ => Kernel9Ideal.Gen.frame m ρ
/-- The reference runs and leaves its arguments. -/
theorem frame_ref : @quiescent_Reference9Ideal Reference9Ideal.Gen.facts := fun m ρ _ =>
  (θ_run Reference9Ideal.defs _ _).mono (fun r h => ⟨fun c => (h c).2.2.2.2.2.2.2.2.2.2.2.2.2.2.2.2, sem_eq_zero_of_no_sems (by decide) r.2⟩)
    (Reference9Ideal.Value.run (F := Ideal) m ρ)

/-- The value claim: the four calls and the reference leave the same gradients, steps and moments. -/
theorem value : @algebraic_Kernel9Ideal_Reference9Ideal Kernel9Ideal.Gen.facts Reference9Ideal.Gen.facts := by
  intro m g m' g' _ he
  refine ⟨fun c => Gr (p0 m c), fun c => De (p0 m c) (w0 m c) (a0 m c) (b0 m c), fun c => Mo (p0 m c) (a0 m c), fun c => Va (p0 m c) (b0 m c),
    fun c => Gr (p1 m c), fun c => De (p1 m c) (w1 m c) (a1 m c) (b1 m c), fun c => Mo (p1 m c) (a1 m c), fun c => Va (p1 m c) (b1 m c),
    fun c => Gr (p2 m c), fun c => De (p2 m c) (w2 m c) (a2 m c) (b2 m c), fun c => Mo (p2 m c) (a2 m c), fun c => Va (p2 m c) (b2 m c),
    fun c => Gr (p3 m c), fun c => De (p3 m c) (w3 m c) (a3 m c) (b3 m c), fun c => Mo (p3 m c) (a3 m c), fun c => Va (p3 m c) (b3 m c), ?_, ?_⟩
  · refine (θ_run _ _ _).mono (fun r h c => ?_) (run_result (F := Ideal) m g)
    obtain ⟨h0, h1, h2, h3, h4, h5, h6, h7, h8, h9, h10, h11, h12, h13, h14, h15, hk⟩ := h c
    obtain ⟨g0, d0, m0, v0⟩ := res0 m g c
    obtain ⟨g1, d1, m1, v1⟩ := res1 m g c
    obtain ⟨g2, d2, m2, v2⟩ := res2 m g c
    obtain ⟨g3, d3, m3, v3⟩ := res3 m g c
    exact ⟨h0.trans g0, h1.trans d0, h2.trans m0, h3.trans v0,
      h4.trans g1, h5.trans d1, h6.trans m1, h7.trans v1,
      h8.trans g2, h9.trans d2, h10.trans m2, h11.trans v2,
      h12.trans g3, h13.trans d3, h14.trans m3, h15.trans v3, hk⟩
  · refine (θ_run _ _ _).mono (fun r h c => ?_) (Reference9Ideal.Value.run m' g')
    obtain ⟨h0, h1, h2, h3, h4, h5, h6, h7, h8, h9, h10, h11, h12, h13, h14, h15, hk⟩ := h c
    obtain ⟨e0, e1, e2, e3, e4, e5, e6, e7, e8, e9, e10, e11, e12, e13, e14, e15⟩ := he c
    refine ⟨((h0.trans (Reference9Ideal.Read.val_main_v0_eq _)).trans (ref_g0 _)).trans ?_,
      ((h1.trans (Reference9Ideal.Read.val_main_v24_eq _ _ _ _)).trans (ref_s0 _ _ _ _).2.2).trans ?_,
      ((h2.trans (Reference9Ideal.Read.val_main_v5_eq _ _)).trans (ref_s0 _ (w0 m c) _ (b0 m c)).1).trans ?_,
      ((h3.trans (Reference9Ideal.Read.val_main_v11_eq _ _)).trans (ref_s0 _ (w0 m c) (a0 m c) _).2.1).trans ?_,
      ((h4.trans (Reference9Ideal.Read.val_main_v25_eq _)).trans (ref_g1 _)).trans ?_,
      ((h5.trans (Reference9Ideal.Read.val_main_v49_eq _ _ _ _)).trans (ref_s1 _ _ _ _).2.2).trans ?_,
      ((h6.trans (Reference9Ideal.Read.val_main_v30_eq _ _)).trans (ref_s1 _ (w1 m c) _ (b1 m c)).1).trans ?_,
      ((h7.trans (Reference9Ideal.Read.val_main_v36_eq _ _)).trans (ref_s1 _ (w1 m c) (a1 m c) _).2.1).trans ?_,
      ((h8.trans (Reference9Ideal.Read.val_main_v50_eq _)).trans (ref_g2 _)).trans ?_,
      ((h9.trans (Reference9Ideal.Read.val_main_v74_eq _ _ _ _)).trans (ref_s2 _ _ _ _).2.2).trans ?_,
      ((h10.trans (Reference9Ideal.Read.val_main_v55_eq _ _)).trans (ref_s2 _ (w2 m c) _ (b2 m c)).1).trans ?_,
      ((h11.trans (Reference9Ideal.Read.val_main_v61_eq _ _)).trans (ref_s2 _ (w2 m c) (a2 m c) _).2.1).trans ?_,
      ((h12.trans (Reference9Ideal.Read.val_main_v75_eq _)).trans (ref_g3 _)).trans ?_,
      ((h13.trans (Reference9Ideal.Read.val_main_v99_eq _ _ _ _)).trans (ref_s3 _ _ _ _).2.2).trans ?_,
      ((h14.trans (Reference9Ideal.Read.val_main_v80_eq _ _)).trans (ref_s3 _ (w3 m c) _ (b3 m c)).1).trans ?_,
      ((h15.trans (Reference9Ideal.Read.val_main_v86_eq _ _)).trans (ref_s3 _ (w3 m c) (a3 m c) _).2.1).trans ?_, hk⟩
    · rw [e0]; rfl
    · rw [e0, e1, e2, e3]; rfl
    · rw [e0, e2]; rfl
    · rw [e0, e3]; rfl
    · rw [e4]; rfl
    · rw [e4, e5, e6, e7]; rfl
    · rw [e4, e6]; rfl
    · rw [e4, e7]; rfl
    · rw [e8]; rfl
    · rw [e8, e9, e10, e11]; rfl
    · rw [e8, e10]; rfl
    · rw [e8, e11]; rfl
    · rw [e12]; rfl
    · rw [e12, e13, e14, e15]; rfl
    · rw [e12, e14]; rfl
    · rw [e12, e15]; rfl

end Cert.Steps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite
public import proofs.«01_k».proof.Proof.Attention
public import proofs.«01_k».proof.Proof.Ffn
public import proofs.«01_k».proof.Proof.Loss
public import proofs.«01_k».proof.Proof.Proj
public import proofs.«01_k».proof.Proof.Mixin
public import proofs.«01_k».proof.Proof.Gates
public import proofs.«01_k».proof.Proof.GatesBwd
public import proofs.«01_k».proof.Proof.Norm
public import proofs.«01_k».proof.Proof.Small
public import proofs.«01_k».proof.Proof.NormFfn
public import proofs.«01_k».proof.Proof.Branch
public import proofs.«01_k».proof.Proof.NormFwd
public import proofs.«01_k».proof.Proof.Forward
public import proofs.«01_k».proof.Proof.Steps
public import Idealize.ShloMosaic.Adequacy
public import Idealize.ShloMosaic.Init

@[expose] public section

noncomputable section

namespace Cert.Proof

open Idealize.ShloMosaic Idealize.SL.Sem Cert.Kernel

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel6.Gen.facts, Cert.Kernel6Ideal.Gen.facts, Cert.Reference6Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts, Cert.Pre_finite.Gen.facts,
  Cert.Pre_finite14.Gen.facts,
  fun m ρ _ => Cert.Kernel.Gen.frame m ρ, fun m ρ _ => Cert.KernelIdeal.Gen.frame m ρ, fun m ρ _ => Cert.KernelIdeal.Gen.frame m ρ,
  Cert.Attn.frame_ref, fun m ρ _ => Cert.Attn.frame_ref m ρ trivial,
  Cert.Ffn.frame_k, Cert.Ffn.frame_ki, Cert.Ffn.frame_ref,
  Cert.Loss.frame_k, Cert.Loss.frame_ki, Cert.Loss.frame_ref,
  Cert.Proj.frame_k, Cert.Proj.frame_ki, Cert.Proj.frame_ref,
  Cert.Mixin.frame_k, Cert.Mixin.frame_ki, Cert.Mixin.frame_ref,
  Cert.Gates.frame_k, Cert.Gates.frame_ki, Cert.Gates.frame_ref,
  Cert.GatesBwd.frame_k, Cert.GatesBwd.frame_ki, Cert.GatesBwd.frame_ref,
  Cert.Steps.frame_k, Cert.Steps.frame_ki, Cert.Steps.frame_ref,
  Cert.Norm.frame_k, Cert.Norm.frame_ki, Cert.Norm.frame_ref,
  Cert.Small.frame_k, Cert.Small.frame_ki, Cert.Small.frame_ref,
  Cert.NormFfn.frame_k, Cert.NormFfn.frame_ki, Cert.NormFfn.frame_ref,
  Cert.Branch.frame_k, Cert.Branch.frame_ki, Cert.Branch.frame_ref,
  Cert.NormFwd.frame_k, Cert.NormFwd.frame_ki, Cert.NormFwd.frame_ref,
  fun m ρ _ => Cert.Kernel14.Gen.frame m ρ, fun m ρ _ => Cert.Kernel14Ideal.Gen.frame m ρ,
  fun m ρ _ => Cert.Kernel14Ideal.Gen.frame m ρ, Cert.Forward.frame_ref, fun m ρ _ => Cert.Forward.frame_ref m ρ trivial,
  IdealRules.named_const.statement Cert.KernelIdeal.κ "mask" .f32 0xF149F2CA#32 ⊥ rfl, Cert.Attn.value,
  trivial, Cert.Ffn.value, trivial, Cert.Loss.value, trivial, Cert.Proj.value, trivial, Cert.Mixin.value,
  trivial, Cert.Gates.value, trivial, Cert.GatesBwd.value, trivial, Cert.Steps.value, trivial, Cert.Norm.value,
  trivial, Cert.Small.value, trivial, Cert.NormFfn.value,
  trivial, Cert.Branch.value, trivial, Cert.NormFwd.value,
  IdealRules.named_const.statement Cert.Kernel14Ideal.κ "mask" .f32 0xF149F2CA#32 ⊥ rfl, Cert.Forward.value⟩

end Cert.Proof

end
